-- ==== Defs.lean ====
def Pre_InA (m : (ℓ : Loc Cert.InA.nD Cert.InA.τ Cert.InA.sig) → Buf (Elt Bits) ℓ) : Prop :=
  True

def Pre_InAIdeal (m : (ℓ : Loc Cert.InAIdeal.nD Cert.InAIdeal.τ Cert.InAIdeal.sig) → Buf (Elt Ideal) ℓ) : Prop :=
  True

def Pre_RefInAIdeal (m : (ℓ : Loc Cert.RefInAIdeal.nD Cert.RefInAIdeal.τ Cert.RefInAIdeal.sig) → Buf (Elt Ideal) ℓ) : Prop :=
  True

def Pre_InB (m : (ℓ : Loc Cert.InB.nD Cert.InB.τ Cert.InB.sig) → Buf (Elt Bits) ℓ) : Prop :=
  True

def Pre_InBIdeal (m : (ℓ : Loc Cert.InBIdeal.nD Cert.InBIdeal.τ Cert.InBIdeal.sig) → Buf (Elt Ideal) ℓ) : Prop :=
  True

def Pre_RefInBIdeal (m : (ℓ : Loc Cert.RefInBIdeal.nD Cert.RefInBIdeal.τ Cert.RefInBIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_RefMemKvIdeal (m : (ℓ : Loc Cert.RefMemKvIdeal.nD Cert.RefMemKvIdeal.τ Cert.RefMemKvIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleIdeal_sample_tame [hPre_sample_tame : Cert.Pre_sample_tame.Facts] (m : (ℓ : Loc Cert.SampleIdeal.nD Cert.SampleIdeal.τ Cert.SampleIdeal.sig) → Buf (Elt Ideal) ℓ) : Prop :=
  ∀ c : Dev Cert.SampleIdeal.nD,
    (Cert.Pre_sample_tame.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9)) (m ((c.tc : Thread Cert.SampleIdeal.nD Cert.SampleIdeal.τ).loc Cert.SampleIdeal.main_arg10)) (m ((c.tc : Thread Cert.SampleIdeal.nD Cert.SampleIdeal.τ).loc Cert.SampleIdeal.main_arg11)) (m ((c.tc : Thread Cert.SampleIdeal.nD Cert.SampleIdeal.τ).loc Cert.SampleIdeal.main_arg12)) (m ((c.tc : Thread Cert.SampleIdeal.nD Cert.SampleIdeal.τ).loc Cert.SampleIdeal.main_arg13)) (m ((c.tc : Thread Cert.SampleIdeal.nD Cert.SampleIdeal.τ).loc Cert.SampleIdeal.main_arg14)) (m ((c.tc : Thread Cert.SampleIdeal.nD Cert.SampleIdeal.τ).loc Cert.SampleIdeal.main_arg15)) (m ((c.tc : Thread Cert.SampleIdeal.nD Cert.SampleIdeal.τ).loc Cert.SampleIdeal.main_arg16)) (m ((c.tc : Thread Cert.SampleIdeal.nD Cert.SampleIdeal.τ).loc Cert.SampleIdeal.main_arg17)) (m ((c.tc : Thread Cert.SampleIdeal.nD Cert.SampleIdeal.τ).loc Cert.SampleIdeal.main_arg18))) = (fun _ => 1#1)

def Pre_RefSampleIdeal (m : (ℓ : Loc Cert.RefSampleIdeal.nD Cert.RefSampleIdeal.τ Cert.RefSampleIdeal.sig) → Buf (Elt Ideal) ℓ) : Prop :=
  True

def Pre_RefSampleIdeal_sample_tame [hPre_sample_tame : Cert.Pre_sample_tame.Facts] (m : (ℓ : Loc Cert.RefSampleIdeal.nD Cert.RefSampleIdeal.τ Cert.RefSampleIdeal.sig) → Buf (Elt Ideal) ℓ) : Prop :=
  ∀ c : Dev Cert.RefSampleIdeal.nD,
    (Cert.Pre_sample_tame.fn (F := Ideal) (m ((c.tc : Thread Cert.RefSampleIdeal.nD Cert.RefSampleIdeal.τ).loc Cert.RefSampleIdeal.main_arg0)) (m ((c.tc : Thread Cert.RefSampleIdeal.nD Cert.RefSampleIdeal.τ).loc Cert.RefSampleIdeal.main_arg1)) (m ((c.tc : Thread Cert.RefSampleIdeal.nD Cert.RefSampleIdeal.τ).loc Cert.RefSampleIdeal.main_arg2)) (m ((c.tc : Thread Cert.RefSampleIdeal.nD Cert.RefSampleIdeal.τ).loc Cert.RefSampleIdeal.main_arg3)) (m ((c.tc : Thread Cert.RefSampleIdeal.nD Cert.RefSampleIdeal.τ).loc Cert.RefSampleIdeal.main_arg4)) (m ((c.tc : Thread Cert.RefSampleIdeal.nD Cert.RefSampleIdeal.τ).loc Cert.RefSampleIdeal.main_arg5)) (m ((c.tc : Thread Cert.RefSampleIdeal.nD Cert.RefSampleIdeal.τ).loc Cert.RefSampleIdeal.main_arg6)) (m ((c.tc : Thread Cert.RefSampleIdeal.nD Cert.RefSampleIdeal.τ).loc Cert.RefSampleIdeal.main_arg7)) (m ((c.tc : Thread Cert.RefSampleIdeal.nD Cert.RefSampleIdeal.τ).loc Cert.RefSampleIdeal.main_arg8)) (m ((c.tc : Thread Cert.RefSampleIdeal.nD Cert.RefSampleIdeal.τ).loc Cert.RefSampleIdeal.main_arg9)) (m ((c.tc : Thread Cert.RefSampleIdeal.nD Cert.RefSampleIdeal.τ).loc Cert.RefSampleIdeal.main_arg10)) (m ((c.tc : Thread Cert.RefSampleIdeal.nD Cert.RefSampleIdeal.τ).loc Cert.RefSampleIdeal.main_arg11)) (m ((c.tc : Thread Cert.RefSampleIdeal.nD Cert.RefSampleIdeal.τ).loc Cert.RefSampleIdeal.main_arg12)) (m ((c.tc : Thread Cert.RefSampleIdeal.nD Cert.RefSampleIdeal.τ).loc Cert.RefSampleIdeal.main_arg13)) (m ((c.tc : Thread Cert.RefSampleIdeal.nD Cert.RefSampleIdeal.τ).loc Cert.RefSampleIdeal.main_arg14)) (m ((c.tc : Thread Cert.RefSampleIdeal.nD Cert.RefSampleIdeal.τ).loc Cert.RefSampleIdeal.main_arg15)) (m ((c.tc : Thread Cert.RefSampleIdeal.nD Cert.RefSampleIdeal.τ).loc Cert.RefSampleIdeal.main_arg16)) (m ((c.tc : Thread Cert.RefSampleIdeal.nD Cert.RefSampleIdeal.τ).loc Cert.RefSampleIdeal.main_arg17)) (m ((c.tc : Thread Cert.RefSampleIdeal.nD Cert.RefSampleIdeal.τ).loc Cert.RefSampleIdeal.main_arg18))) = (fun _ => 1#1)

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_PromptIdeal_prompt_tame [hPre_prompt_tame : Cert.Pre_prompt_tame.Facts] (m : (ℓ : Loc Cert.PromptIdeal.nD Cert.PromptIdeal.τ Cert.PromptIdeal.sig) → Buf (Elt Ideal) ℓ) : Prop :=
  ∀ c : Dev Cert.PromptIdeal.nD,
    (Cert.Pre_prompt_tame.fn (F := Ideal) (m ((c.tc : Thread Cert.PromptIdeal.nD Cert.PromptIdeal.τ).loc Cert.PromptIdeal.main_arg0)) (m ((c.tc : Thread Cert.PromptIdeal.nD Cert.PromptIdeal.τ).loc Cert.PromptIdeal.main_arg1)) (m ((c.tc : Thread Cert.PromptIdeal.nD Cert.PromptIdeal.τ).loc Cert.PromptIdeal.main_arg2)) (m ((c.tc : Thread Cert.PromptIdeal.nD Cert.PromptIdeal.τ).loc Cert.PromptIdeal.main_arg3)) (m ((c.tc : Thread Cert.PromptIdeal.nD Cert.PromptIdeal.τ).loc Cert.PromptIdeal.main_arg4)) (m ((c.tc : Thread Cert.PromptIdeal.nD Cert.PromptIdeal.τ).loc Cert.PromptIdeal.main_arg5)) (m ((c.tc : Thread Cert.PromptIdeal.nD Cert.PromptIdeal.τ).loc Cert.PromptIdeal.main_arg6)) (m ((c.tc : Thread Cert.PromptIdeal.nD Cert.PromptIdeal.τ).loc Cert.PromptIdeal.main_arg7)) (m ((c.tc : Thread Cert.PromptIdeal.nD Cert.PromptIdeal.τ).loc Cert.PromptIdeal.main_arg8)) (m ((c.tc : Thread Cert.PromptIdeal.nD Cert.PromptIdeal.τ).loc Cert.PromptIdeal.main_arg9)) (m ((c.tc : Thread Cert.PromptIdeal.nD Cert.PromptIdeal.τ).loc Cert.PromptIdeal.main_arg10)) (m ((c.tc : Thread Cert.PromptIdeal.nD Cert.PromptIdeal.τ).loc Cert.PromptIdeal.main_arg11)) (m ((c.tc : Thread Cert.PromptIdeal.nD Cert.PromptIdeal.τ).loc Cert.PromptIdeal.main_arg12))) = (fun _ => 1#1)

def Pre_RefPromptIdeal (m : (ℓ : Loc Cert.RefPromptIdeal.nD Cert.RefPromptIdeal.τ Cert.RefPromptIdeal.sig) → Buf (Elt Ideal) ℓ) : Prop :=
  True

def Pre_RefPromptIdeal_prompt_tame [hPre_prompt_tame : Cert.Pre_prompt_tame.Facts] (m : (ℓ : Loc Cert.RefPromptIdeal.nD Cert.RefPromptIdeal.τ Cert.RefPromptIdeal.sig) → Buf (Elt Ideal) ℓ) : Prop :=
  ∀ c : Dev Cert.RefPromptIdeal.nD,
    (Cert.Pre_prompt_tame.fn (F := Ideal) (m ((c.tc : Thread Cert.RefPromptIdeal.nD Cert.RefPromptIdeal.τ).loc Cert.RefPromptIdeal.main_arg0)) (m ((c.tc : Thread Cert.RefPromptIdeal.nD Cert.RefPromptIdeal.τ).loc Cert.RefPromptIdeal.main_arg1)) (m ((c.tc : Thread Cert.RefPromptIdeal.nD Cert.RefPromptIdeal.τ).loc Cert.RefPromptIdeal.main_arg2)) (m ((c.tc : Thread Cert.RefPromptIdeal.nD Cert.RefPromptIdeal.τ).loc Cert.RefPromptIdeal.main_arg3)) (m ((c.tc : Thread Cert.RefPromptIdeal.nD Cert.RefPromptIdeal.τ).loc Cert.RefPromptIdeal.main_arg4)) (m ((c.tc : Thread Cert.RefPromptIdeal.nD Cert.RefPromptIdeal.τ).loc Cert.RefPromptIdeal.main_arg5)) (m ((c.tc : Thread Cert.RefPromptIdeal.nD Cert.RefPromptIdeal.τ).loc Cert.RefPromptIdeal.main_arg6)) (m ((c.tc : Thread Cert.RefPromptIdeal.nD Cert.RefPromptIdeal.τ).loc Cert.RefPromptIdeal.main_arg7)) (m ((c.tc : Thread Cert.RefPromptIdeal.nD Cert.RefPromptIdeal.τ).loc Cert.RefPromptIdeal.main_arg8)) (m ((c.tc : Thread Cert.RefPromptIdeal.nD Cert.RefPromptIdeal.τ).loc Cert.RefPromptIdeal.main_arg9)) (m ((c.tc : Thread Cert.RefPromptIdeal.nD Cert.RefPromptIdeal.τ).loc Cert.RefPromptIdeal.main_arg10)) (m ((c.tc : Thread Cert.RefPromptIdeal.nD Cert.RefPromptIdeal.τ).loc Cert.RefPromptIdeal.main_arg11)) (m ((c.tc : Thread Cert.RefPromptIdeal.nD Cert.RefPromptIdeal.τ).loc Cert.RefPromptIdeal.main_arg12))) = (fun _ => 1#1)

def Pre_Short (m : (ℓ : Loc Cert.Short.nD Cert.Short.τ Cert.Short.sig) → Buf (Elt Bits) ℓ) : Prop :=
  True

def Pre_ShortIdeal (m : (ℓ : Loc Cert.ShortIdeal.nD Cert.ShortIdeal.τ Cert.ShortIdeal.sig) → Buf (Elt Ideal) ℓ) : Prop :=
  True

def Pre_RefShortIdeal (m : (ℓ : Loc Cert.RefShortIdeal.nD Cert.RefShortIdeal.τ Cert.RefShortIdeal.sig) → Buf (Elt Ideal) ℓ) : Prop :=
  True

def Pre_Mls (m : (ℓ : Loc Cert.Mls.nD Cert.Mls.τ Cert.Mls.sig) → Buf (Elt Bits) ℓ) : Prop :=
  True

def Pre_MlsIdeal (m : (ℓ : Loc Cert.MlsIdeal.nD Cert.MlsIdeal.τ Cert.MlsIdeal.sig) → Buf (Elt Ideal) ℓ) : Prop :=
  True

def Pre_MlsIdeal_gates_tame [hPre_gates_tame : Cert.Pre_gates_tame.Facts] (m : (ℓ : Loc Cert.MlsIdeal.nD Cert.MlsIdeal.τ Cert.MlsIdeal.sig) → Buf (Elt Ideal) ℓ) : Prop :=
  ∀ c : Dev Cert.MlsIdeal.nD,
    (Cert.Pre_gates_tame.fn (F := Ideal) (m ((c.tc : Thread Cert.MlsIdeal.nD Cert.MlsIdeal.τ).loc Cert.MlsIdeal.main_arg0)) (m ((c.tc : Thread Cert.MlsIdeal.nD Cert.MlsIdeal.τ).loc Cert.MlsIdeal.main_arg1)) (m ((c.tc : Thread Cert.MlsIdeal.nD Cert.MlsIdeal.τ).loc Cert.MlsIdeal.main_arg2))) = (fun _ => 1#1)

def Pre_RefMlsIdeal (m : (ℓ : Loc Cert.RefMlsIdeal.nD Cert.RefMlsIdeal.τ Cert.RefMlsIdeal.sig) → Buf (Elt Ideal) ℓ) : Prop :=
  True

def Pre_RefMlsIdeal_gates_tame [hPre_gates_tame : Cert.Pre_gates_tame.Facts] (m : (ℓ : Loc Cert.RefMlsIdeal.nD Cert.RefMlsIdeal.τ Cert.RefMlsIdeal.sig) → Buf (Elt Ideal) ℓ) : Prop :=
  ∀ c : Dev Cert.RefMlsIdeal.nD,
    (Cert.Pre_gates_tame.fn (F := Ideal) (m ((c.tc : Thread Cert.RefMlsIdeal.nD Cert.RefMlsIdeal.τ).loc Cert.RefMlsIdeal.main_arg0)) (m ((c.tc : Thread Cert.RefMlsIdeal.nD Cert.RefMlsIdeal.τ).loc Cert.RefMlsIdeal.main_arg1)) (m ((c.tc : Thread Cert.RefMlsIdeal.nD Cert.RefMlsIdeal.τ).loc Cert.RefMlsIdeal.main_arg2))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_RefPoolIdeal (m : (ℓ : Loc Cert.RefPoolIdeal.nD Cert.RefPoolIdeal.τ Cert.RefPoolIdeal.sig) → Buf (Elt Ideal) ℓ) : Prop :=
  True

def Pre_PoolNew (m : (ℓ : Loc Cert.PoolNew.nD Cert.PoolNew.τ Cert.PoolNew.sig) → Buf (Elt Bits) ℓ) : Prop :=
  True

def Pre_PoolNewIdeal (m : (ℓ : Loc Cert.PoolNewIdeal.nD Cert.PoolNewIdeal.τ Cert.PoolNewIdeal.sig) → Buf (Elt Ideal) ℓ) : Prop :=
  True

def Pre_RefPoolNewIdeal (m : (ℓ : Loc Cert.RefPoolNewIdeal.nD Cert.RefPoolNewIdeal.τ Cert.RefPoolNewIdeal.sig) → Buf (Elt Ideal) ℓ) : Prop :=
  True

def quiescent_InA [hInA : Cert.InA.Facts] : Prop :=
  ∀ (m : (ℓ : Loc Cert.InA.nD Cert.InA.τ Cert.InA.sig) → Buf (Elt Bits) ℓ) (g : Dev Cert.InA.nD → PrngReg), Pre_InA m →
    θ_run (Cert.InA.defs (F := Bits)) (onTc (τ := Cert.InA.τ) (Cert.InA.main (F := Bits))) ⟨m, fun _ => 0, g⟩ (fun r => (∀ c : Dev Cert.InA.nD,
      r.2.mem ((c.tc : Thread Cert.InA.nD Cert.InA.τ).loc Cert.InA.main_arg0) = m ((c.tc : Thread Cert.InA.nD Cert.InA.τ).loc Cert.InA.main_arg0)
      ∧ r.2.mem ((c.tc : Thread Cert.InA.nD Cert.InA.τ).loc Cert.InA.main_arg1) = m ((c.tc : Thread Cert.InA.nD Cert.InA.τ).loc Cert.InA.main_arg1))
      ∧ r.2.sem = fun _ => 0)

def quiescent_InAIdeal [hInAIdeal : Cert.InAIdeal.Facts] : Prop :=
  ∀ (m : (ℓ : Loc Cert.InAIdeal.nD Cert.InAIdeal.τ Cert.InAIdeal.sig) → Buf (Elt Ideal) ℓ) (g : Dev Cert.InAIdeal.nD → PrngReg), Pre_InAIdeal m →
    θ_run (Cert.InAIdeal.defs (F := Ideal)) (onTc (τ := Cert.InAIdeal.τ) (Cert.InAIdeal.main (F := Ideal))) ⟨m, fun _ => 0, g⟩ (fun r => (∀ c : Dev Cert.InAIdeal.nD,
      r.2.mem ((c.tc : Thread Cert.InAIdeal.nD Cert.InAIdeal.τ).loc Cert.InAIdeal.main_arg0) = m ((c.tc : Thread Cert.InAIdeal.nD Cert.InAIdeal.τ).loc Cert.InAIdeal.main_arg0)
      ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ r.2.sem = fun _ => 0)

def quiescent_RefInAIdeal [hRefInAIdeal : Cert.RefInAIdeal.Facts] : Prop :=
  ∀ (m : (ℓ : Loc Cert.RefInAIdeal.nD Cert.RefInAIdeal.τ Cert.RefInAIdeal.sig) → Buf (Elt Ideal) ℓ) (g : Dev Cert.RefInAIdeal.nD → PrngReg), Pre_RefInAIdeal m →
    θ_run (Cert.RefInAIdeal.defs (F := Ideal)) (onTc (τ := Cert.RefInAIdeal.τ) (Cert.RefInAIdeal.main (F := Ideal))) ⟨m, fun _ => 0, g⟩ (fun r => (∀ c : Dev Cert.RefInAIdeal.nD,
      r.2.mem ((c.tc : Thread Cert.RefInAIdeal.nD Cert.RefInAIdeal.τ).loc Cert.RefInAIdeal.main_arg0) = m ((c.tc : Thread Cert.RefInAIdeal.nD Cert.RefInAIdeal.τ).loc Cert.RefInAIdeal.main_arg0)
      ∧ r.2.mem ((c.tc : Thread Cert.RefInAIdeal.nD Cert.RefInAIdeal.τ).loc Cert.RefInAIdeal.main_arg1) = m ((c.tc : Thread Cert.RefInAIdeal.nD Cert.RefInAIdeal.τ).loc Cert.RefInAIdeal.main_arg1))
      ∧ r.2.sem = fun _ => 0)

def quiescent_InB [hInB : Cert.InB.Facts] : Prop :=
  ∀ (m : (ℓ : Loc Cert.InB.nD Cert.InB.τ Cert.InB.sig) → Buf (Elt Bits) ℓ) (g : Dev Cert.InB.nD → PrngReg), Pre_InB m →
    θ_run (Cert.InB.defs (F := Bits)) (onTc (τ := Cert.InB.τ) (Cert.InB.main (F := Bits))) ⟨m, fun _ => 0, g⟩ (fun r => (∀ c : Dev Cert.InB.nD,
      r.2.mem ((c.tc : Thread Cert.InB.nD Cert.InB.τ).loc Cert.InB.main_arg0) = m ((c.tc : Thread Cert.InB.nD Cert.InB.τ).loc Cert.InB.main_arg0)
      ∧ r.2.mem ((c.tc : Thread Cert.InB.nD Cert.InB.τ).loc Cert.InB.main_arg1) = m ((c.tc : Thread Cert.InB.nD Cert.InB.τ).loc Cert.InB.main_arg1))
      ∧ r.2.sem = fun _ => 0)

def quiescent_InBIdeal [hInBIdeal : Cert.InBIdeal.Facts] : Prop :=
  ∀ (m : (ℓ : Loc Cert.InBIdeal.nD Cert.InBIdeal.τ Cert.InBIdeal.sig) → Buf (Elt Ideal) ℓ) (g : Dev Cert.InBIdeal.nD → PrngReg), Pre_InBIdeal m →
    θ_run (Cert.InBIdeal.defs (F := Ideal)) (onTc (τ := Cert.InBIdeal.τ) (Cert.InBIdeal.main (F := Ideal))) ⟨m, fun _ => 0, g⟩ (fun r => (∀ c : Dev Cert.InBIdeal.nD,
      r.2.mem ((c.tc : Thread Cert.InBIdeal.nD Cert.InBIdeal.τ).loc Cert.InBIdeal.main_arg0) = m ((c.tc : Thread Cert.InBIdeal.nD Cert.InBIdeal.τ).loc Cert.InBIdeal.main_arg0)
      ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ r.2.sem = fun _ => 0)

def quiescent_RefInBIdeal [hRefInBIdeal : Cert.RefInBIdeal.Facts] : Prop :=
  ∀ (m : (ℓ : Loc Cert.RefInBIdeal.nD Cert.RefInBIdeal.τ Cert.RefInBIdeal.sig) → Buf (Elt Ideal) ℓ) (g : Dev Cert.RefInBIdeal.nD → PrngReg), Pre_RefInBIdeal m →
    θ_run (Cert.RefInBIdeal.defs (F := Ideal)) (onTc (τ := Cert.RefInBIdeal.τ) (Cert.RefInBIdeal.main (F := Ideal))) ⟨m, fun _ => 0, g⟩ (fun r => (∀ c : Dev Cert.RefInBIdeal.nD,
      r.2.mem ((c.tc : Thread Cert.RefInBIdeal.nD Cert.RefInBIdeal.τ).loc Cert.RefInBIdeal.main_arg0) = m ((c.tc : Thread Cert.RefInBIdeal.nD Cert.RefInBIdeal.τ).loc Cert.RefInBIdeal.main_arg0)
      ∧ r.2.mem ((c.tc : Thread Cert.RefInBIdeal.nD Cert.RefInBIdeal.τ).loc Cert.RefInBIdeal.main_arg1) = m ((c.tc : Thread Cert.RefInBIdeal.nD Cert.RefInBIdeal.τ).loc Cert.RefInBIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ r.2.sem = fun _ => 0)

def quiescent_RefMemKvIdeal [hRefMemKvIdeal : Cert.RefMemKvIdeal.Facts] : Prop :=
  ∀ (m : (ℓ : Loc Cert.RefMemKvIdeal.nD Cert.RefMemKvIdeal.τ Cert.RefMemKvIdeal.sig) → Buf (Elt Ideal) ℓ) (g : Dev Cert.RefMemKvIdeal.nD → PrngReg), Pre_RefMemKvIdeal m →
    θ_run (Cert.RefMemKvIdeal.defs (F := Ideal)) (onTc (τ := Cert.RefMemKvIdeal.τ) (Cert.RefMemKvIdeal.main (F := Ideal))) ⟨m, fun _ => 0, g⟩ (fun r => (∀ c : Dev Cert.RefMemKvIdeal.nD,
      r.2.mem ((c.tc : Thread Cert.RefMemKvIdeal.nD Cert.RefMemKvIdeal.τ).loc Cert.RefMemKvIdeal.main_arg0) = m ((c.tc : Thread Cert.RefMemKvIdeal.nD Cert.RefMemKvIdeal.τ).loc Cert.RefMemKvIdeal.main_arg0)
      ∧ r.2.mem ((c.tc : Thread Cert.RefMemKvIdeal.nD Cert.RefMemKvIdeal.τ).loc Cert.RefMemKvIdeal.main_arg1) = m ((c.tc : Thread Cert.RefMemKvIdeal.nD Cert.RefMemKvIdeal.τ).loc Cert.RefMemKvIdeal.main_arg1)
      ∧ r.2.mem ((c.tc : Thread Cert.RefMemKvIdeal.nD Cert.RefMemKvIdeal.τ).loc Cert.RefMemKvIdeal.main_arg2) = m ((c.tc : Thread Cert.RefMemKvIdeal.nD Cert.RefMemKvIdeal.τ).loc Cert.RefMemKvIdeal.main_arg2))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9)
      ∧ r.2.mem ((c.tc : Thread Cert.Sample.nD Cert.Sample.τ).loc Cert.Sample.main_arg10) = m ((c.tc : Thread Cert.Sample.nD Cert.Sample.τ).loc Cert.Sample.main_arg10)
      ∧ r.2.mem ((c.tc : Thread Cert.Sample.nD Cert.Sample.τ).loc Cert.Sample.main_arg11) = m ((c.tc : Thread Cert.Sample.nD Cert.Sample.τ).loc Cert.Sample.main_arg11)
      ∧ r.2.mem ((c.tc : Thread Cert.Sample.nD Cert.Sample.τ).loc Cert.Sample.main_arg12) = m ((c.tc : Thread Cert.Sample.nD Cert.Sample.τ).loc Cert.Sample.main_arg12)
      ∧ r.2.mem ((c.tc : Thread Cert.Sample.nD Cert.Sample.τ).loc Cert.Sample.main_arg13) = m ((c.tc : Thread Cert.Sample.nD Cert.Sample.τ).loc Cert.Sample.main_arg13)
      ∧ r.2.mem ((c.tc : Thread Cert.Sample.nD Cert.Sample.τ).loc Cert.Sample.main_arg14) = m ((c.tc : Thread Cert.Sample.nD Cert.Sample.τ).loc Cert.Sample.main_arg14)
      ∧ r.2.mem ((c.tc : Thread Cert.Sample.nD Cert.Sample.τ).loc Cert.Sample.main_arg15) = m ((c.tc : Thread Cert.Sample.nD Cert.Sample.τ).loc Cert.Sample.main_arg15)
      ∧ r.2.mem ((c.tc : Thread Cert.Sample.nD Cert.Sample.τ).loc Cert.Sample.main_arg16) = m ((c.tc : Thread Cert.Sample.nD Cert.Sample.τ).loc Cert.Sample.main_arg16)
      ∧ r.2.mem ((c.tc : Thread Cert.Sample.nD Cert.Sample.τ).loc Cert.Sample.main_arg17) = m ((c.tc : Thread Cert.Sample.nD Cert.Sample.τ).loc Cert.Sample.main_arg17)
      ∧ r.2.mem ((c.tc : Thread Cert.Sample.nD Cert.Sample.τ).loc Cert.Sample.main_arg18) = m ((c.tc : Thread Cert.Sample.nD Cert.Sample.τ).loc Cert.Sample.main_arg18))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
      ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
      ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
      ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17)
      ∧ r.2.mem ((c.tc : Thread Cert.SampleIdeal.nD Cert.SampleIdeal.τ).loc Cert.SampleIdeal.main_arg18) = m ((c.tc : Thread Cert.SampleIdeal.nD Cert.SampleIdeal.τ).loc Cert.SampleIdeal.main_arg18))
      ∧ r.2.sem = fun _ => 0)

def quiescent_SampleIdeal_pre_sample_tame [hSampleIdeal : Cert.SampleIdeal.Facts] [hPre_sample_tame : Cert.Pre_sample_tame.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal_sample_tame m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
      ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
      ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
      ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
      ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
      ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
      ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
      ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
      ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17)
      ∧ r.2.mem ((c.tc : Thread Cert.SampleIdeal.nD Cert.SampleIdeal.τ).loc Cert.SampleIdeal.main_arg18) = m ((c.tc : Thread Cert.SampleIdeal.nD Cert.SampleIdeal.τ).loc Cert.SampleIdeal.main_arg18))
      ∧ r.2.sem = fun _ => 0)

def quiescent_RefSampleIdeal [hRefSampleIdeal : Cert.RefSampleIdeal.Facts] : Prop :=
  ∀ (m : (ℓ : Loc Cert.RefSampleIdeal.nD Cert.RefSampleIdeal.τ Cert.RefSampleIdeal.sig) → Buf (Elt Ideal) ℓ) (g : Dev Cert.RefSampleIdeal.nD → PrngReg), Pre_RefSampleIdeal m →
    θ_run (Cert.RefSampleIdeal.defs (F := Ideal)) (onTc (τ := Cert.RefSampleIdeal.τ) (Cert.RefSampleIdeal.main (F := Ideal))) ⟨m, fun _ => 0, g⟩ (fun r => (∀ c : Dev Cert.RefSampleIdeal.nD,
      r.2.mem ((c.tc : Thread Cert.RefSampleIdeal.nD Cert.RefSampleIdeal.τ).loc Cert.RefSampleIdeal.main_arg0) = m ((c.tc : Thread Cert.RefSampleIdeal.nD Cert.RefSampleIdeal.τ).loc Cert.RefSampleIdeal.main_arg0)
      ∧ r.2.mem ((c.tc : Thread Cert.RefSampleIdeal.nD Cert.RefSampleIdeal.τ).loc Cert.RefSampleIdeal.main_arg1) = m ((c.tc : Thread Cert.RefSampleIdeal.nD Cert.RefSampleIdeal.τ).loc Cert.RefSampleIdeal.main_arg1)
      ∧ r.2.mem ((c.tc : Thread Cert.RefSampleIdeal.nD Cert.RefSampleIdeal.τ).loc Cert.RefSampleIdeal.main_arg2) = m ((c.tc : Thread Cert.RefSampleIdeal.nD Cert.RefSampleIdeal.τ).loc Cert.RefSampleIdeal.main_arg2)
      ∧ r.2.mem ((c.tc : Thread Cert.RefSampleIdeal.nD Cert.RefSampleIdeal.τ).loc Cert.RefSampleIdeal.main_arg3) = m ((c.tc : Thread Cert.RefSampleIdeal.nD Cert.RefSampleIdeal.τ).loc Cert.RefSampleIdeal.main_arg3)
      ∧ r.2.mem ((c.tc : Thread Cert.RefSampleIdeal.nD Cert.RefSampleIdeal.τ).loc Cert.RefSampleIdeal.main_arg4) = m ((c.tc : Thread Cert.RefSampleIdeal.nD Cert.RefSampleIdeal.τ).loc Cert.RefSampleIdeal.main_arg4)
      ∧ r.2.mem ((c.tc : Thread Cert.RefSampleIdeal.nD Cert.RefSampleIdeal.τ).loc Cert.RefSampleIdeal.main_arg5) = m ((c.tc : Thread Cert.RefSampleIdeal.nD Cert.RefSampleIdeal.τ).loc Cert.RefSampleIdeal.main_arg5)
      ∧ r.2.mem ((c.tc : Thread Cert.RefSampleIdeal.nD Cert.RefSampleIdeal.τ).loc Cert.RefSampleIdeal.main_arg6) = m ((c.tc : Thread Cert.RefSampleIdeal.nD Cert.RefSampleIdeal.τ).loc Cert.RefSampleIdeal.main_arg6)
      ∧ r.2.mem ((c.tc : Thread Cert.RefSampleIdeal.nD Cert.RefSampleIdeal.τ).loc Cert.RefSampleIdeal.main_arg7) = m ((c.tc : Thread Cert.RefSampleIdeal.nD Cert.RefSampleIdeal.τ).loc Cert.RefSampleIdeal.main_arg7)
      ∧ r.2.mem ((c.tc : Thread Cert.RefSampleIdeal.nD Cert.RefSampleIdeal.τ).loc Cert.RefSampleIdeal.main_arg8) = m ((c.tc : Thread Cert.RefSampleIdeal.nD Cert.RefSampleIdeal.τ).loc Cert.RefSampleIdeal.main_arg8)
      ∧ r.2.mem ((c.tc : Thread Cert.RefSampleIdeal.nD Cert.RefSampleIdeal.τ).loc Cert.RefSampleIdeal.main_arg9) = m ((c.tc : Thread Cert.RefSampleIdeal.nD Cert.RefSampleIdeal.τ).loc Cert.RefSampleIdeal.main_arg9)
      ∧ r.2.mem ((c.tc : Thread Cert.RefSampleIdeal.nD Cert.RefSampleIdeal.τ).loc Cert.RefSampleIdeal.main_arg10) = m ((c.tc : Thread Cert.RefSampleIdeal.nD Cert.RefSampleIdeal.τ).loc Cert.RefSampleIdeal.main_arg10)
      ∧ r.2.mem ((c.tc : Thread Cert.RefSampleIdeal.nD Cert.RefSampleIdeal.τ).loc Cert.RefSampleIdeal.main_arg11) = m ((c.tc : Thread Cert.RefSampleIdeal.nD Cert.RefSampleIdeal.τ).loc Cert.RefSampleIdeal.main_arg11)
      ∧ r.2.mem ((c.tc : Thread Cert.RefSampleIdeal.nD Cert.RefSampleIdeal.τ).loc Cert.RefSampleIdeal.main_arg12) = m ((c.tc : Thread Cert.RefSampleIdeal.nD Cert.RefSampleIdeal.τ).loc Cert.RefSampleIdeal.main_arg12)
      ∧ r.2.mem ((c.tc : Thread Cert.RefSampleIdeal.nD Cert.RefSampleIdeal.τ).loc Cert.RefSampleIdeal.main_arg13) = m ((c.tc : Thread Cert.RefSampleIdeal.nD Cert.RefSampleIdeal.τ).loc Cert.RefSampleIdeal.main_arg13)
      ∧ r.2.mem ((c.tc : Thread Cert.RefSampleIdeal.nD Cert.RefSampleIdeal.τ).loc Cert.RefSampleIdeal.main_arg14) = m ((c.tc : Thread Cert.RefSampleIdeal.nD Cert.RefSampleIdeal.τ).loc Cert.RefSampleIdeal.main_arg14)
      ∧ r.2.mem ((c.tc : Thread Cert.RefSampleIdeal.nD Cert.RefSampleIdeal.τ).loc Cert.RefSampleIdeal.main_arg15) = m ((c.tc : Thread Cert.RefSampleIdeal.nD Cert.RefSampleIdeal.τ).loc Cert.RefSampleIdeal.main_arg15)
      ∧ r.2.mem ((c.tc : Thread Cert.RefSampleIdeal.nD Cert.RefSampleIdeal.τ).loc Cert.RefSampleIdeal.main_arg16) = m ((c.tc : Thread Cert.RefSampleIdeal.nD Cert.RefSampleIdeal.τ).loc Cert.RefSampleIdeal.main_arg16)
      ∧ r.2.mem ((c.tc : Thread Cert.RefSampleIdeal.nD Cert.RefSampleIdeal.τ).loc Cert.RefSampleIdeal.main_arg17) = m ((c.tc : Thread Cert.RefSampleIdeal.nD Cert.RefSampleIdeal.τ).loc Cert.RefSampleIdeal.main_arg17)
      ∧ r.2.mem ((c.tc : Thread Cert.RefSampleIdeal.nD Cert.RefSampleIdeal.τ).loc Cert.RefSampleIdeal.main_arg18) = m ((c.tc : Thread Cert.RefSampleIdeal.nD Cert.RefSampleIdeal.τ).loc Cert.RefSampleIdeal.main_arg18))
      ∧ r.2.sem = fun _ => 0)

def quiescent_RefSampleIdeal_pre_sample_tame [hRefSampleIdeal : Cert.RefSampleIdeal.Facts] [hPre_sample_tame : Cert.Pre_sample_tame.Facts] : Prop :=
  ∀ (m : (ℓ : Loc Cert.RefSampleIdeal.nD Cert.RefSampleIdeal.τ Cert.RefSampleIdeal.sig) → Buf (Elt Ideal) ℓ) (g : Dev Cert.RefSampleIdeal.nD → PrngReg), Pre_RefSampleIdeal_sample_tame m →
    θ_run (Cert.RefSampleIdeal.defs (F := Ideal)) (onTc (τ := Cert.RefSampleIdeal.τ) (Cert.RefSampleIdeal.main (F := Ideal))) ⟨m, fun _ => 0, g⟩ (fun r => (∀ c : Dev Cert.RefSampleIdeal.nD,
      r.2.mem ((c.tc : Thread Cert.RefSampleIdeal.nD Cert.RefSampleIdeal.τ).loc Cert.RefSampleIdeal.main_arg0) = m ((c.tc : Thread Cert.RefSampleIdeal.nD Cert.RefSampleIdeal.τ).loc Cert.RefSampleIdeal.main_arg0)
      ∧ r.2.mem ((c.tc : Thread Cert.RefSampleIdeal.nD Cert.RefSampleIdeal.τ).loc Cert.RefSampleIdeal.main_arg1) = m ((c.tc : Thread Cert.RefSampleIdeal.nD Cert.RefSampleIdeal.τ).loc Cert.RefSampleIdeal.main_arg1)
      ∧ r.2.mem ((c.tc : Thread Cert.RefSampleIdeal.nD Cert.RefSampleIdeal.τ).loc Cert.RefSampleIdeal.main_arg2) = m ((c.tc : Thread Cert.RefSampleIdeal.nD Cert.RefSampleIdeal.τ).loc Cert.RefSampleIdeal.main_arg2)
      ∧ r.2.mem ((c.tc : Thread Cert.RefSampleIdeal.nD Cert.RefSampleIdeal.τ).loc Cert.RefSampleIdeal.main_arg3) = m ((c.tc : Thread Cert.RefSampleIdeal.nD Cert.RefSampleIdeal.τ).loc Cert.RefSampleIdeal.main_arg3)
      ∧ r.2.mem ((c.tc : Thread Cert.RefSampleIdeal.nD Cert.RefSampleIdeal.τ).loc Cert.RefSampleIdeal.main_arg4) = m ((c.tc : Thread Cert.RefSampleIdeal.nD Cert.RefSampleIdeal.τ).loc Cert.RefSampleIdeal.main_arg4)
      ∧ r.2.mem ((c.tc : Thread Cert.RefSampleIdeal.nD Cert.RefSampleIdeal.τ).loc Cert.RefSampleIdeal.main_arg5) = m ((c.tc : Thread Cert.RefSampleIdeal.nD Cert.RefSampleIdeal.τ).loc Cert.RefSampleIdeal.main_arg5)
      ∧ r.2.mem ((c.tc : Thread Cert.RefSampleIdeal.nD Cert.RefSampleIdeal.τ).loc Cert.RefSampleIdeal.main_arg6) = m ((c.tc : Thread Cert.RefSampleIdeal.nD Cert.RefSampleIdeal.τ).loc Cert.RefSampleIdeal.main_arg6)
      ∧ r.2.mem ((c.tc : Thread Cert.RefSampleIdeal.nD Cert.RefSampleIdeal.τ).loc Cert.RefSampleIdeal.main_arg7) = m ((c.tc : Thread Cert.RefSampleIdeal.nD Cert.RefSampleIdeal.τ).loc Cert.RefSampleIdeal.main_arg7)
      ∧ r.2.mem ((c.tc : Thread Cert.RefSampleIdeal.nD Cert.RefSampleIdeal.τ).loc Cert.RefSampleIdeal.main_arg8) = m ((c.tc : Thread Cert.RefSampleIdeal.nD Cert.RefSampleIdeal.τ).loc Cert.RefSampleIdeal.main_arg8)
      ∧ r.2.mem ((c.tc : Thread Cert.RefSampleIdeal.nD Cert.RefSampleIdeal.τ).loc Cert.RefSampleIdeal.main_arg9) = m ((c.tc : Thread Cert.RefSampleIdeal.nD Cert.RefSampleIdeal.τ).loc Cert.RefSampleIdeal.main_arg9)
      ∧ r.2.mem ((c.tc : Thread Cert.RefSampleIdeal.nD Cert.RefSampleIdeal.τ).loc Cert.RefSampleIdeal.main_arg10) = m ((c.tc : Thread Cert.RefSampleIdeal.nD Cert.RefSampleIdeal.τ).loc Cert.RefSampleIdeal.main_arg10)
      ∧ r.2.mem ((c.tc : Thread Cert.RefSampleIdeal.nD Cert.RefSampleIdeal.τ).loc Cert.RefSampleIdeal.main_arg11) = m ((c.tc : Thread Cert.RefSampleIdeal.nD Cert.RefSampleIdeal.τ).loc Cert.RefSampleIdeal.main_arg11)
      ∧ r.2.mem ((c.tc : Thread Cert.RefSampleIdeal.nD Cert.RefSampleIdeal.τ).loc Cert.RefSampleIdeal.main_arg12) = m ((c.tc : Thread Cert.RefSampleIdeal.nD Cert.RefSampleIdeal.τ).loc Cert.RefSampleIdeal.main_arg12)
      ∧ r.2.mem ((c.tc : Thread Cert.RefSampleIdeal.nD Cert.RefSampleIdeal.τ).loc Cert.RefSampleIdeal.main_arg13) = m ((c.tc : Thread Cert.RefSampleIdeal.nD Cert.RefSampleIdeal.τ).loc Cert.RefSampleIdeal.main_arg13)
      ∧ r.2.mem ((c.tc : Thread Cert.RefSampleIdeal.nD Cert.RefSampleIdeal.τ).loc Cert.RefSampleIdeal.main_arg14) = m ((c.tc : Thread Cert.RefSampleIdeal.nD Cert.RefSampleIdeal.τ).loc Cert.RefSampleIdeal.main_arg14)
      ∧ r.2.mem ((c.tc : Thread Cert.RefSampleIdeal.nD Cert.RefSampleIdeal.τ).loc Cert.RefSampleIdeal.main_arg15) = m ((c.tc : Thread Cert.RefSampleIdeal.nD Cert.RefSampleIdeal.τ).loc Cert.RefSampleIdeal.main_arg15)
      ∧ r.2.mem ((c.tc : Thread Cert.RefSampleIdeal.nD Cert.RefSampleIdeal.τ).loc Cert.RefSampleIdeal.main_arg16) = m ((c.tc : Thread Cert.RefSampleIdeal.nD Cert.RefSampleIdeal.τ).loc Cert.RefSampleIdeal.main_arg16)
      ∧ r.2.mem ((c.tc : Thread Cert.RefSampleIdeal.nD Cert.RefSampleIdeal.τ).loc Cert.RefSampleIdeal.main_arg17) = m ((c.tc : Thread Cert.RefSampleIdeal.nD Cert.RefSampleIdeal.τ).loc Cert.RefSampleIdeal.main_arg17)
      ∧ r.2.mem ((c.tc : Thread Cert.RefSampleIdeal.nD Cert.RefSampleIdeal.τ).loc Cert.RefSampleIdeal.main_arg18) = m ((c.tc : Thread Cert.RefSampleIdeal.nD Cert.RefSampleIdeal.τ).loc Cert.RefSampleIdeal.main_arg18))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6)
      ∧ r.2.mem ((c.tc : Thread Cert.Prompt.nD Cert.Prompt.τ).loc Cert.Prompt.main_arg7) = m ((c.tc : Thread Cert.Prompt.nD Cert.Prompt.τ).loc Cert.Prompt.main_arg7)
      ∧ r.2.mem ((c.tc : Thread Cert.Prompt.nD Cert.Prompt.τ).loc Cert.Prompt.main_arg8) = m ((c.tc : Thread Cert.Prompt.nD Cert.Prompt.τ).loc Cert.Prompt.main_arg8)
      ∧ r.2.mem ((c.tc : Thread Cert.Prompt.nD Cert.Prompt.τ).loc Cert.Prompt.main_arg9) = m ((c.tc : Thread Cert.Prompt.nD Cert.Prompt.τ).loc Cert.Prompt.main_arg9)
      ∧ r.2.mem ((c.tc : Thread Cert.Prompt.nD Cert.Prompt.τ).loc Cert.Prompt.main_arg10) = m ((c.tc : Thread Cert.Prompt.nD Cert.Prompt.τ).loc Cert.Prompt.main_arg10)
      ∧ r.2.mem ((c.tc : Thread Cert.Prompt.nD Cert.Prompt.τ).loc Cert.Prompt.main_arg11) = m ((c.tc : Thread Cert.Prompt.nD Cert.Prompt.τ).loc Cert.Prompt.main_arg11)
      ∧ r.2.mem ((c.tc : Thread Cert.Prompt.nD Cert.Prompt.τ).loc Cert.Prompt.main_arg12) = m ((c.tc : Thread Cert.Prompt.nD Cert.Prompt.τ).loc Cert.Prompt.main_arg12))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
      ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
      ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12))
      ∧ r.2.sem = fun _ => 0)

def quiescent_PromptIdeal_pre_prompt_tame [hPromptIdeal : Cert.PromptIdeal.Facts] [hPre_prompt_tame : Cert.Pre_prompt_tame.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal_prompt_tame m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
      ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
      ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
      ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
      ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
      ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
      ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12))
      ∧ r.2.sem = fun _ => 0)

def quiescent_RefPromptIdeal [hRefPromptIdeal : Cert.RefPromptIdeal.Facts] : Prop :=
  ∀ (m : (ℓ : Loc Cert.RefPromptIdeal.nD Cert.RefPromptIdeal.τ Cert.RefPromptIdeal.sig) → Buf (Elt Ideal) ℓ) (g : Dev Cert.RefPromptIdeal.nD → PrngReg), Pre_RefPromptIdeal m →
    θ_run (Cert.RefPromptIdeal.defs (F := Ideal)) (onTc (τ := Cert.RefPromptIdeal.τ) (Cert.RefPromptIdeal.main (F := Ideal))) ⟨m, fun _ => 0, g⟩ (fun r => (∀ c : Dev Cert.RefPromptIdeal.nD,
      r.2.mem ((c.tc : Thread Cert.RefPromptIdeal.nD Cert.RefPromptIdeal.τ).loc Cert.RefPromptIdeal.main_arg0) = m ((c.tc : Thread Cert.RefPromptIdeal.nD Cert.RefPromptIdeal.τ).loc Cert.RefPromptIdeal.main_arg0)
      ∧ r.2.mem ((c.tc : Thread Cert.RefPromptIdeal.nD Cert.RefPromptIdeal.τ).loc Cert.RefPromptIdeal.main_arg1) = m ((c.tc : Thread Cert.RefPromptIdeal.nD Cert.RefPromptIdeal.τ).loc Cert.RefPromptIdeal.main_arg1)
      ∧ r.2.mem ((c.tc : Thread Cert.RefPromptIdeal.nD Cert.RefPromptIdeal.τ).loc Cert.RefPromptIdeal.main_arg2) = m ((c.tc : Thread Cert.RefPromptIdeal.nD Cert.RefPromptIdeal.τ).loc Cert.RefPromptIdeal.main_arg2)
      ∧ r.2.mem ((c.tc : Thread Cert.RefPromptIdeal.nD Cert.RefPromptIdeal.τ).loc Cert.RefPromptIdeal.main_arg3) = m ((c.tc : Thread Cert.RefPromptIdeal.nD Cert.RefPromptIdeal.τ).loc Cert.RefPromptIdeal.main_arg3)
      ∧ r.2.mem ((c.tc : Thread Cert.RefPromptIdeal.nD Cert.RefPromptIdeal.τ).loc Cert.RefPromptIdeal.main_arg4) = m ((c.tc : Thread Cert.RefPromptIdeal.nD Cert.RefPromptIdeal.τ).loc Cert.RefPromptIdeal.main_arg4)
      ∧ r.2.mem ((c.tc : Thread Cert.RefPromptIdeal.nD Cert.RefPromptIdeal.τ).loc Cert.RefPromptIdeal.main_arg5) = m ((c.tc : Thread Cert.RefPromptIdeal.nD Cert.RefPromptIdeal.τ).loc Cert.RefPromptIdeal.main_arg5)
      ∧ r.2.mem ((c.tc : Thread Cert.RefPromptIdeal.nD Cert.RefPromptIdeal.τ).loc Cert.RefPromptIdeal.main_arg6) = m ((c.tc : Thread Cert.RefPromptIdeal.nD Cert.RefPromptIdeal.τ).loc Cert.RefPromptIdeal.main_arg6)
      ∧ r.2.mem ((c.tc : Thread Cert.RefPromptIdeal.nD Cert.RefPromptIdeal.τ).loc Cert.RefPromptIdeal.main_arg7) = m ((c.tc : Thread Cert.RefPromptIdeal.nD Cert.RefPromptIdeal.τ).loc Cert.RefPromptIdeal.main_arg7)
      ∧ r.2.mem ((c.tc : Thread Cert.RefPromptIdeal.nD Cert.RefPromptIdeal.τ).loc Cert.RefPromptIdeal.main_arg8) = m ((c.tc : Thread Cert.RefPromptIdeal.nD Cert.RefPromptIdeal.τ).loc Cert.RefPromptIdeal.main_arg8)
      ∧ r.2.mem ((c.tc : Thread Cert.RefPromptIdeal.nD Cert.RefPromptIdeal.τ).loc Cert.RefPromptIdeal.main_arg9) = m ((c.tc : Thread Cert.RefPromptIdeal.nD Cert.RefPromptIdeal.τ).loc Cert.RefPromptIdeal.main_arg9)
      ∧ r.2.mem ((c.tc : Thread Cert.RefPromptIdeal.nD Cert.RefPromptIdeal.τ).loc Cert.RefPromptIdeal.main_arg10) = m ((c.tc : Thread Cert.RefPromptIdeal.nD Cert.RefPromptIdeal.τ).loc Cert.RefPromptIdeal.main_arg10)
      ∧ r.2.mem ((c.tc : Thread Cert.RefPromptIdeal.nD Cert.RefPromptIdeal.τ).loc Cert.RefPromptIdeal.main_arg11) = m ((c.tc : Thread Cert.RefPromptIdeal.nD Cert.RefPromptIdeal.τ).loc Cert.RefPromptIdeal.main_arg11)
      ∧ r.2.mem ((c.tc : Thread Cert.RefPromptIdeal.nD Cert.RefPromptIdeal.τ).loc Cert.RefPromptIdeal.main_arg12) = m ((c.tc : Thread Cert.RefPromptIdeal.nD Cert.RefPromptIdeal.τ).loc Cert.RefPromptIdeal.main_arg12))
      ∧ r.2.sem = fun _ => 0)

def quiescent_RefPromptIdeal_pre_prompt_tame [hRefPromptIdeal : Cert.RefPromptIdeal.Facts] [hPre_prompt_tame : Cert.Pre_prompt_tame.Facts] : Prop :=
  ∀ (m : (ℓ : Loc Cert.RefPromptIdeal.nD Cert.RefPromptIdeal.τ Cert.RefPromptIdeal.sig) → Buf (Elt Ideal) ℓ) (g : Dev Cert.RefPromptIdeal.nD → PrngReg), Pre_RefPromptIdeal_prompt_tame m →
    θ_run (Cert.RefPromptIdeal.defs (F := Ideal)) (onTc (τ := Cert.RefPromptIdeal.τ) (Cert.RefPromptIdeal.main (F := Ideal))) ⟨m, fun _ => 0, g⟩ (fun r => (∀ c : Dev Cert.RefPromptIdeal.nD,
      r.2.mem ((c.tc : Thread Cert.RefPromptIdeal.nD Cert.RefPromptIdeal.τ).loc Cert.RefPromptIdeal.main_arg0) = m ((c.tc : Thread Cert.RefPromptIdeal.nD Cert.RefPromptIdeal.τ).loc Cert.RefPromptIdeal.main_arg0)
      ∧ r.2.mem ((c.tc : Thread Cert.RefPromptIdeal.nD Cert.RefPromptIdeal.τ).loc Cert.RefPromptIdeal.main_arg1) = m ((c.tc : Thread Cert.RefPromptIdeal.nD Cert.RefPromptIdeal.τ).loc Cert.RefPromptIdeal.main_arg1)
      ∧ r.2.mem ((c.tc : Thread Cert.RefPromptIdeal.nD Cert.RefPromptIdeal.τ).loc Cert.RefPromptIdeal.main_arg2) = m ((c.tc : Thread Cert.RefPromptIdeal.nD Cert.RefPromptIdeal.τ).loc Cert.RefPromptIdeal.main_arg2)
      ∧ r.2.mem ((c.tc : Thread Cert.RefPromptIdeal.nD Cert.RefPromptIdeal.τ).loc Cert.RefPromptIdeal.main_arg3) = m ((c.tc : Thread Cert.RefPromptIdeal.nD Cert.RefPromptIdeal.τ).loc Cert.RefPromptIdeal.main_arg3)
      ∧ r.2.mem ((c.tc : Thread Cert.RefPromptIdeal.nD Cert.RefPromptIdeal.τ).loc Cert.RefPromptIdeal.main_arg4) = m ((c.tc : Thread Cert.RefPromptIdeal.nD Cert.RefPromptIdeal.τ).loc Cert.RefPromptIdeal.main_arg4)
      ∧ r.2.mem ((c.tc : Thread Cert.RefPromptIdeal.nD Cert.RefPromptIdeal.τ).loc Cert.RefPromptIdeal.main_arg5) = m ((c.tc : Thread Cert.RefPromptIdeal.nD Cert.RefPromptIdeal.τ).loc Cert.RefPromptIdeal.main_arg5)
      ∧ r.2.mem ((c.tc : Thread Cert.RefPromptIdeal.nD Cert.RefPromptIdeal.τ).loc Cert.RefPromptIdeal.main_arg6) = m ((c.tc : Thread Cert.RefPromptIdeal.nD Cert.RefPromptIdeal.τ).loc Cert.RefPromptIdeal.main_arg6)
      ∧ r.2.mem ((c.tc : Thread Cert.RefPromptIdeal.nD Cert.RefPromptIdeal.τ).loc Cert.RefPromptIdeal.main_arg7) = m ((c.tc : Thread Cert.RefPromptIdeal.nD Cert.RefPromptIdeal.τ).loc Cert.RefPromptIdeal.main_arg7)
      ∧ r.2.mem ((c.tc : Thread Cert.RefPromptIdeal.nD Cert.RefPromptIdeal.τ).loc Cert.RefPromptIdeal.main_arg8) = m ((c.tc : Thread Cert.RefPromptIdeal.nD Cert.RefPromptIdeal.τ).loc Cert.RefPromptIdeal.main_arg8)
      ∧ r.2.mem ((c.tc : Thread Cert.RefPromptIdeal.nD Cert.RefPromptIdeal.τ).loc Cert.RefPromptIdeal.main_arg9) = m ((c.tc : Thread Cert.RefPromptIdeal.nD Cert.RefPromptIdeal.τ).loc Cert.RefPromptIdeal.main_arg9)
      ∧ r.2.mem ((c.tc : Thread Cert.RefPromptIdeal.nD Cert.RefPromptIdeal.τ).loc Cert.RefPromptIdeal.main_arg10) = m ((c.tc : Thread Cert.RefPromptIdeal.nD Cert.RefPromptIdeal.τ).loc Cert.RefPromptIdeal.main_arg10)
      ∧ r.2.mem ((c.tc : Thread Cert.RefPromptIdeal.nD Cert.RefPromptIdeal.τ).loc Cert.RefPromptIdeal.main_arg11) = m ((c.tc : Thread Cert.RefPromptIdeal.nD Cert.RefPromptIdeal.τ).loc Cert.RefPromptIdeal.main_arg11)
      ∧ r.2.mem ((c.tc : Thread Cert.RefPromptIdeal.nD Cert.RefPromptIdeal.τ).loc Cert.RefPromptIdeal.main_arg12) = m ((c.tc : Thread Cert.RefPromptIdeal.nD Cert.RefPromptIdeal.τ).loc Cert.RefPromptIdeal.main_arg12))
      ∧ r.2.sem = fun _ => 0)

def quiescent_Short [hShort : Cert.Short.Facts] : Prop :=
  ∀ (m : (ℓ : Loc Cert.Short.nD Cert.Short.τ Cert.Short.sig) → Buf (Elt Bits) ℓ) (g : Dev Cert.Short.nD → PrngReg), Pre_Short m →
    θ_run (Cert.Short.defs (F := Bits)) (onTc (τ := Cert.Short.τ) (Cert.Short.main (F := Bits))) ⟨m, fun _ => 0, g⟩ (fun r => (∀ c : Dev Cert.Short.nD,
      r.2.mem ((c.tc : Thread Cert.Short.nD Cert.Short.τ).loc Cert.Short.main_arg0) = m ((c.tc : Thread Cert.Short.nD Cert.Short.τ).loc Cert.Short.main_arg0)
      ∧ r.2.mem ((c.tc : Thread Cert.Short.nD Cert.Short.τ).loc Cert.Short.main_arg1) = m ((c.tc : Thread Cert.Short.nD Cert.Short.τ).loc Cert.Short.main_arg1)
      ∧ r.2.mem ((c.tc : Thread Cert.Short.nD Cert.Short.τ).loc Cert.Short.main_arg2) = m ((c.tc : Thread Cert.Short.nD Cert.Short.τ).loc Cert.Short.main_arg2))
      ∧ r.2.sem = fun _ => 0)

def quiescent_ShortIdeal [hShortIdeal : Cert.ShortIdeal.Facts] : Prop :=
  ∀ (m : (ℓ : Loc Cert.ShortIdeal.nD Cert.ShortIdeal.τ Cert.ShortIdeal.sig) → Buf (Elt Ideal) ℓ) (g : Dev Cert.ShortIdeal.nD → PrngReg), Pre_ShortIdeal m →
    θ_run (Cert.ShortIdeal.defs (F := Ideal)) (onTc (τ := Cert.ShortIdeal.τ) (Cert.ShortIdeal.main (F := Ideal))) ⟨m, fun _ => 0, g⟩ (fun r => (∀ c : Dev Cert.ShortIdeal.nD,
      r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
      ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
      ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ r.2.sem = fun _ => 0)

def quiescent_RefShortIdeal [hRefShortIdeal : Cert.RefShortIdeal.Facts] : Prop :=
  ∀ (m : (ℓ : Loc Cert.RefShortIdeal.nD Cert.RefShortIdeal.τ Cert.RefShortIdeal.sig) → Buf (Elt Ideal) ℓ) (g : Dev Cert.RefShortIdeal.nD → PrngReg), Pre_RefShortIdeal m →
    θ_run (Cert.RefShortIdeal.defs (F := Ideal)) (onTc (τ := Cert.RefShortIdeal.τ) (Cert.RefShortIdeal.main (F := Ideal))) ⟨m, fun _ => 0, g⟩ (fun r => (∀ c : Dev Cert.RefShortIdeal.nD,
      r.2.mem ((c.tc : Thread Cert.RefShortIdeal.nD Cert.RefShortIdeal.τ).loc Cert.RefShortIdeal.main_arg0) = m ((c.tc : Thread Cert.RefShortIdeal.nD Cert.RefShortIdeal.τ).loc Cert.RefShortIdeal.main_arg0)
      ∧ r.2.mem ((c.tc : Thread Cert.RefShortIdeal.nD Cert.RefShortIdeal.τ).loc Cert.RefShortIdeal.main_arg1) = m ((c.tc : Thread Cert.RefShortIdeal.nD Cert.RefShortIdeal.τ).loc Cert.RefShortIdeal.main_arg1)
      ∧ r.2.mem ((c.tc : Thread Cert.RefShortIdeal.nD Cert.RefShortIdeal.τ).loc Cert.RefShortIdeal.main_arg2) = m ((c.tc : Thread Cert.RefShortIdeal.nD Cert.RefShortIdeal.τ).loc Cert.RefShortIdeal.main_arg2))
      ∧ r.2.sem = fun _ => 0)

def quiescent_Mls [hMls : Cert.Mls.Facts] : Prop :=
  ∀ (m : (ℓ : Loc Cert.Mls.nD Cert.Mls.τ Cert.Mls.sig) → Buf (Elt Bits) ℓ) (g : Dev Cert.Mls.nD → PrngReg), Pre_Mls m →
    θ_run (Cert.Mls.defs (F := Bits)) (onTc (τ := Cert.Mls.τ) (Cert.Mls.main (F := Bits))) ⟨m, fun _ => 0, g⟩ (fun r => (∀ c : Dev Cert.Mls.nD,
      r.2.mem ((c.tc : Thread Cert.Mls.nD Cert.Mls.τ).loc Cert.Mls.main_arg0) = m ((c.tc : Thread Cert.Mls.nD Cert.Mls.τ).loc Cert.Mls.main_arg0)
      ∧ r.2.mem ((c.tc : Thread Cert.Mls.nD Cert.Mls.τ).loc Cert.Mls.main_arg1) = m ((c.tc : Thread Cert.Mls.nD Cert.Mls.τ).loc Cert.Mls.main_arg1)
      ∧ r.2.mem ((c.tc : Thread Cert.Mls.nD Cert.Mls.τ).loc Cert.Mls.main_arg2) = m ((c.tc : Thread Cert.Mls.nD Cert.Mls.τ).loc Cert.Mls.main_arg2))
      ∧ r.2.sem = fun _ => 0)

def quiescent_MlsIdeal [hMlsIdeal : Cert.MlsIdeal.Facts] : Prop :=
  ∀ (m : (ℓ : Loc Cert.MlsIdeal.nD Cert.MlsIdeal.τ Cert.MlsIdeal.sig) → Buf (Elt Ideal) ℓ) (g : Dev Cert.MlsIdeal.nD → PrngReg), Pre_MlsIdeal m →
    θ_run (Cert.MlsIdeal.defs (F := Ideal)) (onTc (τ := Cert.MlsIdeal.τ) (Cert.MlsIdeal.main (F := Ideal))) ⟨m, fun _ => 0, g⟩ (fun r => (∀ c : Dev Cert.MlsIdeal.nD,
      r.2.mem ((c.tc : Thread Cert.MlsIdeal.nD Cert.MlsIdeal.τ).loc Cert.MlsIdeal.main_arg0) = m ((c.tc : Thread Cert.MlsIdeal.nD Cert.MlsIdeal.τ).loc Cert.MlsIdeal.main_arg0)
      ∧ r.2.mem ((c.tc : Thread Cert.MlsIdeal.nD Cert.MlsIdeal.τ).loc Cert.MlsIdeal.main_arg1) = m ((c.tc : Thread Cert.MlsIdeal.nD Cert.MlsIdeal.τ).loc Cert.MlsIdeal.main_arg1)
      ∧ r.2.mem ((c.tc : Thread Cert.MlsIdeal.nD Cert.MlsIdeal.τ).loc Cert.MlsIdeal.main_arg2) = m ((c.tc : Thread Cert.MlsIdeal.nD Cert.MlsIdeal.τ).loc Cert.MlsIdeal.main_arg2))
      ∧ r.2.sem = fun _ => 0)

def quiescent_MlsIdeal_pre_gates_tame [hMlsIdeal : Cert.MlsIdeal.Facts] [hPre_gates_tame : Cert.Pre_gates_tame.Facts] : Prop :=
  ∀ (m : (ℓ : Loc Cert.MlsIdeal.nD Cert.MlsIdeal.τ Cert.MlsIdeal.sig) → Buf (Elt Ideal) ℓ) (g : Dev Cert.MlsIdeal.nD → PrngReg), Pre_MlsIdeal_gates_tame m →
    θ_run (Cert.MlsIdeal.defs (F := Ideal)) (onTc (τ := Cert.MlsIdeal.τ) (Cert.MlsIdeal.main (F := Ideal))) ⟨m, fun _ => 0, g⟩ (fun r => (∀ c : Dev Cert.MlsIdeal.nD,
      r.2.mem ((c.tc : Thread Cert.MlsIdeal.nD Cert.MlsIdeal.τ).loc Cert.MlsIdeal.main_arg0) = m ((c.tc : Thread Cert.MlsIdeal.nD Cert.MlsIdeal.τ).loc Cert.MlsIdeal.main_arg0)
      ∧ r.2.mem ((c.tc : Thread Cert.MlsIdeal.nD Cert.MlsIdeal.τ).loc Cert.MlsIdeal.main_arg1) = m ((c.tc : Thread Cert.MlsIdeal.nD Cert.MlsIdeal.τ).loc Cert.MlsIdeal.main_arg1)
      ∧ r.2.mem ((c.tc : Thread Cert.MlsIdeal.nD Cert.MlsIdeal.τ).loc Cert.MlsIdeal.main_arg2) = m ((c.tc : Thread Cert.MlsIdeal.nD Cert.MlsIdeal.τ).loc Cert.MlsIdeal.main_arg2))
      ∧ r.2.sem = fun _ => 0)

def quiescent_RefMlsIdeal [hRefMlsIdeal : Cert.RefMlsIdeal.Facts] : Prop :=
  ∀ (m : (ℓ : Loc Cert.RefMlsIdeal.nD Cert.RefMlsIdeal.τ Cert.RefMlsIdeal.sig) → Buf (Elt Ideal) ℓ) (g : Dev Cert.RefMlsIdeal.nD → PrngReg), Pre_RefMlsIdeal m →
    θ_run (Cert.RefMlsIdeal.defs (F := Ideal)) (onTc (τ := Cert.RefMlsIdeal.τ) (Cert.RefMlsIdeal.main (F := Ideal))) ⟨m, fun _ => 0, g⟩ (fun r => (∀ c : Dev Cert.RefMlsIdeal.nD,
      r.2.mem ((c.tc : Thread Cert.RefMlsIdeal.nD Cert.RefMlsIdeal.τ).loc Cert.RefMlsIdeal.main_arg0) = m ((c.tc : Thread Cert.RefMlsIdeal.nD Cert.RefMlsIdeal.τ).loc Cert.RefMlsIdeal.main_arg0)
      ∧ r.2.mem ((c.tc : Thread Cert.RefMlsIdeal.nD Cert.RefMlsIdeal.τ).loc Cert.RefMlsIdeal.main_arg1) = m ((c.tc : Thread Cert.RefMlsIdeal.nD Cert.RefMlsIdeal.τ).loc Cert.RefMlsIdeal.main_arg1)
      ∧ r.2.mem ((c.tc : Thread Cert.RefMlsIdeal.nD Cert.RefMlsIdeal.τ).loc Cert.RefMlsIdeal.main_arg2) = m ((c.tc : Thread Cert.RefMlsIdeal.nD Cert.RefMlsIdeal.τ).loc Cert.RefMlsIdeal.main_arg2))
      ∧ r.2.sem = fun _ => 0)

def quiescent_RefMlsIdeal_pre_gates_tame [hRefMlsIdeal : Cert.RefMlsIdeal.Facts] [hPre_gates_tame : Cert.Pre_gates_tame.Facts] : Prop :=
  ∀ (m : (ℓ : Loc Cert.RefMlsIdeal.nD Cert.RefMlsIdeal.τ Cert.RefMlsIdeal.sig) → Buf (Elt Ideal) ℓ) (g : Dev Cert.RefMlsIdeal.nD → PrngReg), Pre_RefMlsIdeal_gates_tame m →
    θ_run (Cert.RefMlsIdeal.defs (F := Ideal)) (onTc (τ := Cert.RefMlsIdeal.τ) (Cert.RefMlsIdeal.main (F := Ideal))) ⟨m, fun _ => 0, g⟩ (fun r => (∀ c : Dev Cert.RefMlsIdeal.nD,
      r.2.mem ((c.tc : Thread Cert.RefMlsIdeal.nD Cert.RefMlsIdeal.τ).loc Cert.RefMlsIdeal.main_arg0) = m ((c.tc : Thread Cert.RefMlsIdeal.nD Cert.RefMlsIdeal.τ).loc Cert.RefMlsIdeal.main_arg0)
      ∧ r.2.mem ((c.tc : Thread Cert.RefMlsIdeal.nD Cert.RefMlsIdeal.τ).loc Cert.RefMlsIdeal.main_arg1) = m ((c.tc : Thread Cert.RefMlsIdeal.nD Cert.RefMlsIdeal.τ).loc Cert.RefMlsIdeal.main_arg1)
      ∧ r.2.mem ((c.tc : Thread Cert.RefMlsIdeal.nD Cert.RefMlsIdeal.τ).loc Cert.RefMlsIdeal.main_arg2) = m ((c.tc : Thread Cert.RefMlsIdeal.nD Cert.RefMlsIdeal.τ).loc Cert.RefMlsIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_RefPoolIdeal [hRefPoolIdeal : Cert.RefPoolIdeal.Facts] : Prop :=
  ∀ (m : (ℓ : Loc Cert.RefPoolIdeal.nD Cert.RefPoolIdeal.τ Cert.RefPoolIdeal.sig) → Buf (Elt Ideal) ℓ) (g : Dev Cert.RefPoolIdeal.nD → PrngReg), Pre_RefPoolIdeal m →
    θ_run (Cert.RefPoolIdeal.defs (F := Ideal)) (onTc (τ := Cert.RefPoolIdeal.τ) (Cert.RefPoolIdeal.main (F := Ideal))) ⟨m, fun _ => 0, g⟩ (fun r => (∀ c : Dev Cert.RefPoolIdeal.nD,
      r.2.mem ((c.tc : Thread Cert.RefPoolIdeal.nD Cert.RefPoolIdeal.τ).loc Cert.RefPoolIdeal.main_arg0) = m ((c.tc : Thread Cert.RefPoolIdeal.nD Cert.RefPoolIdeal.τ).loc Cert.RefPoolIdeal.main_arg0)
      ∧ r.2.mem ((c.tc : Thread Cert.RefPoolIdeal.nD Cert.RefPoolIdeal.τ).loc Cert.RefPoolIdeal.main_arg1) = m ((c.tc : Thread Cert.RefPoolIdeal.nD Cert.RefPoolIdeal.τ).loc Cert.RefPoolIdeal.main_arg1)
      ∧ r.2.mem ((c.tc : Thread Cert.RefPoolIdeal.nD Cert.RefPoolIdeal.τ).loc Cert.RefPoolIdeal.main_arg2) = m ((c.tc : Thread Cert.RefPoolIdeal.nD Cert.RefPoolIdeal.τ).loc Cert.RefPoolIdeal.main_arg2))
      ∧ r.2.sem = fun _ => 0)

def quiescent_PoolNew [hPoolNew : Cert.PoolNew.Facts] : Prop :=
  ∀ (m : (ℓ : Loc Cert.PoolNew.nD Cert.PoolNew.τ Cert.PoolNew.sig) → Buf (Elt Bits) ℓ) (g : Dev Cert.PoolNew.nD → PrngReg), Pre_PoolNew m →
    θ_run (Cert.PoolNew.defs (F := Bits)) (onTc (τ := Cert.PoolNew.τ) (Cert.PoolNew.main (F := Bits))) ⟨m, fun _ => 0, g⟩ (fun r => (∀ c : Dev Cert.PoolNew.nD,
      r.2.mem ((c.tc : Thread Cert.PoolNew.nD Cert.PoolNew.τ).loc Cert.PoolNew.main_arg0) = m ((c.tc : Thread Cert.PoolNew.nD Cert.PoolNew.τ).loc Cert.PoolNew.main_arg0)
      ∧ r.2.mem ((c.tc : Thread Cert.PoolNew.nD Cert.PoolNew.τ).loc Cert.PoolNew.main_arg1) = m ((c.tc : Thread Cert.PoolNew.nD Cert.PoolNew.τ).loc Cert.PoolNew.main_arg1)
      ∧ r.2.mem ((c.tc : Thread Cert.PoolNew.nD Cert.PoolNew.τ).loc Cert.PoolNew.main_arg2) = m ((c.tc : Thread Cert.PoolNew.nD Cert.PoolNew.τ).loc Cert.PoolNew.main_arg2)
      ∧ r.2.mem ((c.tc : Thread Cert.PoolNew.nD Cert.PoolNew.τ).loc Cert.PoolNew.main_arg3) = m ((c.tc : Thread Cert.PoolNew.nD Cert.PoolNew.τ).loc Cert.PoolNew.main_arg3))
      ∧ r.2.sem = fun _ => 0)

def quiescent_PoolNewIdeal [hPoolNewIdeal : Cert.PoolNewIdeal.Facts] : Prop :=
  ∀ (m : (ℓ : Loc Cert.PoolNewIdeal.nD Cert.PoolNewIdeal.τ Cert.PoolNewIdeal.sig) → Buf (Elt Ideal) ℓ) (g : Dev Cert.PoolNewIdeal.nD → PrngReg), Pre_PoolNewIdeal m →
    θ_run (Cert.PoolNewIdeal.defs (F := Ideal)) (onTc (τ := Cert.PoolNewIdeal.τ) (Cert.PoolNewIdeal.main (F := Ideal))) ⟨m, fun _ => 0, g⟩ (fun r => (∀ c : Dev Cert.PoolNewIdeal.nD,
      r.2.mem ((c.tc : Thread Cert.PoolNewIdeal.nD Cert.PoolNewIdeal.τ).loc Cert.PoolNewIdeal.main_arg0) = m ((c.tc : Thread Cert.PoolNewIdeal.nD Cert.PoolNewIdeal.τ).loc Cert.PoolNewIdeal.main_arg0)
      ∧ r.2.mem ((c.tc : Thread Cert.PoolNewIdeal.nD Cert.PoolNewIdeal.τ).loc Cert.PoolNewIdeal.main_arg1) = m ((c.tc : Thread Cert.PoolNewIdeal.nD Cert.PoolNewIdeal.τ).loc Cert.PoolNewIdeal.main_arg1)
      ∧ r.2.mem ((c.tc : Thread Cert.PoolNewIdeal.nD Cert.PoolNewIdeal.τ).loc Cert.PoolNewIdeal.main_arg2) = m ((c.tc : Thread Cert.PoolNewIdeal.nD Cert.PoolNewIdeal.τ).loc Cert.PoolNewIdeal.main_arg2)
      ∧ r.2.mem ((c.tc : Thread Cert.PoolNewIdeal.nD Cert.PoolNewIdeal.τ).loc Cert.PoolNewIdeal.main_arg3) = m ((c.tc : Thread Cert.PoolNewIdeal.nD Cert.PoolNewIdeal.τ).loc Cert.PoolNewIdeal.main_arg3))
      ∧ r.2.sem = fun _ => 0)

def quiescent_RefPoolNewIdeal [hRefPoolNewIdeal : Cert.RefPoolNewIdeal.Facts] : Prop :=
  ∀ (m : (ℓ : Loc Cert.RefPoolNewIdeal.nD Cert.RefPoolNewIdeal.τ Cert.RefPoolNewIdeal.sig) → Buf (Elt Ideal) ℓ) (g : Dev Cert.RefPoolNewIdeal.nD → PrngReg), Pre_RefPoolNewIdeal m →
    θ_run (Cert.RefPoolNewIdeal.defs (F := Ideal)) (onTc (τ := Cert.RefPoolNewIdeal.τ) (Cert.RefPoolNewIdeal.main (F := Ideal))) ⟨m, fun _ => 0, g⟩ (fun r => (∀ c : Dev Cert.RefPoolNewIdeal.nD,
      r.2.mem ((c.tc : Thread Cert.RefPoolNewIdeal.nD Cert.RefPoolNewIdeal.τ).loc Cert.RefPoolNewIdeal.main_arg0) = m ((c.tc : Thread Cert.RefPoolNewIdeal.nD Cert.RefPoolNewIdeal.τ).loc Cert.RefPoolNewIdeal.main_arg0)
      ∧ r.2.mem ((c.tc : Thread Cert.RefPoolNewIdeal.nD Cert.RefPoolNewIdeal.τ).loc Cert.RefPoolNewIdeal.main_arg1) = m ((c.tc : Thread Cert.RefPoolNewIdeal.nD Cert.RefPoolNewIdeal.τ).loc Cert.RefPoolNewIdeal.main_arg1)
      ∧ r.2.mem ((c.tc : Thread Cert.RefPoolNewIdeal.nD Cert.RefPoolNewIdeal.τ).loc Cert.RefPoolNewIdeal.main_arg2) = m ((c.tc : Thread Cert.RefPoolNewIdeal.nD Cert.RefPoolNewIdeal.τ).loc Cert.RefPoolNewIdeal.main_arg2)
      ∧ r.2.mem ((c.tc : Thread Cert.RefPoolNewIdeal.nD Cert.RefPoolNewIdeal.τ).loc Cert.RefPoolNewIdeal.main_arg3) = m ((c.tc : Thread Cert.RefPoolNewIdeal.nD Cert.RefPoolNewIdeal.τ).loc Cert.RefPoolNewIdeal.main_arg3))
      ∧ r.2.sem = fun _ => 0)

def preserves_InA_InAIdeal : Prop :=
  True

def algebraic_InAIdeal_RefInAIdeal [hInAIdeal : Cert.InAIdeal.Facts] [hRefInAIdeal : Cert.RefInAIdeal.Facts] : Prop :=
  ∀ (m : (ℓ : Loc Cert.InAIdeal.nD Cert.InAIdeal.τ Cert.InAIdeal.sig) → Buf (Elt Ideal) ℓ) (g : Dev Cert.InAIdeal.nD → PrngReg)
    (m' : (ℓ : Loc Cert.RefInAIdeal.nD Cert.RefInAIdeal.τ Cert.RefInAIdeal.sig) → Buf (Elt Ideal) ℓ) (g' : Dev Cert.RefInAIdeal.nD → PrngReg), Pre_InAIdeal m →
    (∀ c : Dev Cert.InAIdeal.nD,
      m' ((c.tc : Thread Cert.RefInAIdeal.nD Cert.RefInAIdeal.τ).loc Cert.RefInAIdeal.main_arg0) = m ((c.tc : Thread Cert.InAIdeal.nD Cert.InAIdeal.τ).loc Cert.InAIdeal.main_arg0)
      ∧ m' ((c.tc : Thread Cert.RefInAIdeal.nD Cert.RefInAIdeal.τ).loc Cert.RefInAIdeal.main_arg1) = m ((c.tc : Thread Cert.InAIdeal.nD Cert.InAIdeal.τ).loc Cert.InAIdeal.main_arg1)) →
    ∃ (v0 : (c : Dev Cert.InAIdeal.nD) → Buf (Elt Ideal) ((c.tc : Thread Cert.InAIdeal.nD Cert.InAIdeal.τ).loc Cert.InAIdeal.main_v2_0)) (v1 : (c : Dev Cert.InAIdeal.nD) → Buf (Elt Ideal) ((c.tc : Thread Cert.InAIdeal.nD Cert.InAIdeal.τ).loc Cert.InAIdeal.main_v2_1)),
      θ_run (Cert.InAIdeal.defs (F := Ideal)) (onTc (τ := Cert.InAIdeal.τ) (Cert.InAIdeal.main (F := Ideal))) ⟨m, fun _ => 0, g⟩ (fun r => ∀ c : Dev Cert.InAIdeal.nD,
          r.2.mem ((c.tc : Thread Cert.InAIdeal.nD Cert.InAIdeal.τ).loc Cert.InAIdeal.main_v2_0) = v0 c
          ∧ r.2.mem ((c.tc : Thread Cert.InAIdeal.nD Cert.InAIdeal.τ).loc Cert.InAIdeal.main_v2_1) = v1 c
          ∧ r.2.mem ((c.tc : Thread Cert.InAIdeal.nD Cert.InAIdeal.τ).loc Cert.InAIdeal.main_arg0) = m ((c.tc : Thread Cert.InAIdeal.nD Cert.InAIdeal.τ).loc Cert.InAIdeal.main_arg0)
          ∧ r.2.mem ((c.tc : Thread Cert.InAIdeal.nD Cert.InAIdeal.τ).loc Cert.InAIdeal.main_arg1) = m ((c.tc : Thread Cert.InAIdeal.nD Cert.InAIdeal.τ).loc Cert.InAIdeal.main_arg1))
      ∧ θ_run (Cert.RefInAIdeal.defs (F := Ideal)) (onTc (τ := Cert.RefInAIdeal.τ) (Cert.RefInAIdeal.main (F := Ideal))) ⟨m', fun _ => 0, g'⟩ (fun r => ∀ c : Dev Cert.RefInAIdeal.nD,
          r.2.mem ((c.tc : Thread Cert.RefInAIdeal.nD Cert.RefInAIdeal.τ).loc Cert.RefInAIdeal.main_v3) = v0 c
          ∧ r.2.mem ((c.tc : Thread Cert.RefInAIdeal.nD Cert.RefInAIdeal.τ).loc Cert.RefInAIdeal.main_v7) = v1 c
          ∧ r.2.mem ((c.tc : Thread Cert.RefInAIdeal.nD Cert.RefInAIdeal.τ).loc Cert.RefInAIdeal.main_arg0) = m' ((c.tc : Thread Cert.RefInAIdeal.nD Cert.RefInAIdeal.τ).loc Cert.RefInAIdeal.main_arg0)
          ∧ r.2.mem ((c.tc : Thread Cert.RefInAIdeal.nD Cert.RefInAIdeal.τ).loc Cert.RefInAIdeal.main_arg1) = m' ((c.tc : Thread Cert.RefInAIdeal.nD Cert.RefInAIdeal.τ).loc Cert.RefInAIdeal.main_arg1))

def preserves_InB_InBIdeal : Prop :=
  True

def algebraic_InBIdeal_RefInBIdeal [hInBIdeal : Cert.InBIdeal.Facts] [hRefInBIdeal : Cert.RefInBIdeal.Facts] : Prop :=
  ∀ (m : (ℓ : Loc Cert.InBIdeal.nD Cert.InBIdeal.τ Cert.InBIdeal.sig) → Buf (Elt Ideal) ℓ) (g : Dev Cert.InBIdeal.nD → PrngReg)
    (m' : (ℓ : Loc Cert.RefInBIdeal.nD Cert.RefInBIdeal.τ Cert.RefInBIdeal.sig) → Buf (Elt Ideal) ℓ) (g' : Dev Cert.RefInBIdeal.nD → PrngReg), Pre_InBIdeal m →
    (∀ c : Dev Cert.InBIdeal.nD,
      m' ((c.tc : Thread Cert.RefInBIdeal.nD Cert.RefInBIdeal.τ).loc Cert.RefInBIdeal.main_arg0) = m ((c.tc : Thread Cert.InBIdeal.nD Cert.InBIdeal.τ).loc Cert.InBIdeal.main_arg0)
      ∧ m' ((c.tc : Thread Cert.RefInBIdeal.nD Cert.RefInBIdeal.τ).loc Cert.RefInBIdeal.main_arg1) = m ((c.tc : Thread Cert.InBIdeal.nD Cert.InBIdeal.τ).loc Cert.InBIdeal.main_arg1)) →
    ∃ (v0 : (c : Dev Cert.InBIdeal.nD) → Buf (Elt Ideal) ((c.tc : Thread Cert.InBIdeal.nD Cert.InBIdeal.τ).loc Cert.InBIdeal.main_v2_0)) (v1 : (c : Dev Cert.InBIdeal.nD) → Buf (Elt Ideal) ((c.tc : Thread Cert.InBIdeal.nD Cert.InBIdeal.τ).loc Cert.InBIdeal.main_v2_1)),
      θ_run (Cert.InBIdeal.defs (F := Ideal)) (onTc (τ := Cert.InBIdeal.τ) (Cert.InBIdeal.main (F := Ideal))) ⟨m, fun _ => 0, g⟩ (fun r => ∀ c : Dev Cert.InBIdeal.nD,
          r.2.mem ((c.tc : Thread Cert.InBIdeal.nD Cert.InBIdeal.τ).loc Cert.InBIdeal.main_v2_0) = v0 c
          ∧ r.2.mem ((c.tc : Thread Cert.InBIdeal.nD Cert.InBIdeal.τ).loc Cert.InBIdeal.main_v2_1) = v1 c
          ∧ r.2.mem ((c.tc : Thread Cert.InBIdeal.nD Cert.InBIdeal.τ).loc Cert.InBIdeal.main_arg0) = m ((c.tc : Thread Cert.InBIdeal.nD Cert.InBIdeal.τ).loc Cert.InBIdeal.main_arg0)
          ∧ r.2.mem ((c.tc : Thread Cert.InBIdeal.nD Cert.InBIdeal.τ).loc Cert.InBIdeal.main_arg1) = m ((c.tc : Thread Cert.InBIdeal.nD Cert.InBIdeal.τ).loc Cert.InBIdeal.main_arg1))
      ∧ θ_run (Cert.RefInBIdeal.defs (F := Ideal)) (onTc (τ := Cert.RefInBIdeal.τ) (Cert.RefInBIdeal.main (F := Ideal))) ⟨m', fun _ => 0, g'⟩ (fun r => ∀ c : Dev Cert.RefInBIdeal.nD,
          r.2.mem ((c.tc : Thread Cert.RefInBIdeal.nD Cert.RefInBIdeal.τ).loc Cert.RefInBIdeal.main_v3) = v0 c
          ∧ r.2.mem ((c.tc : Thread Cert.RefInBIdeal.nD Cert.RefInBIdeal.τ).loc Cert.RefInBIdeal.main_v7) = v1 c
          ∧ r.2.mem ((c.tc : Thread Cert.RefInBIdeal.nD Cert.RefInBIdeal.τ).loc Cert.RefInBIdeal.main_arg0) = m' ((c.tc : Thread Cert.RefInBIdeal.nD Cert.RefInBIdeal.τ).loc Cert.RefInBIdeal.main_arg0)
          ∧ r.2.mem ((c.tc : Thread Cert.RefInBIdeal.nD Cert.RefInBIdeal.τ).loc Cert.RefInBIdeal.main_arg1) = m' ((c.tc : Thread Cert.RefInBIdeal.nD Cert.RefInBIdeal.τ).loc Cert.RefInBIdeal.main_arg1))

def preserves_MemKv_MemKvIdeal : Prop :=
  True

def algebraic_MemKvIdeal_RefMemKvIdeal [hMemKvIdeal : Cert.MemKvIdeal.Facts] [hRefMemKvIdeal : Cert.RefMemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.RefMemKvIdeal.nD Cert.RefMemKvIdeal.τ Cert.RefMemKvIdeal.sig) → Buf (Elt Ideal) ℓ) (g' : Dev Cert.RefMemKvIdeal.nD → PrngReg), Pre_MemKvIdeal m →
    (∀ c : Dev Cert.MemKvIdeal.nD,
      m' ((c.tc : Thread Cert.RefMemKvIdeal.nD Cert.RefMemKvIdeal.τ).loc Cert.RefMemKvIdeal.main_arg0) = m ((c.tc : Thread Cert.MemKvIdeal.nD Cert.MemKvIdeal.τ).loc Cert.MemKvIdeal.main_arg0)
      ∧ m' ((c.tc : Thread Cert.RefMemKvIdeal.nD Cert.RefMemKvIdeal.τ).loc Cert.RefMemKvIdeal.main_arg1) = m ((c.tc : Thread Cert.MemKvIdeal.nD Cert.MemKvIdeal.τ).loc Cert.MemKvIdeal.main_arg1)
      ∧ m' ((c.tc : Thread Cert.RefMemKvIdeal.nD Cert.RefMemKvIdeal.τ).loc Cert.RefMemKvIdeal.main_arg2) = m ((c.tc : Thread Cert.MemKvIdeal.nD Cert.MemKvIdeal.τ).loc Cert.MemKvIdeal.main_arg2)) →
    ∃ (v0 : (c : Dev Cert.MemKvIdeal.nD) → Buf (Elt Ideal) ((c.tc : Thread Cert.MemKvIdeal.nD Cert.MemKvIdeal.τ).loc Cert.MemKvIdeal.main_v5_0)) (v1 : (c : Dev Cert.MemKvIdeal.nD) → Buf (Elt Ideal) ((c.tc : Thread Cert.MemKvIdeal.nD Cert.MemKvIdeal.τ).loc Cert.MemKvIdeal.main_v5_1)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v5_0) = v0 c
          ∧ r.2.mem ((c.tc : Thread Cert.MemKvIdeal.nD Cert.MemKvIdeal.τ).loc Cert.MemKvIdeal.main_v5_1) = v1 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2))
      ∧ θ_run (Cert.RefMemKvIdeal.defs (F := Ideal)) (onTc (τ := Cert.RefMemKvIdeal.τ) (Cert.RefMemKvIdeal.main (F := Ideal))) ⟨m', fun _ => 0, g'⟩ (fun r => ∀ c : Dev Cert.RefMemKvIdeal.nD,
          r.2.mem ((c.tc : Thread Cert.RefMemKvIdeal.nD Cert.RefMemKvIdeal.τ).loc Cert.RefMemKvIdeal.main_v18) = v0 c
          ∧ r.2.mem ((c.tc : Thread Cert.RefMemKvIdeal.nD Cert.RefMemKvIdeal.τ).loc Cert.RefMemKvIdeal.main_v19) = v1 c
          ∧ r.2.mem ((c.tc : Thread Cert.RefMemKvIdeal.nD Cert.RefMemKvIdeal.τ).loc Cert.RefMemKvIdeal.main_arg0) = m' ((c.tc : Thread Cert.RefMemKvIdeal.nD Cert.RefMemKvIdeal.τ).loc Cert.RefMemKvIdeal.main_arg0)
          ∧ r.2.mem ((c.tc : Thread Cert.RefMemKvIdeal.nD Cert.RefMemKvIdeal.τ).loc Cert.RefMemKvIdeal.main_arg1) = m' ((c.tc : Thread Cert.RefMemKvIdeal.nD Cert.RefMemKvIdeal.τ).loc Cert.RefMemKvIdeal.main_arg1)
          ∧ r.2.mem ((c.tc : Thread Cert.RefMemKvIdeal.nD Cert.RefMemKvIdeal.τ).loc Cert.RefMemKvIdeal.main_arg2) = m' ((c.tc : Thread Cert.RefMemKvIdeal.nD Cert.RefMemKvIdeal.τ).loc Cert.RefMemKvIdeal.main_arg2))

def preserves_Sample_SampleIdeal : Prop :=
  True

def algebraic_SampleIdeal_RefSampleIdeal_pre_sample_tame [hSampleIdeal : Cert.SampleIdeal.Facts] [hRefSampleIdeal : Cert.RefSampleIdeal.Facts] [hPre_sample_tame : Cert.Pre_sample_tame.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.RefSampleIdeal.nD Cert.RefSampleIdeal.τ Cert.RefSampleIdeal.sig) → Buf (Elt Ideal) ℓ) (g' : Dev Cert.RefSampleIdeal.nD → PrngReg), Pre_SampleIdeal_sample_tame m →
    (∀ c : Dev Cert.SampleIdeal.nD,
      m' ((c.tc : Thread Cert.RefSampleIdeal.nD Cert.RefSampleIdeal.τ).loc Cert.RefSampleIdeal.main_arg0) = m ((c.tc : Thread Cert.SampleIdeal.nD Cert.SampleIdeal.τ).loc Cert.SampleIdeal.main_arg0)
      ∧ m' ((c.tc : Thread Cert.RefSampleIdeal.nD Cert.RefSampleIdeal.τ).loc Cert.RefSampleIdeal.main_arg1) = m ((c.tc : Thread Cert.SampleIdeal.nD Cert.SampleIdeal.τ).loc Cert.SampleIdeal.main_arg1)
      ∧ m' ((c.tc : Thread Cert.RefSampleIdeal.nD Cert.RefSampleIdeal.τ).loc Cert.RefSampleIdeal.main_arg2) = m ((c.tc : Thread Cert.SampleIdeal.nD Cert.SampleIdeal.τ).loc Cert.SampleIdeal.main_arg2)
      ∧ m' ((c.tc : Thread Cert.RefSampleIdeal.nD Cert.RefSampleIdeal.τ).loc Cert.RefSampleIdeal.main_arg3) = m ((c.tc : Thread Cert.SampleIdeal.nD Cert.SampleIdeal.τ).loc Cert.SampleIdeal.main_arg3)
      ∧ m' ((c.tc : Thread Cert.RefSampleIdeal.nD Cert.RefSampleIdeal.τ).loc Cert.RefSampleIdeal.main_arg4) = m ((c.tc : Thread Cert.SampleIdeal.nD Cert.SampleIdeal.τ).loc Cert.SampleIdeal.main_arg4)
      ∧ m' ((c.tc : Thread Cert.RefSampleIdeal.nD Cert.RefSampleIdeal.τ).loc Cert.RefSampleIdeal.main_arg5) = m ((c.tc : Thread Cert.SampleIdeal.nD Cert.SampleIdeal.τ).loc Cert.SampleIdeal.main_arg5)
      ∧ m' ((c.tc : Thread Cert.RefSampleIdeal.nD Cert.RefSampleIdeal.τ).loc Cert.RefSampleIdeal.main_arg6) = m ((c.tc : Thread Cert.SampleIdeal.nD Cert.SampleIdeal.τ).loc Cert.SampleIdeal.main_arg6)
      ∧ m' ((c.tc : Thread Cert.RefSampleIdeal.nD Cert.RefSampleIdeal.τ).loc Cert.RefSampleIdeal.main_arg7) = m ((c.tc : Thread Cert.SampleIdeal.nD Cert.SampleIdeal.τ).loc Cert.SampleIdeal.main_arg7)
      ∧ m' ((c.tc : Thread Cert.RefSampleIdeal.nD Cert.RefSampleIdeal.τ).loc Cert.RefSampleIdeal.main_arg8) = m ((c.tc : Thread Cert.SampleIdeal.nD Cert.SampleIdeal.τ).loc Cert.SampleIdeal.main_arg8)
      ∧ m' ((c.tc : Thread Cert.RefSampleIdeal.nD Cert.RefSampleIdeal.τ).loc Cert.RefSampleIdeal.main_arg9) = m ((c.tc : Thread Cert.SampleIdeal.nD Cert.SampleIdeal.τ).loc Cert.SampleIdeal.main_arg9)
      ∧ m' ((c.tc : Thread Cert.RefSampleIdeal.nD Cert.RefSampleIdeal.τ).loc Cert.RefSampleIdeal.main_arg10) = m ((c.tc : Thread Cert.SampleIdeal.nD Cert.SampleIdeal.τ).loc Cert.SampleIdeal.main_arg10)
      ∧ m' ((c.tc : Thread Cert.RefSampleIdeal.nD Cert.RefSampleIdeal.τ).loc Cert.RefSampleIdeal.main_arg11) = m ((c.tc : Thread Cert.SampleIdeal.nD Cert.SampleIdeal.τ).loc Cert.SampleIdeal.main_arg11)
      ∧ m' ((c.tc : Thread Cert.RefSampleIdeal.nD Cert.RefSampleIdeal.τ).loc Cert.RefSampleIdeal.main_arg12) = m ((c.tc : Thread Cert.SampleIdeal.nD Cert.SampleIdeal.τ).loc Cert.SampleIdeal.main_arg12)
      ∧ m' ((c.tc : Thread Cert.RefSampleIdeal.nD Cert.RefSampleIdeal.τ).loc Cert.RefSampleIdeal.main_arg13) = m ((c.tc : Thread Cert.SampleIdeal.nD Cert.SampleIdeal.τ).loc Cert.SampleIdeal.main_arg13)
      ∧ m' ((c.tc : Thread Cert.RefSampleIdeal.nD Cert.RefSampleIdeal.τ).loc Cert.RefSampleIdeal.main_arg14) = m ((c.tc : Thread Cert.SampleIdeal.nD Cert.SampleIdeal.τ).loc Cert.SampleIdeal.main_arg14)
      ∧ m' ((c.tc : Thread Cert.RefSampleIdeal.nD Cert.RefSampleIdeal.τ).loc Cert.RefSampleIdeal.main_arg15) = m ((c.tc : Thread Cert.SampleIdeal.nD Cert.SampleIdeal.τ).loc Cert.SampleIdeal.main_arg15)
      ∧ m' ((c.tc : Thread Cert.RefSampleIdeal.nD Cert.RefSampleIdeal.τ).loc Cert.RefSampleIdeal.main_arg16) = m ((c.tc : Thread Cert.SampleIdeal.nD Cert.SampleIdeal.τ).loc Cert.SampleIdeal.main_arg16)
      ∧ m' ((c.tc : Thread Cert.RefSampleIdeal.nD Cert.RefSampleIdeal.τ).loc Cert.RefSampleIdeal.main_arg17) = m ((c.tc : Thread Cert.SampleIdeal.nD Cert.SampleIdeal.τ).loc Cert.SampleIdeal.main_arg17)
      ∧ m' ((c.tc : Thread Cert.RefSampleIdeal.nD Cert.RefSampleIdeal.τ).loc Cert.RefSampleIdeal.main_arg18) = m ((c.tc : Thread Cert.SampleIdeal.nD Cert.SampleIdeal.τ).loc Cert.SampleIdeal.main_arg18)) →
    ∃ (v0 : (c : Dev Cert.SampleIdeal.nD) → Buf (Elt Ideal) ((c.tc : Thread Cert.SampleIdeal.nD Cert.SampleIdeal.τ).loc Cert.SampleIdeal.main_v2_0)) (v1 : (c : Dev Cert.SampleIdeal.nD) → Buf (Elt Ideal) ((c.tc : Thread Cert.SampleIdeal.nD Cert.SampleIdeal.τ).loc Cert.SampleIdeal.main_v5_0)) (v2 : (c : Dev Cert.SampleIdeal.nD) → Buf (Elt Ideal) ((c.tc : Thread Cert.SampleIdeal.nD Cert.SampleIdeal.τ).loc Cert.SampleIdeal.main_v18)) (v3 : (c : Dev Cert.SampleIdeal.nD) → Buf (Elt Ideal) ((c.tc : Thread Cert.SampleIdeal.nD Cert.SampleIdeal.τ).loc Cert.SampleIdeal.main_v2_2)) (v4 : (c : Dev Cert.SampleIdeal.nD) → Buf (Elt Ideal) ((c.tc : Thread Cert.SampleIdeal.nD Cert.SampleIdeal.τ).loc Cert.SampleIdeal.main_v2_3)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v2_0) = v0 c
          ∧ r.2.mem ((c.tc : Thread Cert.SampleIdeal.nD Cert.SampleIdeal.τ).loc Cert.SampleIdeal.main_v5_0) = v1 c
          ∧ r.2.mem ((c.tc : Thread Cert.SampleIdeal.nD Cert.SampleIdeal.τ).loc Cert.SampleIdeal.main_v18) = v2 c
          ∧ r.2.mem ((c.tc : Thread Cert.SampleIdeal.nD Cert.SampleIdeal.τ).loc Cert.SampleIdeal.main_v2_2) = v3 c
          ∧ r.2.mem ((c.tc : Thread Cert.SampleIdeal.nD Cert.SampleIdeal.τ).loc Cert.SampleIdeal.main_v2_3) = v4 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9)
          ∧ r.2.mem ((c.tc : Thread Cert.SampleIdeal.nD Cert.SampleIdeal.τ).loc Cert.SampleIdeal.main_arg10) = m ((c.tc : Thread Cert.SampleIdeal.nD Cert.SampleIdeal.τ).loc Cert.SampleIdeal.main_arg10)
          ∧ r.2.mem ((c.tc : Thread Cert.SampleIdeal.nD Cert.SampleIdeal.τ).loc Cert.SampleIdeal.main_arg11) = m ((c.tc : Thread Cert.SampleIdeal.nD Cert.SampleIdeal.τ).loc Cert.SampleIdeal.main_arg11)
          ∧ r.2.mem ((c.tc : Thread Cert.SampleIdeal.nD Cert.SampleIdeal.τ).loc Cert.SampleIdeal.main_arg12) = m ((c.tc : Thread Cert.SampleIdeal.nD Cert.SampleIdeal.τ).loc Cert.SampleIdeal.main_arg12)
          ∧ r.2.mem ((c.tc : Thread Cert.SampleIdeal.nD Cert.SampleIdeal.τ).loc Cert.SampleIdeal.main_arg13) = m ((c.tc : Thread Cert.SampleIdeal.nD Cert.SampleIdeal.τ).loc Cert.SampleIdeal.main_arg13)
          ∧ r.2.mem ((c.tc : Thread Cert.SampleIdeal.nD Cert.SampleIdeal.τ).loc Cert.SampleIdeal.main_arg14) = m ((c.tc : Thread Cert.SampleIdeal.nD Cert.SampleIdeal.τ).loc Cert.SampleIdeal.main_arg14)
          ∧ r.2.mem ((c.tc : Thread Cert.SampleIdeal.nD Cert.SampleIdeal.τ).loc Cert.SampleIdeal.main_arg15) = m ((c.tc : Thread Cert.SampleIdeal.nD Cert.SampleIdeal.τ).loc Cert.SampleIdeal.main_arg15)
          ∧ r.2.mem ((c.tc : Thread Cert.SampleIdeal.nD Cert.SampleIdeal.τ).loc Cert.SampleIdeal.main_arg16) = m ((c.tc : Thread Cert.SampleIdeal.nD Cert.SampleIdeal.τ).loc Cert.SampleIdeal.main_arg16)
          ∧ r.2.mem ((c.tc : Thread Cert.SampleIdeal.nD Cert.SampleIdeal.τ).loc Cert.SampleIdeal.main_arg17) = m ((c.tc : Thread Cert.SampleIdeal.nD Cert.SampleIdeal.τ).loc Cert.SampleIdeal.main_arg17)
          ∧ r.2.mem ((c.tc : Thread Cert.SampleIdeal.nD Cert.SampleIdeal.τ).loc Cert.SampleIdeal.main_arg18) = m ((c.tc : Thread Cert.SampleIdeal.nD Cert.SampleIdeal.τ).loc Cert.SampleIdeal.main_arg18))
      ∧ θ_run (Cert.RefSampleIdeal.defs (F := Ideal)) (onTc (τ := Cert.RefSampleIdeal.τ) (Cert.RefSampleIdeal.main (F := Ideal))) ⟨m', fun _ => 0, g'⟩ (fun r => ∀ c : Dev Cert.RefSampleIdeal.nD,
          r.2.mem ((c.tc : Thread Cert.RefSampleIdeal.nD Cert.RefSampleIdeal.τ).loc Cert.RefSampleIdeal.main_v3) = v0 c
          ∧ r.2.mem ((c.tc : Thread Cert.RefSampleIdeal.nD Cert.RefSampleIdeal.τ).loc Cert.RefSampleIdeal.main_v7) = v1 c
          ∧ r.2.mem ((c.tc : Thread Cert.RefSampleIdeal.nD Cert.RefSampleIdeal.τ).loc Cert.RefSampleIdeal.main_v173) = v2 c
          ∧ r.2.mem ((c.tc : Thread Cert.RefSampleIdeal.nD Cert.RefSampleIdeal.τ).loc Cert.RefSampleIdeal.main_v80) = v3 c
          ∧ r.2.mem ((c.tc : Thread Cert.RefSampleIdeal.nD Cert.RefSampleIdeal.τ).loc Cert.RefSampleIdeal.main_v85) = v4 c
          ∧ r.2.mem ((c.tc : Thread Cert.RefSampleIdeal.nD Cert.RefSampleIdeal.τ).loc Cert.RefSampleIdeal.main_arg0) = m' ((c.tc : Thread Cert.RefSampleIdeal.nD Cert.RefSampleIdeal.τ).loc Cert.RefSampleIdeal.main_arg0)
          ∧ r.2.mem ((c.tc : Thread Cert.RefSampleIdeal.nD Cert.RefSampleIdeal.τ).loc Cert.RefSampleIdeal.main_arg1) = m' ((c.tc : Thread Cert.RefSampleIdeal.nD Cert.RefSampleIdeal.τ).loc Cert.RefSampleIdeal.main_arg1)
          ∧ r.2.mem ((c.tc : Thread Cert.RefSampleIdeal.nD Cert.RefSampleIdeal.τ).loc Cert.RefSampleIdeal.main_arg2) = m' ((c.tc : Thread Cert.RefSampleIdeal.nD Cert.RefSampleIdeal.τ).loc Cert.RefSampleIdeal.main_arg2)
          ∧ r.2.mem ((c.tc : Thread Cert.RefSampleIdeal.nD Cert.RefSampleIdeal.τ).loc Cert.RefSampleIdeal.main_arg3) = m' ((c.tc : Thread Cert.RefSampleIdeal.nD Cert.RefSampleIdeal.τ).loc Cert.RefSampleIdeal.main_arg3)
          ∧ r.2.mem ((c.tc : Thread Cert.RefSampleIdeal.nD Cert.RefSampleIdeal.τ).loc Cert.RefSampleIdeal.main_arg4) = m' ((c.tc : Thread Cert.RefSampleIdeal.nD Cert.RefSampleIdeal.τ).loc Cert.RefSampleIdeal.main_arg4)
          ∧ r.2.mem ((c.tc : Thread Cert.RefSampleIdeal.nD Cert.RefSampleIdeal.τ).loc Cert.RefSampleIdeal.main_arg5) = m' ((c.tc : Thread Cert.RefSampleIdeal.nD Cert.RefSampleIdeal.τ).loc Cert.RefSampleIdeal.main_arg5)
          ∧ r.2.mem ((c.tc : Thread Cert.RefSampleIdeal.nD Cert.RefSampleIdeal.τ).loc Cert.RefSampleIdeal.main_arg6) = m' ((c.tc : Thread Cert.RefSampleIdeal.nD Cert.RefSampleIdeal.τ).loc Cert.RefSampleIdeal.main_arg6)
          ∧ r.2.mem ((c.tc : Thread Cert.RefSampleIdeal.nD Cert.RefSampleIdeal.τ).loc Cert.RefSampleIdeal.main_arg7) = m' ((c.tc : Thread Cert.RefSampleIdeal.nD Cert.RefSampleIdeal.τ).loc Cert.RefSampleIdeal.main_arg7)
          ∧ r.2.mem ((c.tc : Thread Cert.RefSampleIdeal.nD Cert.RefSampleIdeal.τ).loc Cert.RefSampleIdeal.main_arg8) = m' ((c.tc : Thread Cert.RefSampleIdeal.nD Cert.RefSampleIdeal.τ).loc Cert.RefSampleIdeal.main_arg8)
          ∧ r.2.mem ((c.tc : Thread Cert.RefSampleIdeal.nD Cert.RefSampleIdeal.τ).loc Cert.RefSampleIdeal.main_arg9) = m' ((c.tc : Thread Cert.RefSampleIdeal.nD Cert.RefSampleIdeal.τ).loc Cert.RefSampleIdeal.main_arg9)
          ∧ r.2.mem ((c.tc : Thread Cert.RefSampleIdeal.nD Cert.RefSampleIdeal.τ).loc Cert.RefSampleIdeal.main_arg10) = m' ((c.tc : Thread Cert.RefSampleIdeal.nD Cert.RefSampleIdeal.τ).loc Cert.RefSampleIdeal.main_arg10)
          ∧ r.2.mem ((c.tc : Thread Cert.RefSampleIdeal.nD Cert.RefSampleIdeal.τ).loc Cert.RefSampleIdeal.main_arg11) = m' ((c.tc : Thread Cert.RefSampleIdeal.nD Cert.RefSampleIdeal.τ).loc Cert.RefSampleIdeal.main_arg11)
          ∧ r.2.mem ((c.tc : Thread Cert.RefSampleIdeal.nD Cert.RefSampleIdeal.τ).loc Cert.RefSampleIdeal.main_arg12) = m' ((c.tc : Thread Cert.RefSampleIdeal.nD Cert.RefSampleIdeal.τ).loc Cert.RefSampleIdeal.main_arg12)
          ∧ r.2.mem ((c.tc : Thread Cert.RefSampleIdeal.nD Cert.RefSampleIdeal.τ).loc Cert.RefSampleIdeal.main_arg13) = m' ((c.tc : Thread Cert.RefSampleIdeal.nD Cert.RefSampleIdeal.τ).loc Cert.RefSampleIdeal.main_arg13)
          ∧ r.2.mem ((c.tc : Thread Cert.RefSampleIdeal.nD Cert.RefSampleIdeal.τ).loc Cert.RefSampleIdeal.main_arg14) = m' ((c.tc : Thread Cert.RefSampleIdeal.nD Cert.RefSampleIdeal.τ).loc Cert.RefSampleIdeal.main_arg14)
          ∧ r.2.mem ((c.tc : Thread Cert.RefSampleIdeal.nD Cert.RefSampleIdeal.τ).loc Cert.RefSampleIdeal.main_arg15) = m' ((c.tc : Thread Cert.RefSampleIdeal.nD Cert.RefSampleIdeal.τ).loc Cert.RefSampleIdeal.main_arg15)
          ∧ r.2.mem ((c.tc : Thread Cert.RefSampleIdeal.nD Cert.RefSampleIdeal.τ).loc Cert.RefSampleIdeal.main_arg16) = m' ((c.tc : Thread Cert.RefSampleIdeal.nD Cert.RefSampleIdeal.τ).loc Cert.RefSampleIdeal.main_arg16)
          ∧ r.2.mem ((c.tc : Thread Cert.RefSampleIdeal.nD Cert.RefSampleIdeal.τ).loc Cert.RefSampleIdeal.main_arg17) = m' ((c.tc : Thread Cert.RefSampleIdeal.nD Cert.RefSampleIdeal.τ).loc Cert.RefSampleIdeal.main_arg17)
          ∧ r.2.mem ((c.tc : Thread Cert.RefSampleIdeal.nD Cert.RefSampleIdeal.τ).loc Cert.RefSampleIdeal.main_arg18) = m' ((c.tc : Thread Cert.RefSampleIdeal.nD Cert.RefSampleIdeal.τ).loc Cert.RefSampleIdeal.main_arg18))

def preserves_Prompt_PromptIdeal : Prop :=
  True

def algebraic_PromptIdeal_RefPromptIdeal_pre_prompt_tame [hPromptIdeal : Cert.PromptIdeal.Facts] [hRefPromptIdeal : Cert.RefPromptIdeal.Facts] [hPre_prompt_tame : Cert.Pre_prompt_tame.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.RefPromptIdeal.nD Cert.RefPromptIdeal.τ Cert.RefPromptIdeal.sig) → Buf (Elt Ideal) ℓ) (g' : Dev Cert.RefPromptIdeal.nD → PrngReg), Pre_PromptIdeal_prompt_tame m →
    (∀ c : Dev Cert.PromptIdeal.nD,
      m' ((c.tc : Thread Cert.RefPromptIdeal.nD Cert.RefPromptIdeal.τ).loc Cert.RefPromptIdeal.main_arg0) = m ((c.tc : Thread Cert.PromptIdeal.nD Cert.PromptIdeal.τ).loc Cert.PromptIdeal.main_arg0)
      ∧ m' ((c.tc : Thread Cert.RefPromptIdeal.nD Cert.RefPromptIdeal.τ).loc Cert.RefPromptIdeal.main_arg1) = m ((c.tc : Thread Cert.PromptIdeal.nD Cert.PromptIdeal.τ).loc Cert.PromptIdeal.main_arg1)
      ∧ m' ((c.tc : Thread Cert.RefPromptIdeal.nD Cert.RefPromptIdeal.τ).loc Cert.RefPromptIdeal.main_arg2) = m ((c.tc : Thread Cert.PromptIdeal.nD Cert.PromptIdeal.τ).loc Cert.PromptIdeal.main_arg2)
      ∧ m' ((c.tc : Thread Cert.RefPromptIdeal.nD Cert.RefPromptIdeal.τ).loc Cert.RefPromptIdeal.main_arg3) = m ((c.tc : Thread Cert.PromptIdeal.nD Cert.PromptIdeal.τ).loc Cert.PromptIdeal.main_arg3)
      ∧ m' ((c.tc : Thread Cert.RefPromptIdeal.nD Cert.RefPromptIdeal.τ).loc Cert.RefPromptIdeal.main_arg4) = m ((c.tc : Thread Cert.PromptIdeal.nD Cert.PromptIdeal.τ).loc Cert.PromptIdeal.main_arg4)
      ∧ m' ((c.tc : Thread Cert.RefPromptIdeal.nD Cert.RefPromptIdeal.τ).loc Cert.RefPromptIdeal.main_arg5) = m ((c.tc : Thread Cert.PromptIdeal.nD Cert.PromptIdeal.τ).loc Cert.PromptIdeal.main_arg5)
      ∧ m' ((c.tc : Thread Cert.RefPromptIdeal.nD Cert.RefPromptIdeal.τ).loc Cert.RefPromptIdeal.main_arg6) = m ((c.tc : Thread Cert.PromptIdeal.nD Cert.PromptIdeal.τ).loc Cert.PromptIdeal.main_arg6)
      ∧ m' ((c.tc : Thread Cert.RefPromptIdeal.nD Cert.RefPromptIdeal.τ).loc Cert.RefPromptIdeal.main_arg7) = m ((c.tc : Thread Cert.PromptIdeal.nD Cert.PromptIdeal.τ).loc Cert.PromptIdeal.main_arg7)
      ∧ m' ((c.tc : Thread Cert.RefPromptIdeal.nD Cert.RefPromptIdeal.τ).loc Cert.RefPromptIdeal.main_arg8) = m ((c.tc : Thread Cert.PromptIdeal.nD Cert.PromptIdeal.τ).loc Cert.PromptIdeal.main_arg8)
      ∧ m' ((c.tc : Thread Cert.RefPromptIdeal.nD Cert.RefPromptIdeal.τ).loc Cert.RefPromptIdeal.main_arg9) = m ((c.tc : Thread Cert.PromptIdeal.nD Cert.PromptIdeal.τ).loc Cert.PromptIdeal.main_arg9)
      ∧ m' ((c.tc : Thread Cert.RefPromptIdeal.nD Cert.RefPromptIdeal.τ).loc Cert.RefPromptIdeal.main_arg10) = m ((c.tc : Thread Cert.PromptIdeal.nD Cert.PromptIdeal.τ).loc Cert.PromptIdeal.main_arg10)
      ∧ m' ((c.tc : Thread Cert.RefPromptIdeal.nD Cert.RefPromptIdeal.τ).loc Cert.RefPromptIdeal.main_arg11) = m ((c.tc : Thread Cert.PromptIdeal.nD Cert.PromptIdeal.τ).loc Cert.PromptIdeal.main_arg11)
      ∧ m' ((c.tc : Thread Cert.RefPromptIdeal.nD Cert.RefPromptIdeal.τ).loc Cert.RefPromptIdeal.main_arg12) = m ((c.tc : Thread Cert.PromptIdeal.nD Cert.PromptIdeal.τ).loc Cert.PromptIdeal.main_arg12)) →
    ∃ (v0 : (c : Dev Cert.PromptIdeal.nD) → Buf (Elt Ideal) ((c.tc : Thread Cert.PromptIdeal.nD Cert.PromptIdeal.τ).loc Cert.PromptIdeal.main_v21)) (v1 : (c : Dev Cert.PromptIdeal.nD) → Buf (Elt Ideal) ((c.tc : Thread Cert.PromptIdeal.nD Cert.PromptIdeal.τ).loc Cert.PromptIdeal.main_v5_0)) (v2 : (c : Dev Cert.PromptIdeal.nD) → Buf (Elt Ideal) ((c.tc : Thread Cert.PromptIdeal.nD Cert.PromptIdeal.τ).loc Cert.PromptIdeal.main_v5_1)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v21) = v0 c
          ∧ r.2.mem ((c.tc : Thread Cert.PromptIdeal.nD Cert.PromptIdeal.τ).loc Cert.PromptIdeal.main_v5_0) = v1 c
          ∧ r.2.mem ((c.tc : Thread Cert.PromptIdeal.nD Cert.PromptIdeal.τ).loc Cert.PromptIdeal.main_v5_1) = v2 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6)
          ∧ r.2.mem ((c.tc : Thread Cert.PromptIdeal.nD Cert.PromptIdeal.τ).loc Cert.PromptIdeal.main_arg7) = m ((c.tc : Thread Cert.PromptIdeal.nD Cert.PromptIdeal.τ).loc Cert.PromptIdeal.main_arg7)
          ∧ r.2.mem ((c.tc : Thread Cert.PromptIdeal.nD Cert.PromptIdeal.τ).loc Cert.PromptIdeal.main_arg8) = m ((c.tc : Thread Cert.PromptIdeal.nD Cert.PromptIdeal.τ).loc Cert.PromptIdeal.main_arg8)
          ∧ r.2.mem ((c.tc : Thread Cert.PromptIdeal.nD Cert.PromptIdeal.τ).loc Cert.PromptIdeal.main_arg9) = m ((c.tc : Thread Cert.PromptIdeal.nD Cert.PromptIdeal.τ).loc Cert.PromptIdeal.main_arg9)
          ∧ r.2.mem ((c.tc : Thread Cert.PromptIdeal.nD Cert.PromptIdeal.τ).loc Cert.PromptIdeal.main_arg10) = m ((c.tc : Thread Cert.PromptIdeal.nD Cert.PromptIdeal.τ).loc Cert.PromptIdeal.main_arg10)
          ∧ r.2.mem ((c.tc : Thread Cert.PromptIdeal.nD Cert.PromptIdeal.τ).loc Cert.PromptIdeal.main_arg11) = m ((c.tc : Thread Cert.PromptIdeal.nD Cert.PromptIdeal.τ).loc Cert.PromptIdeal.main_arg11)
          ∧ r.2.mem ((c.tc : Thread Cert.PromptIdeal.nD Cert.PromptIdeal.τ).loc Cert.PromptIdeal.main_arg12) = m ((c.tc : Thread Cert.PromptIdeal.nD Cert.PromptIdeal.τ).loc Cert.PromptIdeal.main_arg12))
      ∧ θ_run (Cert.RefPromptIdeal.defs (F := Ideal)) (onTc (τ := Cert.RefPromptIdeal.τ) (Cert.RefPromptIdeal.main (F := Ideal))) ⟨m', fun _ => 0, g'⟩ (fun r => ∀ c : Dev Cert.RefPromptIdeal.nD,
          r.2.mem ((c.tc : Thread Cert.RefPromptIdeal.nD Cert.RefPromptIdeal.τ).loc Cert.RefPromptIdeal.main_v103) = v0 c
          ∧ r.2.mem ((c.tc : Thread Cert.RefPromptIdeal.nD Cert.RefPromptIdeal.τ).loc Cert.RefPromptIdeal.main_v104) = v1 c
          ∧ r.2.mem ((c.tc : Thread Cert.RefPromptIdeal.nD Cert.RefPromptIdeal.τ).loc Cert.RefPromptIdeal.main_v105) = v2 c
          ∧ r.2.mem ((c.tc : Thread Cert.RefPromptIdeal.nD Cert.RefPromptIdeal.τ).loc Cert.RefPromptIdeal.main_arg0) = m' ((c.tc : Thread Cert.RefPromptIdeal.nD Cert.RefPromptIdeal.τ).loc Cert.RefPromptIdeal.main_arg0)
          ∧ r.2.mem ((c.tc : Thread Cert.RefPromptIdeal.nD Cert.RefPromptIdeal.τ).loc Cert.RefPromptIdeal.main_arg1) = m' ((c.tc : Thread Cert.RefPromptIdeal.nD Cert.RefPromptIdeal.τ).loc Cert.RefPromptIdeal.main_arg1)
          ∧ r.2.mem ((c.tc : Thread Cert.RefPromptIdeal.nD Cert.RefPromptIdeal.τ).loc Cert.RefPromptIdeal.main_arg2) = m' ((c.tc : Thread Cert.RefPromptIdeal.nD Cert.RefPromptIdeal.τ).loc Cert.RefPromptIdeal.main_arg2)
          ∧ r.2.mem ((c.tc : Thread Cert.RefPromptIdeal.nD Cert.RefPromptIdeal.τ).loc Cert.RefPromptIdeal.main_arg3) = m' ((c.tc : Thread Cert.RefPromptIdeal.nD Cert.RefPromptIdeal.τ).loc Cert.RefPromptIdeal.main_arg3)
          ∧ r.2.mem ((c.tc : Thread Cert.RefPromptIdeal.nD Cert.RefPromptIdeal.τ).loc Cert.RefPromptIdeal.main_arg4) = m' ((c.tc : Thread Cert.RefPromptIdeal.nD Cert.RefPromptIdeal.τ).loc Cert.RefPromptIdeal.main_arg4)
          ∧ r.2.mem ((c.tc : Thread Cert.RefPromptIdeal.nD Cert.RefPromptIdeal.τ).loc Cert.RefPromptIdeal.main_arg5) = m' ((c.tc : Thread Cert.RefPromptIdeal.nD Cert.RefPromptIdeal.τ).loc Cert.RefPromptIdeal.main_arg5)
          ∧ r.2.mem ((c.tc : Thread Cert.RefPromptIdeal.nD Cert.RefPromptIdeal.τ).loc Cert.RefPromptIdeal.main_arg6) = m' ((c.tc : Thread Cert.RefPromptIdeal.nD Cert.RefPromptIdeal.τ).loc Cert.RefPromptIdeal.main_arg6)
          ∧ r.2.mem ((c.tc : Thread Cert.RefPromptIdeal.nD Cert.RefPromptIdeal.τ).loc Cert.RefPromptIdeal.main_arg7) = m' ((c.tc : Thread Cert.RefPromptIdeal.nD Cert.RefPromptIdeal.τ).loc Cert.RefPromptIdeal.main_arg7)
          ∧ r.2.mem ((c.tc : Thread Cert.RefPromptIdeal.nD Cert.RefPromptIdeal.τ).loc Cert.RefPromptIdeal.main_arg8) = m' ((c.tc : Thread Cert.RefPromptIdeal.nD Cert.RefPromptIdeal.τ).loc Cert.RefPromptIdeal.main_arg8)
          ∧ r.2.mem ((c.tc : Thread Cert.RefPromptIdeal.nD Cert.RefPromptIdeal.τ).loc Cert.RefPromptIdeal.main_arg9) = m' ((c.tc : Thread Cert.RefPromptIdeal.nD Cert.RefPromptIdeal.τ).loc Cert.RefPromptIdeal.main_arg9)
          ∧ r.2.mem ((c.tc : Thread Cert.RefPromptIdeal.nD Cert.RefPromptIdeal.τ).loc Cert.RefPromptIdeal.main_arg10) = m' ((c.tc : Thread Cert.RefPromptIdeal.nD Cert.RefPromptIdeal.τ).loc Cert.RefPromptIdeal.main_arg10)
          ∧ r.2.mem ((c.tc : Thread Cert.RefPromptIdeal.nD Cert.RefPromptIdeal.τ).loc Cert.RefPromptIdeal.main_arg11) = m' ((c.tc : Thread Cert.RefPromptIdeal.nD Cert.RefPromptIdeal.τ).loc Cert.RefPromptIdeal.main_arg11)
          ∧ r.2.mem ((c.tc : Thread Cert.RefPromptIdeal.nD Cert.RefPromptIdeal.τ).loc Cert.RefPromptIdeal.main_arg12) = m' ((c.tc : Thread Cert.RefPromptIdeal.nD Cert.RefPromptIdeal.τ).loc Cert.RefPromptIdeal.main_arg12))

def preserves_Short_ShortIdeal : Prop :=
  True

def algebraic_ShortIdeal_RefShortIdeal [hShortIdeal : Cert.ShortIdeal.Facts] [hRefShortIdeal : Cert.RefShortIdeal.Facts] : Prop :=
  ∀ (m : (ℓ : Loc Cert.ShortIdeal.nD Cert.ShortIdeal.τ Cert.ShortIdeal.sig) → Buf (Elt Ideal) ℓ) (g : Dev Cert.ShortIdeal.nD → PrngReg)
    (m' : (ℓ : Loc Cert.RefShortIdeal.nD Cert.RefShortIdeal.τ Cert.RefShortIdeal.sig) → Buf (Elt Ideal) ℓ) (g' : Dev Cert.RefShortIdeal.nD → PrngReg), Pre_ShortIdeal m →
    (∀ c : Dev Cert.ShortIdeal.nD,
      m' ((c.tc : Thread Cert.RefShortIdeal.nD Cert.RefShortIdeal.τ).loc Cert.RefShortIdeal.main_arg0) = m ((c.tc : Thread Cert.ShortIdeal.nD Cert.ShortIdeal.τ).loc Cert.ShortIdeal.main_arg0)
      ∧ m' ((c.tc : Thread Cert.RefShortIdeal.nD Cert.RefShortIdeal.τ).loc Cert.RefShortIdeal.main_arg1) = m ((c.tc : Thread Cert.ShortIdeal.nD Cert.ShortIdeal.τ).loc Cert.ShortIdeal.main_arg1)
      ∧ m' ((c.tc : Thread Cert.RefShortIdeal.nD Cert.RefShortIdeal.τ).loc Cert.RefShortIdeal.main_arg2) = m ((c.tc : Thread Cert.ShortIdeal.nD Cert.ShortIdeal.τ).loc Cert.ShortIdeal.main_arg2)) →
    ∃ (v0 : (c : Dev Cert.ShortIdeal.nD) → Buf (Elt Ideal) ((c.tc : Thread Cert.ShortIdeal.nD Cert.ShortIdeal.τ).loc Cert.ShortIdeal.main_v0_0)) (v1 : (c : Dev Cert.ShortIdeal.nD) → Buf (Elt Ideal) ((c.tc : Thread Cert.ShortIdeal.nD Cert.ShortIdeal.τ).loc Cert.ShortIdeal.main_v0_1)),
      θ_run (Cert.ShortIdeal.defs (F := Ideal)) (onTc (τ := Cert.ShortIdeal.τ) (Cert.ShortIdeal.main (F := Ideal))) ⟨m, fun _ => 0, g⟩ (fun r => ∀ c : Dev Cert.ShortIdeal.nD,
          r.2.mem ((c.tc : Thread Cert.ShortIdeal.nD Cert.ShortIdeal.τ).loc Cert.ShortIdeal.main_v0_0) = v0 c
          ∧ r.2.mem ((c.tc : Thread Cert.ShortIdeal.nD Cert.ShortIdeal.τ).loc Cert.ShortIdeal.main_v0_1) = v1 c
          ∧ r.2.mem ((c.tc : Thread Cert.ShortIdeal.nD Cert.ShortIdeal.τ).loc Cert.ShortIdeal.main_arg0) = m ((c.tc : Thread Cert.ShortIdeal.nD Cert.ShortIdeal.τ).loc Cert.ShortIdeal.main_arg0)
          ∧ r.2.mem ((c.tc : Thread Cert.ShortIdeal.nD Cert.ShortIdeal.τ).loc Cert.ShortIdeal.main_arg1) = m ((c.tc : Thread Cert.ShortIdeal.nD Cert.ShortIdeal.τ).loc Cert.ShortIdeal.main_arg1)
          ∧ r.2.mem ((c.tc : Thread Cert.ShortIdeal.nD Cert.ShortIdeal.τ).loc Cert.ShortIdeal.main_arg2) = m ((c.tc : Thread Cert.ShortIdeal.nD Cert.ShortIdeal.τ).loc Cert.ShortIdeal.main_arg2))
      ∧ θ_run (Cert.RefShortIdeal.defs (F := Ideal)) (onTc (τ := Cert.RefShortIdeal.τ) (Cert.RefShortIdeal.main (F := Ideal))) ⟨m', fun _ => 0, g'⟩ (fun r => ∀ c : Dev Cert.RefShortIdeal.nD,
          r.2.mem ((c.tc : Thread Cert.RefShortIdeal.nD Cert.RefShortIdeal.τ).loc Cert.RefShortIdeal.main_v56) = v0 c
          ∧ r.2.mem ((c.tc : Thread Cert.RefShortIdeal.nD Cert.RefShortIdeal.τ).loc Cert.RefShortIdeal.main_v58) = v1 c
          ∧ r.2.mem ((c.tc : Thread Cert.RefShortIdeal.nD Cert.RefShortIdeal.τ).loc Cert.RefShortIdeal.main_arg0) = m' ((c.tc : Thread Cert.RefShortIdeal.nD Cert.RefShortIdeal.τ).loc Cert.RefShortIdeal.main_arg0)
          ∧ r.2.mem ((c.tc : Thread Cert.RefShortIdeal.nD Cert.RefShortIdeal.τ).loc Cert.RefShortIdeal.main_arg1) = m' ((c.tc : Thread Cert.RefShortIdeal.nD Cert.RefShortIdeal.τ).loc Cert.RefShortIdeal.main_arg1)
          ∧ r.2.mem ((c.tc : Thread Cert.RefShortIdeal.nD Cert.RefShortIdeal.τ).loc Cert.RefShortIdeal.main_arg2) = m' ((c.tc : Thread Cert.RefShortIdeal.nD Cert.RefShortIdeal.τ).loc Cert.RefShortIdeal.main_arg2))

def preserves_Mls_MlsIdeal : Prop :=
  True

def algebraic_MlsIdeal_RefMlsIdeal_pre_gates_tame [hMlsIdeal : Cert.MlsIdeal.Facts] [hRefMlsIdeal : Cert.RefMlsIdeal.Facts] [hPre_gates_tame : Cert.Pre_gates_tame.Facts] : Prop :=
  ∀ (m : (ℓ : Loc Cert.MlsIdeal.nD Cert.MlsIdeal.τ Cert.MlsIdeal.sig) → Buf (Elt Ideal) ℓ) (g : Dev Cert.MlsIdeal.nD → PrngReg)
    (m' : (ℓ : Loc Cert.RefMlsIdeal.nD Cert.RefMlsIdeal.τ Cert.RefMlsIdeal.sig) → Buf (Elt Ideal) ℓ) (g' : Dev Cert.RefMlsIdeal.nD → PrngReg), Pre_MlsIdeal_gates_tame m →
    (∀ c : Dev Cert.MlsIdeal.nD,
      m' ((c.tc : Thread Cert.RefMlsIdeal.nD Cert.RefMlsIdeal.τ).loc Cert.RefMlsIdeal.main_arg0) = m ((c.tc : Thread Cert.MlsIdeal.nD Cert.MlsIdeal.τ).loc Cert.MlsIdeal.main_arg0)
      ∧ m' ((c.tc : Thread Cert.RefMlsIdeal.nD Cert.RefMlsIdeal.τ).loc Cert.RefMlsIdeal.main_arg1) = m ((c.tc : Thread Cert.MlsIdeal.nD Cert.MlsIdeal.τ).loc Cert.MlsIdeal.main_arg1)
      ∧ m' ((c.tc : Thread Cert.RefMlsIdeal.nD Cert.RefMlsIdeal.τ).loc Cert.RefMlsIdeal.main_arg2) = m ((c.tc : Thread Cert.MlsIdeal.nD Cert.MlsIdeal.τ).loc Cert.MlsIdeal.main_arg2)) →
    ∃ (v0 : (c : Dev Cert.MlsIdeal.nD) → Buf (Elt Ideal) ((c.tc : Thread Cert.MlsIdeal.nD Cert.MlsIdeal.τ).loc Cert.MlsIdeal.main_v0_1)) (v1 : (c : Dev Cert.MlsIdeal.nD) → Buf (Elt Ideal) ((c.tc : Thread Cert.MlsIdeal.nD Cert.MlsIdeal.τ).loc Cert.MlsIdeal.main_v0_2)) (v2 : (c : Dev Cert.MlsIdeal.nD) → Buf (Elt Ideal) ((c.tc : Thread Cert.MlsIdeal.nD Cert.MlsIdeal.τ).loc Cert.MlsIdeal.main_v0_3)),
      θ_run (Cert.MlsIdeal.defs (F := Ideal)) (onTc (τ := Cert.MlsIdeal.τ) (Cert.MlsIdeal.main (F := Ideal))) ⟨m, fun _ => 0, g⟩ (fun r => ∀ c : Dev Cert.MlsIdeal.nD,
          r.2.mem ((c.tc : Thread Cert.MlsIdeal.nD Cert.MlsIdeal.τ).loc Cert.MlsIdeal.main_v0_1) = v0 c
          ∧ r.2.mem ((c.tc : Thread Cert.MlsIdeal.nD Cert.MlsIdeal.τ).loc Cert.MlsIdeal.main_v0_2) = v1 c
          ∧ r.2.mem ((c.tc : Thread Cert.MlsIdeal.nD Cert.MlsIdeal.τ).loc Cert.MlsIdeal.main_v0_3) = v2 c
          ∧ r.2.mem ((c.tc : Thread Cert.MlsIdeal.nD Cert.MlsIdeal.τ).loc Cert.MlsIdeal.main_arg0) = m ((c.tc : Thread Cert.MlsIdeal.nD Cert.MlsIdeal.τ).loc Cert.MlsIdeal.main_arg0)
          ∧ r.2.mem ((c.tc : Thread Cert.MlsIdeal.nD Cert.MlsIdeal.τ).loc Cert.MlsIdeal.main_arg1) = m ((c.tc : Thread Cert.MlsIdeal.nD Cert.MlsIdeal.τ).loc Cert.MlsIdeal.main_arg1)
          ∧ r.2.mem ((c.tc : Thread Cert.MlsIdeal.nD Cert.MlsIdeal.τ).loc Cert.MlsIdeal.main_arg2) = m ((c.tc : Thread Cert.MlsIdeal.nD Cert.MlsIdeal.τ).loc Cert.MlsIdeal.main_arg2))
      ∧ θ_run (Cert.RefMlsIdeal.defs (F := Ideal)) (onTc (τ := Cert.RefMlsIdeal.τ) (Cert.RefMlsIdeal.main (F := Ideal))) ⟨m', fun _ => 0, g'⟩ (fun r => ∀ c : Dev Cert.RefMlsIdeal.nD,
          r.2.mem ((c.tc : Thread Cert.RefMlsIdeal.nD Cert.RefMlsIdeal.τ).loc Cert.RefMlsIdeal.main_v67) = v0 c
          ∧ r.2.mem ((c.tc : Thread Cert.RefMlsIdeal.nD Cert.RefMlsIdeal.τ).loc Cert.RefMlsIdeal.main_v71) = v1 c
          ∧ r.2.mem ((c.tc : Thread Cert.RefMlsIdeal.nD Cert.RefMlsIdeal.τ).loc Cert.RefMlsIdeal.main_v74) = v2 c
          ∧ r.2.mem ((c.tc : Thread Cert.RefMlsIdeal.nD Cert.RefMlsIdeal.τ).loc Cert.RefMlsIdeal.main_arg0) = m' ((c.tc : Thread Cert.RefMlsIdeal.nD Cert.RefMlsIdeal.τ).loc Cert.RefMlsIdeal.main_arg0)
          ∧ r.2.mem ((c.tc : Thread Cert.RefMlsIdeal.nD Cert.RefMlsIdeal.τ).loc Cert.RefMlsIdeal.main_arg1) = m' ((c.tc : Thread Cert.RefMlsIdeal.nD Cert.RefMlsIdeal.τ).loc Cert.RefMlsIdeal.main_arg1)
          ∧ r.2.mem ((c.tc : Thread Cert.RefMlsIdeal.nD Cert.RefMlsIdeal.τ).loc Cert.RefMlsIdeal.main_arg2) = m' ((c.tc : Thread Cert.RefMlsIdeal.nD Cert.RefMlsIdeal.τ).loc Cert.RefMlsIdeal.main_arg2))

def preserves_Pool_PoolIdeal : Prop :=
  True

def algebraic_PoolIdeal_RefPoolIdeal [hPoolIdeal : Cert.PoolIdeal.Facts] [hRefPoolIdeal : Cert.RefPoolIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.RefPoolIdeal.nD Cert.RefPoolIdeal.τ Cert.RefPoolIdeal.sig) → Buf (Elt Ideal) ℓ) (g' : Dev Cert.RefPoolIdeal.nD → PrngReg), Pre_PoolIdeal m →
    (∀ c : Dev Cert.PoolIdeal.nD,
      m' ((c.tc : Thread Cert.RefPoolIdeal.nD Cert.RefPoolIdeal.τ).loc Cert.RefPoolIdeal.main_arg0) = m ((c.tc : Thread Cert.PoolIdeal.nD Cert.PoolIdeal.τ).loc Cert.PoolIdeal.main_arg0)
      ∧ m' ((c.tc : Thread Cert.RefPoolIdeal.nD Cert.RefPoolIdeal.τ).loc Cert.RefPoolIdeal.main_arg1) = m ((c.tc : Thread Cert.PoolIdeal.nD Cert.PoolIdeal.τ).loc Cert.PoolIdeal.main_arg1)
      ∧ m' ((c.tc : Thread Cert.RefPoolIdeal.nD Cert.RefPoolIdeal.τ).loc Cert.RefPoolIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2_1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2_1) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.RefPoolIdeal.defs (F := Ideal)) (onTc (τ := Cert.RefPoolIdeal.τ) (Cert.RefPoolIdeal.main (F := Ideal))) ⟨m', fun _ => 0, g'⟩ (fun r => ∀ c : Dev Cert.RefPoolIdeal.nD,
          r.2.mem ((c.tc : Thread Cert.RefPoolIdeal.nD Cert.RefPoolIdeal.τ).loc Cert.RefPoolIdeal.main_v4) = v0 c
          ∧ r.2.mem ((c.tc : Thread Cert.RefPoolIdeal.nD Cert.RefPoolIdeal.τ).loc Cert.RefPoolIdeal.main_arg0) = m' ((c.tc : Thread Cert.RefPoolIdeal.nD Cert.RefPoolIdeal.τ).loc Cert.RefPoolIdeal.main_arg0)
          ∧ r.2.mem ((c.tc : Thread Cert.RefPoolIdeal.nD Cert.RefPoolIdeal.τ).loc Cert.RefPoolIdeal.main_arg1) = m' ((c.tc : Thread Cert.RefPoolIdeal.nD Cert.RefPoolIdeal.τ).loc Cert.RefPoolIdeal.main_arg1)
          ∧ r.2.mem ((c.tc : Thread Cert.RefPoolIdeal.nD Cert.RefPoolIdeal.τ).loc Cert.RefPoolIdeal.main_arg2) = m' ((c.tc : Thread Cert.RefPoolIdeal.nD Cert.RefPoolIdeal.τ).loc Cert.RefPoolIdeal.main_arg2))

def preserves_PoolNew_PoolNewIdeal : Prop :=
  True

def algebraic_PoolNewIdeal_RefPoolNewIdeal [hPoolNewIdeal : Cert.PoolNewIdeal.Facts] [hRefPoolNewIdeal : Cert.RefPoolNewIdeal.Facts] : Prop :=
  ∀ (m : (ℓ : Loc Cert.PoolNewIdeal.nD Cert.PoolNewIdeal.τ Cert.PoolNewIdeal.sig) → Buf (Elt Ideal) ℓ) (g : Dev Cert.PoolNewIdeal.nD → PrngReg)
    (m' : (ℓ : Loc Cert.RefPoolNewIdeal.nD Cert.RefPoolNewIdeal.τ Cert.RefPoolNewIdeal.sig) → Buf (Elt Ideal) ℓ) (g' : Dev Cert.RefPoolNewIdeal.nD → PrngReg), Pre_PoolNewIdeal m →
    (∀ c : Dev Cert.PoolNewIdeal.nD,
      m' ((c.tc : Thread Cert.RefPoolNewIdeal.nD Cert.RefPoolNewIdeal.τ).loc Cert.RefPoolNewIdeal.main_arg0) = m ((c.tc : Thread Cert.PoolNewIdeal.nD Cert.PoolNewIdeal.τ).loc Cert.PoolNewIdeal.main_arg0)
      ∧ m' ((c.tc : Thread Cert.RefPoolNewIdeal.nD Cert.RefPoolNewIdeal.τ).loc Cert.RefPoolNewIdeal.main_arg1) = m ((c.tc : Thread Cert.PoolNewIdeal.nD Cert.PoolNewIdeal.τ).loc Cert.PoolNewIdeal.main_arg1)
      ∧ m' ((c.tc : Thread Cert.RefPoolNewIdeal.nD Cert.RefPoolNewIdeal.τ).loc Cert.RefPoolNewIdeal.main_arg2) = m ((c.tc : Thread Cert.PoolNewIdeal.nD Cert.PoolNewIdeal.τ).loc Cert.PoolNewIdeal.main_arg2)
      ∧ m' ((c.tc : Thread Cert.RefPoolNewIdeal.nD Cert.RefPoolNewIdeal.τ).loc Cert.RefPoolNewIdeal.main_arg3) = m ((c.tc : Thread Cert.PoolNewIdeal.nD Cert.PoolNewIdeal.τ).loc Cert.PoolNewIdeal.main_arg3)) →
    ∃ (v0 : (c : Dev Cert.PoolNewIdeal.nD) → Buf (Elt Ideal) ((c.tc : Thread Cert.PoolNewIdeal.nD Cert.PoolNewIdeal.τ).loc Cert.PoolNewIdeal.main_v2_1)),
      θ_run (Cert.PoolNewIdeal.defs (F := Ideal)) (onTc (τ := Cert.PoolNewIdeal.τ) (Cert.PoolNewIdeal.main (F := Ideal))) ⟨m, fun _ => 0, g⟩ (fun r => ∀ c : Dev Cert.PoolNewIdeal.nD,
          r.2.mem ((c.tc : Thread Cert.PoolNewIdeal.nD Cert.PoolNewIdeal.τ).loc Cert.PoolNewIdeal.main_v2_1) = v0 c
          ∧ r.2.mem ((c.tc : Thread Cert.PoolNewIdeal.nD Cert.PoolNewIdeal.τ).loc Cert.PoolNewIdeal.main_arg0) = m ((c.tc : Thread Cert.PoolNewIdeal.nD Cert.PoolNewIdeal.τ).loc Cert.PoolNewIdeal.main_arg0)
          ∧ r.2.mem ((c.tc : Thread Cert.PoolNewIdeal.nD Cert.PoolNewIdeal.τ).loc Cert.PoolNewIdeal.main_arg1) = m ((c.tc : Thread Cert.PoolNewIdeal.nD Cert.PoolNewIdeal.τ).loc Cert.PoolNewIdeal.main_arg1)
          ∧ r.2.mem ((c.tc : Thread Cert.PoolNewIdeal.nD Cert.PoolNewIdeal.τ).loc Cert.PoolNewIdeal.main_arg2) = m ((c.tc : Thread Cert.PoolNewIdeal.nD Cert.PoolNewIdeal.τ).loc Cert.PoolNewIdeal.main_arg2)
          ∧ r.2.mem ((c.tc : Thread Cert.PoolNewIdeal.nD Cert.PoolNewIdeal.τ).loc Cert.PoolNewIdeal.main_arg3) = m ((c.tc : Thread Cert.PoolNewIdeal.nD Cert.PoolNewIdeal.τ).loc Cert.PoolNewIdeal.main_arg3))
      ∧ θ_run (Cert.RefPoolNewIdeal.defs (F := Ideal)) (onTc (τ := Cert.RefPoolNewIdeal.τ) (Cert.RefPoolNewIdeal.main (F := Ideal))) ⟨m', fun _ => 0, g'⟩ (fun r => ∀ c : Dev Cert.RefPoolNewIdeal.nD,
          r.2.mem ((c.tc : Thread Cert.RefPoolNewIdeal.nD Cert.RefPoolNewIdeal.τ).loc Cert.RefPoolNewIdeal.main_v4) = v0 c
          ∧ r.2.mem ((c.tc : Thread Cert.RefPoolNewIdeal.nD Cert.RefPoolNewIdeal.τ).loc Cert.RefPoolNewIdeal.main_arg0) = m' ((c.tc : Thread Cert.RefPoolNewIdeal.nD Cert.RefPoolNewIdeal.τ).loc Cert.RefPoolNewIdeal.main_arg0)
          ∧ r.2.mem ((c.tc : Thread Cert.RefPoolNewIdeal.nD Cert.RefPoolNewIdeal.τ).loc Cert.RefPoolNewIdeal.main_arg1) = m' ((c.tc : Thread Cert.RefPoolNewIdeal.nD Cert.RefPoolNewIdeal.τ).loc Cert.RefPoolNewIdeal.main_arg1)
          ∧ r.2.mem ((c.tc : Thread Cert.RefPoolNewIdeal.nD Cert.RefPoolNewIdeal.τ).loc Cert.RefPoolNewIdeal.main_arg2) = m' ((c.tc : Thread Cert.RefPoolNewIdeal.nD Cert.RefPoolNewIdeal.τ).loc Cert.RefPoolNewIdeal.main_arg2)
          ∧ r.2.mem ((c.tc : Thread Cert.RefPoolNewIdeal.nD Cert.RefPoolNewIdeal.τ).loc Cert.RefPoolNewIdeal.main_arg3) = m' ((c.tc : Thread Cert.RefPoolNewIdeal.nD Cert.RefPoolNewIdeal.τ).loc Cert.RefPoolNewIdeal.main_arg3))

def Claim : Prop :=
  ∃ (hInA : Cert.InA.Facts) (hInAIdeal : Cert.InAIdeal.Facts) (hRefInAIdeal : Cert.RefInAIdeal.Facts) (hInB : Cert.InB.Facts) (hInBIdeal : Cert.InBIdeal.Facts) (hRefInBIdeal : Cert.RefInBIdeal.Facts) (hMemKv : Cert.MemKv.Facts) (hMemKvIdeal : Cert.MemKvIdeal.Facts) (hRefMemKvIdeal : Cert.RefMemKvIdeal.Facts) (hSample : Cert.Sample.Facts) (hSampleIdeal : Cert.SampleIdeal.Facts) (hRefSampleIdeal : Cert.RefSampleIdeal.Facts) (hPrompt : Cert.Prompt.Facts) (hPromptIdeal : Cert.PromptIdeal.Facts) (hRefPromptIdeal : Cert.RefPromptIdeal.Facts) (hShort : Cert.Short.Facts) (hShortIdeal : Cert.ShortIdeal.Facts) (hRefShortIdeal : Cert.RefShortIdeal.Facts) (hMls : Cert.Mls.Facts) (hMlsIdeal : Cert.MlsIdeal.Facts) (hRefMlsIdeal : Cert.RefMlsIdeal.Facts) (hPool : Cert.Pool.Facts) (hPoolIdeal : Cert.PoolIdeal.Facts) (hRefPoolIdeal : Cert.RefPoolIdeal.Facts) (hPoolNew : Cert.PoolNew.Facts) (hPoolNewIdeal : Cert.PoolNewIdeal.Facts) (hRefPoolNewIdeal : Cert.RefPoolNewIdeal.Facts) (hPre_sample_tame : Cert.Pre_sample_tame.Facts) (hPre_prompt_tame : Cert.Pre_prompt_tame.Facts) (hPre_gates_tame : Cert.Pre_gates_tame.Facts),
    quiescent_InA (hInA := hInA)
    ∧ quiescent_InAIdeal (hInAIdeal := hInAIdeal)
    ∧ quiescent_RefInAIdeal (hRefInAIdeal := hRefInAIdeal)
    ∧ quiescent_InB (hInB := hInB)
    ∧ quiescent_InBIdeal (hInBIdeal := hInBIdeal)
    ∧ quiescent_RefInBIdeal (hRefInBIdeal := hRefInBIdeal)
    ∧ quiescent_MemKv (hMemKv := hMemKv)
    ∧ quiescent_MemKvIdeal (hMemKvIdeal := hMemKvIdeal)
    ∧ quiescent_RefMemKvIdeal (hRefMemKvIdeal := hRefMemKvIdeal)
    ∧ quiescent_Sample (hSample := hSample)
    ∧ quiescent_SampleIdeal (hSampleIdeal := hSampleIdeal)
    ∧ quiescent_SampleIdeal_pre_sample_tame (hSampleIdeal := hSampleIdeal) (hPre_sample_tame := hPre_sample_tame)
    ∧ quiescent_RefSampleIdeal (hRefSampleIdeal := hRefSampleIdeal)
    ∧ quiescent_RefSampleIdeal_pre_sample_tame (hRefSampleIdeal := hRefSampleIdeal) (hPre_sample_tame := hPre_sample_tame)
    ∧ quiescent_Prompt (hPrompt := hPrompt)
    ∧ quiescent_PromptIdeal (hPromptIdeal := hPromptIdeal)
    ∧ quiescent_PromptIdeal_pre_prompt_tame (hPromptIdeal := hPromptIdeal) (hPre_prompt_tame := hPre_prompt_tame)
    ∧ quiescent_RefPromptIdeal (hRefPromptIdeal := hRefPromptIdeal)
    ∧ quiescent_RefPromptIdeal_pre_prompt_tame (hRefPromptIdeal := hRefPromptIdeal) (hPre_prompt_tame := hPre_prompt_tame)
    ∧ quiescent_Short (hShort := hShort)
    ∧ quiescent_ShortIdeal (hShortIdeal := hShortIdeal)
    ∧ quiescent_RefShortIdeal (hRefShortIdeal := hRefShortIdeal)
    ∧ quiescent_Mls (hMls := hMls)
    ∧ quiescent_MlsIdeal (hMlsIdeal := hMlsIdeal)
    ∧ quiescent_MlsIdeal_pre_gates_tame (hMlsIdeal := hMlsIdeal) (hPre_gates_tame := hPre_gates_tame)
    ∧ quiescent_RefMlsIdeal (hRefMlsIdeal := hRefMlsIdeal)
    ∧ quiescent_RefMlsIdeal_pre_gates_tame (hRefMlsIdeal := hRefMlsIdeal) (hPre_gates_tame := hPre_gates_tame)
    ∧ quiescent_Pool (hPool := hPool)
    ∧ quiescent_PoolIdeal (hPoolIdeal := hPoolIdeal)
    ∧ quiescent_RefPoolIdeal (hRefPoolIdeal := hRefPoolIdeal)
    ∧ quiescent_PoolNew (hPoolNew := hPoolNew)
    ∧ quiescent_PoolNewIdeal (hPoolNewIdeal := hPoolNewIdeal)
    ∧ quiescent_RefPoolNewIdeal (hRefPoolNewIdeal := hRefPoolNewIdeal)
    ∧ preserves_InA_InAIdeal
    ∧ algebraic_InAIdeal_RefInAIdeal (hInAIdeal := hInAIdeal) (hRefInAIdeal := hRefInAIdeal)
    ∧ preserves_InB_InBIdeal
    ∧ algebraic_InBIdeal_RefInBIdeal (hInBIdeal := hInBIdeal) (hRefInBIdeal := hRefInBIdeal)
    ∧ preserves_MemKv_MemKvIdeal
    ∧ algebraic_MemKvIdeal_RefMemKvIdeal (hMemKvIdeal := hMemKvIdeal) (hRefMemKvIdeal := hRefMemKvIdeal)
    ∧ preserves_Sample_SampleIdeal
    ∧ algebraic_SampleIdeal_RefSampleIdeal_pre_sample_tame (hSampleIdeal := hSampleIdeal) (hRefSampleIdeal := hRefSampleIdeal) (hPre_sample_tame := hPre_sample_tame)
    ∧ preserves_Prompt_PromptIdeal
    ∧ algebraic_PromptIdeal_RefPromptIdeal_pre_prompt_tame (hPromptIdeal := hPromptIdeal) (hRefPromptIdeal := hRefPromptIdeal) (hPre_prompt_tame := hPre_prompt_tame)
    ∧ preserves_Short_ShortIdeal
    ∧ algebraic_ShortIdeal_RefShortIdeal (hShortIdeal := hShortIdeal) (hRefShortIdeal := hRefShortIdeal)
    ∧ preserves_Mls_MlsIdeal
    ∧ algebraic_MlsIdeal_RefMlsIdeal_pre_gates_tame (hMlsIdeal := hMlsIdeal) (hRefMlsIdeal := hRefMlsIdeal) (hPre_gates_tame := hPre_gates_tame)
    ∧ preserves_Pool_PoolIdeal
    ∧ algebraic_PoolIdeal_RefPoolIdeal (hPoolIdeal := hPoolIdeal) (hRefPoolIdeal := hRefPoolIdeal)
    ∧ preserves_PoolNew_PoolNewIdeal
    ∧ algebraic_PoolNewIdeal_RefPoolNewIdeal (hPoolNewIdeal := hPoolNewIdeal) (hRefPoolNewIdeal := hRefPoolNewIdeal)
-- ==== Pre_gates_tame.lean ====
abbrev S8192x12288 : Shape := ⟨2, ![8192, 12288]⟩
abbrev S8192x128 : Shape := ⟨2, ![8192, 128]⟩
abbrev S8x8192 : Shape := ⟨2, ![8, 8192]⟩
abbrev S8192x8 : Shape := ⟨2, ![8192, 8]⟩
abbrev S_ : Shape := ⟨0, ![]⟩

class Facts : Prop where
  slices_S8192x128_S8192x8_0_0 : S8192x128.Slices ![0, 0] S8192x8
  bcast_S_S8192x8 : S_.BroadcastsInDim S8192x8 (![] : Fin 0 → Fin S8192x8.rank)
  reducesTo_S8192x8_S_d0_1 : S8192x8.ReducesTo [0, 1] S_
  h_S_ : 0 < S_.numel
  bcast_S_S8x8192 : S_.BroadcastsInDim S8x8192 (![] : Fin 0 → Fin S8x8192.rank)
  reducesTo_S8x8192_S_d0_1 : S8x8192.ReducesTo [0, 1] S_

variable [Facts]

def fn {F : FTy → Type} [FloatOps F] (main_arg0 : FVec F S8192x12288 .f32) (main_arg1 : FVec F S8192x128 .f32) (main_arg2 : FVec F S8x8192 .f32) : IVec S_ 1 :=
  let main_v0 : FVec F S8192x8 .f32 := (extractStridedSlice S8192x8 ![0, 0] · slices_S8192x128_S8192x8_0_0) main_arg1
  let main_v1 : FVec F S8192x8 .f32 := Host.absf main_v0
  let main_cst : FVec F S_ .f32 := constant S_ .f32 0x7F800000#32
  let main_v2 : FVec F S8192x8 .f32 := broadcastInDim S8192x8 ![] bcast_S_S8192x8 main_cst
  let main_v3 : IVec S8192x8 1 := cmpf .olt main_v1 main_v2
  let main_c : IVec S_ 1 := constantI S_ 1 1#1
  let main_v4 : IVec S_ 1 := (fun x v => Host.reduce IntOp.andi x v reducesTo_S8192x8_S_d0_1 h_S_) main_v3 main_c
  let main_v5 : FVec F S8x8192 .f32 := Host.absf main_arg2
  let main_cst_0 : FVec F S_ .f32 := constant S_ .f32 0x7F800000#32
  let main_v6 : FVec F S8x8192 .f32 := broadcastInDim S8x8192 ![] bcast_S_S8x8192 main_cst_0
  let main_v7 : IVec S8x8192 1 := cmpf .olt main_v5 main_v6
  let main_c_1 : IVec S_ 1 := constantI S_ 1 1#1
  let main_v8 : IVec S_ 1 := (fun x v => Host.reduce IntOp.andi x v reducesTo_S8x8192_S_d0_1 h_S_) main_v7 main_c_1
  let main_v9 : IVec S_ 1 := andi main_v4 main_v8
  main_v9
-- ==== Pre_prompt_tame.lean ====
abbrev S4x256x2048 : Shape := ⟨3, ![4, 256, 2048]⟩
abbrev S1x2048 : Shape := ⟨2, ![1, 2048]⟩
abbrev S1x2048x2048 : Shape := ⟨3, ![1, 2048, 2048]⟩
abbrev S8192x12288 : Shape := ⟨2, ![8192, 12288]⟩
abbrev S8192x8192 : Shape := ⟨2, ![8192, 8192]⟩
abbrev S8192x1024 : Shape := ⟨2, ![8192, 1024]⟩
abbrev S8192x2048 : Shape := ⟨2, ![8192, 2048]⟩
abbrev S4x2048x2048 : Shape := ⟨3, ![4, 2048, 2048]⟩
abbrev S1x1024x2048 : Shape := ⟨3, ![1, 1024, 2048]⟩
abbrev S_ : Shape := ⟨0, ![]⟩

class Facts : Prop where
  slices_S8192x8192_S8192x1024_0_0 : S8192x8192.Slices ![0, 0] S8192x1024
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x256x2048 : S_.BroadcastsInDim S4x256x2048 (![] : Fin 0 → Fin S4x256x2048.rank)
  reducesTo_S4x256x2048_S_d0_1_2 : S4x256x2048.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S1x2048x2048 : S_.BroadcastsInDim S1x2048x2048 (![] : Fin 0 → Fin S1x2048x2048.rank)
  reducesTo_S1x2048x2048_S_d0_1_2 : S1x2048x2048.ReducesTo [0, 1, 2] S_

variable [Facts]

def fn_part1 {F : FTy → Type} [FloatOps F] (main_v14 : IVec S_ 1) (main_v15 : FVec F S1x2048x2048 .f32) (main_v16 : FVec F S1x2048x2048 .f32) : IVec S_ 1 :=
  let main_v17 : IVec S1x2048x2048 1 := cmpf .olt main_v15 main_v16
  let main_c_5 : IVec S_ 1 := constantI S_ 1 1#1
  let main_v18 : IVec S_ 1 := (fun x v => Host.reduce IntOp.andi x v reducesTo_S1x2048x2048_S_d0_1_2 h_S_) main_v17 main_c_5
  let main_v19 : IVec S_ 1 := andi main_v14 main_v18
  main_v19

def fn {F : FTy → Type} [FloatOps F] (main_arg0 : FVec F S4x256x2048 .f32) (main_arg1 : FVec F S1x2048 .f32) (main_arg2 : FVec F S1x2048x2048 .f32) (main_arg3 : FVec F S8192x12288 .f32) (main_arg4 : FVec F S8192x8192 .f32) (main_arg5 : FVec F S8192x1024 .bf16) (main_arg6 : FVec F S8192x2048 .f32) (main_arg7 : FVec F S4x2048x2048 .f32) (main_arg8 : FVec F S1x2048 .f32) (main_arg9 : FVec F S1x1024x2048 .f32) (main_arg10 : FVec F S1x2048x2048 .f32) (main_arg11 : FVec F S1x1024x2048 .f32) (main_arg12 : FVec F S1x2048x2048 .f32) : IVec S_ 1 :=
  let main_v0 : FVec F S8192x1024 .f32 := (extractStridedSlice S8192x1024 ![0, 0] · slices_S8192x8192_S8192x1024_0_0) main_arg4
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S4x256x2048 .f32 := Host.absf main_arg0
  let main_cst_0 : FVec F S_ .f32 := constant S_ .f32 0x7F800000#32
  let main_v6 : FVec F S4x256x2048 .f32 := broadcastInDim S4x256x2048 ![] bcast_S_S4x256x2048 main_cst_0
  let main_v7 : IVec S4x256x2048 1 := cmpf .olt main_v5 main_v6
  let main_c_1 : IVec S_ 1 := constantI S_ 1 1#1
  let main_v8 : IVec S_ 1 := (fun x v => Host.reduce IntOp.andi x v reducesTo_S4x256x2048_S_d0_1_2 h_S_) main_v7 main_c_1
  let main_v9 : IVec S_ 1 := andi main_v4 main_v8
  let main_v10 : FVec F S1x2048 .f32 := Host.absf main_arg1
  let main_cst_2 : FVec F S_ .f32 := constant S_ .f32 0x7F800000#32
  let main_v11 : FVec F S1x2048 .f32 := broadcastInDim S1x2048 ![] bcast_S_S1x2048 main_cst_2
  let main_v12 : IVec S1x2048 1 := cmpf .olt main_v10 main_v11
  let main_c_3 : IVec S_ 1 := constantI S_ 1 1#1
  let main_v13 : IVec S_ 1 := (fun x v => Host.reduce IntOp.andi x v reducesTo_S1x2048_S_d0_1 h_S_) main_v12 main_c_3
  let main_v14 : IVec S_ 1 := andi main_v9 main_v13
  let main_v15 : FVec F S1x2048x2048 .f32 := Host.absf main_arg2
  let main_cst_4 : FVec F S_ .f32 := constant S_ .f32 0x7F800000#32
  let main_v16 : FVec F S1x2048x2048 .f32 := broadcastInDim S1x2048x2048 ![] bcast_S_S1x2048x2048 main_cst_4
  fn_part1 (F := F) main_v14 main_v15 main_v16
-- ==== Pre_sample_tame.lean ====
abbrev S8192x2048 : Shape := ⟨2, ![8192, 2048]⟩
abbrev S12288x2048 : Shape := ⟨2, ![12288, 2048]⟩
abbrev S1024x12288 : Shape := ⟨2, ![1024, 12288]⟩
abbrev S1024x8192 : Shape := ⟨2, ![1024, 8192]⟩
abbrev S1024x2048 : Shape := ⟨2, ![1024, 2048]⟩
abbrev S1024x128 : Shape := ⟨2, ![1024, 128]⟩
abbrev S1x128x4x512x512 : Shape := ⟨5, ![1, 128, 4, 512, 512]⟩
abbrev S1x128x4x512 : Shape := ⟨4, ![1, 128, 4, 512]⟩
abbrev S1x128x256x4x256 : Shape := ⟨5, ![1, 128, 256, 4, 256]⟩
abbrev S1024x1024 : Shape := ⟨2, ![1024, 1024]⟩
abbrev S128x8x2048 : Shape := ⟨3, ![128, 8, 2048]⟩
abbrev S1x2048 : Shape := ⟨2, ![1, 2048]⟩
abbrev S1x1024x2048 : Shape := ⟨3, ![1, 1024, 2048]⟩
abbrev S1x2048x2048 : Shape := ⟨3, ![1, 2048, 2048]⟩
abbrev S1024x4 : Shape := ⟨2, ![1024, 4]⟩
abbrev S_ : Shape := ⟨0, ![]⟩

class Facts : Prop where
  slices_S1024x128_S1024x4_0_8 : S1024x128.Slices ![0, 8] S1024x4
  bcast_S_S1024x4 : S_.BroadcastsInDim S1024x4 (![] : Fin 0 → Fin S1024x4.rank)
  reducesTo_S1024x4_S_d0_1 : S1024x4.ReducesTo [0, 1] S_
  h_S_ : 0 < S_.numel
  slices_S1024x8192_S1024x1024_0_0 : S1024x8192.Slices ![0, 0] S1024x1024
  bcast_S_S1024x1024 : S_.BroadcastsInDim S1024x1024 (![] : Fin 0 → Fin S1024x1024.rank)
  reducesTo_S1024x1024_S_d0_1 : S1024x1024.ReducesTo [0, 1] S_
  bcast_S_S1x128x256x4x256 : S_.BroadcastsInDim S1x128x256x4x256 (![] : Fin 0 → Fin S1x128x256x4x256.rank)
  reducesTo_S1x128x256x4x256_S_d0_1_2_3_4 : S1x128x256x4x256.ReducesTo [0, 1, 2, 3, 4] S_

variable [Facts]

def fn {F : FTy → Type} [FloatOps F] (main_arg0 : FVec F S8192x2048 .bf16) (main_arg1 : FVec F S12288x2048 .bf16) (main_arg2 : FVec F S8192x2048 .bf16) (main_arg3 : FVec F S1024x12288 .f32) (main_arg4 : FVec F S1024x8192 .f32) (main_arg5 : FVec F S1024x2048 .f32) (main_arg6 : FVec F S1024x128 .f32) (main_arg7 : FVec F S1024x128 .f32) (main_arg8 : FVec F S1x128x4x512x512 .f32) (main_arg9 : FVec F S1x128x4x512 .f32) (main_arg10 : FVec F S1x128x256x4x256 .f32) (main_arg11 : FVec F S1x128x256x4x256 .f32) (main_arg12 : FVec F S1024x1024 .bf16) (main_arg13 : FVec F S128x8x2048 .f32) (main_arg14 : FVec F S1x2048 .f32) (main_arg15 : FVec F S1x1024x2048 .f32) (main_arg16 : FVec F S1x2048x2048 .f32) (main_arg17 : FVec F S1x1024x2048 .f32) (main_arg18 : FVec F S1x2048x2048 .f32) : IVec S_ 1 :=
  let main_v0 : FVec F S1024x4 .f32 := (extractStridedSlice S1024x4 ![0, 8] · slices_S1024x128_S1024x4_0_8) main_arg7
  let main_cst : FVec F S_ .f32 := constant S_ .f32 0x7F800000#32
  let main_v1 : FVec F S1024x4 .f32 := broadcastInDim S1024x4 ![] bcast_S_S1024x4 main_cst
  let main_v2 : IVec S1024x4 1 := cmpf .olt main_v0 main_v1
  let main_c : IVec S_ 1 := constantI S_ 1 1#1
  let main_v3 : IVec S_ 1 := (fun x v => Host.reduce IntOp.andi x v reducesTo_S1024x4_S_d0_1 h_S_) main_v2 main_c
  let main_v4 : FVec F S1024x1024 .f32 := (extractStridedSlice S1024x1024 ![0, 0] · slices_S1024x8192_S1024x1024_0_0) main_arg4
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_c_1 : IVec S_ 1 := constantI S_ 1 1#1
  let main_v8 : IVec S_ 1 := (fun x v => Host.reduce IntOp.andi x v reducesTo_S1024x1024_S_d0_1 h_S_) main_v7 main_c_1
  let main_v9 : IVec S_ 1 := andi main_v3 main_v8
  let main_v10 : FVec F S1x128x256x4x256 .f32 := Host.absf main_arg10
  let main_cst_2 : FVec F S_ .f32 := constant S_ .f32 0x7F800000#32
  let main_v11 : FVec F S1x128x256x4x256 .f32 := broadcastInDim S1x128x256x4x256 ![] bcast_S_S1x128x256x4x256 main_cst_2
  let main_v12 : IVec S1x128x256x4x256 1 := cmpf .olt main_v10 main_v11
  let main_c_3 : IVec S_ 1 := constantI S_ 1 1#1
  let main_v13 : IVec S_ 1 := (fun x v => Host.reduce IntOp.andi x v reducesTo_S1x128x256x4x256_S_d0_1_2_3_4 h_S_) main_v12 main_c_3
  let main_v14 : IVec S_ 1 := andi main_v9 main_v13
  main_v14
-- ==== InA.lean ====
abbrev S1024x2048 : Shape := ⟨2, ![1024, 2048]⟩
abbrev S1x2048x20488 : Shape := ⟨3, ![1, 2048, 20488]⟩
abbrev S2048x20488 : Shape := ⟨2, ![2048, 20488]⟩
abbrev S20488x2048 : Shape := ⟨2, ![20488, 2048]⟩
abbrev S1024x12288 : Shape := ⟨2, ![1024, 12288]⟩
abbrev S12288x2048 : Shape := ⟨2, ![12288, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x2048, .bf16⟩
  | .hbm, ⟨1, _⟩ => ⟨S1x2048x20488, .f32⟩
  | .hbm, ⟨2, _⟩ => ⟨S2048x20488, .f32⟩
  | .hbm, ⟨3, _⟩ => ⟨S20488x2048, .f32⟩
  | .hbm, ⟨4, _⟩ => ⟨S1024x12288, .f32⟩
  | .hbm, ⟨5, _⟩ => ⟨S12288x2048, .bf16⟩
  | .local _ .vmem, ⟨0, _⟩ => ⟨S1024x2048, .bf16⟩
  | .local _ .vmem, ⟨1, _⟩ => ⟨S1024x2048, .f32⟩
  | .local _ .vmem, ⟨2, _⟩ => ⟨S1024x2048, .f32⟩
  | .local _ .vmem, ⟨3, _⟩ => ⟨S1024x1024, .f32⟩
  | .local _ .vmem, ⟨4, _⟩ => ⟨S1024x1024, .f32⟩
  | .local _ .vmem, ⟨5, _⟩ => ⟨S1024x2048, .bf16⟩
  | .local _ .vmem, ⟨6, _⟩ => ⟨S1024x2048, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![12, 1], ![false, false]⟩

def k0_mult1 (i : grid0.Coords) : BitVec 32 :=
  let c0_i32 : BitVec 32 := 0#32
  let arg0 : BitVec 32 := BitVec.ofNat 32 (i 0).val
  let c1024_i32 : BitVec 32 := 1024#32
  let v0 : BitVec 32 := Scalar.muli arg0 c1024_i32
  let v1 : BitVec 32 := Scalar.addi c0_i32 v0
  v1
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RefInAIdeal.lean ====
abbrev S1024x2048 : Shape := ⟨2, ![1024, 2048]⟩
abbrev S1x2048x20488 : Shape := ⟨3, ![1, 2048, 20488]⟩
abbrev S2048x20488 : Shape := ⟨2, ![2048, 20488]⟩
abbrev S1024x20488 : Shape := ⟨2, ![1024, 20488]⟩
abbrev S1024x12288 : Shape := ⟨2, ![1024, 12288]⟩
abbrev S2048x12288 : Shape := ⟨2, ![2048, 12288]⟩
abbrev S12288x2048 : Shape := ⟨2, ![12288, 2048]⟩

abbrev nBuf : Space → Nat
  | .hbm => 10
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1x2048x20488, .f32⟩
  | .hbm, ⟨2, _⟩ => ⟨S1024x2048, .f32⟩
  | .hbm, ⟨3, _⟩ => ⟨S2048x20488, .f32⟩
  | .hbm, ⟨4, _⟩ => ⟨S1024x20488, .f32⟩
  | .hbm, ⟨5, _⟩ => ⟨S1024x12288, .f32⟩
  | .hbm, ⟨6, _⟩ => ⟨S2048x20488, .f32⟩
  | .hbm, ⟨7, _⟩ => ⟨S2048x12288, .f32⟩
  | .hbm, ⟨8, _⟩ => ⟨S12288x2048, .f32⟩
  | .hbm, ⟨9, _⟩ => ⟨S12288x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== InB.lean ====
abbrev S1024x2048 : Shape := ⟨2, ![1024, 2048]⟩
abbrev S1x2048x20488 : Shape := ⟨3, ![1, 2048, 20488]⟩
abbrev S2048x20488 : Shape := ⟨2, ![2048, 20488]⟩
abbrev S20488x2048 : Shape := ⟨2, ![20488, 2048]⟩
abbrev S1024x8192 : Shape := ⟨2, ![1024, 8192]⟩
abbrev S8192x2048 : Shape := ⟨2, ![8192, 2048]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S1024x2048, .bf16⟩
  | .hbm, ⟨1, _⟩ => ⟨S1x2048x20488, .f32⟩
  | .hbm, ⟨2, _⟩ => ⟨S2048x20488, .f32⟩
  | .hbm, ⟨3, _⟩ => ⟨S20488x2048, .f32⟩
  | .hbm, ⟨4, _⟩ => ⟨S1024x8192, .f32⟩
  | .hbm, ⟨5, _⟩ => ⟨S8192x2048, .bf16⟩
  | .local _ .vmem, ⟨0, _⟩ => ⟨S1024x2048, .bf16⟩
  | .local _ .vmem, ⟨1, _⟩ => ⟨S1024x2048, .f32⟩
  | .local _ .vmem, ⟨2, _⟩ => ⟨S1024x2048, .f32⟩
  | .local _ .vmem, ⟨3, _⟩ => ⟨S1024x1024, .f32⟩
  | .local _ .vmem, ⟨4, _⟩ => ⟨S1024x1024, .f32⟩
  | .local _ .vmem, ⟨5, _⟩ => ⟨S1024x2048, .bf16⟩
  | .local _ .vmem, ⟨6, _⟩ => ⟨S1024x2048, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 1], ![false, false]⟩

def k0_mult1 (i : grid0.Coords) : BitVec 32 :=
  let c12296_i32 : BitVec 32 := 12296#32
  let arg0 : BitVec 32 := BitVec.ofNat 32 (i 0).val
  let c1024_i32 : BitVec 32 := 1024#32
  let v0 : BitVec 32 := Scalar.muli arg0 c1024_i32
  let v1 : BitVec 32 := Scalar.addi c12296_i32 v0
  v1
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c12296_i32 : BitVec 32 := 12296#32
  let v1 : BitVec 32 := Scalar.addi c12296_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RefInBIdeal.lean ====
abbrev S1024x2048 : Shape := ⟨2, ![1024, 2048]⟩
abbrev S1x2048x20488 : Shape := ⟨3, ![1, 2048, 20488]⟩
abbrev S2048x20488 : Shape := ⟨2, ![2048, 20488]⟩
abbrev S1024x20488 : Shape := ⟨2, ![1024, 20488]⟩
abbrev S1024x8192 : Shape := ⟨2, ![1024, 8192]⟩
abbrev S2048x8192 : Shape := ⟨2, ![2048, 8192]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S1x2048x20488, .f32⟩
  | .hbm, ⟨2, _⟩ => ⟨S1024x2048, .f32⟩
  | .hbm, ⟨3, _⟩ => ⟨S2048x20488, .f32⟩
  | .hbm, ⟨4, _⟩ => ⟨S1024x20488, .f32⟩
  | .hbm, ⟨5, _⟩ => ⟨S1024x8192, .f32⟩
  | .hbm, ⟨6, _⟩ => ⟨S2048x20488, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== MemKv.lean ====
abbrev S4x256x2048 : Shape := ⟨3, ![4, 256, 2048]⟩
abbrev S1x2048 : Shape := ⟨2, ![1, 2048]⟩
abbrev S1x2048x2048 : Shape := ⟨3, ![1, 2048, 2048]⟩
abbrev S1024x2048 : Shape := ⟨2, ![1024, 2048]⟩
abbrev S2048 : Shape := ⟨1, ![2048]⟩
abbrev S2048x2048 : Shape := ⟨2, ![2048, 2048]⟩
abbrev S1024x1024 : Shape := ⟨2, ![1024, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S1024x2048, .f32⟩
  | .hbm, ⟨4, _⟩ => ⟨S2048, .f32⟩
  | .hbm, ⟨5, _⟩ => ⟨S1x2048, .f32⟩
  | .hbm, ⟨6, _⟩ => ⟨S2048x2048, .f32⟩
  | .hbm, ⟨7, _⟩ => ⟨S2048x2048, .bf16⟩
  | .hbm, ⟨8, _⟩ => ⟨S1024x1024, .f32⟩
  | .hbm, ⟨9, _⟩ => ⟨S1024x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefMemKvIdeal.lean ====
abbrev S4x256x2048 : Shape := ⟨3, ![4, 256, 2048]⟩
abbrev S1x2048 : Shape := ⟨2, ![1, 2048]⟩
abbrev S1x2048x2048 : Shape := ⟨3, ![1, 2048, 2048]⟩
abbrev S_ : Shape := ⟨0, ![]⟩
abbrev S4x256 : Shape := ⟨2, ![4, 256]⟩
abbrev S4x256x1 : Shape := ⟨3, ![4, 256, 1]⟩
abbrev S2048 : Shape := ⟨1, ![2048]⟩
abbrev S1x1x2048 : Shape := ⟨3, ![1, 1, 2048]⟩
abbrev S2048x2048 : Shape := ⟨2, ![2048, 2048]⟩
abbrev S4x256x1024 : Shape := ⟨3, ![4, 256, 1024]⟩
abbrev S1024x1024 : Shape := ⟨2, ![1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S4x256x2048, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x2048, .f32⟩
  | .hbm, ⟨15, _⟩ => ⟨S4x256x2048, .f32⟩
  | .hbm, ⟨16, _⟩ => ⟨S2048, .f32⟩
  | .hbm, ⟨17, _⟩ => ⟨S1x1x2048, .f32⟩
  | .hbm, ⟨18, _⟩ => ⟨S4x256x2048, .f32⟩
  | .hbm, ⟨19, _⟩ => ⟨S4x256x2048, .f32⟩
  | .hbm, ⟨20, _⟩ => ⟨S2048x2048, .f32⟩
  | .hbm, ⟨21, _⟩ => ⟨S4x256x2048, .f32⟩
  | .hbm, ⟨22, _⟩ => ⟨S4x256x1024, .f32⟩
  | .hbm, ⟨23, _⟩ => ⟨S4x256x1024, .f32⟩
  | .hbm, ⟨24, _⟩ => ⟨S1024x1024, .f32⟩
  | .hbm, ⟨25, _⟩ => ⟨S1024x1024, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Sample.lean ====
abbrev S8192x2048 : Shape := ⟨2, ![8192, 2048]⟩
abbrev S12288x2048 : Shape := ⟨2, ![12288, 2048]⟩
abbrev S1024x12288 : Shape := ⟨2, ![1024, 12288]⟩
abbrev S1024x8192 : Shape := ⟨2, ![1024, 8192]⟩
abbrev S1024x2048 : Shape := ⟨2, ![1024, 2048]⟩
abbrev S1024x128 : Shape := ⟨2, ![1024, 128]⟩
abbrev S1x128x4x512x512 : Shape := ⟨5, ![1, 128, 4, 512, 512]⟩
abbrev S1x128x4x512 : Shape := ⟨4, ![1, 128, 4, 512]⟩
abbrev S1x128x256x4x256 : Shape := ⟨5, ![1, 128, 256, 4, 256]⟩
abbrev S1024x1024 : Shape := ⟨2, ![1024, 1024]⟩
abbrev S128x8x2048 : Shape := ⟨3, ![128, 8, 2048]⟩
abbrev S1x2048 : Shape := ⟨2, ![1, 2048]⟩
abbrev S1x1024x2048 : Shape := ⟨3, ![1, 1024, 2048]⟩
abbrev S1x2048x2048 : Shape := ⟨3, ![1, 2048, 2048]⟩
abbrev S128x4x512x512 : Shape := ⟨4, ![128, 4, 512, 512]⟩
abbrev S128x4x512 : Shape := ⟨3, ![128, 4, 512]⟩
abbrev S8192x12288 : Shape := ⟨2, ![8192, 12288]⟩
abbrev S256x2048 : Shape := ⟨2, ![256, 2048]⟩
abbrev S3072x2048 : Shape := ⟨2, ![3072, 2048]⟩
abbrev S8x2048 : Shape := ⟨2, ![8, 2048]⟩
abbrev S8x128 : Shape := ⟨2, ![8, 128]⟩
abbrev S1x1x512x512 : Shape := ⟨4, ![1, 1, 512, 512]⟩
abbrev S1x4x512 : Shape := ⟨3, ![1, 4, 512]⟩
abbrev S256x3072 : Shape := ⟨2, ![256, 3072]⟩
abbrev S1x4x512x512 : Shape := ⟨4, ![1, 4, 512, 512]⟩
abbrev S1536x2048 : Shape := ⟨2, ![1536, 2048]⟩
abbrev S256x1536 : Shape := ⟨2, ![256, 1536]⟩
abbrev S8x512 : Shape := ⟨2, ![8, 512]⟩
abbrev S8x1 : Shape := ⟨2, ![8, 1]⟩
abbrev S1x1 : Shape := ⟨2, ![1, 1]⟩
abbrev S512x512 : Shape := ⟨2, ![512, 512]⟩
abbrev S1x1x512 : Shape := ⟨3, ![1, 1, 512]⟩
abbrev S1x512 : Shape := ⟨2, ![1, 512]⟩
abbrev S8 : Shape := ⟨1, ![8]⟩
abbrev S512 : Shape := ⟨1, ![512]⟩
abbrev S128x256x4x256 : Shape := ⟨4, ![128, 256, 4, 256]⟩
abbrev S8192x8192 : Shape := ⟨2, ![8192, 8192]⟩
abbrev S512x2048 : Shape := ⟨2, ![512, 2048]⟩
abbrev S2048x2048 : Shape := ⟨2, ![2048, 2048]⟩
abbrev S16x1024 : Shape := ⟨2, ![16, 1024]⟩
abbrev S2x256x4x256 : Shape := ⟨4, ![2, 256, 4, 256]⟩
abbrev S32x1024 : Shape := ⟨2, ![32, 1024]⟩
abbrev S1x256x4x256 : Shape := ⟨4, ![1, 256, 4, 256]⟩
abbrev S256x4x256 : Shape := ⟨3, ![256, 4, 256]⟩
abbrev S1024x256 : Shape := ⟨2, ![1024, 256]⟩
abbrev S8x256 : Shape := ⟨2, ![8, 256]⟩
abbrev S32x256 : Shape := ⟨2, ![32, 256]⟩
abbrev S32 : Shape := ⟨1, ![32]⟩
abbrev S32x1 : Shape := ⟨2, ![32, 1]⟩
abbrev S512x1024 : Shape := ⟨2, ![512, 1024]⟩
abbrev S2048 : Shape := ⟨1, ![2048]⟩
abbrev S256x1024 : Shape := ⟨2, ![256, 1024]⟩
abbrev S512x1 : Shape := ⟨2, ![512, 1]⟩

abbrev nBuf : Space → Nat
  | .hbm => 42
  | .vmem => 79
  | .smem => 0
  | _ => 0

abbrev bufTy : (tb : Table) → Fin (tcTables nBuf tb) → BufTy
  | .hbm, ⟨0, _⟩ => ⟨S8192x2048, .bf16⟩
  | .hbm, ⟨1, _⟩ => ⟨S12288x2048, .bf16⟩
  | .hbm, ⟨2, _⟩ => ⟨S8192x2048, .bf16⟩
  | .hbm, ⟨3, _⟩ => ⟨S1024x12288, .f32⟩
  | .hbm, ⟨4, _⟩ => ⟨S1024x8192, .f32⟩
  | .hbm, ⟨5, _⟩ => ⟨S1024x2048, .f32⟩
  | .hbm, ⟨6, _⟩ => ⟨S1024x128, .f32⟩
  | .hbm, ⟨7, _⟩ => ⟨S1024x128, .f32⟩
  | .hbm, ⟨8, _⟩ => ⟨S1x128x4x512x512, .f32⟩
  | .hbm, ⟨9, _⟩ => ⟨S1x128x4x512, .f32⟩
  | .hbm, ⟨10, _⟩ => ⟨S1x128x256x4x256, .f32⟩
  | .hbm, ⟨11, _⟩ => ⟨S1x128x256x4x256, .f32⟩
  | .hbm, ⟨12, _⟩ => ⟨S1024x1024, .bf16⟩
  | .hbm, ⟨13, _⟩ => ⟨S128x8x2048, .f32⟩
  | .hbm, ⟨14, _⟩ => ⟨S1x2048, .f32⟩
  | .hbm, ⟨15, _⟩ => ⟨S1x1024x2048, .f32⟩
  | .hbm, ⟨16, _⟩ => ⟨S1x2048x2048, .f32⟩
  | .hbm, ⟨17, _⟩ => ⟨S1x1024x2048, .f32⟩
  | .hbm, ⟨18, _⟩ => ⟨S1x2048x2048, .f32⟩
  | .hbm, ⟨19, _⟩ => ⟨S128x4x512x512, .f32⟩
  | .hbm, ⟨20, _⟩ => ⟨S128x4x512, .f32⟩
  | .hbm, ⟨21, _⟩ => ⟨S8192x12288, .f32⟩
  | .hbm, ⟨22, _⟩ => ⟨S1024x2048, .f32⟩
  | .hbm, ⟨23, _⟩ => ⟨S128x4x512x512, .f32⟩
  | .hbm, ⟨24, _⟩ => ⟨S128x4x512, .f32⟩
  | .hbm, ⟨25, _⟩ => ⟨S128x256x4x256, .f32⟩
  | .hbm, ⟨26, _⟩ => ⟨S128x256x4x256, .f32⟩
  | .hbm, ⟨27, _⟩ => ⟨S8192x8192, .f32⟩
  | .hbm, ⟨28, _⟩ => ⟨S1024x1024, .f32⟩
  | .hbm, ⟨29, _⟩ => ⟨S1024x2048, .f32⟩
  | .hbm, ⟨30, _⟩ => ⟨S2048, .f32⟩
  | .hbm, ⟨31, _⟩ => ⟨S1x2048, .f32⟩
  | .hbm, ⟨32, _⟩ => ⟨S1024x2048, .f32⟩
  | .hbm, ⟨33, _⟩ => ⟨S1024x2048, .bf16⟩
  | .hbm, ⟨34, _⟩ => ⟨S2048x2048, .f32⟩
  | .hbm, ⟨35, _⟩ => ⟨S2048x2048, .bf16⟩
  | .hbm, ⟨36, _⟩ => ⟨S1024x2048, .f32⟩
  | .hbm, ⟨37, _⟩ => ⟨S1024x2048, .bf16⟩
  | .hbm, ⟨38, _⟩ => ⟨S2048x2048, .f32⟩
  | .hbm, ⟨39, _⟩ => ⟨S2048x2048, .bf16⟩
  | .hbm, ⟨40, _⟩ => ⟨S1024x2048, .bf16⟩
  | .hbm, ⟨41, _⟩ => ⟨S1024x2048, .f32⟩
  | .local _ .vmem, ⟨0, _⟩ => ⟨S256x2048, .bf16⟩
  | .local _ .vmem, ⟨1, _⟩ => ⟨S256x2048, .bf16⟩
  | .local _ .vmem, ⟨2, _⟩ => ⟨S3072x2048, .bf16⟩
  | .local _ .vmem, ⟨3, _⟩ => ⟨S3072x2048, .bf16⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S8x2048, .f32⟩
  | .local _ .vmem, ⟨9, _⟩ => ⟨S8x2048, .f32⟩
  | .local _ .vmem, ⟨10, _⟩ => ⟨S8x2048, .f32⟩
  | .local _ .vmem, ⟨11, _⟩ => ⟨S8x2048, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | .local _ .vmem, ⟨16, _⟩ => ⟨S1x1x512x512, .f32⟩
  | .local _ .vmem, ⟨17, _⟩ => ⟨S1x1x512x512, .f32⟩
  | .local _ .vmem, ⟨18, _⟩ => ⟨S1x1x512x512, .f32⟩
  | .local _ .vmem, ⟨19, _⟩ => ⟨S1x1x512x512, .f32⟩
  | .local _ .vmem, ⟨20, _⟩ => ⟨S1x1x512x512, .f32⟩
  | .local _ .vmem, ⟨21, _⟩ => ⟨S1x1x512x512, .f32⟩
  | .local _ .vmem, ⟨22, _⟩ => ⟨S1x1x512x512, .f32⟩
  | .local _ .vmem, ⟨23, _⟩ => ⟨S1x1x512x512, .f32⟩
  | .local _ .vmem, ⟨24, _⟩ => ⟨S1x4x512, .f32⟩
  | .local _ .vmem, ⟨25, _⟩ => ⟨S1x4x512, .f32⟩
  | .local _ .vmem, ⟨26, _⟩ => ⟨S256x3072, .f32⟩
  | .local _ .vmem, ⟨27, _⟩ => ⟨S256x3072, .f32⟩
  | .local _ .vmem, ⟨28, _⟩ => ⟨S8x2048, .f32⟩
  | .local _ .vmem, ⟨29, _⟩ => ⟨S8x2048, .f32⟩
  | .local _ .vmem, ⟨30, _⟩ => ⟨S1x4x512x512, .f32⟩
  | .local _ .vmem, ⟨31, _⟩ => ⟨S1x4x512x512, .f32⟩
  | .local _ .vmem, ⟨32, _⟩ => ⟨S1x4x512, .f32⟩
  | .local _ .vmem, ⟨33, _⟩ => ⟨S1x4x512, .f32⟩
  | .local _ .vmem, ⟨34, _⟩ => ⟨S512x2048, .bf16⟩
  | .local _ .vmem, ⟨35, _⟩ => ⟨S512x2048, .bf16⟩
  | .local _ .vmem, ⟨36, _⟩ => ⟨S2048x2048, .bf16⟩
  | .local _ .vmem, ⟨37, _⟩ => ⟨S2048x2048, .bf16⟩
  | .local _ .vmem, ⟨38, _⟩ => ⟨S16x1024, .f32⟩
  | .local _ .vmem, ⟨39, _⟩ => ⟨S16x1024, .f32⟩
  | .local _ .vmem, ⟨40, _⟩ => ⟨S16x1024, .f32⟩
  | .local _ .vmem, ⟨41, _⟩ => ⟨S16x1024, .f32⟩
  | .local _ .vmem, ⟨42, _⟩ => ⟨S2x256x4x256, .f32⟩
  | .local _ .vmem, ⟨43, _⟩ => ⟨S2x256x4x256, .f32⟩
  | .local _ .vmem, ⟨44, _⟩ => ⟨S2x256x4x256, .f32⟩
  | .local _ .vmem, ⟨45, _⟩ => ⟨S2x256x4x256, .f32⟩
  | .local _ .vmem, ⟨46, _⟩ => ⟨S512x2048, .f32⟩
  | .local _ .vmem, ⟨47, _⟩ => ⟨S512x2048, .f32⟩
  | .local _ .vmem, ⟨48, _⟩ => ⟨S16x1024, .f32⟩
  | .local _ .vmem, ⟨49, _⟩ => ⟨S16x1024, .f32⟩
  | .local _ .vmem, ⟨50, _⟩ => ⟨S256x1024, .bf16⟩
  | .local _ .vmem, ⟨51, _⟩ => ⟨S256x1024, .bf16⟩
  | .local _ .vmem, ⟨52, _⟩ => ⟨S256x2048, .f32⟩
  | .local _ .vmem, ⟨53, _⟩ => ⟨S256x2048, .f32⟩
  | .local _ .vmem, ⟨54, _⟩ => ⟨S256x2048, .f32⟩
  | .local _ .vmem, ⟨55, _⟩ => ⟨S256x2048, .f32⟩
  | .local _ .vmem, ⟨56, _⟩ => ⟨S256x2048, .f32⟩
  | .local _ .vmem, ⟨57, _⟩ => ⟨S256x2048, .f32⟩
  | .local _ .vmem, ⟨58, _⟩ => ⟨S256x1024, .f32⟩
  | .local _ .vmem, ⟨59, _⟩ => ⟨S256x1024, .f32⟩
  | .local _ .vmem, ⟨60, _⟩ => ⟨S256x2048, .f32⟩
  | .local _ .vmem, ⟨61, _⟩ => ⟨S256x2048, .f32⟩
  | .local _ .vmem, ⟨62, _⟩ => ⟨S256x2048, .f32⟩
  | .local _ .vmem, ⟨63, _⟩ => ⟨S256x2048, .f32⟩
  | .local _ .vmem, ⟨64, _⟩ => ⟨S256x2048, .f32⟩
  | .local _ .vmem, ⟨65, _⟩ => ⟨S256x2048, .f32⟩
  | .local _ .vmem, ⟨66, _⟩ => ⟨S1024x2048, .bf16⟩
  | .local _ .vmem, ⟨67, _⟩ => ⟨S2048x2048, .bf16⟩
  | .local _ .vmem, ⟨68, _⟩ => ⟨S1024x2048, .bf16⟩
  | .local _ .vmem, ⟨69, _⟩ => ⟨S256x2048, .bf16⟩
  | .local _ .vmem, ⟨70, _⟩ => ⟨S256x2048, .bf16⟩
  | .local _ .vmem, ⟨71, _⟩ => ⟨S512x2048, .bf16⟩
  | .local _ .vmem, ⟨72, _⟩ => ⟨S512x2048, .bf16⟩
  | .local _ .vmem, ⟨73, _⟩ => ⟨S512x2048, .f32⟩
  | .local _ .vmem, ⟨74, _⟩ => ⟨S512x2048, .f32⟩
  | .local _ .vmem, ⟨75, _⟩ => ⟨S1x2048, .f32⟩
  | .local _ .vmem, ⟨76, _⟩ => ⟨S2048x2048, .bf16⟩
  | .local _ .vmem, ⟨77, _⟩ => ⟨S512x2048, .f32⟩
  | .local _ .vmem, ⟨78, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2_0 : Ref sig .tc := ⟨.hbm, 21, rfl⟩
abbrev main_v2_1 : Ref sig .tc := ⟨.hbm, 22, rfl⟩
abbrev main_v2_2 : Ref sig .tc := ⟨.hbm, 23, rfl⟩
abbrev main_v2_3 : Ref sig .tc := ⟨.hbm, 24, rfl⟩
abbrev main_v3 : Ref sig .tc := ⟨.hbm, 25, rfl⟩
abbrev main_v4 : Ref sig .tc := ⟨.hbm, 26, rfl⟩
abbrev main_v5_0 : Ref sig .tc := ⟨.hbm, 27, rfl⟩
abbrev main_v5_1 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc1_stg0_0 : Ref sig .tc := ⟨.vmem, 34, rfl⟩
abbrev cc1_stg0_1 : Ref sig .tc := ⟨.vmem, 35, rfl⟩
abbrev cc1_stg1_0 : Ref sig .tc := ⟨.vmem, 36, rfl⟩
abbrev cc1_stg1_1 : Ref sig .tc := ⟨.vmem, 37, rfl⟩
abbrev cc1_stg2_0 : Ref sig .tc := ⟨.vmem, 38, rfl⟩
abbrev cc1_stg2_1 : Ref sig .tc := ⟨.vmem, 39, rfl⟩
abbrev cc1_stg3_0 : Ref sig .tc := ⟨.vmem, 40, rfl⟩
abbrev cc1_stg3_1 : Ref sig .tc := ⟨.vmem, 41, rfl⟩
abbrev cc1_stg4_0 : Ref sig .tc := ⟨.vmem, 42, rfl⟩
abbrev cc1_stg4_1 : Ref sig .tc := ⟨.vmem, 43, rfl⟩
abbrev cc1_stg5_0 : Ref sig .tc := ⟨.vmem, 44, rfl⟩
abbrev cc1_stg5_1 : Ref sig .tc := ⟨.vmem, 45, rfl⟩
abbrev cc1_stg6_0 : Ref sig .tc := ⟨.vmem, 46, rfl⟩
abbrev cc1_stg6_1 : Ref sig .tc := ⟨.vmem, 47, rfl⟩
abbrev cc1_stg7_0 : Ref sig .tc := ⟨.vmem, 48, rfl⟩
abbrev cc1_stg7_1 : Ref sig .tc := ⟨.vmem, 49, rfl⟩
abbrev cc2_stg0_0 : Ref sig .tc := ⟨.vmem, 50, rfl⟩
abbrev cc2_stg0_1 : Ref sig .tc := ⟨.vmem, 51, rfl⟩
abbrev cc2_stg1_0 : Ref sig .tc := ⟨.vmem, 52, rfl⟩
abbrev cc2_stg1_1 : Ref sig .tc := ⟨.vmem, 53, rfl⟩
abbrev cc2_stg2_0 : Ref sig .tc := ⟨.vmem, 54, rfl⟩
abbrev cc2_stg2_1 : Ref sig .tc := ⟨.vmem, 55, rfl⟩
abbrev cc2_stg3_0 : Ref sig .tc := ⟨.vmem, 56, rfl⟩
abbrev cc2_stg3_1 : Ref sig .tc := ⟨.vmem, 57, rfl⟩
abbrev cc2_stg4_0 : Ref sig .tc := ⟨.vmem, 58, rfl⟩
abbrev cc2_stg4_1 : Ref sig .tc := ⟨.vmem, 59, rfl⟩
abbrev cc2_stg5_0 : Ref sig .tc := ⟨.vmem, 60, rfl⟩
abbrev cc2_stg5_1 : Ref sig .tc := ⟨.vmem, 61, rfl⟩
abbrev cc2_stg6_0 : Ref sig .tc := ⟨.vmem, 62, rfl⟩
abbrev cc2_stg6_1 : Ref sig .tc := ⟨.vmem, 63, rfl⟩
abbrev cc2_stg7_0 : Ref sig .tc := ⟨.vmem, 64, rfl⟩
abbrev cc2_stg7_1 : Ref sig .tc := ⟨.vmem, 65, rfl⟩
abbrev cc2_stg8_0 : Ref sig .tc := ⟨.vmem, 66, rfl⟩
abbrev cc2_stg9_0 : Ref sig .tc := ⟨.vmem, 67, rfl⟩
abbrev cc2_stg10_0 : Ref sig .tc := ⟨.vmem, 68, rfl⟩
abbrev cc2_stg11_0 : Ref sig .tc := ⟨.vmem, 69, rfl⟩
abbrev cc2_stg11_1 : Ref sig .tc := ⟨.vmem, 70, rfl⟩
abbrev cc3_stg0_0 : Ref sig .tc := ⟨.vmem, 71, rfl⟩
abbrev cc3_stg0_1 : Ref sig .tc := ⟨.vmem, 72, rfl⟩
abbrev cc3_stg1_0 : Ref sig .tc := ⟨.vmem, 73, rfl⟩
abbrev cc3_stg1_1 : Ref sig .tc := ⟨.vmem, 74, rfl⟩
abbrev cc3_stg2_0 : Ref sig .tc := ⟨.vmem, 75, rfl⟩
abbrev cc3_stg3_0 : Ref sig .tc := ⟨.vmem, 76, rfl⟩
abbrev cc3_stg4_0 : Ref sig .tc := ⟨.vmem, 77, rfl⟩
abbrev cc3_stg4_1 : Ref sig .tc := ⟨.vmem, 78, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc1_sem0_0 : DmaSem sig := 34
abbrev cc1_sem0_1 : DmaSem sig := 35
abbrev cc1_sem1_0 : DmaSem sig := 36
abbrev cc1_sem1_1 : DmaSem sig := 37
abbrev cc1_sem2_0 : DmaSem sig := 38
abbrev cc1_sem2_1 : DmaSem sig := 39
abbrev cc1_sem3_0 : DmaSem sig := 40
abbrev cc1_sem3_1 : DmaSem sig := 41
abbrev cc1_sem4_0 : DmaSem sig := 42
abbrev cc1_sem4_1 : DmaSem sig := 43
abbrev cc1_sem5_0 : DmaSem sig := 44
abbrev cc1_sem5_1 : DmaSem sig := 45
abbrev cc1_sem6_0 : DmaSem sig := 46
abbrev cc1_sem6_1 : DmaSem sig := 47
abbrev cc1_sem7_0 : DmaSem sig := 48
abbrev cc1_sem7_1 : DmaSem sig := 49
abbrev cc2_sem0_0 : DmaSem sig := 50
abbrev cc2_sem0_1 : DmaSem sig := 51
abbrev cc2_sem1_0 : DmaSem sig := 52
abbrev cc2_sem1_1 : DmaSem sig := 53
abbrev cc2_sem2_0 : DmaSem sig := 54
abbrev cc2_sem2_1 : DmaSem sig := 55
abbrev cc2_sem3_0 : DmaSem sig := 56
abbrev cc2_sem3_1 : DmaSem sig := 57
abbrev cc2_sem4_0 : DmaSem sig := 58
abbrev cc2_sem4_1 : DmaSem sig := 59
abbrev cc2_sem5_0 : DmaSem sig := 60
abbrev cc2_sem5_1 : DmaSem sig := 61
abbrev cc2_sem6_0 : DmaSem sig := 62
abbrev cc2_sem6_1 : DmaSem sig := 63
abbrev cc2_sem7_0 : DmaSem sig := 64
abbrev cc2_sem7_1 : DmaSem sig := 65
abbrev cc2_sem8_0 : DmaSem sig := 66
abbrev cc2_sem9_0 : DmaSem sig := 67
abbrev cc2_sem10_0 : DmaSem sig := 68
abbrev cc2_sem11_0 : DmaSem sig := 69
abbrev cc2_sem11_1 : DmaSem sig := 70
abbrev cc3_sem0_0 : DmaSem sig := 71
abbrev cc3_sem0_1 : DmaSem sig := 72
abbrev cc3_sem1_0 : DmaSem sig := 73
abbrev cc3_sem1_1 : DmaSem sig := 74
abbrev cc3_sem2_0 : DmaSem sig := 75
abbrev cc3_sem3_0 : DmaSem sig := 76
abbrev cc3_sem4_0 : DmaSem sig := 77
abbrev cc3_sem4_1 : DmaSem sig := 78

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  let c0_i32_0 : BitVec 32 := 0#32
  let c0_i32_1 : BitVec 32 := 0#32
  ![v1.toNat, c1_i32.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  let c0_i32_0 : BitVec 32 := 0#32
  let c0_i32_1 : BitVec 32 := 0#32
  ![v1.toNat, c2_i32.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  let c0_i32_0 : BitVec 32 := 0#32
  let c0_i32_1 : BitVec 32 := 0#32
  ![v1.toNat, c3_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3072x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x3072 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S8x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x4x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc1_transform_4 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S16x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S16x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2x256x4x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2x256x4x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S16x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c4_i32 : BitVec 32 := 4#32
  let c0_i32 : BitVec 32 := 0#32
  ![arg0.toNat, c4_i32.toNat]

def cc2_transform_3 (i : grid2.Coords) : Fin 2 → Nat :=
  let arg0 : BitVec 32 := BitVec.ofNat 32 (i 0).val
  let c5_i32 : BitVec 32 := 5#32
  let c0_i32 : BitVec 32 := 0#32
  ![arg0.toNat, c5_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_6 (i : grid2.Coords) : Fin 2 → Nat :=
  let arg0 : BitVec 32 := BitVec.ofNat 32 (i 0).val
  let c2_i32 : BitVec 32 := 2#32
  let c0_i32 : BitVec 32 := 0#32
  ![arg0.toNat, c2_i32.toNat]

def cc2_transform_7 (i : grid2.Coords) : Fin 2 → Nat :=
  let arg0 : BitVec 32 := BitVec.ofNat 32 (i 0).val
  let c3_i32 : BitVec 32 := 3#32
  let c0_i32 : BitVec 32 := 0#32
  ![arg0.toNat, c3_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1024x2048 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S2048x2048 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1024x2048 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S256x2048 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![2], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2048x2048 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== RefSampleIdeal.lean ====
abbrev S8192x2048 : Shape := ⟨2, ![8192, 2048]⟩
abbrev S12288x2048 : Shape := ⟨2, ![12288, 2048]⟩
abbrev S1024x12288 : Shape := ⟨2, ![1024, 12288]⟩
abbrev S1024x8192 : Shape := ⟨2, ![1024, 8192]⟩
abbrev S1024x2048 : Shape := ⟨2, ![1024, 2048]⟩
abbrev S1024x128 : Shape := ⟨2, ![1024, 128]⟩
abbrev S1x128x4x512x512 : Shape := ⟨5, ![1, 128, 4, 512, 512]⟩
abbrev S1x128x4x512 : Shape := ⟨4, ![1, 128, 4, 512]⟩
abbrev S1x128x256x4x256 : Shape := ⟨5, ![1, 128, 256, 4, 256]⟩
abbrev S1024x1024 : Shape := ⟨2, ![1024, 1024]⟩
abbrev S128x8x2048 : Shape := ⟨3, ![128, 8, 2048]⟩
abbrev S1x2048 : Shape := ⟨2, ![1, 2048]⟩
abbrev S1x1024x2048 : Shape := ⟨3, ![1, 1024, 2048]⟩
abbrev S1x2048x2048 : Shape := ⟨3, ![1, 2048, 2048]⟩
abbrev S2048x12288 : Shape := ⟨2, ![2048, 12288]⟩
abbrev S8192x12288 : Shape := ⟨2, ![8192, 12288]⟩
abbrev S2048x8192 : Shape := ⟨2, ![2048, 8192]⟩
abbrev S8192x8192 : Shape := ⟨2, ![8192, 8192]⟩
abbrev S128x4x512x512 : Shape := ⟨4, ![128, 4, 512, 512]⟩
abbrev S128x4x512 : Shape := ⟨3, ![128, 4, 512]⟩
abbrev S128x8x4x512 : Shape := ⟨4, ![128, 8, 4, 512]⟩
abbrev S128x4x8x512 : Shape := ⟨4, ![128, 4, 8, 512]⟩
abbrev S_ : Shape := ⟨0, ![]⟩
abbrev S1024x4 : Shape := ⟨2, ![1024, 4]⟩
abbrev S128x8x4 : Shape := ⟨3, ![128, 8, 4]⟩
abbrev S128x4x8 : Shape := ⟨3, ![128, 4, 8]⟩
abbrev S128x4x1 : Shape := ⟨3, ![128, 4, 1]⟩
abbrev S128x4 : Shape := ⟨2, ![128, 4]⟩
abbrev S128x4x8x1 : Shape := ⟨4, ![128, 4, 8, 1]⟩
abbrev S128x4x1x1 : Shape := ⟨4, ![128, 4, 1, 1]⟩
abbrev S128x8x4x256 : Shape := ⟨4, ![128, 8, 4, 256]⟩
abbrev S128x256x4x256 : Shape := ⟨4, ![128, 256, 4, 256]⟩
abbrev S128x4x8x256 : Shape := ⟨4, ![128, 4, 8, 256]⟩
abbrev S128x4x256x8 : Shape := ⟨4, ![128, 4, 256, 8]⟩
abbrev S2048 : Shape := ⟨1, ![2048]⟩
abbrev S2048x2048 : Shape := ⟨2, ![2048, 2048]⟩
abbrev S1024 : Shape := ⟨1, ![1024]⟩
abbrev S1024x1 : Shape := ⟨2, ![1024, 1]⟩

abbrev nBuf : Space → Nat
  | .hbm => 225
  | .vmem => 0
  | .smem => 0
  | _ => 0

abbrev hbmTy0_0 (i : Nat) : BufTy := match i % 128 with
  | 0 => ⟨S8192x2048, .bf16⟩
  | 1 => ⟨S12288x2048, .bf16⟩
  | 2 => ⟨S8192x2048, .bf16⟩
  | 3 => ⟨S1024x12288, .f32⟩
  | 4 => ⟨S1024x8192, .f32⟩
  | 5 => ⟨S1024x2048, .f32⟩
  | 6 => ⟨S1024x128, .f32⟩
  | 7 => ⟨S1024x128, .f32⟩
  | 8 => ⟨S1x128x4x512x512, .f32⟩
  | 9 => ⟨S1x128x4x512, .f32⟩
  | 10 => ⟨S1x128x256x4x256, .f32⟩
  | 11 => ⟨S1x128x256x4x256, .f32⟩
  | 12 => ⟨S1024x1024, .bf16⟩
  | 13 => ⟨S128x8x2048, .f32⟩
  | 14 => ⟨S1x2048, .f32⟩
  | 15 => ⟨S1x1024x2048, .f32⟩
  | 16 => ⟨S1x2048x2048, .f32⟩
  | 17 => ⟨S1x1024x2048, .f32⟩
  | 18 => ⟨S1x2048x2048, .f32⟩
  | 19 => ⟨S8192x2048, .f32⟩
  | 20 => ⟨S12288x2048, .f32⟩
  | 21 => ⟨S2048x12288, .f32⟩
  | 22 => ⟨S8192x12288, .f32⟩
  | 23 => ⟨S8192x2048, .f32⟩
  | 24 => ⟨S8192x2048, .f32⟩
  | 25 => ⟨S2048x8192, .f32⟩
  | 26 => ⟨S8192x8192, .f32⟩
  | 27 => ⟨S128x4x512x512, .f32⟩
  | 28 => ⟨S128x4x512, .f32⟩
  | 29 => ⟨S1024x2048, .f32⟩
  | 30 => ⟨S128x8x4x512, .f32⟩
  | 31 => ⟨S128x4x8x512, .f32⟩
  | 32 => ⟨S1024x2048, .f32⟩
  | 33 => ⟨S128x8x4x512, .f32⟩
  | 34 => ⟨S128x4x8x512, .f32⟩
  | 35 => ⟨S1024x2048, .f32⟩
  | 36 => ⟨S128x8x4x512, .f32⟩
  | 37 => ⟨S128x4x8x512, .f32⟩
  | 38 => ⟨S_, .f32⟩
  | 39 => ⟨S128x4x8x512, .f32⟩
  | 40 => ⟨S128x4x8x512, .f32⟩
  | 41 => ⟨S1024x4, .f32⟩
  | 42 => ⟨S128x8x4, .f32⟩
  | 43 => ⟨S128x4x8, .f32⟩
  | 44 => ⟨S1024x4, .f32⟩
  | 45 => ⟨S128x8x4, .f32⟩
  | 46 => ⟨S128x4x8, .f32⟩
  | 47 => ⟨S1024x4, .f32⟩
  | 48 => ⟨S128x8x4, .f32⟩
  | 49 => ⟨S128x4x8, .f32⟩
  | 50 => ⟨S128x4x1, .f32⟩
  | 51 => ⟨S128x4, .f32⟩
  | 52 => ⟨S1024x4, .f32⟩
  | 53 => ⟨S128x8x4, .f32⟩
  | 54 => ⟨S128x4x8, .f32⟩
  | 55 => ⟨S1024x4, .f32⟩
  | 56 => ⟨S128x8x4, .f32⟩
  | 57 => ⟨S128x4x8, .f32⟩
  | 58 => ⟨S1024x4, .f32⟩
  | 59 => ⟨S128x8x4, .f32⟩
  | 60 => ⟨S128x4x8, .f32⟩
  | 61 => ⟨S128x8x4x512, .f32⟩
  | 62 => ⟨S128x4x8x512, .f32⟩
  | 63 => ⟨S128x4x8x1, .f32⟩
  | 64 => ⟨S128x4x8x512, .f32⟩
  | 65 => ⟨S128x4x8x512, .f32⟩
  | 66 => ⟨S128x4x8x512, .f32⟩
  | 67 => ⟨S128x4x8x512, .f32⟩
  | 68 => ⟨S128x4x8, .f32⟩
  | 69 => ⟨S128x4x8, .f32⟩
  | 70 => ⟨S128x4x8, .f32⟩
  | 71 => ⟨S128x4x8, .f32⟩
  | 72 => ⟨S128x4x8, .f32⟩
  | 73 => ⟨S128x4x8, .f32⟩
  | 74 => ⟨S128x4x8, .f32⟩
  | 75 => ⟨S128x4x8x1, .f32⟩
  | 76 => ⟨S128x4x8x512, .f32⟩
  | 77 => ⟨S128x4x8x512, .f32⟩
  | 78 => ⟨S128x4x1, .f32⟩
  | 79 => ⟨S128x4, .f32⟩
  | 80 => ⟨S128x4x1, .f32⟩
  | 81 => ⟨S128x4x8, .f32⟩
  | 82 => ⟨S128x4x8, .f32⟩
  | 83 => ⟨S128x4x8, .f32⟩
  | 84 => ⟨S128x4x1, .f32⟩
  | 85 => ⟨S128x4x8, .f32⟩
  | 86 => ⟨S128x4x8, .f32⟩
  | 87 => ⟨S128x4x8, .f32⟩
  | 88 => ⟨S128x4x1, .f32⟩
  | 89 => ⟨S128x4, .f32⟩
  | 90 => ⟨S128x4, .f32⟩
  | 91 => ⟨S128x4, .f32⟩
  | 92 => ⟨S128x4, .f32⟩
  | 93 => ⟨S128x4x1x1, .f32⟩
  | 94 => ⟨S128x4x512x512, .f32⟩
  | 95 => ⟨S128x4x512x512, .f32⟩
  | 96 => ⟨S128x4x8x1, .f32⟩
  | 97 => ⟨S128x4x8x512, .f32⟩
  | 98 => ⟨S128x4x8x512, .f32⟩
  | 99 => ⟨S128x4x512x512, .f32⟩
  | 100 => ⟨S128x4x512x512, .f32⟩
  | 101 => ⟨S128x4x1, .f32⟩
  | 102 => ⟨S128x4x512, .f32⟩
  | 103 => ⟨S128x4x512, .f32⟩
  | 104 => ⟨S128x4x512, .f32⟩
  | 105 => ⟨S128x4x512, .f32⟩
  | 106 => ⟨S128x8x4x512, .f32⟩
  | 107 => ⟨S1024x2048, .f32⟩
  | 108 => ⟨S1024x1024, .f32⟩
  | 109 => ⟨S128x8x4x256, .f32⟩
  | 110 => ⟨S128x256x4x256, .f32⟩
  | 111 => ⟨S128x256x4x256, .f32⟩
  | 112 => ⟨S128x4x8x256, .f32⟩
  | 113 => ⟨S_, .f32⟩
  | 114 => ⟨S128x4x8x256, .f32⟩
  | 115 => ⟨S128x4x8x256, .f32⟩
  | 116 => ⟨S_, .f32⟩
  | 117 => ⟨S128x4x8, .f32⟩
  | 118 => ⟨S_, .f32⟩
  | 119 => ⟨S128x4x8, .f32⟩
  | 120 => ⟨S128x4x8, .f32⟩
  | 121 => ⟨S128x4x8x1, .f32⟩
  | 122 => ⟨S128x4x8x256, .f32⟩
  | 123 => ⟨S128x4x8x256, .f32⟩
  | 124 => ⟨S128x4x8x256, .f32⟩
  | 125 => ⟨S_, .f32⟩
  | 126 => ⟨S128x4x8, .f32⟩
  | 127 => ⟨S128x4x8x1, .f32⟩
  | _ => ⟨S8192x2048, .bf16⟩

abbrev hbmTy0_1 (i : Nat) : BufTy := match i % 128 with
  | 0 => ⟨S128x4x8x256, .f32⟩
  | 1 => ⟨S128x4x8x256, .f32⟩
  | 2 => ⟨S128x4x256x8, .f32⟩
  | 3 => ⟨S128x8x4x256, .f32⟩
  | 4 => ⟨S1024x1024, .f32⟩
  | 5 => ⟨S1024x1024, .f32⟩
  | 6 => ⟨S1024x1024, .f32⟩
  | 7 => ⟨S1024x1024, .f32⟩
  | 8 => ⟨S_, .f32⟩
  | 9 => ⟨S1024x1024, .f32⟩
  | 10 => ⟨S1024x1024, .f32⟩
  | 11 => ⟨S_, .f32⟩
  | 12 => ⟨S1024x1024, .f32⟩
  | 13 => ⟨S1024x1024, .f32⟩
  | 14 => ⟨S1024x1024, .f32⟩
  | 15 => ⟨S1024x1024, .f32⟩
  | 16 => ⟨S1024x2048, .f32⟩
  | 17 => ⟨S2048, .f32⟩
  | 18 => ⟨S1024x2048, .f32⟩
  | 19 => ⟨S2048x2048, .f32⟩
  | 20 => ⟨S1024x2048, .f32⟩
  | 21 => ⟨S2048x2048, .f32⟩
  | 22 => ⟨S1024x2048, .f32⟩
  | 23 => ⟨S1024x2048, .f32⟩
  | 24 => ⟨S1024x2048, .f32⟩
  | 25 => ⟨S1024x2048, .f32⟩
  | 26 => ⟨S1024x2048, .f32⟩
  | 27 => ⟨S1024x1024, .f32⟩
  | 28 => ⟨S1024x2048, .f32⟩
  | 29 => ⟨S1024x2048, .f32⟩
  | 30 => ⟨S1024x2048, .f32⟩
  | 31 => ⟨S_, .f32⟩
  | 32 => ⟨S1024x2048, .f32⟩
  | 33 => ⟨S1024x2048, .f32⟩
  | 34 => ⟨S_, .f32⟩
  | 35 => ⟨S1024x2048, .f32⟩
  | 36 => ⟨S1024x2048, .f32⟩
  | 37 => ⟨S1024x2048, .f32⟩
  | 38 => ⟨S1024x2048, .f32⟩
  | 39 => ⟨S1024x2048, .f32⟩
  | 40 => ⟨S_, .f32⟩
  | 41 => ⟨S1024x2048, .f32⟩
  | 42 => ⟨S1024x2048, .f32⟩
  | 43 => ⟨S_, .f32⟩
  | 44 => ⟨S1024x2048, .f32⟩
  | 45 => ⟨S1024x2048, .f32⟩
  | 46 => ⟨S1024x2048, .f32⟩
  | 47 => ⟨S1024x2048, .f32⟩
  | 48 => ⟨S1024x2048, .f32⟩
  | 49 => ⟨S1024x2048, .f32⟩
  | 50 => ⟨S1024x2048, .f32⟩
  | 51 => ⟨S1024x2048, .f32⟩
  | 52 => ⟨S_, .f32⟩
  | 53 => ⟨S1024x2048, .f32⟩
  | 54 => ⟨S1024x2048, .f32⟩
  | 55 => ⟨S_, .f32⟩
  | 56 => ⟨S1024x2048, .f32⟩
  | 57 => ⟨S1024x2048, .f32⟩
  | 58 => ⟨S1024x2048, .f32⟩
  | 59 => ⟨S1024x2048, .f32⟩
  | 60 => ⟨S1024x2048, .f32⟩
  | 61 => ⟨S_, .f32⟩
  | 62 => ⟨S1024x2048, .f32⟩
  | 63 => ⟨S1024x2048, .f32⟩
  | 64 => ⟨S_, .f32⟩
  | 65 => ⟨S1024x2048, .f32⟩
  | 66 => ⟨S1024x2048, .f32⟩
  | 67 => ⟨S1024x2048, .f32⟩
  | 68 => ⟨S1024x2048, .f32⟩
  | 69 => ⟨S1024x2048, .f32⟩
  | 70 => ⟨S1024x2048, .f32⟩
  | 71 => ⟨S_, .f32⟩
  | 72 => ⟨S1024x2048, .f32⟩
  | 73 => ⟨S1024x2048, .f32⟩
  | 74 => ⟨S_, .f32⟩
  | 75 => ⟨S1024x2048, .f32⟩
  | 76 => ⟨S1024x2048, .f32⟩
  | 77 => ⟨S1024x2048, .f32⟩
  | 78 => ⟨S1024x2048, .f32⟩
  | 79 => ⟨S1024x2048, .f32⟩
  | 80 => ⟨S1024x2048, .f32⟩
  | 81 => ⟨S_, .f32⟩
  | 82 => ⟨S1024, .f32⟩
  | 83 => ⟨S1024x1, .f32⟩
  | 84 => ⟨S_, .f32⟩
  | 85 => ⟨S1024x1, .f32⟩
  | 86 => ⟨S1024x1, .f32⟩
  | 87 => ⟨S_, .f32⟩
  | 88 => ⟨S1024x1, .f32⟩
  | 89 => ⟨S1024x1, .f32⟩
  | 90 => ⟨S1024x1, .f32⟩
  | 91 => ⟨S1024x2048, .f32⟩
  | 92 => ⟨S1024x2048, .f32⟩
  | 93 => ⟨S1x2048, .f32⟩
  | 94 => ⟨S1024x2048, .f32⟩
  | 95 => ⟨S1024x2048, .f32⟩
  | 96 => ⟨S1024x2048, .f32⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_0 : Ref sig .tc := ⟨.hbm, 113, rfl⟩
abbrev main_v93 : Ref sig .tc := ⟨.hbm, 114, rfl⟩
abbrev main_v94 : Ref sig .tc := ⟨.hbm, 115, rfl⟩
abbrev main_cst_1 : Ref sig .tc := ⟨.hbm, 116, rfl⟩
abbrev main_v95 : Ref sig .tc := ⟨.hbm, 117, rfl⟩
abbrev main_cst_2 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_3 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_call0_v0 : Ref sig .tc := ⟨.hbm, 134, rfl⟩
abbrev main_call0_v1 : Ref sig .tc := ⟨.hbm, 135, rfl⟩
abbrev main_call0_cst : Ref sig .tc := ⟨.hbm, 136, rfl⟩
abbrev main_call0_v2 : Ref sig .tc := ⟨.hbm, 137, rfl⟩
abbrev main_call0_v3 : Ref sig .tc := ⟨.hbm, 138, rfl⟩
abbrev main_call0_cst_0 : Ref sig .tc := ⟨.hbm, 139, rfl⟩
abbrev main_call0_v4 : Ref sig .tc := ⟨.hbm, 140, rfl⟩
abbrev main_call0_v5 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_4 : Ref sig .tc := ⟨.hbm, 159, rfl⟩
abbrev main_v127 : Ref sig .tc := ⟨.hbm, 160, rfl⟩
abbrev main_v128 : Ref sig .tc := ⟨.hbm, 161, rfl⟩
abbrev main_cst_5 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_call1_v0 : Ref sig .tc := ⟨.hbm, 166, rfl⟩
abbrev main_call1_v1 : Ref sig .tc := ⟨.hbm, 167, rfl⟩
abbrev main_call1_cst : Ref sig .tc := ⟨.hbm, 168, rfl⟩
abbrev main_call1_v2 : Ref sig .tc := ⟨.hbm, 169, rfl⟩
abbrev main_call1_v3 : Ref sig .tc := ⟨.hbm, 170, rfl⟩
abbrev main_call1_cst_0 : Ref sig .tc := ⟨.hbm, 171, rfl⟩
abbrev main_call1_v4 : Ref sig .tc := ⟨.hbm, 172, rfl⟩
abbrev main_call1_v5 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_cst_6 : Ref sig .tc := ⟨.hbm, 180, rfl⟩
abbrev main_v138 : Ref sig .tc := ⟨.hbm, 181, rfl⟩
abbrev main_v139 : Ref sig .tc := ⟨.hbm, 182, rfl⟩
abbrev main_cst_7 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_cst_8 : Ref sig .tc := ⟨.hbm, 189, rfl⟩
abbrev main_v145 : Ref sig .tc := ⟨.hbm, 190, rfl⟩
abbrev main_v146 : Ref sig .tc := ⟨.hbm, 191, rfl⟩
abbrev main_cst_9 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_cst_10 : Ref sig .tc := ⟨.hbm, 199, rfl⟩
abbrev main_v153 : Ref sig .tc := ⟨.hbm, 200, rfl⟩
abbrev main_v154 : Ref sig .tc := ⟨.hbm, 201, rfl⟩
abbrev main_cst_11 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_cst_12 : Ref sig .tc := ⟨.hbm, 209, rfl⟩
abbrev main_v161 : Ref sig .tc := ⟨.hbm, 210, rfl⟩
abbrev main_v162 : Ref sig .tc := ⟨.hbm, 211, rfl⟩
abbrev main_cst_13 : Ref sig .tc := ⟨.hbm, 212, rfl⟩
abbrev main_v163 : Ref sig .tc := ⟨.hbm, 213, rfl⟩
abbrev main_v164 : Ref sig .tc := ⟨.hbm, 214, rfl⟩
abbrev main_cst_14 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩

abbrev nD : Nat := 1
abbrev τ : Topo := Topo.v7x

variable {F : FTy → Type} [FloatOps F]
-- ==== Prompt.lean ====
abbrev S4x256x2048 : Shape := ⟨3, ![4, 256, 2048]⟩
abbrev S1x2048 : Shape := ⟨2, ![1, 2048]⟩
abbrev S1x2048x2048 : Shape := ⟨3, ![1, 2048, 2048]⟩
abbrev S8192x12288 : Shape := ⟨2, ![8192, 12288]⟩
abbrev S8192x8192 : Shape := ⟨2, ![8192, 8192]⟩
abbrev S8192x1024 : Shape := ⟨2, ![8192, 1024]⟩
abbrev S8192x2048 : Shape := ⟨2, ![8192, 2048]⟩
abbrev S4x2048x2048 : Shape := ⟨3, ![4, 2048, 2048]⟩
abbrev S1x1024x2048 : Shape := ⟨3, ![1, 1024, 2048]⟩
abbrev S1024x2048 : Shape := ⟨2, ![1024, 2048]⟩
abbrev S2048 : Shape := ⟨1, ![2048]⟩
abbrev S2048x2048 : Shape := ⟨2, ![2048, 2048]⟩
abbrev S1024x1024 : Shape := ⟨2, ![1024, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S4x256x1024 : Shape := ⟨3, ![4, 256, 1024]⟩
abbrev S1x256x1024 : Shape := ⟨3, ![1, 256, 1024]⟩
abbrev S1024x256 : Shape := ⟨2, ![1024, 256]⟩
abbrev S1x256x256 : Shape := ⟨3, ![1, 256, 256]⟩
abbrev S256x256 : Shape := ⟨2, ![256, 256]⟩
abbrev S1024 : Shape := ⟨1, ![1024]⟩
abbrev S1024x1 : Shape := ⟨2, ![1024, 1]⟩
abbrev S512x2048 : Shape := ⟨2, ![512, 2048]⟩
abbrev S512 : Shape := ⟨1, ![512]⟩
abbrev S512x1 : Shape := ⟨2, ![512, 1]⟩

abbrev nBuf : Space → Nat
  | .hbm => 36
  | .vmem => 47
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x2048, .f32⟩
  | .hbm, ⟨3, _⟩ => ⟨S8192x12288, .f32⟩
  | .hbm, ⟨4, _⟩ => ⟨S8192x8192, .f32⟩
  | .hbm, ⟨5, _⟩ => ⟨S8192x1024, .bf16⟩
  | .hbm, ⟨6, _⟩ => ⟨S8192x2048, .f32⟩
  | .hbm, ⟨7, _⟩ => ⟨S4x2048x2048, .f32⟩
  | .hbm, ⟨8, _⟩ => ⟨S1x2048, .f32⟩
  | .hbm, ⟨9, _⟩ => ⟨S1x1024x2048, .f32⟩
  | .hbm, ⟨10, _⟩ => ⟨S1x2048x2048, .f32⟩
  | .hbm, ⟨11, _⟩ => ⟨S1x1024x2048, .f32⟩
  | .hbm, ⟨12, _⟩ => ⟨S1x2048x2048, .f32⟩
  | .hbm, ⟨13, _⟩ => ⟨S1024x2048, .f32⟩
  | .hbm, ⟨14, _⟩ => ⟨S2048, .f32⟩
  | .hbm, ⟨15, _⟩ => ⟨S1x2048, .f32⟩
  | .hbm, ⟨16, _⟩ => ⟨S2048x2048, .f32⟩
  | .hbm, ⟨17, _⟩ => ⟨S2048x2048, .bf16⟩
  | .hbm, ⟨18, _⟩ => ⟨S1024x1024, .f32⟩
  | .hbm, ⟨19, _⟩ => ⟨S1024x1024, .f32⟩
  | .hbm, ⟨20, _⟩ => ⟨S4x256x1024, .f32⟩
  | .hbm, ⟨21, _⟩ => ⟨S4x256x1024, .f32⟩
  | .hbm, ⟨22, _⟩ => ⟨S8192x1024, .bf16⟩
  | .hbm, ⟨23, _⟩ => ⟨S8192x2048, .f32⟩
  | .hbm, ⟨24, _⟩ => ⟨S2048, .f32⟩
  | .hbm, ⟨25, _⟩ => ⟨S1x2048, .f32⟩
  | .hbm, ⟨26, _⟩ => ⟨S1024x2048, .f32⟩
  | .hbm, ⟨27, _⟩ => ⟨S1024x2048, .bf16⟩
  | .hbm, ⟨28, _⟩ => ⟨S2048x2048, .f32⟩
  | .hbm, ⟨29, _⟩ => ⟨S2048x2048, .bf16⟩
  | .hbm, ⟨30, _⟩ => ⟨S1024x2048, .f32⟩
  | .hbm, ⟨31, _⟩ => ⟨S1024x2048, .bf16⟩
  | .hbm, ⟨32, _⟩ => ⟨S2048x2048, .f32⟩
  | .hbm, ⟨33, _⟩ => ⟨S2048x2048, .bf16⟩
  | .hbm, ⟨34, _⟩ => ⟨S8192x2048, .bf16⟩
  | .hbm, ⟨35, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1024x1024, .bf16⟩
  | .local _ .vmem, ⟨17, _⟩ => ⟨S1024x1024, .bf16⟩
  | .local _ .vmem, ⟨18, _⟩ => ⟨S256x1024, .bf16⟩
  | .local _ .vmem, ⟨19, _⟩ => ⟨S256x1024, .bf16⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x1024, .bf16⟩
  | .local _ .vmem, ⟨27, _⟩ => ⟨S256x1024, .bf16⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S1024x2048, .bf16⟩
  | .local _ .vmem, ⟨35, _⟩ => ⟨S2048x2048, .bf16⟩
  | .local _ .vmem, ⟨36, _⟩ => ⟨S1024x2048, .bf16⟩
  | .local _ .vmem, ⟨37, _⟩ => ⟨S256x2048, .bf16⟩
  | .local _ .vmem, ⟨38, _⟩ => ⟨S256x2048, .bf16⟩
  | .local _ .vmem, ⟨39, _⟩ => ⟨S512x2048, .bf16⟩
  | .local _ .vmem, ⟨40, _⟩ => ⟨S512x2048, .bf16⟩
  | .local _ .vmem, ⟨41, _⟩ => ⟨S512x2048, .f32⟩
  | .local _ .vmem, ⟨42, _⟩ => ⟨S512x2048, .f32⟩
  | .local _ .vmem, ⟨43, _⟩ => ⟨S1x2048, .f32⟩
  | .local _ .vmem, ⟨44, _⟩ => ⟨S2048x2048, .bf16⟩
  | .local _ .vmem, ⟨45, _⟩ => ⟨S512x2048, .f32⟩
  | .local _ .vmem, ⟨46, _⟩ => ⟨S512x2048, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg6_1 : Ref sig .tc := ⟨.vmem, 31, rfl⟩
abbrev cc2_stg7_0 : Ref sig .tc := ⟨.vmem, 32, rfl⟩
abbrev cc2_stg7_1 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg11_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg4_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc2_sem5_0 : DmaSem sig := 28
abbrev cc2_sem5_1 : DmaSem sig := 29
abbrev cc2_sem6_0 : DmaSem sig := 30
abbrev cc2_sem6_1 : DmaSem sig := 31
abbrev cc2_sem7_0 : DmaSem sig := 32
abbrev cc2_sem7_1 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem11_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem4_1 : DmaSem sig := 46

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c1_i32 : BitVec 32 := 1#32
  let c0_i32 : BitVec 32 := 0#32
  ![v1.toNat, c1_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c4_i32 : BitVec 32 := 4#32
  let c0_i32 : BitVec 32 := 0#32
  ![arg0.toNat, c4_i32.toNat]

def cc2_transform_3 (i : grid2.Coords) : Fin 2 → Nat :=
  let arg0 : BitVec 32 := BitVec.ofNat 32 (i 0).val
  let c5_i32 : BitVec 32 := 5#32
  let c0_i32 : BitVec 32 := 0#32
  ![arg0.toNat, c5_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c1_i32 : BitVec 32 := 1#32
  let c0_i32 : BitVec 32 := 0#32
  ![arg0.toNat, c1_i32.toNat]

def cc2_transform_6 (i : grid2.Coords) : Fin 2 → Nat :=
  let arg0 : BitVec 32 := BitVec.ofNat 32 (i 0).val
  let c2_i32 : BitVec 32 := 2#32
  let c0_i32 : BitVec 32 := 0#32
  ![arg0.toNat, c2_i32.toNat]

def cc2_transform_7 (i : grid2.Coords) : Fin 2 → Nat :=
  let arg0 : BitVec 32 := BitVec.ofNat 32 (i 0).val
  let c3_i32 : BitVec 32 := 3#32
  let c0_i32 : BitVec 32 := 0#32
  ![arg0.toNat, c3_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S1024x2048 .bf16 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S2048x2048 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1024x2048 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S256x2048 .bf16 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x2048 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2048x2048 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== RefPromptIdeal.lean ====
abbrev S4x256x2048 : Shape := ⟨3, ![4, 256, 2048]⟩
abbrev S1x2048 : Shape := ⟨2, ![1, 2048]⟩
abbrev S1x2048x2048 : Shape := ⟨3, ![1, 2048, 2048]⟩
abbrev S8192x12288 : Shape := ⟨2, ![8192, 12288]⟩
abbrev S8192x8192 : Shape := ⟨2, ![8192, 8192]⟩
abbrev S8192x1024 : Shape := ⟨2, ![8192, 1024]⟩
abbrev S8192x2048 : Shape := ⟨2, ![8192, 2048]⟩
abbrev S4x2048x2048 : Shape := ⟨3, ![4, 2048, 2048]⟩
abbrev S1x1024x2048 : Shape := ⟨3, ![1, 1024, 2048]⟩
abbrev S_ : Shape := ⟨0, ![]⟩
abbrev S4x256 : Shape := ⟨2, ![4, 256]⟩
abbrev S4x256x1 : Shape := ⟨3, ![4, 256, 1]⟩
abbrev S2048 : Shape := ⟨1, ![2048]⟩
abbrev S1x1x2048 : Shape := ⟨3, ![1, 1, 2048]⟩
abbrev S2048x2048 : Shape := ⟨2, ![2048, 2048]⟩
abbrev S4x256x1024 : Shape := ⟨3, ![4, 256, 1024]⟩
abbrev S4x2048x4x256 : Shape := ⟨4, ![4, 2048, 4, 256]⟩
abbrev S4x256x4x256 : Shape := ⟨4, ![4, 256, 4, 256]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S1024x2048 : Shape := ⟨2, ![1024, 2048]⟩
abbrev S8192 : Shape := ⟨1, ![8192]⟩
abbrev S8192x1 : Shape := ⟨2, ![8192, 1]⟩
abbrev S1024x1024 : Shape := ⟨2, ![1024, 1024]⟩

abbrev nBuf : Space → Nat
  | .hbm => 153
  | .vmem => 0
  | .smem => 0
  | _ => 0

abbrev hbmTy0_0 (i : Nat) : BufTy := match i % 128 with
  | 0 => ⟨S4x256x2048, .f32⟩
  | 1 => ⟨S1x2048, .f32⟩
  | 2 => ⟨S1x2048x2048, .f32⟩
  | 3 => ⟨S8192x12288, .f32⟩
  | 4 => ⟨S8192x8192, .f32⟩
  | 5 => ⟨S8192x1024, .bf16⟩
  | 6 => ⟨S8192x2048, .f32⟩
  | 7 => ⟨S4x2048x2048, .f32⟩
  | 8 => ⟨S1x2048, .f32⟩
  | 9 => ⟨S1x1024x2048, .f32⟩
  | 10 => ⟨S1x2048x2048, .f32⟩
  | 11 => ⟨S1x1024x2048, .f32⟩
  | 12 => ⟨S1x2048x2048, .f32⟩
  | 13 => ⟨S4x256x2048, .f32⟩
  | 14 => ⟨S_, .f32⟩
  | 15 => ⟨S4x256, .f32⟩
  | 16 => ⟨S4x256x1, .f32⟩
  | 17 => ⟨S_, .f32⟩
  | 18 => ⟨S4x256x1, .f32⟩
  | 19 => ⟨S4x256x1, .f32⟩
  | 20 => ⟨S_, .f32⟩
  | 21 => ⟨S4x256x1, .f32⟩
  | 22 => ⟨S4x256x1, .f32⟩
  | 23 => ⟨S4x256x1, .f32⟩
  | 24 => ⟨S4x256x2048, .f32⟩
  | 25 => ⟨S4x256x2048, .f32⟩
  | 26 => ⟨S2048, .f32⟩
  | 27 => ⟨S1x1x2048, .f32⟩
  | 28 => ⟨S4x256x2048, .f32⟩
  | 29 => ⟨S4x256x2048, .f32⟩
  | 30 => ⟨S2048x2048, .f32⟩
  | 31 => ⟨S4x256x2048, .f32⟩
  | 32 => ⟨S4x256x1024, .f32⟩
  | 33 => ⟨S4x256x1024, .f32⟩
  | 34 => ⟨S8192x1024, .f32⟩
  | 35 => ⟨S4x2048x4x256, .f32⟩
  | 36 => ⟨S4x256x4x256, .f32⟩
  | 37 => ⟨S4x256x4x256, .f32⟩
  | 38 => ⟨S4x4x2048x256, .f32⟩
  | 39 => ⟨S_, .f32⟩
  | 40 => ⟨S4x4x2048x256, .f32⟩
  | 41 => ⟨S4x4x2048x256, .f32⟩
  | 42 => ⟨S_, .f32⟩
  | 43 => ⟨S4x4x2048, .f32⟩
  | 44 => ⟨S_, .f32⟩
  | 45 => ⟨S4x4x2048, .f32⟩
  | 46 => ⟨S4x4x2048, .f32⟩
  | 47 => ⟨S4x4x2048x1, .f32⟩
  | 48 => ⟨S4x4x2048x256, .f32⟩
  | 49 => ⟨S4x4x2048x256, .f32⟩
  | 50 => ⟨S4x4x2048x256, .f32⟩
  | 51 => ⟨S_, .f32⟩
  | 52 => ⟨S4x4x2048, .f32⟩
  | 53 => ⟨S4x4x2048x1, .f32⟩
  | 54 => ⟨S4x4x2048x256, .f32⟩
  | 55 => ⟨S4x4x2048x256, .f32⟩
  | 56 => ⟨S4x4x256x2048, .f32⟩
  | 57 => ⟨S4x2048x4x256, .f32⟩
  | 58 => ⟨S8192x1024, .f32⟩
  | 59 => ⟨S8192x1024, .f32⟩
  | 60 => ⟨S8192x1024, .f32⟩
  | 61 => ⟨S8192x1024, .f32⟩
  | 62 => ⟨S_, .f32⟩
  | 63 => ⟨S8192x1024, .f32⟩
  | 64 => ⟨S8192x1024, .f32⟩
  | 65 => ⟨S_, .f32⟩
  | 66 => ⟨S8192x1024, .f32⟩
  | 67 => ⟨S8192x1024, .f32⟩
  | 68 => ⟨S8192x1024, .f32⟩
  | 69 => ⟨S8192x1024, .f32⟩
  | 70 => ⟨S8192x2048, .f32⟩
  | 71 => ⟨S2048, .f32⟩
  | 72 => ⟨S1024x2048, .f32⟩
  | 73 => ⟨S2048x2048, .f32⟩
  | 74 => ⟨S1024x2048, .f32⟩
  | 75 => ⟨S2048x2048, .f32⟩
  | 76 => ⟨S8192x2048, .f32⟩
  | 77 => ⟨S8192x2048, .f32⟩
  | 78 => ⟨S8192x2048, .f32⟩
  | 79 => ⟨S8192x2048, .f32⟩
  | 80 => ⟨S8192x2048, .f32⟩
  | 81 => ⟨S8192x1024, .f32⟩
  | 82 => ⟨S8192x2048, .f32⟩
  | 83 => ⟨S8192x2048, .f32⟩
  | 84 => ⟨S8192x2048, .f32⟩
  | 85 => ⟨S_, .f32⟩
  | 86 => ⟨S8192x2048, .f32⟩
  | 87 => ⟨S8192x2048, .f32⟩
  | 88 => ⟨S_, .f32⟩
  | 89 => ⟨S8192x2048, .f32⟩
  | 90 => ⟨S8192x2048, .f32⟩
  | 91 => ⟨S8192x2048, .f32⟩
  | 92 => ⟨S8192x2048, .f32⟩
  | 93 => ⟨S8192x2048, .f32⟩
  | 94 => ⟨S_, .f32⟩
  | 95 => ⟨S8192x2048, .f32⟩
  | 96 => ⟨S8192x2048, .f32⟩
  | 97 => ⟨S_, .f32⟩
  | 98 => ⟨S8192x2048, .f32⟩
  | 99 => ⟨S8192x2048, .f32⟩
  | 100 => ⟨S8192x2048, .f32⟩
  | 101 => ⟨S8192x2048, .f32⟩
  | 102 => ⟨S8192x2048, .f32⟩
  | 103 => ⟨S8192x2048, .f32⟩
  | 104 => ⟨S8192x2048, .f32⟩
  | 105 => ⟨S8192x2048, .f32⟩
  | 106 => ⟨S_, .f32⟩
  | 107 => ⟨S8192x2048, .f32⟩
  | 108 => ⟨S8192x2048, .f32⟩
  | 109 => ⟨S_, .f32⟩
  | 110 => ⟨S8192x2048, .f32⟩
  | 111 => ⟨S8192x2048, .f32⟩
  | 112 => ⟨S8192x2048, .f32⟩
  | 113 => ⟨S8192x2048, .f32⟩
  | 114 => ⟨S8192x2048, .f32⟩
  | 115 => ⟨S_, .f32⟩
  | 116 => ⟨S8192x2048, .f32⟩
  | 117 => ⟨S8192x2048, .f32⟩
  | 118 => ⟨S_, .f32⟩
  | 119 => ⟨S8192x2048, .f32⟩
  | 120 => ⟨S8192x2048, .f32⟩
  | 121 => ⟨S8192x2048, .f32⟩
  | 122 => ⟨S8192x2048, .f32⟩
  | 123 => ⟨S8192x2048, .f32⟩
  | 124 => ⟨S8192x2048, .f32⟩
  | 125 => ⟨S_, .f32⟩
  | 126 => ⟨S8192x2048, .f32⟩
  | 127 => ⟨S8192x2048, .f32⟩
  | _ => ⟨S4x256x2048, .f32⟩

abbrev hbmTy0_1 (i : Nat) : BufTy := match i % 128 with
  | 0 => ⟨S_, .f32⟩
  | 1 => ⟨S8192x2048, .f32⟩
  | 2 => ⟨S8192x2048, .f32⟩
  | 3 => ⟨S8192x2048, .f32⟩
  | 4 => ⟨S8192x2048, .f32⟩
  | 5 => ⟨S8192x2048, .f32⟩
  | 6 => ⟨S8192x2048, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x2048, .f32⟩
  | 18 => ⟨S8192x2048, .f32⟩
  | 19 => ⟨S1x2048, .f32⟩
  | 20 => ⟨S8192x2048, .f32⟩
  | 21 => ⟨S8192x2048, .f32⟩
  | 22 => ⟨S8192x2048, .f32⟩
  | 23 => ⟨S1024x1024, .f32⟩
  | 24 => ⟨S1024x1024, .f32⟩
  | _ => ⟨S4x256x2048, .f32⟩

abbrev hbmTy (i : Nat) : BufTy := match i / 128 with
  | 0 => hbmTy0_0 i
  | 1 => hbmTy0_1 i
  | _ => ⟨S4x256x2048, .f32⟩

abbrev bufTy : (tb : Table) → Fin (tcTables nBuf tb) → BufTy
  | .hbm, ⟨i, _⟩ => hbmTy i
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_2 : Ref sig .tc := ⟨.hbm, 39, rfl⟩
abbrev main_v23 : Ref sig .tc := ⟨.hbm, 40, rfl⟩
abbrev main_v24 : Ref sig .tc := ⟨.hbm, 41, rfl⟩
abbrev main_cst_3 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_6 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_call1_v0 : Ref sig .tc := ⟨.hbm, 92, rfl⟩
abbrev main_call1_v1 : Ref sig .tc := ⟨.hbm, 93, rfl⟩
abbrev main_call1_cst : Ref sig .tc := ⟨.hbm, 94, rfl⟩
abbrev main_call1_v2 : Ref sig .tc := ⟨.hbm, 95, rfl⟩
abbrev main_call1_v3 : Ref sig .tc := ⟨.hbm, 96, rfl⟩
abbrev main_call1_cst_0 : Ref sig .tc := ⟨.hbm, 97, rfl⟩
abbrev main_call1_v4 : Ref sig .tc := ⟨.hbm, 98, rfl⟩
abbrev main_call1_v5 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_cst_8 : Ref sig .tc := ⟨.hbm, 106, rfl⟩
abbrev main_v68 : Ref sig .tc := ⟨.hbm, 107, rfl⟩
abbrev main_v69 : Ref sig .tc := ⟨.hbm, 108, rfl⟩
abbrev main_cst_9 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_10 : Ref sig .tc := ⟨.hbm, 115, rfl⟩
abbrev main_v75 : Ref sig .tc := ⟨.hbm, 116, rfl⟩
abbrev main_v76 : Ref sig .tc := ⟨.hbm, 117, rfl⟩
abbrev main_cst_11 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_12 : Ref sig .tc := ⟨.hbm, 125, rfl⟩
abbrev main_v83 : Ref sig .tc := ⟨.hbm, 126, rfl⟩
abbrev main_v84 : Ref sig .tc := ⟨.hbm, 127, rfl⟩
abbrev main_cst_13 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_14 : Ref sig .tc := ⟨.hbm, 135, rfl⟩
abbrev main_v91 : Ref sig .tc := ⟨.hbm, 136, rfl⟩
abbrev main_v92 : Ref sig .tc := ⟨.hbm, 137, rfl⟩
abbrev main_cst_15 : Ref sig .tc := ⟨.hbm, 138, rfl⟩
abbrev main_v93 : Ref sig .tc := ⟨.hbm, 139, rfl⟩
abbrev main_v94 : Ref sig .tc := ⟨.hbm, 140, rfl⟩
abbrev main_cst_16 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩

abbrev nD : Nat := 1
abbrev τ : Topo := Topo.v7x

variable {F : FTy → Type} [FloatOps F]
-- ==== Short.lean ====
abbrev S1024x12288 : Shape := ⟨2, ![1024, 12288]⟩
abbrev S1024x128 : Shape := ⟨2, ![1024, 128]⟩
abbrev S8x1024 : Shape := ⟨2, ![8, 1024]⟩
abbrev S1024x2048 : Shape := ⟨2, ![1024, 2048]⟩
abbrev S128x2048 : Shape := ⟨2, ![128, 2048]⟩
abbrev S128x128 : Shape := ⟨2, ![128, 128]⟩
abbrev S8x128 : Shape := ⟨2, ![8, 128]⟩
abbrev S128x1 : Shape := ⟨2, ![128, 1]⟩
abbrev S1x128 : Shape := ⟨2, ![1, 128]⟩
abbrev S128x512 : Shape := ⟨2, ![128, 512]⟩
abbrev S128 : Shape := ⟨1, ![128]⟩

abbrev nBuf : Space → Nat
  | .hbm => 5
  | .vmem => 14
  | .smem => 0
  | _ => 0

abbrev bufTy : (tb : Table) → Fin (tcTables nBuf tb) → BufTy
  | .hbm, ⟨0, _⟩ => ⟨S1024x12288, .f32⟩
  | .hbm, ⟨1, _⟩ => ⟨S1024x128, .f32⟩
  | .hbm, ⟨2, _⟩ => ⟨S8x1024, .f32⟩
  | .hbm, ⟨3, _⟩ => ⟨S1024x2048, .f32⟩
  | .hbm, ⟨4, _⟩ => ⟨S1024x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x128, .f32⟩
  | .local _ .vmem, ⟨7, _⟩ => ⟨S128x128, .f32⟩
  | .local _ .vmem, ⟨8, _⟩ => ⟨S8x128, .f32⟩
  | .local _ .vmem, ⟨9, _⟩ => ⟨S8x128, .f32⟩
  | .local _ .vmem, ⟨10, _⟩ => ⟨S128x2048, .f32⟩
  | .local _ .vmem, ⟨11, _⟩ => ⟨S128x2048, .f32⟩
  | .local _ .vmem, ⟨12, _⟩ => ⟨S128x128, .f32⟩
  | .local _ .vmem, ⟨13, _⟩ => ⟨S128x128, .f32⟩
  | _, _ => ⟨S1024x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefShortIdeal.lean ====
abbrev S1024x12288 : Shape := ⟨2, ![1024, 12288]⟩
abbrev S1024x128 : Shape := ⟨2, ![1024, 128]⟩
abbrev S8x1024 : Shape := ⟨2, ![8, 1024]⟩
abbrev S1024x2048 : Shape := ⟨2, ![1024, 2048]⟩
abbrev S128x8x4x512 : Shape := ⟨4, ![128, 8, 4, 512]⟩
abbrev S128x4x8x512 : Shape := ⟨4, ![128, 4, 8, 512]⟩
abbrev S_ : Shape := ⟨0, ![]⟩
abbrev S1024x4 : Shape := ⟨2, ![1024, 4]⟩
abbrev S128x8x4 : Shape := ⟨3, ![128, 8, 4]⟩
abbrev S128x4x8 : Shape := ⟨3, ![128, 4, 8]⟩
abbrev S1024x8 : Shape := ⟨2, ![1024, 8]⟩
abbrev S8x8 : Shape := ⟨2, ![8, 8]⟩
abbrev S128x4x8x1 : Shape := ⟨4, ![128, 4, 8, 1]⟩
abbrev S128x4x1x8 : Shape := ⟨4, ![128, 4, 1, 8]⟩
abbrev S128x4x8x8 : Shape := ⟨4, ![128, 4, 8, 8]⟩
abbrev S1024x116 : Shape := ⟨2, ![1024, 116]⟩

abbrev nBuf : Space → Nat
  | .hbm => 79
  | .vmem => 0
  | .smem => 0
  | _ => 0

abbrev bufTy : (tb : Table) → Fin (tcTables nBuf tb) → BufTy
  | .hbm, ⟨0, _⟩ => ⟨S1024x12288, .f32⟩
  | .hbm, ⟨1, _⟩ => ⟨S1024x128, .f32⟩
  | .hbm, ⟨2, _⟩ => ⟨S8x1024, .f32⟩
  | .hbm, ⟨3, _⟩ => ⟨S1024x2048, .f32⟩
  | .hbm, ⟨4, _⟩ => ⟨S128x8x4x512, .f32⟩
  | .hbm, ⟨5, _⟩ => ⟨S128x4x8x512, .f32⟩
  | .hbm, ⟨6, _⟩ => ⟨S1024x2048, .f32⟩
  | .hbm, ⟨7, _⟩ => ⟨S128x8x4x512, .f32⟩
  | .hbm, ⟨8, _⟩ => ⟨S128x4x8x512, .f32⟩
  | .hbm, ⟨9, _⟩ => ⟨S1024x2048, .f32⟩
  | .hbm, ⟨10, _⟩ => ⟨S128x8x4x512, .f32⟩
  | .hbm, ⟨11, _⟩ => ⟨S128x4x8x512, .f32⟩
  | .hbm, ⟨12, _⟩ => ⟨S_, .f32⟩
  | .hbm, ⟨13, _⟩ => ⟨S128x4x8x512, .f32⟩
  | .hbm, ⟨14, _⟩ => ⟨S128x4x8x512, .f32⟩
  | .hbm, ⟨15, _⟩ => ⟨S1024x4, .f32⟩
  | .hbm, ⟨16, _⟩ => ⟨S128x8x4, .f32⟩
  | .hbm, ⟨17, _⟩ => ⟨S128x4x8, .f32⟩
  | .hbm, ⟨18, _⟩ => ⟨S1024x4, .f32⟩
  | .hbm, ⟨19, _⟩ => ⟨S128x8x4, .f32⟩
  | .hbm, ⟨20, _⟩ => ⟨S128x4x8, .f32⟩
  | .hbm, ⟨21, _⟩ => ⟨S1024x8, .f32⟩
  | .hbm, ⟨22, _⟩ => ⟨S1024x4, .f32⟩
  | .hbm, ⟨23, _⟩ => ⟨S128x8x4, .f32⟩
  | .hbm, ⟨24, _⟩ => ⟨S128x4x8, .f32⟩
  | .hbm, ⟨25, _⟩ => ⟨S1024x8, .f32⟩
  | .hbm, ⟨26, _⟩ => ⟨S1024x4, .f32⟩
  | .hbm, ⟨27, _⟩ => ⟨S128x8x4, .f32⟩
  | .hbm, ⟨28, _⟩ => ⟨S128x4x8, .f32⟩
  | .hbm, ⟨29, _⟩ => ⟨S_, .i1⟩
  | .hbm, ⟨30, _⟩ => ⟨S8x8, .i1⟩
  | .hbm, ⟨31, _⟩ => ⟨S8x8, .i32⟩
  | .hbm, ⟨32, _⟩ => ⟨S_, .i32⟩
  | .hbm, ⟨33, _⟩ => ⟨S8x8, .i32⟩
  | .hbm, ⟨34, _⟩ => ⟨S8x8, .i32⟩
  | .hbm, ⟨35, _⟩ => ⟨S8x8, .i32⟩
  | .hbm, ⟨36, _⟩ => ⟨S8x8, .i1⟩
  | .hbm, ⟨37, _⟩ => ⟨S_, .i1⟩
  | .hbm, ⟨38, _⟩ => ⟨S8x8, .i1⟩
  | .hbm, ⟨39, _⟩ => ⟨S8x8, .i1⟩
  | .hbm, ⟨40, _⟩ => ⟨S128x4x8x1, .f32⟩
  | .hbm, ⟨41, _⟩ => ⟨S128x4x1x8, .f32⟩
  | .hbm, ⟨42, _⟩ => ⟨S128x4x8x8, .f32⟩
  | .hbm, ⟨43, _⟩ => ⟨S128x4x8x8, .f32⟩
  | .hbm, ⟨44, _⟩ => ⟨S128x4x8x8, .f32⟩
  | .hbm, ⟨45, _⟩ => ⟨S128x4x1x8, .f32⟩
  | .hbm, ⟨46, _⟩ => ⟨S128x4x8x8, .f32⟩
  | .hbm, ⟨47, _⟩ => ⟨S128x4x8x8, .f32⟩
  | .hbm, ⟨48, _⟩ => ⟨S_, .f32⟩
  | .hbm, ⟨49, _⟩ => ⟨S_, .f32⟩
  | .hbm, ⟨50, _⟩ => ⟨S128x4x8x8, .i1⟩
  | .hbm, ⟨51, _⟩ => ⟨S128x4x8x8, .f32⟩
  | .hbm, ⟨52, _⟩ => ⟨S128x4x8x8, .f32⟩
  | .hbm, ⟨53, _⟩ => ⟨S128x4x8, .f32⟩
  | .hbm, ⟨54, _⟩ => ⟨S_, .f32⟩
  | .hbm, ⟨55, _⟩ => ⟨S128x4x8, .f32⟩
  | .hbm, ⟨56, _⟩ => ⟨S128x4x8, .f32⟩
  | .hbm, ⟨57, _⟩ => ⟨S128x4x8x1, .f32⟩
  | .hbm, ⟨58, _⟩ => ⟨S128x4x8x8, .f32⟩
  | .hbm, ⟨59, _⟩ => ⟨S128x4x8x8, .f32⟩
  | .hbm, ⟨60, _⟩ => ⟨S128x4x8x8, .f32⟩
  | .hbm, ⟨61, _⟩ => ⟨S128x4x8, .f32⟩
  | .hbm, ⟨62, _⟩ => ⟨S128x4x8, .f32⟩
  | .hbm, ⟨63, _⟩ => ⟨S128x4x8x8, .f32⟩
  | .hbm, ⟨64, _⟩ => ⟨S128x4x8x8, .f32⟩
  | .hbm, ⟨65, _⟩ => ⟨S128x4x8x512, .f32⟩
  | .hbm, ⟨66, _⟩ => ⟨S_, .f32⟩
  | .hbm, ⟨67, _⟩ => ⟨S128x4x8, .f32⟩
  | .hbm, ⟨68, _⟩ => ⟨S128x8x4, .f32⟩
  | .hbm, ⟨69, _⟩ => ⟨S1024x4, .f32⟩
  | .hbm, ⟨70, _⟩ => ⟨S128x8x4, .f32⟩
  | .hbm, ⟨71, _⟩ => ⟨S1024x4, .f32⟩
  | .hbm, ⟨72, _⟩ => ⟨S128x8x4, .f32⟩
  | .hbm, ⟨73, _⟩ => ⟨S1024x4, .f32⟩
  | .hbm, ⟨74, _⟩ => ⟨S128x8x4x512, .f32⟩
  | .hbm, ⟨75, _⟩ => ⟨S1024x2048, .f32⟩
  | .hbm, ⟨76, _⟩ => ⟨S_, .f32⟩
  | .hbm, ⟨77, _⟩ => ⟨S1024x116, .f32⟩
  | .hbm, ⟨78, _⟩ => ⟨S1024x128, .f32⟩
  | _, _ => ⟨S1024x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c : Ref sig .tc := ⟨.hbm, 29, rfl⟩
abbrev main_v25 : Ref sig .tc := ⟨.hbm, 30, rfl⟩
abbrev main_call0_v0 : Ref sig .tc := ⟨.hbm, 31, rfl⟩
abbrev main_call0_c : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_0 : Ref sig .tc := ⟨.hbm, 37, rfl⟩
abbrev main_call0_v5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v35 : Ref sig .tc := ⟨.hbm, 52, rfl⟩
abbrev main_v36 : Ref sig .tc := ⟨.hbm, 53, rfl⟩
abbrev main_cst_1 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_2 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_3 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Mls.lean ====
abbrev S8192x12288 : Shape := ⟨2, ![8192, 12288]⟩
abbrev S8192x128 : Shape := ⟨2, ![8192, 128]⟩
abbrev S8x8192 : Shape := ⟨2, ![8, 8192]⟩
abbrev S8192x2048 : Shape := ⟨2, ![8192, 2048]⟩
abbrev S4x4x512x512 : Shape := ⟨4, ![4, 4, 512, 512]⟩
abbrev S4x4x512 : Shape := ⟨3, ![4, 4, 512]⟩
abbrev S512x2048 : Shape := ⟨2, ![512, 2048]⟩
abbrev S512x128 : Shape := ⟨2, ![512, 128]⟩
abbrev S8x512 : Shape := ⟨2, ![8, 512]⟩
abbrev S1x4x512x512 : Shape := ⟨4, ![1, 4, 512, 512]⟩
abbrev S1x4x512 : Shape := ⟨3, ![1, 4, 512]⟩
abbrev S8x128 : Shape := ⟨2, ![8, 128]⟩
abbrev S512x512 : Shape := ⟨2, ![512, 512]⟩
abbrev S512x1 : Shape := ⟨2, ![512, 1]⟩
abbrev S1x512 : Shape := ⟨2, ![1, 512]⟩
abbrev S1x1 : Shape := ⟨2, ![1, 1]⟩
abbrev S512 : Shape := ⟨1, ![512]⟩
abbrev S1x128 : Shape := ⟨2, ![1, 128]⟩
abbrev S1x1x512x512 : Shape := ⟨4, ![1, 1, 512, 512]⟩
abbrev S1x1x512 : Shape := ⟨3, ![1, 1, 512]⟩

abbrev nBuf : Space → Nat
  | .hbm => 7
  | .vmem => 19
  | .smem => 0
  | _ => 0

abbrev bufTy : (tb : Table) → Fin (tcTables nBuf tb) → BufTy
  | .hbm, ⟨0, _⟩ => ⟨S8192x12288, .f32⟩
  | .hbm, ⟨1, _⟩ => ⟨S8192x128, .f32⟩
  | .hbm, ⟨2, _⟩ => ⟨S8x8192, .f32⟩
  | .hbm, ⟨3, _⟩ => ⟨S8192x2048, .f32⟩
  | .hbm, ⟨4, _⟩ => ⟨S4x4x512x512, .f32⟩
  | .hbm, ⟨5, _⟩ => ⟨S4x4x512, .f32⟩
  | .hbm, ⟨6, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x128, .f32⟩
  | .local _ .vmem, ⟨7, _⟩ => ⟨S512x128, .f32⟩
  | .local _ .vmem, ⟨8, _⟩ => ⟨S8x512, .f32⟩
  | .local _ .vmem, ⟨9, _⟩ => ⟨S8x512, .f32⟩
  | .local _ .vmem, ⟨10, _⟩ => ⟨S512x2048, .f32⟩
  | .local _ .vmem, ⟨11, _⟩ => ⟨S512x2048, .f32⟩
  | .local _ .vmem, ⟨12, _⟩ => ⟨S1x4x512x512, .f32⟩
  | .local _ .vmem, ⟨13, _⟩ => ⟨S1x4x512x512, .f32⟩
  | .local _ .vmem, ⟨14, _⟩ => ⟨S1x4x512, .f32⟩
  | .local _ .vmem, ⟨15, _⟩ => ⟨S1x4x512, .f32⟩
  | .local _ .vmem, ⟨16, _⟩ => ⟨S512x128, .f32⟩
  | .local _ .vmem, ⟨17, _⟩ => ⟨S512x128, .f32⟩
  | .local _ .vmem, ⟨18, _⟩ => ⟨S8x128, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c3_i32 : BitVec 32 := 3#32
  let c0_i32 : BitVec 32 := 0#32
  ![v1.toNat, c3_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== RefMlsIdeal.lean ====
abbrev S8192x12288 : Shape := ⟨2, ![8192, 12288]⟩
abbrev S8192x128 : Shape := ⟨2, ![8192, 128]⟩
abbrev S8x8192 : Shape := ⟨2, ![8, 8192]⟩
abbrev S8192x2048 : Shape := ⟨2, ![8192, 2048]⟩
abbrev S4x2048x4x512 : Shape := ⟨4, ![4, 2048, 4, 512]⟩
abbrev S_ : Shape := ⟨0, ![]⟩
abbrev S4x4x512x128 : Shape := ⟨4, ![4, 4, 512, 128]⟩
abbrev S4x4x512x4 : Shape := ⟨4, ![4, 4, 512, 4]⟩
abbrev S4x4x1x4 : Shape := ⟨4, ![4, 4, 1, 4]⟩
abbrev S4x4x4 : Shape := ⟨3, ![4, 4, 4]⟩
abbrev S4 : Shape := ⟨1, ![4]⟩
abbrev S1x4 : Shape := ⟨2, ![1, 4]⟩
abbrev S4x1 : Shape := ⟨2, ![4, 1]⟩
abbrev S4x4 : Shape := ⟨2, ![4, 4]⟩
abbrev S1x4x4x1 : Shape := ⟨4, ![1, 4, 4, 1]⟩
abbrev S4x1x4x4 : Shape := ⟨4, ![4, 1, 4, 4]⟩
abbrev S4x4x4x4 : Shape := ⟨4, ![4, 4, 4, 4]⟩
abbrev S4x2048x4 : Shape := ⟨3, ![4, 2048, 4]⟩
abbrev S4x8192 : Shape := ⟨2, ![4, 8192]⟩
abbrev S4x4x4x512 : Shape := ⟨4, ![4, 4, 4, 512]⟩
abbrev S4x4x4x1 : Shape := ⟨4, ![4, 4, 4, 1]⟩
abbrev S4x4x2048 : Shape := ⟨3, ![4, 4, 2048]⟩
abbrev S8192x4 : Shape := ⟨2, ![8192, 4]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x4x2048x1 : Shape := ⟨4, ![4, 4, 2048, 1]⟩
abbrev S4x4x1x2048 : Shape := ⟨4, ![4, 4, 1, 2048]⟩
abbrev S4x4x2048x2048 : Shape := ⟨4, ![4, 4, 2048, 2048]⟩
abbrev S4x1x4 : Shape := ⟨3, ![4, 1, 4]⟩
abbrev S4x2048x4x1 : Shape := ⟨4, ![4, 2048, 4, 1]⟩
abbrev S4x4x512x512 : Shape := ⟨4, ![4, 4, 512, 512]⟩
abbrev S4x4x512 : Shape := ⟨3, ![4, 4, 512]⟩
abbrev S8192x124 : Shape := ⟨2, ![8192, 124]⟩

abbrev nBuf : Space → Nat
  | .hbm => 92
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S8192x128, .f32⟩
  | .hbm, ⟨2, _⟩ => ⟨S8x8192, .f32⟩
  | .hbm, ⟨3, _⟩ => ⟨S8192x2048, .f32⟩
  | .hbm, ⟨4, _⟩ => ⟨S4x2048x4x512, .f32⟩
  | .hbm, ⟨5, _⟩ => ⟨S8192x2048, .f32⟩
  | .hbm, ⟨6, _⟩ => ⟨S4x2048x4x512, .f32⟩
  | .hbm, ⟨7, _⟩ => ⟨S_, .f32⟩
  | .hbm, ⟨8, _⟩ => ⟨S4x2048x4x512, .f32⟩
  | .hbm, ⟨9, _⟩ => ⟨S4x2048x4x512, .f32⟩
  | .hbm, ⟨10, _⟩ => ⟨S4x4x512x128, .f32⟩
  | .hbm, ⟨11, _⟩ => ⟨S4x4x512x4, .f32⟩
  | .hbm, ⟨12, _⟩ => ⟨S4x4x1x4, .f32⟩
  | .hbm, ⟨13, _⟩ => ⟨S4x4x4, .f32⟩
  | .hbm, ⟨14, _⟩ => ⟨S4, .i32⟩
  | .hbm, ⟨15, _⟩ => ⟨S1x4, .i32⟩
  | .hbm, ⟨16, _⟩ => ⟨S4, .i32⟩
  | .hbm, ⟨17, _⟩ => ⟨S4x1, .i32⟩
  | .hbm, ⟨18, _⟩ => ⟨S4x4, .i32⟩
  | .hbm, ⟨19, _⟩ => ⟨S4x4, .i32⟩
  | .hbm, ⟨20, _⟩ => ⟨S4x4, .i1⟩
  | .hbm, ⟨21, _⟩ => ⟨S1x4x4x1, .i1⟩
  | .hbm, ⟨22, _⟩ => ⟨S4x1x4x4, .f32⟩
  | .hbm, ⟨23, _⟩ => ⟨S_, .f32⟩
  | .hbm, ⟨24, _⟩ => ⟨S_, .f32⟩
  | .hbm, ⟨25, _⟩ => ⟨S4x4x4x4, .i1⟩
  | .hbm, ⟨26, _⟩ => ⟨S4x4x4x4, .f32⟩
  | .hbm, ⟨27, _⟩ => ⟨S4x4x4x4, .f32⟩
  | .hbm, ⟨28, _⟩ => ⟨S4x4x4x4, .f32⟩
  | .hbm, ⟨29, _⟩ => ⟨S_, .f32⟩
  | .hbm, ⟨30, _⟩ => ⟨S4x4x4, .f32⟩
  | .hbm, ⟨31, _⟩ => ⟨S4x4x1x4, .f32⟩
  | .hbm, ⟨32, _⟩ => ⟨S4x4x512x4, .f32⟩
  | .hbm, ⟨33, _⟩ => ⟨S4x4x512x4, .f32⟩
  | .hbm, ⟨34, _⟩ => ⟨S4x2048x4, .f32⟩
  | .hbm, ⟨35, _⟩ => ⟨S4x8192, .f32⟩
  | .hbm, ⟨36, _⟩ => ⟨S4x4x4x512, .f32⟩
  | .hbm, ⟨37, _⟩ => ⟨S4x4x4, .f32⟩
  | .hbm, ⟨38, _⟩ => ⟨S4x4x4x1, .f32⟩
  | .hbm, ⟨39, _⟩ => ⟨S4x4x4x512, .f32⟩
  | .hbm, ⟨40, _⟩ => ⟨S4x4x4x512, .f32⟩
  | .hbm, ⟨41, _⟩ => ⟨S4x4x2048, .f32⟩
  | .hbm, ⟨42, _⟩ => ⟨S8192x4, .f32⟩
  | .hbm, ⟨43, _⟩ => ⟨S4x2048x4, .f32⟩
  | .hbm, ⟨44, _⟩ => ⟨S4x8192, .f32⟩
  | .hbm, ⟨45, _⟩ => ⟨S4x4x2048, .f32⟩
  | .hbm, ⟨46, _⟩ => ⟨S4x4x2048, .f32⟩
  | .hbm, ⟨47, _⟩ => ⟨S2048, .i32⟩
  | .hbm, ⟨48, _⟩ => ⟨S1x2048, .i32⟩
  | .hbm, ⟨49, _⟩ => ⟨S2048, .i32⟩
  | .hbm, ⟨50, _⟩ => ⟨S2048x1, .i32⟩
  | .hbm, ⟨51, _⟩ => ⟨S2048x2048, .i32⟩
  | .hbm, ⟨52, _⟩ => ⟨S2048x2048, .i32⟩
  | .hbm, ⟨53, _⟩ => ⟨S2048x2048, .i1⟩
  | .hbm, ⟨54, _⟩ => ⟨S4x4x2048x1, .f32⟩
  | .hbm, ⟨55, _⟩ => ⟨S4x4x1x2048, .f32⟩
  | .hbm, ⟨56, _⟩ => ⟨S4x4x2048x2048, .f32⟩
  | .hbm, ⟨57, _⟩ => ⟨S4x4x2048x2048, .f32⟩
  | .hbm, ⟨58, _⟩ => ⟨S4x4x2048x2048, .f32⟩
  | .hbm, ⟨59, _⟩ => ⟨S4x4x1x2048, .f32⟩
  | .hbm, ⟨60, _⟩ => ⟨S4x4x2048x2048, .f32⟩
  | .hbm, ⟨61, _⟩ => ⟨S4x4x2048x2048, .f32⟩
  | .hbm, ⟨62, _⟩ => ⟨S_, .f32⟩
  | .hbm, ⟨63, _⟩ => ⟨S_, .f32⟩
  | .hbm, ⟨64, _⟩ => ⟨S4x4x2048x2048, .i1⟩
  | .hbm, ⟨65, _⟩ => ⟨S4x4x2048x2048, .f32⟩
  | .hbm, ⟨66, _⟩ => ⟨S4x4x2048x2048, .f32⟩
  | .hbm, ⟨67, _⟩ => ⟨S_, .f32⟩
  | .hbm, ⟨68, _⟩ => ⟨S4x4x2048, .f32⟩
  | .hbm, ⟨69, _⟩ => ⟨S4x4x2048, .f32⟩
  | .hbm, ⟨70, _⟩ => ⟨S4x2048x4, .f32⟩
  | .hbm, ⟨71, _⟩ => ⟨S4x1x4, .f32⟩
  | .hbm, ⟨72, _⟩ => ⟨S4x2048x4, .f32⟩
  | .hbm, ⟨73, _⟩ => ⟨S4x2048x4, .f32⟩
  | .hbm, ⟨74, _⟩ => ⟨S4x2048x4, .f32⟩
  | .hbm, ⟨75, _⟩ => ⟨S4x1x4, .f32⟩
  | .hbm, ⟨76, _⟩ => ⟨S4x2048x4, .f32⟩
  | .hbm, ⟨77, _⟩ => ⟨S4x2048x4, .f32⟩
  | .hbm, ⟨78, _⟩ => ⟨S4x2048x4, .f32⟩
  | .hbm, ⟨79, _⟩ => ⟨S4x2048x4x1, .f32⟩
  | .hbm, ⟨80, _⟩ => ⟨S4x2048x4x512, .f32⟩
  | .hbm, ⟨81, _⟩ => ⟨S4x2048x4x512, .f32⟩
  | .hbm, ⟨82, _⟩ => ⟨S4x4x512x512, .f32⟩
  | .hbm, ⟨83, _⟩ => ⟨S4x2048x4x1, .f32⟩
  | .hbm, ⟨84, _⟩ => ⟨S4x2048x4x512, .f32⟩
  | .hbm, ⟨85, _⟩ => ⟨S4x2048x4x512, .f32⟩
  | .hbm, ⟨86, _⟩ => ⟨S_, .f32⟩
  | .hbm, ⟨87, _⟩ => ⟨S4x4x512, .f32⟩
  | .hbm, ⟨88, _⟩ => ⟨S8192x4, .f32⟩
  | .hbm, ⟨89, _⟩ => ⟨S_, .f32⟩
  | .hbm, ⟨90, _⟩ => ⟨S8192x124, .f32⟩
  | .hbm, ⟨91, _⟩ => ⟨S8192x128, .f32⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_2 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v52 : Ref sig .tc := ⟨.hbm, 66, rfl⟩
abbrev main_cst_3 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_4 : Ref sig .tc := ⟨.hbm, 86, rfl⟩
abbrev main_v71 : Ref sig .tc := ⟨.hbm, 87, rfl⟩
abbrev main_v72 : Ref sig .tc := ⟨.hbm, 88, rfl⟩
abbrev main_cst_5 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== Pool.lean ====
abbrev S8192x12288 : Shape := ⟨2, ![8192, 12288]⟩
abbrev S4x256x256 : Shape := ⟨3, ![4, 256, 256]⟩
abbrev S1x1024 : Shape := ⟨2, ![1, 1024]⟩
abbrev S_ : Shape := ⟨0, ![]⟩
abbrev S4x15x1024 : Shape := ⟨3, ![4, 15, 1024]⟩
abbrev S8192x1024 : Shape := ⟨2, ![8192, 1024]⟩
abbrev S512x1024 : Shape := ⟨2, ![512, 1024]⟩
abbrev S1x15x1024 : Shape := ⟨3, ![1, 15, 1024]⟩
abbrev S528x1024 : Shape := ⟨2, ![528, 1024]⟩
abbrev S15x1024 : Shape := ⟨2, ![15, 1024]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 8
  | .vmem => 14
  | .smem => 0
  | _ => 0

abbrev bufTy : (tb : Table) → Fin (tcTables nBuf tb) → BufTy
  | .hbm, ⟨0, _⟩ => ⟨S8192x12288, .f32⟩
  | .hbm, ⟨1, _⟩ => ⟨S4x256x256, .f32⟩
  | .hbm, ⟨2, _⟩ => ⟨S1x1024, .f32⟩
  | .hbm, ⟨3, _⟩ => ⟨S_, .f32⟩
  | .hbm, ⟨4, _⟩ => ⟨S4x15x1024, .f32⟩
  | .hbm, ⟨5, _⟩ => ⟨S4x256x256, .bf16⟩
  | .hbm, ⟨6, _⟩ => ⟨S8192x1024, .bf16⟩
  | .hbm, ⟨7, _⟩ => ⟨S4x15x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x15x1024, .f32⟩
  | .local _ .vmem, ⟨5, _⟩ => ⟨S1x15x1024, .f32⟩
  | .local _ .vmem, ⟨6, _⟩ => ⟨S4x256x256, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S1x15x1024, .f32⟩
  | .local _ .vmem, ⟨11, _⟩ => ⟨S1x15x1024, .f32⟩
  | .local _ .vmem, ⟨12, _⟩ => ⟨S528x1024, .f32⟩
  | .local _ .vmem, ⟨13, _⟩ => ⟨S512x1024, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let c0_i32 : BitVec 32 := 0#32
  ![v1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x15x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x15x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefPoolIdeal.lean ====
abbrev S8192x12288 : Shape := ⟨2, ![8192, 12288]⟩
abbrev S4x256x256 : Shape := ⟨3, ![4, 256, 256]⟩
abbrev S1x1024 : Shape := ⟨2, ![1, 1024]⟩
abbrev S8192x1024 : Shape := ⟨2, ![8192, 1024]⟩
abbrev S4x2048x1024 : Shape := ⟨3, ![4, 2048, 1024]⟩
abbrev S_ : Shape := ⟨0, ![]⟩
abbrev S4x15x1024 : Shape := ⟨3, ![4, 15, 1024]⟩
abbrev S4x2063x1024 : Shape := ⟨3, ![4, 2063, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S4x256x256, .f32⟩
  | .hbm, ⟨2, _⟩ => ⟨S1x1024, .f32⟩
  | .hbm, ⟨3, _⟩ => ⟨S8192x1024, .f32⟩
  | .hbm, ⟨4, _⟩ => ⟨S4x2048x1024, .f32⟩
  | .hbm, ⟨5, _⟩ => ⟨S_, .f32⟩
  | .hbm, ⟨6, _⟩ => ⟨S4x15x1024, .f32⟩
  | .hbm, ⟨7, _⟩ => ⟨S4x2063x1024, .f32⟩
  | .hbm, ⟨8, _⟩ => ⟨S4x15x1024, .f32⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== PoolNew.lean ====
abbrev S1024x12288 : Shape := ⟨2, ![1024, 12288]⟩
abbrev S1x128x15x1024 : Shape := ⟨4, ![1, 128, 15, 1024]⟩
abbrev S4x256x256 : Shape := ⟨3, ![4, 256, 256]⟩
abbrev S1x1024 : Shape := ⟨2, ![1, 1024]⟩
abbrev S128x15x1024 : Shape := ⟨3, ![128, 15, 1024]⟩
abbrev S1024x1024 : Shape := ⟨2, ![1024, 1024]⟩
abbrev S256x1024 : Shape := ⟨2, ![256, 1024]⟩
abbrev S32x15x1024 : Shape := ⟨3, ![32, 15, 1024]⟩
abbrev S24x1024 : Shape := ⟨2, ![24, 1024]⟩
abbrev S1x15x1024 : Shape := ⟨3, ![1, 15, 1024]⟩
abbrev S15x1024 : Shape := ⟨2, ![15, 1024]⟩
abbrev S8x1024 : Shape := ⟨2, ![8, 1024]⟩
abbrev S8x1 : Shape := ⟨2, ![8, 1]⟩
abbrev S8x256 : Shape := ⟨2, ![8, 256]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 8
  | .vmem => 14
  | .smem => 0
  | _ => 0

abbrev bufTy : (tb : Table) → Fin (tcTables nBuf tb) → BufTy
  | .hbm, ⟨0, _⟩ => ⟨S1024x12288, .f32⟩
  | .hbm, ⟨1, _⟩ => ⟨S1x128x15x1024, .f32⟩
  | .hbm, ⟨2, _⟩ => ⟨S4x256x256, .f32⟩
  | .hbm, ⟨3, _⟩ => ⟨S1x1024, .f32⟩
  | .hbm, ⟨4, _⟩ => ⟨S128x15x1024, .f32⟩
  | .hbm, ⟨5, _⟩ => ⟨S4x256x256, .bf16⟩
  | .hbm, ⟨6, _⟩ => ⟨S1024x1024, .bf16⟩
  | .hbm, ⟨7, _⟩ => ⟨S128x15x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S32x15x1024, .f32⟩
  | .local _ .vmem, ⟨5, _⟩ => ⟨S32x15x1024, .f32⟩
  | .local _ .vmem, ⟨6, _⟩ => ⟨S4x256x256, .bf16⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S32x15x1024, .f32⟩
  | .local _ .vmem, ⟨11, _⟩ => ⟨S32x15x1024, .f32⟩
  | .local _ .vmem, ⟨12, _⟩ => ⟨S24x1024, .f32⟩
  | .local _ .vmem, ⟨13, _⟩ => ⟨S256x1024, .f32⟩
  | _, _ => ⟨S1024x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 1], ![false, false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c8_i32 : BitVec 32 := 8#32
  let v81 : BitVec 32 := Scalar.muli arg11 c8_i32
  v81
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v83 : Index := Scalar.indexCast arg11
  let c0_53 : Index := 0#32
  let c0_54 : Index := 0#32
  ![v83.toNat, 0, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c8_i32 : BitVec 32 := 8#32
  let v81 : BitVec 32 := Scalar.muli arg11 c8_i32
  let v82 : BitVec 32 := v81
  let v89 : Index := Scalar.indexCast v82
  let c0_57 : Index := 0#32
  ![v89.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c8_i32 : BitVec 32 := 8#32
  let v81 : BitVec 32 := Scalar.muli arg11 c8_i32
  let v82 : BitVec 32 := v81
  let v113 : Index := Scalar.indexCast v82
  let c0_67 : Index := 0#32
  ![v113.toNat, 0]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c8_i32 : BitVec 32 := 8#32
  let v81 : BitVec 32 := Scalar.muli arg11 c8_i32
  let v82 : BitVec 32 := v81
  let v135 : Index := Scalar.indexCast v82
  let c256_78 : Index := 256#32
  ![v135.toNat, 256]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c8_i32 : BitVec 32 := 8#32
  let v81 : BitVec 32 := Scalar.muli arg11 c8_i32
  let v82 : BitVec 32 := v81
  let v165 : Index := Scalar.indexCast v82
  let c512_96 : Index := 512#32
  ![v165.toNat, 512]
def k0_off6 (k0_t1 : Fin k0_t1_loop.trips) : Fin 2 → Nat :=
  let c0_i32 : BitVec 32 := 0#32
  let c1_i32 : BitVec 32 := 1#32
  let arg11 : BitVec 32 := Scf.iv c0_i32 c1_i32 k0_t1
  let c8_i32 : BitVec 32 := 8#32
  let v81 : BitVec 32 := Scalar.muli arg11 c8_i32
  let v82 : BitVec 32 := v81
  let v211 : Index := Scalar.indexCast v82
  let c768_128 : Index := 768#32
  ![v211.toNat, 768]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x15x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S32x15x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== RefPoolNewIdeal.lean ====
abbrev S1024x12288 : Shape := ⟨2, ![1024, 12288]⟩
abbrev S1x128x15x1024 : Shape := ⟨4, ![1, 128, 15, 1024]⟩
abbrev S4x256x256 : Shape := ⟨3, ![4, 256, 256]⟩
abbrev S1x1024 : Shape := ⟨2, ![1, 1024]⟩
abbrev S128x15x1024 : Shape := ⟨3, ![128, 15, 1024]⟩
abbrev S1024x1024 : Shape := ⟨2, ![1024, 1024]⟩
abbrev S128x8x1024 : Shape := ⟨3, ![128, 8, 1024]⟩
abbrev S128x23x1024 : Shape := ⟨3, ![128, 23, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1024x12288, .f32⟩
  | .hbm, ⟨1, _⟩ => ⟨S1x128x15x1024, .f32⟩
  | .hbm, ⟨2, _⟩ => ⟨S4x256x256, .f32⟩
  | .hbm, ⟨3, _⟩ => ⟨S1x1024, .f32⟩
  | .hbm, ⟨4, _⟩ => ⟨S128x15x1024, .f32⟩
  | .hbm, ⟨5, _⟩ => ⟨S1024x1024, .f32⟩
  | .hbm, ⟨6, _⟩ => ⟨S128x8x1024, .f32⟩
  | .hbm, ⟨7, _⟩ => ⟨S128x23x1024, .f32⟩
  | .hbm, ⟨8, _⟩ => ⟨S128x15x1024, .f32⟩
  | _, _ => ⟨S1024x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.RefInA.lean ====
/- The projection onto columns 0 to 12287 as the reference computes it, read at an index. -/
module

public import proofs.«01_k».proof.Proof.Gen.RefInAIdeal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.RefInAIdeal.Proj
open Cert.RefInAIdeal Cert.RefInAIdeal.Gen

/-- The projection, read at row `r` and column `n`: the row of `h` against the column of the weight. -/
def proj (h : FVec Ideal S1024x2048 .bf16) (w : FVec Ideal S1x2048x20488 .f32) : FVec Ideal S1024x12288 .f32 :=
  fun j => ∑ k : Fin 2048, h (ix2 (j 0) k) * w (ix3 0 k ⟨(j 1).val, (show (j 1).val < 12288 from (j 1).isLt).trans (by decide)⟩)

/-- The weight's columns as rows. -/
def rows (w : FVec Ideal S1x2048x20488 .f32) : FVec Ideal S12288x2048 .bf16 :=
  fun j => w (ix3 0 (j 1) ⟨(j 0).val, (show (j 0).val < 12288 from (j 0).isLt).trans (by decide)⟩)

/-- The reference's product, cut to these columns, is the projection. -/
theorem ref_proj (h : FVec Ideal S1024x2048 .bf16) (w : FVec Ideal S1x2048x20488 .f32) :
    extractStridedSlice S1024x12288 ![0, 0] (Host.dotGeneral (φ₁ := .f32) (φ₂ := .f32) dot_S1024x2048_S2048x20488_S1024x20488_1_0_0_1_n_n none
      (extf .f32 h bitsLt_bf16_f32) (shapeCast _ w shapeCasts_S1x2048x20488_S2048x20488)) slices_S1024x20488_S1024x12288_0_0
      = proj h w := by
  funext j
  pointwise [proj]

/-- The reference's transposed columns are the weight's rows. -/
theorem ref_rows (w : FVec Ideal S1x2048x20488 .f32) :
    truncf .bf16 (transpose S12288x2048 [1, 0] (extractStridedSlice S2048x12288 ![0, 0]
      (shapeCast _ w shapeCasts_S1x2048x20488_S2048x20488) slices_S2048x20488_S2048x12288_0_0)
      transposes_S2048x12288_S12288x2048_1_0) bitsLt_bf16_f32 = rows w := by
  funext j
  pointwise [rows]

end Cert.RefInAIdeal.Proj
end
-- ==== Proof.InAValue.lean ====
/- What the element-windowed projection call leaves in its two result arrays, columns 0 to 12287. -/
module

public import proofs.«01_k».proof.Proof.Gen.InAIdeal.Value
public import proofs.«01_k».proof.Proof.RefInA
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InAIdeal.Proj
open Cert.InAIdeal Cert.InAIdeal.Gen Cert.RefInAIdeal.Proj

variable (m : (ℓ : Loc nD τ sig) → Buf (Elt Ideal) ℓ)

/-- Where an element of the weight's window lies in the weight: the window's offset is its index itself, counted in
elements, not in blocks. -/
theorem emb1 (t : Fin cfg0.N) (y : S1024x2048.Idx) (a : Fin 2) :
    (((View.whole main_v1).slice (win0_1.rect t)).emb y a).val = win0_1.index t a + (y a).val :=
  ValueKit.view_emb_slice_whole_unit_val main_v1 _ _ _ y a

theorem idx : ∀ t : Fin cfg0.N, win0_0.index t = ![0, 0] ∧ win0_1.index t = ![t.val * 1024, 0]
    ∧ win0_2.index t = ![0, t.val] ∧ win0_3.index t = ![t.val, 0] :=
  (by decide +kernel : ∀ t : Fin grid0.N, _)

theorem final2 (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, k0_pay2, proj]
  change @Eq EReal _ _
  refine Finset.sum_congr rfl fun k _ => ?_
  congr 1
  · blk_point [iblk, V, idx t]
  · blk_point [iblk, V, idx t]
    all_goals (rw [emb1, (idx t).2.1]; simp)

theorem final3 (c : Dev nD) : (dats m 0 c).arrAt 3 (cfgs 0).N
    = rows (m ((c : Thread nD τ).loc main_arg1)) := by
  refine (dats m 0 c).arrAt_eq_of_covers 3 _ (by decide +kernel) fun t _ y => ?_
  blk_simp
  rw [after0_3]; unfold outsAt0; frame_out
  pointwise [k0_pay1, rows]
  blk_point [iblk, V, idx t]
  all_goals (rw [emb1, (idx t).2.1]; simp)

end Cert.InAIdeal.Proj
end
-- ==== Proof.RefInB.lean ====
/- The projection onto columns 12296 to 20487 as the reference computes it, read at an index. -/
module

public import proofs.«01_k».proof.Proof.Gen.RefInBIdeal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.RefInBIdeal.Proj
open Cert.RefInBIdeal Cert.RefInBIdeal.Gen

/-- The projection, read at row `r` and column `n`: the row of `h` against column `12296 + n` of the weight. -/
def proj (h : FVec Ideal S1024x2048 .bf16) (w : FVec Ideal S1x2048x20488 .f32) : FVec Ideal S1024x8192 .f32 :=
  fun j => ∑ k : Fin 2048, h (ix2 (j 0) k) * w (ix3 0 k ⟨12296 + (j 1).val, by have : (j 1).val < 8192 := (j 1).isLt; omega⟩)

/-- The weight's columns as rows. -/
def rows (w : FVec Ideal S1x2048x20488 .f32) : FVec Ideal S8192x2048 .bf16 :=
  fun j => w (ix3 0 (j 1) ⟨12296 + (j 0).val, by have : (j 0).val < 8192 := (j 0).isLt; omega⟩)

/-- The reference's product, cut to these columns, is the projection. -/
theorem ref_proj (h : FVec Ideal S1024x2048 .bf16) (w : FVec Ideal S1x2048x20488 .f32) :
    extractStridedSlice S1024x8192 ![0, 12296] (Host.dotGeneral (φ₁ := .f32) (φ₂ := .f32) dot_S1024x2048_S2048x20488_S1024x20488_1_0_0_1_n_n none
      (extf .f32 h bitsLt_bf16_f32) (shapeCast _ w shapeCasts_S1x2048x20488_S2048x20488)) slices_S1024x20488_S1024x8192_0_12296
      = proj h w := by
  funext j
  pointwise [proj]

/-- The reference's transposed columns are the weight's rows. -/
theorem ref_rows (w : FVec Ideal S1x2048x20488 .f32) :
    truncf .bf16 (transpose S8192x2048 [1, 0] (extractStridedSlice S2048x8192 ![0, 12296]
      (shapeCast _ w shapeCasts_S1x2048x20488_S2048x20488) slices_S2048x20488_S2048x8192_0_12296)
      transposes_S2048x8192_S8192x2048_1_0) bitsLt_bf16_f32 = rows w := by
  funext j
  pointwise [rows]

end Cert.RefInBIdeal.Proj
end
-- ==== Proof.InBValue.lean ====
/- What the element-windowed projection call leaves in its two result arrays, columns 12296 to 20487. -/
module

public import proofs.«01_k».proof.Proof.Gen.InBIdeal.Value
public import proofs.«01_k».proof.Proof.RefInB
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InBIdeal.Proj
open Cert.InBIdeal Cert.InBIdeal.Gen Cert.RefInBIdeal.Proj

variable (m : (ℓ : Loc nD τ sig) → Buf (Elt Ideal) ℓ)

/-- Where an element of the weight's window lies in the weight: the window's offset is its index itself, counted in
elements, not in blocks. -/
theorem emb1 (t : Fin cfg0.N) (y : S1024x2048.Idx) (a : Fin 2) :
    (((View.whole main_v1).slice (win0_1.rect t)).emb y a).val = win0_1.index t a + (y a).val :=
  ValueKit.view_emb_slice_whole_unit_val main_v1 _ _ _ y a

theorem idx : ∀ t : Fin cfg0.N, win0_0.index t = ![0, 0] ∧ win0_1.index t = ![12296 + t.val * 1024, 0]
    ∧ win0_2.index t = ![0, t.val] ∧ win0_3.index t = ![t.val, 0] :=
  (by decide +kernel : ∀ t : Fin grid0.N, _)

theorem final2 (c : Dev nD) : (dats m 0 c).arrAt 2 (cfgs 0).N
    = proj (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  pointwise [k0_pay1, k0_pay2, proj]
  change @Eq EReal _ _
  refine Finset.sum_congr rfl fun k _ => ?_
  congr 1
  · blk_point [iblk, V, idx t]
  · blk_point [iblk, V, idx t]
    all_goals (rw [emb1, (idx t).2.1]; simp; try omega)

theorem final3 (c : Dev nD) : (dats m 0 c).arrAt 3 (cfgs 0).N
    = rows (m ((c : Thread nD τ).loc main_arg1)) := by
  refine (dats m 0 c).arrAt_eq_of_covers 3 _ (by decide +kernel) fun t _ y => ?_
  blk_simp
  rw [after0_3]; unfold outsAt0; frame_out
  pointwise [k0_pay1, rows]
  blk_point [iblk, V, idx t]
  all_goals (rw [emb1, (idx t).2.1]; simp; try omega)

end Cert.InBIdeal.Proj
end
-- ==== Proof.RefMemKv.lean ====
/- The memory's keys and values as the reference computes them. -/
module

public import proofs.«01_k».proof.Proof.Gen.RefMemKvIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.RefMemKvIdeal.Memory
open Cert.RefMemKvIdeal Cert.RefMemKvIdeal.Gen

/-- Keys and values of every memory token: the token's row, scaled by its root mean square and by the gain, times the
weight. -/
def kv (x : FVec Ideal S4x256x2048 .f32) (g : FVec Ideal S1x2048 .f32) (w : FVec Ideal S1x2048x2048 .f32) :
    FVec Ideal S4x256x2048 .f32 :=
  Host.dotGeneral (φ₁ := .f32) (φ₂ := .f32) dot_S4x256x2048_S2048x2048_S4x256x2048_2_0_01_1_n_n none
    (mulf (mulf x (broadcastInDim S4x256x2048 ![0, 1, 2] bcast_S4x256x1_S4x256x2048_0_1_2 (Host.rsqrt (addf
      (Host.divf (broadcastInDim S4x256x1 ![0, 1] bcast_S4x256_S4x256x1_0_1 (Host.reduceAdd (mulf x x)
        (constant S_ .f32 0x00000000#32) reducesTo_S4x256x2048_S4x256_d2 h_S_))
        (broadcastInDim S4x256x1 ![] bcast_S_S4x256x1 (constant S_ .f32 0x45000000#32)))
      (broadcastInDim S4x256x1 ![] bcast_S_S4x256x1 (constant S_ .f32 0x358637BD#32))))))
      (broadcastInDim S4x256x2048 ![0, 1, 2] bcast_S1x1x2048_S4x256x2048_0_1_2
        (broadcastInDim S1x1x2048 ![2] bcast_S2048_S1x1x2048_2 (shapeCast _ g shapeCasts_S1x2048_S2048))))
    (shapeCast _ w shapeCasts_S1x2048x2048_S2048x2048)

/-- The keys: the first half of every row. -/
def keys (x : FVec Ideal S4x256x2048 .f32) (g : FVec Ideal S1x2048 .f32) (w : FVec Ideal S1x2048x2048 .f32) :
    FVec Ideal S1024x1024 .f32 :=
  shapeCast _ (extractStridedSlice S4x256x1024 ![0, 0, 0] (kv x g w) slices_S4x256x2048_S4x256x1024_0_0_0) shapeCasts_S4x256x1024_S1024x1024

/-- The values: the second half. -/
def vals (x : FVec Ideal S4x256x2048 .f32) (g : FVec Ideal S1x2048 .f32) (w : FVec Ideal S1x2048x2048 .f32) :
    FVec Ideal S1024x1024 .f32 :=
  shapeCast _ (extractStridedSlice S4x256x1024 ![0, 0, 1024] (kv x g w) slices_S4x256x2048_S4x256x1024_0_0_1024) shapeCasts_S4x256x1024_S1024x1024

/-- One entry: a token's row `x`, the gain `g`, one column `w` of the weight. -/
def entry (x g w : Fin 2048 → EReal) : EReal :=
  ∑ k, x k * Ideal.rsqrt (Ideal.div (∑ l, x l * x l) (Ideal.ofBits .f32 0x45000000#32) + Ideal.ofBits .f32 0x358637BD#32)
    * g k * w k

theorem keys_at (x : FVec Ideal S4x256x2048 .f32) (g : FVec Ideal S1x2048 .f32) (w : FVec Ideal S1x2048x2048 .f32)
    (j : S1024x1024.Idx) : keys x g w j = entry (fun k => x (ix3 ⟨(j 0).val / 256, by idx_bounds; omega⟩
      ⟨(j 0).val % 256, Nat.mod_lt _ (by decide)⟩ k)) (fun k => g (ix2 0 k))
      (fun k => w (ix3 0 k ⟨(j 1).val, (j 1).isLt.trans (by decide)⟩)) := by
  pointwise [keys, kv, entry]

theorem vals_at (x : FVec Ideal S4x256x2048 .f32) (g : FVec Ideal S1x2048 .f32) (w : FVec Ideal S1x2048x2048 .f32)
    (j : S1024x1024.Idx) : vals x g w j = entry (fun k => x (ix3 ⟨(j 0).val / 256, by idx_bounds; omega⟩
      ⟨(j 0).val % 256, Nat.mod_lt _ (by decide)⟩ k)) (fun k => g (ix2 0 k))
      (fun k => w (ix3 0 k ⟨1024 + (j 1).val, by idx_bounds; omega⟩)) := by
  pointwise [vals, kv, entry]

end Cert.RefMemKvIdeal.Memory
end
-- ==== Proof.MemKvValue.lean ====
/- What the call for the memory's keys and values leaves in its two result arrays. -/
module

public import proofs.«01_k».proof.Proof.Gen.MemKvIdeal.Value
public import proofs.«01_k».proof.Proof.RefMemKv
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MemKvIdeal.Memory
open Cert.MemKvIdeal Cert.MemKvIdeal.Gen Cert.RefMemKvIdeal.Memory

variable (m : (ℓ : Loc nD τ sig) → Buf (Elt Ideal) ℓ)

theorem idx : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, _)

/-- The body's product at an index. -/
theorem pay_at (x : FVec Ideal S256x2048 .f32) (g : FVec Ideal S1x2048 .f32) (w : FVec Ideal S2048x2048 .bf16)
    (y : S256x2048.Idx) : k0_pay1 (F := Ideal) x g w y = entry (fun k => x (ix2 (y 0) k)) (fun k => g (ix2 0 k)) (fun k => w (ix2 k (y 1))) := by
  pointwise [k0_pay1, entry]

/-- A window of the memory is one sequence's tokens. -/
theorem row (c : Dev nD) (t : Fin cfg0.N) (r : Fin 256) (k : Fin 2048) : iblk m c 0 t (ix2 r k)
    = m ((c : Thread nD τ).loc main_arg0) (ix3 (⟨t.val, t.isLt⟩ : Fin 4) r k) := by
  blk_simp [iblk, idx t]
  entry_read
  pointwise
  blk_ext [idx t]

theorem final3 (c : Dev nD) : (dats m 0 c).arrAt 3 (cfgs 0).N
    = keys (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, keys_at]; frame_out
  pointwise [k0_pay2]
  rw [pay_at]
  congr 1 <;> funext k
  · exact (row m c t _ k).trans (congrArg _ (by blk_ext [idx t]))
  · blk_point [iblk, V, idx t]
  · blk_point [iblk, V, idx t]

theorem final4 (c : Dev nD) : (dats m 0 c).arrAt 4 (cfgs 0).N
    = vals (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4, vals_at]; frame_out
  pointwise [k0_pay3]
  rw [pay_at]
  congr 1 <;> funext k
  · exact (row m c t _ k).trans (congrArg _ (by blk_ext [idx t]))
  · blk_point [iblk, V, idx t]
  · blk_point [iblk, V, idx t]

end Cert.MemKvIdeal.Memory
end
-- ==== Proof.Formulas.lean ====
/- The layer's formulas at one entry, over the rows and columns it reads, and the identities between two spellings of
   the same gate or quotient. -/
module

public import Idealize.ShloMosaic.Lib.Pipeline.ValueKit
public import Idealize.ShloMosaic.Lib.Pointwise
public import Idealize.ShloMosaic.Lib.Claim
public import Idealize.ShloMosaic.Lib.IdealHost

@[expose] public section

noncomputable section

open Idealize.ShloMosaic

namespace Layer

/-- The constant one. -/
abbrev one : EReal := Ideal.ofBits .f32 0x3F800000#32
/-- The constant one half. -/
abbrev half : EReal := Ideal.ofBits .f32 0x3F000000#32

/-- The logistic function, as the quotient. -/
def sg (x : EReal) : EReal := Ideal.div one (one + Ideal.exp (-x))

/-- `x` times its logistic function. -/
def swish (x : EReal) : EReal := x * sg x

theorem half_eq : half = ((1 / 2 : ℝ) : EReal) := by
  simp [half, Ideal.ofBits, Ideal.ieee, -EReal.coe_mul]; norm_num

theorem one_eq : one = 1 := Ideal.ofBits_one_f32

theorem sg_eq (x : EReal) : sg x = Ideal.logistic x := by
  rw [sg, one_eq]; rfl

/-- The logistic function written with the hyperbolic tangent of half the argument. -/
theorem sg_tanh (x : EReal) : half * Ideal.tanh (half * x) + half = sg x := by
  rw [sg_eq, half_eq]
  induction x using EReal.rec with
  | bot =>
    rw [EReal.coe_mul_bot_of_pos (by norm_num), Ideal.tanh_bot, Ideal.logistic_bot, mul_neg_one, ← EReal.coe_neg, ← EReal.coe_add]
    norm_num
  | top =>
    rw [EReal.coe_mul_top_of_pos (by norm_num), Ideal.tanh_top, Ideal.logistic_top]
    norm_cast; norm_num
  | coe r =>
    rw [← EReal.coe_mul, Ideal.tanh_coe, Ideal.logistic_coe, ← EReal.coe_mul, ← EReal.coe_add]
    congr 1
    have e : Real.exp (-r) = (Real.exp (1 / 2 * r))⁻¹ * (Real.exp (1 / 2 * r))⁻¹ := by
      rw [← Real.exp_neg, ← Real.exp_add]; congr 1; ring
    rw [Real.tanh_eq_sinh_div_cosh, Real.sinh_eq, Real.cosh_eq, e, Real.exp_neg]
    have h : Real.exp (1 / 2 * r) ≠ 0 := (Real.exp_pos _).ne'
    generalize Real.exp (1 / 2 * r) = E at *
    have h2 : E * E + 1 ≠ 0 := by nlinarith [mul_self_nonneg E]
    field_simp
    ring

/-! ## The gated sum of the branches and the output projection -/

/-- One entry of the gated sum: the three gates' entries, the pooling, mLSTM and attention rows, and one column of each
branch's weight; `o` and `z` gate the mLSTM row. -/
def merged (ga gb gc : EReal) (xa : Fin 1024 → EReal) (o hb z : Fin 2048 → EReal) (xc : Fin 1024 → EReal)
    (wa : Fin 1024 → EReal) (wb : Fin 2048 → EReal) (wc : Fin 1024 → EReal) : EReal :=
  sg ga * ∑ k, xa k * wa k + sg gb * ∑ k, sg (o k) * hb k * swish (z k) * wb k + sg gc * ∑ k, xc k * wc k

/-- One row through the output projection, normalised, scaled and added to the layer's input. -/
def outRow (x : EReal) (row : Fin 2048 → EReal) (w : Fin 2048 → Fin 2048 → EReal) (g : EReal) (j : Fin 2048) : EReal :=
  x + (∑ k, row k * w k j) * Ideal.rsqrt (Ideal.div (∑ l, (∑ k, row k * w k l) * ∑ k, row k * w k l)
    (Ideal.ofBits .f32 0x45000000#32) + Ideal.ofBits .f32 0x358637BD#32) * g

/-! ## The mLSTM's state at the end of the new tokens -/

/-- The scale of a key. -/
abbrev kscale : EReal := Ideal.ofBits .f32 0x3D3504F3#32

/-- One entry of the mLSTM's output: the part from the new tokens (`num`, `den`), the part from the state, weighted by
`iw`, and the stabiliser `mx`. -/
def hiddenRow (num iw den mx : EReal) (q c n : Fin 512 → EReal) : EReal :=
  Ideal.div (num + iw * ∑ k, q k * c k) (max (FloatOps.absf (F := Ideal) (φ := .f32) (den + iw * ∑ k, q k * n k)) (Ideal.exp (-mx)))

/-- The weight of one new token in the state. -/
def tokenWeight (bl b ig mn : EReal) : EReal := Ideal.exp (bl - b + ig - mn)

/-- The decay of the old state. -/
def decay (bl m0 mn : EReal) : EReal := Ideal.exp (bl + m0 - mn)

/-- One entry of the new matrix state. -/
def newC (d c0 : EReal) (w v k : Fin 8 → EReal) : EReal := d * c0 + ∑ s, w s * v s * (k s * kscale)

/-- One entry of the new normaliser state. -/
def newN (d n0 : EReal) (w k : Fin 8 → EReal) : EReal := d * n0 + ∑ s, w s * (k s * kscale)

/-! ## Attention over the memory -/

/-- One score. -/
def score {n : ℕ} (q k : Fin n → EReal) : EReal := (∑ d, q d * k d) * Ideal.ofBits .f32 0x3D800000#32

/-- One entry of the softmax-weighted sum of the values `v` under the scores `s`. -/
def attend {n : ℕ} (s v : Fin n → EReal) : EReal :=
  ∑ m, Ideal.div (Ideal.exp (s m - Finset.univ.sup s)) (∑ l, Ideal.exp (s l - Finset.univ.sup s)) * v m

end Layer
end
-- ==== Proof.SampleRun.lean ====
/- The run of the sampled tokens' four launches, with what every buffer ends holding. -/
module

public import proofs.«01_k».proof.Proof.Gen.SampleIdeal.Frame
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

namespace Cert.SampleIdeal.Run
open Cert.SampleIdeal Cert.SampleIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the regions ends at the fold of the host lines and the regions' write-backs. -/
theorem run_all : θ_run defs (onTc (τ := τ) (main (F := F))) ⟨m, fun _ => 0, ρ⟩ (fun r => ∀ c : Dev nD, ∀ b ∈ Pipeline.ucRefs τ sig,
      r.2.mem ((c : Thread nD τ).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.SampleIdeal.Run
end
-- ==== Proof.SampleTail.lean ====
/- The gated sum's and the output projection's bodies at one entry. -/
module

public import proofs.«01_k».proof.Proof.Gen.SampleIdeal.Skeleton
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.SampleIdeal.Tail
open Cert.SampleIdeal Cert.SampleIdeal.Gen

/-- The gated mLSTM row the merging body forms. -/
theorem gated_at (o hb z : FVec Ideal S256x2048 .f32) (y : S256x2048.Idx) :
    k2_pay3 (F := Ideal) o hb z y = sg (o y) * hb y * swish (z y) := by
  pointwise [k2_pay3]
  rw [swish, ← sg_tanh, ← sg_tanh]

/-- The merging body at an entry. -/
theorem merge_at (xa : FVec Ideal S256x1024 .bf16) (hb o z : FVec Ideal S256x2048 .f32) (xc : FVec Ideal S256x1024 .f32)
    (ga gb gc : FVec Ideal S256x2048 .f32) (wa wc : FVec Ideal S1024x2048 .bf16) (wb : FVec Ideal S2048x2048 .bf16)
    (y : S256x2048.Idx) :
    k2_pay1 (F := Ideal) (k2_pay2 (F := Ideal) xa wa ga) (k2_pay3 (F := Ideal) o hb z) wb gb xc wc gc y
      = merged (ga y) (gb y) (gc y) (fun k => xa (ix2 (y 0) k)) (fun k => o (ix2 (y 0) k)) (fun k => hb (ix2 (y 0) k))
          (fun k => z (ix2 (y 0) k)) (fun k => xc (ix2 (y 0) k)) (fun k => wa (ix2 k (y 1))) (fun k => wb (ix2 k (y 1)))
          (fun k => wc (ix2 k (y 1))) := by
  pointwise [k2_pay1, k2_pay2]
  simp only [gated_at, sg_tanh]
  rfl

/-- The output projection's body at an entry. -/
theorem out_at (row : FVec Ideal S512x2048 .bf16) (w : FVec Ideal S2048x2048 .bf16) (x : FVec Ideal S512x2048 .f32)
    (g : FVec Ideal S1x2048 .f32) (y : S512x2048.Idx) :
    k3_pay1 (F := Ideal) row w x g y
      = outRow (x y) (fun k => row (ix2 (y 0) k)) (fun k l => w (ix2 k l)) (g (ix2 0 (y 1))) (y 1) := by
  pointwise [k3_pay1, outRow]

end Cert.SampleIdeal.Tail
end
-- ==== Proof.SampleOut.lean ====
/- What the gated sum and the output projection leave. -/
module

public import proofs.«01_k».proof.Proof.SampleTail
public import proofs.«01_k».proof.Proof.Gen.SampleIdeal.Frame
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.SampleIdeal.Tail
open Cert.SampleIdeal Cert.SampleIdeal.Gen

theorem idx2 : ∀ t : Fin cfg2.N, win2_0.index t = ![t.val, 0] ∧ win2_1.index t = ![t.val, 0]
    ∧ win2_2.index t = ![t.val, 4] ∧ win2_3.index t = ![t.val, 5] ∧ win2_4.index t = ![t.val, 0]
    ∧ win2_5.index t = ![t.val, 1] ∧ win2_6.index t = ![t.val, 2] ∧ win2_7.index t = ![t.val, 3]
    ∧ win2_8.index t = ![0, 0] ∧ win2_9.index t = ![0, 0] ∧ win2_10.index t = ![0, 0] ∧ win2_11.index t = ![t.val, 0] :=
  (by decide +kernel : ∀ t : Fin grid2.N, _)

theorem idx3 : ∀ t : Fin cfg3.N, win3_0.index t = ![t.val, 0] ∧ win3_1.index t = ![t.val, 0]
    ∧ win3_2.index t = ![0, 0] ∧ win3_3.index t = ![0, 0] ∧ win3_4.index t = ![t.val, 0] :=
  (by decide +kernel : ∀ t : Fin grid3.N, _)

/-- The gated sum of the branches, entry by entry. -/
def gatedSum (A : FVec Ideal S1024x12288 .f32) (B : FVec Ideal S1024x8192 .f32) (xa : FVec Ideal S1024x1024 .bf16)
    (hb : FVec Ideal S1024x2048 .f32) (xc : FVec Ideal S1024x1024 .f32) (wa wc : FVec Ideal S1024x2048 .bf16)
    (wb : FVec Ideal S2048x2048 .bf16) : FVec Ideal S1024x2048 .bf16 := fun j =>
  merged (B (ix2 (j 0) ⟨2048 + (j 1).val, by idx_bounds; omega⟩)) (B (ix2 (j 0) ⟨4096 + (j 1).val, by idx_bounds; omega⟩))
    (B (ix2 (j 0) ⟨6144 + (j 1).val, by idx_bounds; omega⟩)) (fun k => xa (ix2 (j 0) k))
    (fun k : Fin 2048 => A (ix2 (j 0) ⟨8192 + k.val, by omega⟩)) (fun k => hb (ix2 (j 0) k))
    (fun k : Fin 2048 => A (ix2 (j 0) ⟨10240 + k.val, by omega⟩)) (fun k => xc (ix2 (j 0) k)) (fun k => wa (ix2 k (j 1)))
    (fun k => wb (ix2 k (j 1))) (fun k => wc (ix2 k (j 1)))

/-- The layer's output rows, entry by entry. -/
def outRows (row : FVec Ideal S1024x2048 .bf16) (x : FVec Ideal S1024x2048 .f32) (g : FVec Ideal S1x2048 .f32)
    (w : FVec Ideal S2048x2048 .bf16) : FVec Ideal S1024x2048 .f32 := fun j =>
  outRow (x j) (fun k => row (ix2 (j 0) k)) (fun k l => w (ix2 k l)) (g (ix2 0 (j 1))) (j 1)

variable (V : (c : Dev nD) → (b : Ref sig .tc) → Buf (Elt Ideal) ((c : Thread nD τ).loc b))

set_option maxHeartbeats 1000000 in
theorem final11 (c : Dev nD) : (dat2 V c).arrAt 11 cfg2.N
    = gatedSum (V c main_arg3) (V c main_arg4) (V c main_arg12) (V c main_v2_1) (V c main_v5_1) (V c main_v10) (V c main_v14)
        (V c main_v12) := by
  refine (dat2 V c).arrAt_eq_of_covers 11 _ (by decide +kernel) fun t _ y => ?_
  blk_simp
  rw [after2_11]
  unfold out2_11
  frame_out
  rw [merge_at]
  pointwise [gatedSum]
  congr 1 <;> (try funext k) <;> blk_point [iblk2, idx2 t]

theorem emb4 (t : Fin cfg3.N) (y : S512x2048.Idx) :
    ((View.whole main_v18).slice (win3_4.rect t)).emb y = ix2 ⟨512 * t.val + (y 0).val, by idx_bounds; have := t.isLt; change t.val < 2 at this; omega⟩ (y 1) := by
  blk_ext [idx3 t]

theorem final4 (c : Dev nD) : (dat3 V c).arrAt 4 cfg3.N
    = outRows (V c main_v17) (V c main_v6) (V c main_v8) (V c main_v16) := by
  refine (dat3 V c).arrAt_eq_of_covers 4 _ (by decide +kernel) fun t _ y => ?_
  blk_simp
  rw [after3_4, emb4]
  unfold out3_4
  frame_out
  rw [out_at]
  pointwise [outRows]
  congr 1 <;> (try funext k) <;> (try funext l) <;> blk_point [iblk3, idx3 t]

end Cert.SampleIdeal.Tail
end
-- ==== Proof.Softmax.lean ====
/- The softmax over the memory, and the one over all heads' columns stacked with the other heads masked. -/
module

public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Layer

theorem exp_nonneg (x : EReal) : 0 ≤ Ideal.exp x := by
  induction x using EReal.rec with
  | bot => exact le_of_eq rfl
  | top => exact le_top
  | coe r => exact EReal.coe_nonneg.2 (Real.exp_pos r).le

theorem exp_bot : Ideal.exp ⊥ = 0 := rfl

theorem negInf_eq : Ideal.ofBits .f32 0xFF800000#32 = ⊥ := by
  simp [Ideal.ofBits, Ideal.ieee]

/-- The kernels' maximum from minus infinity. -/
theorem fold_max {ι : Type*} (t : Finset ι) (S : ι → EReal) :
    t.fold max (Ideal.ofBits .f32 0xFF800000#32) S = t.sup S := by
  rw [negInf_eq]; rfl

/-- Scores of finite operands are below infinity and above minus infinity. -/
theorem finite_sum {ι : Type*} (t : Finset ι) (f : ι → EReal) (h : ∀ i ∈ t, ∃ r : ℝ, f i = r) : ∃ r : ℝ, ∑ i ∈ t, f i = r := by
  classical
  induction t using Finset.induction_on with
  | empty => exact ⟨0, by simp⟩
  | insert a t ha ih =>
    obtain ⟨r, hr⟩ := ih fun i hi => h i (Finset.mem_insert_of_mem hi)
    obtain ⟨q, hq⟩ := h a (Finset.mem_insert_self _ _)
    exact ⟨q + r, by rw [Finset.sum_insert ha, hr, hq, EReal.coe_add]⟩

theorem score_scale : Ideal.ofBits .f32 0x3D800000#32 = (((1 : ℝ) / 16 : ℝ) : EReal) := by
  simp [Ideal.ofBits, Ideal.ieee, -EReal.coe_mul]; norm_num

theorem score_finite {n : ℕ} (q k : Fin n → EReal) (hq : ∀ d, ∃ r : ℝ, q d = r) (hk : ∀ d, ∃ r : ℝ, k d = r) :
    ∃ r : ℝ, score q k = r := by
  obtain ⟨r, hr⟩ := finite_sum Finset.univ (fun d => q d * k d) fun d _ => by
    obtain ⟨a, ha⟩ := hq d; obtain ⟨b, hb⟩ := hk d
    exact ⟨a * b, by rw [ha, hb, EReal.coe_mul]⟩
  exact ⟨r * (1 / 16), by rw [score, hr, score_scale, EReal.coe_mul]⟩

/-- The softmax's denominator is not zero: the largest score gives one. -/
theorem softmax_sum_ne {n : ℕ} (hn : 0 < n) (s : Fin n → EReal) (hs : ∀ m, ∃ r : ℝ, s m = r) :
    ∑ l, Ideal.exp (s l - Finset.univ.sup s) ≠ 0 := by
  obtain ⟨m, -, hm⟩ := Finset.exists_mem_eq_sup (Finset.univ : Finset (Fin n)) ⟨⟨0, hn⟩, Finset.mem_univ _⟩ s
  have h1 : Ideal.exp (s m - Finset.univ.sup s) = 1 := by
    obtain ⟨r, hr⟩ := hs m
    rw [hm, hr, ← EReal.coe_sub, sub_self]
    show ((Real.exp 0 : ℝ) : EReal) = 1
    rw [Real.exp_zero]; rfl
  have h2 := Finset.single_le_sum (f := fun l => Ideal.exp (s l - Finset.univ.sup s)) (fun l _ => exp_nonneg _) (Finset.mem_univ m)
  intro h0
  rw [h0] at h2
  simp only [h1] at h2
  exact absurd h2 (by norm_num)

/-- The weights as products with the reciprocal of the denominator. -/
theorem attend_eq {n : ℕ} (hn : 0 < n) (s v : Fin n → EReal) (hs : ∀ m, ∃ r : ℝ, s m = r) :
    ∑ m, Ideal.exp (s m - Finset.univ.sup s) * Ideal.div one (∑ l, Ideal.exp (s l - Finset.univ.sup s)) * v m = attend s v := by
  unfold attend
  refine Finset.sum_congr rfl fun m _ => ?_
  rw [one_eq, Ideal.mul_one_div (softmax_sum_ne hn s hs)]

/-- Column `4 m + h` of the stacked scores. -/
abbrev stack (h : Fin 4) (m : Fin 256) : Fin 1024 := ⟨4 * m.val + h.val, by omega⟩

theorem stack_inj (h : Fin 4) : Function.Injective (stack h) := fun a b e => by
  have := congrArg Fin.val e
  simp only [stack] at this
  exact Fin.ext (by omega)

/-- A sum over the stacked columns whose other heads' terms vanish. -/
theorem sum_stack (h : Fin 4) (g : Fin 1024 → EReal) (hg : ∀ c, c.val % 4 ≠ h.val → g c = 0) :
    ∑ c, g c = ∑ m, g (stack h m) := by
  symm
  refine Finset.sum_of_injOn (stack h) (stack_inj h).injOn (fun _ _ => Finset.mem_coe.2 (Finset.mem_univ _)) (fun c _ hc => hg c fun e => hc ?_) fun _ _ => rfl
  exact ⟨⟨c.val / 4, by omega⟩, by simp, Fin.ext (by simp only [stack]; omega)⟩

theorem sup_stack (h : Fin 4) (S : Fin 1024 → EReal) (hS : ∀ c, c.val % 4 ≠ h.val → S c = ⊥) :
    Finset.univ.sup S = Finset.univ.sup fun m => S (stack h m) := by
  refine le_antisymm (Finset.sup_le fun c _ => ?_) (Finset.sup_le fun m _ => Finset.le_sup (f := S) (Finset.mem_univ _))
  by_cases e : c.val % 4 = h.val
  · refine le_trans (le_of_eq (congrArg S ?_)) (Finset.le_sup (f := fun m => S (stack h m)) (Finset.mem_univ (⟨c.val / 4, by omega⟩ : Fin 256)))
    exact Fin.ext (by simp only [stack]; omega)
  · rw [hS c e]; exact bot_le

/-- The stacked softmax with the other heads masked is the head's own softmax. -/
theorem attend_stack (h : Fin 4) (S V : Fin 1024 → EReal) (hS : ∀ c, c.val % 4 ≠ h.val → S c = ⊥)
    (hs : ∀ m, ∃ r : ℝ, S (stack h m) = r) :
    ∑ c, Ideal.exp (S c - Finset.univ.sup S) * Ideal.div one (∑ l, Ideal.exp (S l - Finset.univ.sup S)) * V c
      = attend (fun m => S (stack h m)) (fun m => V (stack h m)) := by
  have z : ∀ c, c.val % 4 ≠ h.val → Ideal.exp (S c - Finset.univ.sup S) = 0 := fun c e => by
    rw [hS c e, sub_eq_add_neg, EReal.bot_add, exp_bot]
  rw [sum_stack h _ fun c e => by rw [z c e, zero_mul, zero_mul], sum_stack h _ z, sup_stack h S hS]
  exact attend_eq (by decide) (fun m => S (stack h m)) _ hs

end Layer
end
-- ==== Proof.SampleHead.lean ====
/- The recurrent state's body at one entry: each head's output rows and its new state. -/
module

public import proofs.«01_k».proof.Proof.Gen.SampleIdeal.Frame
public import proofs.«01_k».proof.Proof.Softmax
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.SampleIdeal.State
open Cert.SampleIdeal Cert.SampleIdeal.Gen

/-- A quotient by the stabilised denominator as the product with its reciprocal. -/
theorem hidden_eq (num iw den mx : EReal) (q c n : Fin 512 → EReal) (h : mx ≠ ⊤) :
    (num + iw * ∑ k, q k * c k) * Ideal.div one
      (max (FloatOps.absf (F := Ideal) (φ := .f32) (den + iw * ∑ k, q k * n k)) (Ideal.exp (Ideal.ofBits .f32 0x00000000#32 - mx)))
      = hiddenRow num iw den mx q c n := by
  have hp : 0 < Ideal.exp (-mx) := by
    induction mx using EReal.rec with
    | bot => rw [EReal.neg_bot]; exact EReal.zero_lt_top
    | top => exact absurd rfl h
    | coe r => rw [← EReal.coe_neg]; exact EReal.coe_pos.2 (Real.exp_pos _)
  rw [hiddenRow, one_eq, Ideal.ofBits_zero_f32, zero_sub, Ideal.mul_one_div]
  exact (lt_of_lt_of_le hp (le_max_right _ _)).ne'

/-- One head's output rows. -/
theorem hid_at (q num : FVec Ideal S8x512 .f32) (den iw mx : FVec Ideal S8x1 .f32) (C : FVec Ideal S1x1x512x512 .f32)
    (n : FVec Ideal S1x1x512 .f32) (y : S8x512.Idx) (h : mx (ix2 (y 0) 0) ≠ ⊤) :
    k0_pay7 (F := Ideal) q den iw mx (k0_pay5 (F := Ideal) C) n num y
      = hiddenRow (num y) (iw (ix2 (y 0) 0)) (den (ix2 (y 0) 0)) (mx (ix2 (y 0) 0)) (fun k => q (ix2 (y 0) k))
          (fun k => C (ix4 0 0 (y 1) k)) (fun k => n (ix3 0 0 k)) := by
  rw [← hidden_eq _ _ _ _ _ _ _ h]
  pointwise [k0_pay7, k0_pay5, k0_pay6]

/-- One head's new matrix state. -/
theorem c_at (k v : FVec Ideal S8x512 .f32) (ig b : FVec Ideal S8x1 .f32) (bl m0 ml : FVec Ideal S1x1 .f32)
    (C : FVec Ideal S1x1x512x512 .f32) (y : S1x1x512x512.Idx) :
    k0_pay10 (F := Ideal) (k0_pay4 (F := Ideal) k) v ig b bl m0 ml (k0_pay5 (F := Ideal) C) y
      = newC (decay (bl (ix2 0 0)) (m0 (ix2 0 0)) (ml (ix2 0 0))) (C y)
          (fun s => tokenWeight (bl (ix2 0 0)) (b (ix2 s 0)) (ig (ix2 s 0)) (ml (ix2 0 0))) (fun s => v (ix2 s (y 2)))
          (fun s => k (ix2 s (y 3))) := by
  pointwise [k0_pay10, k0_pay4, k0_pay5, k0_pay8, k0_pay9, newC, decay, tokenWeight]

/-- One head's new normaliser. -/
theorem n_at (k : FVec Ideal S8x512 .f32) (ig b : FVec Ideal S8x1 .f32) (bl m0 ml : FVec Ideal S1x1 .f32)
    (n : FVec Ideal S1x1x512 .f32) (y : S1x1x512.Idx) :
    k0_pay12 (F := Ideal) (k0_pay4 (F := Ideal) k) (k0_pay6 (F := Ideal) n) (k0_pay8 (F := Ideal) ig b bl ml)
        (k0_pay11 (F := Ideal) bl m0 ml) y
      = newN (decay (bl (ix2 0 0)) (m0 (ix2 0 0)) (ml (ix2 0 0))) (n y)
          (fun s => tokenWeight (bl (ix2 0 0)) (b (ix2 s 0)) (ig (ix2 s 0)) (ml (ix2 0 0))) (fun s => k (ix2 s (y 2))) := by
  pointwise [k0_pay12, k0_pay4, k0_pay6, k0_pay8, k0_pay9, k0_pay11, newN, decay, tokenWeight]

end Cert.SampleIdeal.State
end
-- ==== Proof.SampleState.lean ====
/- What the in-projection with the recurrent state leaves of the projection, and its windows' indices. -/
module

public import proofs.«01_k».proof.Proof.SampleHead
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.SampleIdeal.State
open Cert.SampleIdeal Cert.SampleIdeal.Gen

variable (V : (c : Dev nD) → (b : Ref sig .tc) → Buf (Elt Ideal) ((c : Thread nD τ).loc b))

theorem idx : ∀ t : Fin cfg0.N, win0_0.index t = ![t.val % 32, 0] ∧ win0_1.index t = ![t.val / 32, 0]
    ∧ win0_2.index t = ![t.val, 1] ∧ win0_3.index t = ![t.val, 2] ∧ win0_4.index t = ![t.val, 3]
    ∧ win0_5.index t = ![t.val, 0] ∧ win0_6.index t = ![t.val, 0] ∧ win0_7.index t = ![t.val, 0]
    ∧ win0_8.index t = ![t.val, 0, 0, 0] ∧ win0_9.index t = ![t.val, 1, 0, 0] ∧ win0_10.index t = ![t.val, 2, 0, 0]
    ∧ win0_11.index t = ![t.val, 3, 0, 0] ∧ win0_12.index t = ![t.val, 0, 0]
    ∧ win0_13.index t = ![t.val % 32, t.val / 32] ∧ win0_14.index t = ![t.val, 0] ∧ win0_15.index t = ![t.val, 0, 0, 0]
    ∧ win0_16.index t = ![t.val, 0, 0] :=
  (by decide +kernel : ∀ t : Fin grid0.N, _)

/-- The projection's two halves of a tile. -/
theorem half_at (h : FVec Ideal S256x2048 .bf16) (w : FVec Ideal S1536x2048 .bf16) (y : S256x1536.Idx) :
    k0_pay3 (F := Ideal) h w y = ∑ k, h (ix2 (y 0) k) * w (ix2 (y 1) k) := by
  pointwise [k0_pay3]

theorem half_eq (h : FVec Ideal S256x2048 .bf16) (w : FVec Ideal S1536x2048 .bf16) :
    k0_pay2 (F := Ideal) h w = k0_pay3 (F := Ideal) h w := rfl

/-- The prompt rows' projection. -/
def proj (h : FVec Ideal S8192x2048 .bf16) (w : FVec Ideal S12288x2048 .bf16) : FVec Ideal S8192x12288 .f32 :=
  fun j => ∑ k : Fin 2048, h (ix2 (j 0) k) * w (ix2 (j 1) k)

theorem final13 (c : Dev nD) : (dat0 V c).arrAt 13 cfg0.N = proj (V c main_arg0) (V c main_arg1) := by
  refine (dat0 V c).arrAt_eq_of_covers 13 _ (by decide +kernel) fun t _ y => ?_
  blk_simp
  rw [after0_13]
  unfold_out out0_13
  canon_tiles x h
  all_goals
    simp only [half_eq, half_at]
    pointwise [proj]
    blk_point [iblk0, idx t]

end Cert.SampleIdeal.State
end
-- ==== Proof.SampleParts.lean ====
/- The recurrent state's results as functions of the layer's arrays, entry by entry. -/
module

public import proofs.«01_k».proof.Proof.SampleState
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.SampleIdeal.State
open Cert.SampleIdeal Cert.SampleIdeal.Gen

/-- Token `s` of sequence `b`. -/
abbrev tok (b : Fin 128) (s : Fin 8) : Fin 1024 := ⟨8 * b.val + s.val, by omega⟩

/-- Column `o + h` of the gate and stabiliser arrays. -/
abbrev col (o : ℕ) (h : Fin 4) (ho : o ≤ 8 := by decide) : Fin 128 := ⟨o + h.val, by omega⟩

/-- Column `d` of head `h` in group `g` of the projection. -/
abbrev pc (g : ℕ) (h : Fin 4) (d : Fin 512) (hg : g ≤ 4 := by decide) : Fin 12288 := ⟨2048 * g + 512 * h.val + d.val, by omega⟩

/-- The new matrix state, entry by entry. -/
def cNew (A : FVec Ideal S1024x12288 .f32) (g stat : FVec Ideal S1024x128 .f32) (C : FVec Ideal S128x4x512x512 .f32) :
    FVec Ideal S128x4x512x512 .f32 := fun j =>
  newC (decay (g (ix2 (tok (j 0) 7) (col 4 (j 1)))) (g (ix2 (tok (j 0) 7) (col 8 (j 1)))) (stat (ix2 (tok (j 0) 7) (col 8 (j 1)))))
    (C j)
    (fun s => tokenWeight (g (ix2 (tok (j 0) 7) (col 4 (j 1)))) (g (ix2 (tok (j 0) s) (col 4 (j 1))))
      (g (ix2 (tok (j 0) s) (col 0 (j 1)))) (stat (ix2 (tok (j 0) 7) (col 8 (j 1)))))
    (fun s => A (ix2 (tok (j 0) s) (pc 3 (j 1) (j 2)))) (fun s => A (ix2 (tok (j 0) s) (pc 2 (j 1) (j 3))))

/-- The new normaliser, entry by entry. -/
def nNew (A : FVec Ideal S1024x12288 .f32) (g stat : FVec Ideal S1024x128 .f32) (n : FVec Ideal S128x4x512 .f32) :
    FVec Ideal S128x4x512 .f32 := fun j =>
  newN (decay (g (ix2 (tok (j 0) 7) (col 4 (j 1)))) (g (ix2 (tok (j 0) 7) (col 8 (j 1)))) (stat (ix2 (tok (j 0) 7) (col 8 (j 1)))))
    (n j)
    (fun s => tokenWeight (g (ix2 (tok (j 0) 7) (col 4 (j 1)))) (g (ix2 (tok (j 0) s) (col 4 (j 1))))
      (g (ix2 (tok (j 0) s) (col 0 (j 1)))) (stat (ix2 (tok (j 0) 7) (col 8 (j 1)))))
    (fun s => A (ix2 (tok (j 0) s) (pc 2 (j 1) (j 2))))

/-- The mLSTM's output, entry by entry: sequence `j 0 / 8`, head `j 1 / 512`. -/
def hb (A : FVec Ideal S1024x12288 .f32) (num : FVec Ideal S1024x2048 .f32) (stat : FVec Ideal S1024x128 .f32)
    (C : FVec Ideal S128x4x512x512 .f32) (n : FVec Ideal S128x4x512 .f32) : FVec Ideal S1024x2048 .f32 := fun j =>
  let h : Fin 4 := ⟨(j 1).val / 512, by idx_bounds; omega⟩
  let b : Fin 128 := ⟨(j 0).val / 8, by idx_bounds; omega⟩
  hiddenRow (num j) (stat (ix2 (j 0) (col 4 h))) (stat (ix2 (j 0) (col 0 h))) (stat (ix2 (j 0) (col 8 h)))
    (fun k => A (ix2 (j 0) (pc 1 h k))) (fun k => C (ix4 b h ⟨(j 1).val % 512, Nat.mod_lt _ (by decide)⟩ k))
    (fun k => n (ix3 b h k))

theorem k1 (k : FVec Ideal S8x512 .f32) : k0_pay13 (F := Ideal) k = k0_pay4 (F := Ideal) k := rfl
theorem k2 (k : FVec Ideal S8x512 .f32) : k0_pay22 (F := Ideal) k = k0_pay4 (F := Ideal) k := rfl
theorem k3 (k : FVec Ideal S8x512 .f32) : k0_pay31 (F := Ideal) k = k0_pay4 (F := Ideal) k := rfl
theorem s1 (C : FVec Ideal S1x1x512x512 .f32) : k0_pay14 (F := Ideal) C = k0_pay5 (F := Ideal) C := rfl
theorem s2 (C : FVec Ideal S1x1x512x512 .f32) : k0_pay23 (F := Ideal) C = k0_pay5 (F := Ideal) C := rfl
theorem s3 (C : FVec Ideal S1x1x512x512 .f32) : k0_pay32 (F := Ideal) C = k0_pay5 (F := Ideal) C := rfl
theorem c1 : @k0_pay19 Ideal _ = @k0_pay10 Ideal _ := rfl
theorem c2 : @k0_pay28 Ideal _ = @k0_pay10 Ideal _ := rfl
theorem c3 : @k0_pay37 Ideal _ = @k0_pay10 Ideal _ := rfl
theorem h1 : @k0_pay16 Ideal _ = @k0_pay7 Ideal _ := rfl
theorem h2 : @k0_pay25 Ideal _ = @k0_pay7 Ideal _ := rfl
theorem h3 : @k0_pay34 Ideal _ = @k0_pay7 Ideal _ := rfl
theorem n1 : @k0_pay21 Ideal _ = @k0_pay12 Ideal _ := rfl
theorem n2 : @k0_pay30 Ideal _ = @k0_pay12 Ideal _ := rfl
theorem n3 : @k0_pay1 Ideal _ = @k0_pay12 Ideal _ := rfl

end Cert.SampleIdeal.State
end
-- ==== Proof.SampleAttn.lean ====
/- The sample rows' attention body at one entry. -/
module

public import proofs.«01_k».proof.Proof.Gen.SampleIdeal.Skeleton
public import proofs.«01_k».proof.Proof.Softmax
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.SampleIdeal.Attn
open Cert.SampleIdeal Cert.SampleIdeal.Gen

/-- The head a stacked row belongs to. -/
theorem rowHead_at (y : S32x1024.Idx) : k1_pay4 y = BitVec.ofNat 32 ((y 0).val / 8) := by
  pointwise [k1_pay4]
  generalize y 0 = r
  revert r
  decide +kernel

/-- The head a stacked column belongs to. -/
theorem colHead_at (y : S32x1024.Idx) : k1_pay5 y = BitVec.ofNat 32 ((y 1).val % 4) := by
  pointwise [k1_pay5]
  generalize y 1 = r
  revert r
  decide +kernel

/-- Row `r` of the four heads' queries stacked. -/
def qrow (q0 q1 q2 q3 : FVec Ideal S8x256 .f32) (r : Fin 32) (x : Fin 256) : EReal :=
  if h0 : r.val < 8 then q0 (ix2 ⟨r.val, h0⟩ x) else if h1 : r.val - 8 < 8 then q1 (ix2 ⟨r.val - 8, h1⟩ x)
    else if h2 : r.val - 16 < 8 then q2 (ix2 ⟨r.val - 16, h2⟩ x) else q3 (ix2 ⟨r.val - 24, by omega⟩ x)

/-- The stacked, masked scores. -/
def sc (K : FVec Ideal S1x256x4x256 .f32) (q0 q1 q2 q3 : FVec Ideal S8x256 .f32) (r : Fin 32) (c : Fin 1024) : EReal :=
  Scalar.select (IntOp.cmpi .eq (BitVec.ofNat 32 (r.val / 8)) (BitVec.ofNat 32 (c.val % 4)))
    (score (qrow q0 q1 q2 q3 r) fun x => K (ix4 0 ⟨c.val / 4, by omega⟩ ⟨c.val % 4, Nat.mod_lt _ (by decide)⟩ x))
    (Ideal.ofBits .f32 0xFF800000#32)

theorem w_at (K : FVec Ideal S1x256x4x256 .f32) (q0 q1 q2 q3 : FVec Ideal S8x256 .f32) (y : S32x1024.Idx) :
    k1_pay6 (F := Ideal) k1_pay4 k1_pay5 K q0 q1 q2 q3 y
      = Ideal.exp (sc K q0 q1 q2 q3 (y 0) (y 1) - Finset.univ.sup (sc K q0 q1 q2 q3 (y 0)))
        * Ideal.div one (∑ l, Ideal.exp (sc K q0 q1 q2 q3 (y 0) l - Finset.univ.sup (sc K q0 q1 q2 q3 (y 0)))) := by
  simp only [← fold_max]
  pointwise [k1_pay6, rowHead_at, colHead_at]
  rfl

/-- The second sequence's weights are the same function of its keys and queries. -/
theorem w_second (K : FVec Ideal S1x256x4x256 .f32) (q0 q1 q2 q3 : FVec Ideal S8x256 .f32) :
    k1_pay13 (F := Ideal) (k1_pay9 (iota .tc S32x1024 32 [0] iota_S32x1024_d0_w32) 8#32 k1_pay7 k1_pay8
        (Scalar.extui (Scalar.cmpi .sgt 8#32 0#32)) 0#32) k1_pay10 (k1_pay11 K) (k1_pay12 q0 q1 q2 q3)
      = k1_pay6 (F := Ideal) k1_pay4 k1_pay5 K q0 q1 q2 q3 := rfl

theorem sc_self (K : FVec Ideal S1x256x4x256 .f32) (q0 q1 q2 q3 : FVec Ideal S8x256 .f32) (r : Fin 32) (h : Fin 4)
    (hr : r.val / 8 = h.val) (m : Fin 256) :
    sc K q0 q1 q2 q3 r (stack h m) = score (qrow q0 q1 q2 q3 r) fun x => K (ix4 0 m h x) := by
  have e1 : (⟨(4 * m.val + h.val) / 4, by omega⟩ : Fin 256) = m := Fin.ext (by simp only; omega)
  have e2 : (⟨(4 * m.val + h.val) % 4, Nat.mod_lt _ (by decide)⟩ : Fin 4) = h := Fin.ext (by simp only; omega)
  simp only [sc, stack, e1, e2]
  rw [hr, show (4 * m.val + h.val) % 4 = h.val by omega]
  simp [Scalar.select, IntOp.cmpi]

theorem sc_other (K : FVec Ideal S1x256x4x256 .f32) (q0 q1 q2 q3 : FVec Ideal S8x256 .f32) (r : Fin 32) (h : Fin 4)
    (hr : r.val / 8 = h.val) (c : Fin 1024) (hc : c.val % 4 ≠ h.val) : sc K q0 q1 q2 q3 r c = ⊥ := by
  have e : BitVec.ofNat 32 (r.val / 8) ≠ BitVec.ofNat 32 (c.val % 4) := fun e => by
    have := congrArg BitVec.toNat e
    simp only [BitVec.toNat_ofNat] at this
    omega
  rw [sc, negInf_eq]
  have e' : (BitVec.ofNat 32 (r.val / 8) == BitVec.ofNat 32 (c.val % 4)) = false := beq_eq_false_iff_ne.2 e
  rw [IntOp.cmpi]
  simp only [e']
  rfl

/-- The stacked attention at one row and column. -/
theorem att_at (K v : FVec Ideal S1x256x4x256 .f32) (q0 q1 q2 q3 : FVec Ideal S8x256 .f32) (y : S32x256.Idx) (h : Fin 4)
    (hr : (y 0).val / 8 = h.val) (hs : ∀ m, ∃ r : ℝ, score (qrow q0 q1 q2 q3 (y 0)) (fun x => K (ix4 0 m h x)) = r) :
    k1_pay15 (F := Ideal) (k1_pay6 (F := Ideal) k1_pay4 k1_pay5 K q0 q1 q2 q3) v y
      = attend (fun m => score (qrow q0 q1 q2 q3 (y 0)) fun x => K (ix4 0 m h x)) fun m => v (ix4 0 m h (y 1)) := by
  have e := attend_stack h (sc K q0 q1 q2 q3 (y 0)) (fun c => v (ix4 0 ⟨c.val / 4, by omega⟩ ⟨c.val % 4, Nat.mod_lt _ (by decide)⟩ (y 1)))
    (sc_other K q0 q1 q2 q3 _ h hr) (fun m => by rw [sc_self K q0 q1 q2 q3 _ h hr]; exact hs m)
  simp only [sc_self K q0 q1 q2 q3 _ h hr] at e
  pointwise [k1_pay15]
  simp only [w_at]
  refine Eq.trans ?_ (e.trans ?_)
  · rfl
  · congr 1; funext m
    refine congrArg v ?_
    blk_ext

end Cert.SampleIdeal.Attn
end
-- ==== Proof.SampleAttnParts.lean ====
/- The attention of the sample rows as a function of the layer's arrays, with what its blocks hold. -/
module

public import proofs.«01_k».proof.Proof.SampleAttn
public import proofs.«01_k».proof.Proof.Gen.SampleIdeal.Frame
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.SampleIdeal.Attn
open Cert.SampleIdeal Cert.SampleIdeal.Gen

theorem idx : ∀ t : Fin cfg1.N, win1_0.index t = ![t.val % 16, 0] ∧ win1_1.index t = ![t.val / 16, 0]
    ∧ win1_2.index t = ![t.val, 0] ∧ win1_3.index t = ![t.val, 1] ∧ win1_4.index t = ![t.val, 0, 0, 0]
    ∧ win1_5.index t = ![t.val, 0, 0, 0] ∧ win1_6.index t = ![t.val % 16, t.val / 16] ∧ win1_7.index t = ![t.val, 0] :=
  (by decide +kernel : ∀ t : Fin grid1.N, _)

/-- The projection's two halves of a tile. -/
theorem half_at (h : FVec Ideal S512x2048 .bf16) (w : FVec Ideal S1024x2048 .bf16) (y : S512x1024.Idx) :
    k1_pay3 (F := Ideal) h w y = ∑ k, h (ix2 (y 0) k) * w (ix2 (y 1) k) := by
  pointwise [k1_pay3]

theorem half_eq (h : FVec Ideal S512x2048 .bf16) (w : FVec Ideal S1024x2048 .bf16) :
    k1_pay14 (F := Ideal) h w = k1_pay3 (F := Ideal) h w := rfl

/-- The prompt rows' second projection. -/
def proj (h : FVec Ideal S8192x2048 .bf16) (w : FVec Ideal S8192x2048 .bf16) : FVec Ideal S8192x8192 .f32 :=
  fun j => ∑ k : Fin 2048, h (ix2 (j 0) k) * w (ix2 (j 1) k)

/-- The gated attention, entry by entry: sequence `j 0 / 8`, head `j 1 / 256`. -/
def xc (B : FVec Ideal S1024x8192 .f32) (K v : FVec Ideal S128x256x4x256 .f32) : FVec Ideal S1024x1024 .f32 := fun j =>
  let h : Fin 4 := ⟨(j 1).val / 256, by idx_bounds; omega⟩
  let b : Fin 128 := ⟨(j 0).val / 8, by idx_bounds; omega⟩
  attend (fun m => score (fun x : Fin 256 => B (ix2 (j 0) ⟨256 * h.val + x.val, by omega⟩)) fun x => K (ix4 b m h x))
    (fun m => v (ix4 b m h ⟨(j 1).val % 256, Nat.mod_lt _ (by decide)⟩))
    * swish (B (ix2 (j 0) ⟨1024 + (j 1).val, by idx_bounds; omega⟩))

/-- The rows of a block's head are its queries. -/
theorem qrow0 (q0 q1 q2 q3 : FVec Ideal S8x256 .f32) (r : Fin 8) :
    qrow q0 q1 q2 q3 ⟨r.val, by omega⟩ = fun x => q0 (ix2 r x) := by
  funext x; simp [qrow]
theorem qrow1 (q0 q1 q2 q3 : FVec Ideal S8x256 .f32) (r : Fin 8) :
    qrow q0 q1 q2 q3 ⟨8 + r.val, by omega⟩ = fun x => q1 (ix2 r x) := by
  funext x; simp [qrow]
theorem qrow2 (q0 q1 q2 q3 : FVec Ideal S8x256 .f32) (r : Fin 8) :
    qrow q0 q1 q2 q3 ⟨16 + r.val, by omega⟩ = fun x => q2 (ix2 r x) := by
  funext x
  have e : 16 + r.val - 16 = r.val := by omega
  simp only [qrow, e]
  rw [dif_neg (by omega), dif_neg (by omega), dif_pos r.isLt]
theorem qrow3 (q0 q1 q2 q3 : FVec Ideal S8x256 .f32) (r : Fin 8) :
    qrow q0 q1 q2 q3 ⟨24 + r.val, by omega⟩ = fun x => q3 (ix2 r x) := by
  funext x
  have e : 24 + r.val - 24 = r.val := by omega
  simp only [qrow, e]
  rw [dif_neg (by omega), dif_neg (by omega), dif_neg (by omega)]

/-- The stacked attention at a row whose query is `q`. -/
theorem head_at (K v : FVec Ideal S1x256x4x256 .f32) (q0 q1 q2 q3 : FVec Ideal S8x256 .f32) (h : Fin 4) (row : Fin 32) (d : Fin 256)
    (q : Fin 256 → EReal) (hq : qrow q0 q1 q2 q3 row = q) (hr : row.val / 8 = h.val)
    (hs : ∀ m, ∃ r : ℝ, score q (fun x => K (ix4 0 m h x)) = r) :
    k1_pay15 (F := Ideal) (k1_pay6 (F := Ideal) k1_pay4 k1_pay5 K q0 q1 q2 q3) v (ix2 row d)
      = attend (fun m => score q fun x => K (ix4 0 m h x)) fun m => v (ix4 0 m h d) := by
  subst hq
  exact att_at K v q0 q1 q2 q3 (ix2 row d) h hr hs

/-- One head's gated rows. -/
theorem out0 (K v : FVec Ideal S1x256x4x256 .f32) (q0 q1 q2 q3 z : FVec Ideal S8x256 .f32) (y : S8x256.Idx)
    (hs : ∀ m, ∃ r : ℝ, score (fun x => q0 (ix2 (y 0) x)) (fun x => K (ix4 0 m 0 x)) = r) :
    k1_pay18 (F := Ideal) (k1_pay16 (F := Ideal) (k1_pay6 (F := Ideal) k1_pay4 k1_pay5 K q0 q1 q2 q3) v) z (k1_pay17 (F := Ideal) z) y
      = attend (fun m => score (fun x => q0 (ix2 (y 0) x)) fun x => K (ix4 0 m 0 x)) (fun m => v (ix4 0 m 0 (y 1))) * swish (z y) := by
  have e := head_at K v q0 q1 q2 q3 0 _ (y 1) _ (qrow0 q0 q1 q2 q3 (y 0)) (by have := (y 0).isLt; change (y 0).val < 8 at this; simp only; omega) hs
  pointwise [k1_pay18, k1_pay16, k1_pay17]
  rw [sg_tanh]
  exact congrArg (· * swish (z y)) e
theorem out1 (K v : FVec Ideal S1x256x4x256 .f32) (q0 q1 q2 q3 z : FVec Ideal S8x256 .f32) (y : S8x256.Idx)
    (hs : ∀ m, ∃ r : ℝ, score (fun x => q1 (ix2 (y 0) x)) (fun x => K (ix4 0 m 1 x)) = r) :
    k1_pay19 (F := Ideal) (k1_pay15 (F := Ideal) (k1_pay6 (F := Ideal) k1_pay4 k1_pay5 K q0 q1 q2 q3) v) z y
      = attend (fun m => score (fun x => q1 (ix2 (y 0) x)) fun x => K (ix4 0 m 1 x)) (fun m => v (ix4 0 m 1 (y 1))) * swish (z y) := by
  have e := head_at K v q0 q1 q2 q3 1 _ (y 1) _ (qrow1 q0 q1 q2 q3 (y 0)) (by have := (y 0).isLt; change (y 0).val < 8 at this; simp only; omega) hs
  pointwise [k1_pay19]
  rw [sg_tanh]
  exact congrArg (· * swish (z y)) e
theorem out2 (K v : FVec Ideal S1x256x4x256 .f32) (q0 q1 q2 q3 z : FVec Ideal S8x256 .f32) (y : S8x256.Idx)
    (hs : ∀ m, ∃ r : ℝ, score (fun x => q2 (ix2 (y 0) x)) (fun x => K (ix4 0 m 2 x)) = r) :
    k1_pay20 (F := Ideal) (k1_pay15 (F := Ideal) (k1_pay6 (F := Ideal) k1_pay4 k1_pay5 K q0 q1 q2 q3) v) z y
      = attend (fun m => score (fun x => q2 (ix2 (y 0) x)) fun x => K (ix4 0 m 2 x)) (fun m => v (ix4 0 m 2 (y 1))) * swish (z y) := by
  have e := head_at K v q0 q1 q2 q3 2 _ (y 1) _ (qrow2 q0 q1 q2 q3 (y 0)) (by have := (y 0).isLt; change (y 0).val < 8 at this; simp only; omega) hs
  pointwise [k1_pay20]
  rw [sg_tanh]
  exact congrArg (· * swish (z y)) e
theorem out3 (K v : FVec Ideal S1x256x4x256 .f32) (q0 q1 q2 q3 z : FVec Ideal S8x256 .f32) (y : S8x256.Idx)
    (hs : ∀ m, ∃ r : ℝ, score (fun x => q3 (ix2 (y 0) x)) (fun x => K (ix4 0 m 3 x)) = r) :
    k1_pay23 (F := Ideal) (k1_pay21 (F := Ideal) (k1_pay15 (F := Ideal) (k1_pay6 (F := Ideal) k1_pay4 k1_pay5 K q0 q1 q2 q3) v)) z (k1_pay22 (F := Ideal) z) y
      = attend (fun m => score (fun x => q3 (ix2 (y 0) x)) fun x => K (ix4 0 m 3 x)) (fun m => v (ix4 0 m 3 (y 1))) * swish (z y) := by
  have e := head_at K v q0 q1 q2 q3 3 _ (y 1) _ (qrow3 q0 q1 q2 q3 (y 0)) (by have := (y 0).isLt; change (y 0).val < 8 at this; simp only; omega) hs
  pointwise [k1_pay23, k1_pay21, k1_pay22]
  rw [sg_tanh]
  exact congrArg (· * swish (z y)) e

/-- The second sequence's rows are formed the same way. -/
theorem a0 (W : FVec Ideal S32x1024 .bf16) (v : FVec Ideal S1x256x4x256 .f32) (z : FVec Ideal S8x256 .f32) :
    k1_pay25 (F := Ideal) W v z = k1_pay18 (F := Ideal) (k1_pay16 (F := Ideal) W v) z (k1_pay17 (F := Ideal) z) := rfl
theorem a1 (W : FVec Ideal S32x1024 .bf16) (v : FVec Ideal S1x256x4x256 .f32) (z : FVec Ideal S8x256 .f32) :
    k1_pay26 (F := Ideal) W v z = k1_pay19 (F := Ideal) (k1_pay15 (F := Ideal) W v) z := rfl
theorem a2 (W : FVec Ideal S32x1024 .bf16) (v : FVec Ideal S1x256x4x256 .f32) (z : FVec Ideal S8x256 .f32) :
    k1_pay1 (F := Ideal) (k1_pay27 (F := Ideal) W v) z = k1_pay20 (F := Ideal) (k1_pay15 (F := Ideal) W v) z := rfl
theorem a3 (W : FVec Ideal S32x1024 .bf16) (v : FVec Ideal S1x256x4x256 .f32) (z : FVec Ideal S8x256 .f32) :
    k1_pay2 (F := Ideal) (k1_pay24 (F := Ideal) W v) z
      = k1_pay23 (F := Ideal) (k1_pay21 (F := Ideal) (k1_pay15 (F := Ideal) W v)) z (k1_pay22 (F := Ideal) z) := rfl

variable (V : (c : Dev nD) → (b : Ref sig .tc) → Buf (Elt Ideal) ((c : Thread nD τ).loc b))

theorem rd2 (c : Dev nD) (t : Fin cfg1.N) (x : S16x1024.Idx) :
    iblk1 V c 2 t x = V c main_arg4 (ix2 ⟨16 * t.val + (x 0).val, by idx_bounds; have := t.isLt; change t.val < 64 at this; omega⟩ ⟨(x 1).val, by idx_bounds; omega⟩) := by
  blk_ext [iblk1, idx t]
theorem rd3 (c : Dev nD) (t : Fin cfg1.N) (x : S16x1024.Idx) :
    iblk1 V c 3 t x = V c main_arg4 (ix2 ⟨16 * t.val + (x 0).val, by idx_bounds; have := t.isLt; change t.val < 64 at this; omega⟩ ⟨1024 + (x 1).val, by idx_bounds; omega⟩) := by
  blk_ext [iblk1, idx t]
theorem rd4 (c : Dev nD) (t : Fin cfg1.N) (x : S2x256x4x256.Idx) :
    iblk1 V c 4 t x = V c main_v3 (ix4 ⟨2 * t.val + (x 0).val, by idx_bounds; have := t.isLt; change t.val < 64 at this; omega⟩ (x 1) (x 2) (x 3)) := by
  blk_ext [iblk1, idx t]
theorem rd5 (c : Dev nD) (t : Fin cfg1.N) (x : S2x256x4x256.Idx) :
    iblk1 V c 5 t x = V c main_v4 (ix4 ⟨2 * t.val + (x 0).val, by idx_bounds; have := t.isLt; change t.val < 64 at this; omega⟩ (x 1) (x 2) (x 3)) := by
  blk_ext [iblk1, idx t]
theorem emb7 (t : Fin cfg1.N) (y : S16x1024.Idx) :
    ((View.whole main_v5_1).slice (win1_7.rect t)).emb y = ix2 ⟨16 * t.val + (y 0).val, by idx_bounds; have := t.isLt; change t.val < 64 at this; omega⟩ (y 1) := by
  blk_ext [idx t]

theorem final6 (c : Dev nD) : (dat1 V c).arrAt 6 cfg1.N = proj (V c main_arg0) (V c main_arg2) := by
  refine (dat1 V c).arrAt_eq_of_covers 6 _ (by decide +kernel) fun t _ y => ?_
  blk_simp
  rw [after1_6]
  unfold_out out1_6
  canon_tiles x h
  all_goals
    simp only [half_eq, half_at]
    pointwise [proj]
    blk_point [iblk1, idx t]

end Cert.SampleIdeal.Attn
end
-- ==== Proof.SampleY.lean ====
/- The layer's output for the sampled tokens, from the arguments. -/
module

public import proofs.«01_k».proof.Proof.SampleOut
public import proofs.«01_k».proof.Proof.SampleParts
public import proofs.«01_k».proof.Proof.SampleAttnParts
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.SampleIdeal.Tail
open Cert.SampleIdeal Cert.SampleIdeal.Gen

/-- The output from the arguments: projections, intra-token part, statistics, states, keys, values, pooling rows, input,
scale and weights. -/
def yOf (A : FVec Ideal S1024x12288 .f32) (B : FVec Ideal S1024x8192 .f32) (num : FVec Ideal S1024x2048 .f32) (stat : FVec Ideal S1024x128 .f32)
    (C : FVec Ideal S1x128x4x512x512 .f32) (n : FVec Ideal S1x128x4x512 .f32) (K v : FVec Ideal S1x128x256x4x256 .f32)
    (xa : FVec Ideal S1024x1024 .bf16) (x : FVec Ideal S128x8x2048 .f32) (g : FVec Ideal S1x2048 .f32) (wa : FVec Ideal S1x1024x2048 .f32)
    (wb : FVec Ideal S1x2048x2048 .f32) (wc : FVec Ideal S1x1024x2048 .f32) (wo : FVec Ideal S1x2048x2048 .f32) : FVec Ideal S1024x2048 .f32 :=
  outRows
    (gatedSum A B xa
      (State.hb A num stat (shapeCast S128x4x512x512 C shapeCasts_S1x128x4x512x512_S128x4x512x512) (shapeCast S128x4x512 n shapeCasts_S1x128x4x512_S128x4x512))
      (Attn.xc B (shapeCast S128x256x4x256 K shapeCasts_S1x128x256x4x256_S128x256x4x256) (shapeCast S128x256x4x256 v shapeCasts_S1x128x256x4x256_S128x256x4x256))
      (truncf .bf16 (shapeCast S1024x2048 wa shapeCasts_S1x1024x2048_S1024x2048) bitsLt_bf16_f32)
      (truncf .bf16 (shapeCast S1024x2048 wc shapeCasts_S1x1024x2048_S1024x2048) bitsLt_bf16_f32)
      (truncf .bf16 (shapeCast S2048x2048 wb shapeCasts_S1x2048x2048_S2048x2048) bitsLt_bf16_f32))
    (shapeCast S1024x2048 x shapeCasts_S128x8x2048_S1024x2048)
    (broadcastInDim S1x2048 ![1] bcast_S2048_S1x2048_1 (shapeCast S2048 g shapeCasts_S1x2048_S2048))
    (truncf .bf16 (shapeCast S2048x2048 wo shapeCasts_S1x2048x2048_S2048x2048) bitsLt_bf16_f32)

end Cert.SampleIdeal.Tail
end
-- ==== Proof.SampleReads.lean ====
/- What the blocks of the in-projection with the recurrent state hold, entry by entry. -/
module

public import proofs.«01_k».proof.Proof.SampleParts
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.SampleIdeal.State
open Cert.SampleIdeal Cert.SampleIdeal.Gen

variable (V : (c : Dev nD) → (b : Ref sig .tc) → Buf (Elt Ideal) ((c : Thread nD τ).loc b))

/-- The sequence a tile works on. -/
abbrev seq (t : Fin cfg0.N) : Fin 128 := ⟨t.val, t.isLt⟩

theorem rd2 (c : Dev nD) (t : Fin cfg0.N) (x : S8x2048.Idx) :
    iblk0 V c 2 t x = V c main_arg3 (ix2 (tok (seq t) (x 0)) ⟨2048 + (x 1).val, by idx_bounds; omega⟩) := by
  blk_ext [iblk0, idx t]
theorem rd3 (c : Dev nD) (t : Fin cfg0.N) (x : S8x2048.Idx) :
    iblk0 V c 3 t x = V c main_arg3 (ix2 (tok (seq t) (x 0)) ⟨4096 + (x 1).val, by idx_bounds; omega⟩) := by
  blk_ext [iblk0, idx t]
theorem rd4 (c : Dev nD) (t : Fin cfg0.N) (x : S8x2048.Idx) :
    iblk0 V c 4 t x = V c main_arg3 (ix2 (tok (seq t) (x 0)) ⟨6144 + (x 1).val, by idx_bounds; omega⟩) := by
  blk_ext [iblk0, idx t]
theorem rd5 (c : Dev nD) (t : Fin cfg0.N) (x : S8x2048.Idx) :
    iblk0 V c 5 t x = V c main_arg5 (ix2 (tok (seq t) (x 0)) (x 1)) := by
  blk_ext [iblk0, idx t]
theorem rd6 (c : Dev nD) (t : Fin cfg0.N) (x : S8x128.Idx) :
    iblk0 V c 6 t x = V c main_arg6 (ix2 (tok (seq t) (x 0)) (x 1)) := by
  blk_ext [iblk0, idx t]
theorem rd7 (c : Dev nD) (t : Fin cfg0.N) (x : S8x128.Idx) :
    iblk0 V c 7 t x = V c main_arg7 (ix2 (tok (seq t) (x 0)) (x 1)) := by
  blk_ext [iblk0, idx t]
theorem rd8 (c : Dev nD) (t : Fin cfg0.N) (x : S1x1x512x512.Idx) :
    iblk0 V c 8 t x = V c main_v0 (ix4 (seq t) 0 (x 2) (x 3)) := by
  blk_ext [iblk0, idx t]
theorem rd9 (c : Dev nD) (t : Fin cfg0.N) (x : S1x1x512x512.Idx) :
    iblk0 V c 9 t x = V c main_v0 (ix4 (seq t) 1 (x 2) (x 3)) := by
  blk_ext [iblk0, idx t]
theorem rd10 (c : Dev nD) (t : Fin cfg0.N) (x : S1x1x512x512.Idx) :
    iblk0 V c 10 t x = V c main_v0 (ix4 (seq t) 2 (x 2) (x 3)) := by
  blk_ext [iblk0, idx t]
theorem rd11 (c : Dev nD) (t : Fin cfg0.N) (x : S1x1x512x512.Idx) :
    iblk0 V c 11 t x = V c main_v0 (ix4 (seq t) 3 (x 2) (x 3)) := by
  blk_ext [iblk0, idx t]
theorem rd12 (c : Dev nD) (t : Fin cfg0.N) (x : S1x4x512.Idx) :
    iblk0 V c 12 t x = V c main_v1 (ix3 (seq t) (x 1) (x 2)) := by
  blk_ext [iblk0, idx t]

theorem emb14 (t : Fin cfg0.N) (y : S8x2048.Idx) :
    ((View.whole main_v2_1).slice (win0_14.rect t)).emb y = ix2 (tok (seq t) (y 0)) (y 1) := by
  blk_ext [idx t]
theorem emb15 (t : Fin cfg0.N) (y : S1x4x512x512.Idx) :
    ((View.whole main_v2_2).slice (win0_15.rect t)).emb y = ix4 (seq t) (y 1) (y 2) (y 3) := by
  blk_ext [idx t]
theorem emb16 (t : Fin cfg0.N) (y : S1x4x512.Idx) :
    ((View.whole main_v2_3).slice (win0_16.rect t)).emb y = ix3 (seq t) (y 1) (y 2) := by
  blk_ext [idx t]

end Cert.SampleIdeal.State
end
-- ==== Proof.SampleC.lean ====
/- What the in-projection with the recurrent state leaves of the matrix state. -/
module

public import proofs.«01_k».proof.Proof.SampleReads
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.SampleIdeal.State
open Cert.SampleIdeal Cert.SampleIdeal.Gen

variable (V : (c : Dev nD) → (b : Ref sig .tc) → Buf (Elt Ideal) ((c : Thread nD τ).loc b))

set_option maxHeartbeats 1000000 in
theorem final15 (c : Dev nD) : (dat0 V c).arrAt 15 cfg0.N
    = cNew (V c main_arg3) (V c main_arg6) (V c main_arg7) (V c main_v0) := by
  refine (dat0 V c).arrAt_eq_of_covers 15 _ (by decide +kernel) fun t _ y => ?_
  blk_simp
  rw [after0_15]
  unfold_out out0_15
  rw [emb15]
  simp only [c1, c2, c3, k1, k2, k3, s1, s2, s3]
  canon_tiles x h
  all_goals
    rw [c_at]
    pointwise [cNew, rd3, rd4, rd6, rd7, rd8, rd9, rd10, rd11]
    congr 1
    · congr 1 <;> blk_ext []
    · blk_ext []
    · funext s
      congr 1 <;> blk_ext []
    · funext s
      blk_ext []
    · funext s
      blk_ext []

end Cert.SampleIdeal.State
end
-- ==== Proof.SampleN.lean ====
/- What the in-projection with the recurrent state leaves of the normaliser. -/
module

public import proofs.«01_k».proof.Proof.SampleReads
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.SampleIdeal.State
open Cert.SampleIdeal Cert.SampleIdeal.Gen

variable (V : (c : Dev nD) → (b : Ref sig .tc) → Buf (Elt Ideal) ((c : Thread nD τ).loc b))

theorem p1 (n : FVec Ideal S1x1x512 .f32) : k0_pay15 (F := Ideal) n = k0_pay6 (F := Ideal) n := rfl
theorem p2 (n : FVec Ideal S1x1x512 .f32) : k0_pay24 (F := Ideal) n = k0_pay6 (F := Ideal) n := rfl
theorem p3 (n : FVec Ideal S1x1x512 .f32) : k0_pay33 (F := Ideal) n = k0_pay6 (F := Ideal) n := rfl
theorem q1 : @k0_pay17 Ideal _ = @k0_pay8 Ideal _ := rfl
theorem q2 : @k0_pay26 Ideal _ = @k0_pay8 Ideal _ := rfl
theorem q3 : @k0_pay35 Ideal _ = @k0_pay8 Ideal _ := rfl
theorem r1 : @k0_pay20 Ideal _ = @k0_pay11 Ideal _ := rfl
theorem r2 : @k0_pay29 Ideal _ = @k0_pay11 Ideal _ := rfl
theorem r3 : @k0_pay38 Ideal _ = @k0_pay11 Ideal _ := rfl

set_option maxHeartbeats 1000000 in
theorem final16 (c : Dev nD) : (dat0 V c).arrAt 16 cfg0.N
    = nNew (V c main_arg3) (V c main_arg6) (V c main_arg7) (V c main_v1) := by
  refine (dat0 V c).arrAt_eq_of_covers 16 _ (by decide +kernel) fun t _ y => ?_
  blk_simp
  rw [after0_16]
  unfold_out out0_16
  rw [emb16]
  simp only [n1, n2, n3, k1, k2, k3, p1, p2, p3, q1, q2, q3, r1, r2, r3]
  canon_tiles x h
  all_goals
    rw [n_at]
    pointwise [nNew, rd3, rd6, rd7, rd12]
    congr 1
    · congr 1 <;> blk_ext []
    · blk_ext []
    · funext s
      congr 1 <;> blk_ext []
    · funext s
      blk_ext []

end Cert.SampleIdeal.State
end
-- ==== Proof.SampleHidden.lean ====
/- What the in-projection with the recurrent state leaves of the mLSTM's output. -/
module

public import proofs.«01_k».proof.Proof.SampleReads
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.SampleIdeal.State
open Cert.SampleIdeal Cert.SampleIdeal.Gen

variable (V : (c : Dev nD) → (b : Ref sig .tc) → Buf (Elt Ideal) ((c : Thread nD τ).loc b))

set_option maxHeartbeats 1000000 in
theorem final14 (c : Dev nD) (fin : ∀ j : S1024x128.Idx, 8 ≤ (j 1).val → (j 1).val < 12 → V c main_arg7 j ≠ (⊤ : EReal)) :
    (dat0 V c).arrAt 14 cfg0.N
    = hb (V c main_arg3) (V c main_arg5) (V c main_arg7) (V c main_v0) (V c main_v1) := by
  refine (dat0 V c).arrAt_eq_of_covers 14 _ (by decide +kernel) fun t _ y => ?_
  blk_simp
  rw [after0_14]
  unfold_out out0_14
  rw [emb14]
  simp only [h1, h2, h3, s1, s2, s3]
  canon_tiles x h
  all_goals
    rw [hid_at]
    · pointwise [hb, rd2, rd5, rd7, rd8, rd9, rd10, rd11, rd12]
      congr 1
      · blk_ext []
      · blk_ext []
      · blk_ext []
      · blk_ext []
      · funext k
        blk_ext []
      · funext k
        blk_ext []
      · funext k
        blk_ext []
    · pointwise [rd7]
      refine fin _ ?_ ?_ <;> (show (_ : ℕ) ≤ _; simp [ix2])

end Cert.SampleIdeal.State
end
-- ==== Proof.SampleXc.lean ====
/- What the sample rows' attention leaves. -/
module

public import proofs.«01_k».proof.Proof.SampleAttnParts
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.SampleIdeal.Attn
open Cert.SampleIdeal Cert.SampleIdeal.Gen

variable (V : (c : Dev nD) → (b : Ref sig .tc) → Buf (Elt Ideal) ((c : Thread nD τ).loc b))

set_option maxHeartbeats 2000000 in
theorem final7 (c : Dev nD) (hq : ∀ j : S1024x8192.Idx, (j 1).val < 1024 → ∃ r : ℝ, V c main_arg4 j = (r : EReal))
    (hk : ∀ j : S128x256x4x256.Idx, ∃ r : ℝ, V c main_v3 j = (r : EReal)) :
    (dat1 V c).arrAt 7 cfg1.N = xc (V c main_arg4) (V c main_v3) (V c main_v4) := by
  refine (dat1 V c).arrAt_eq_of_covers 7 _ (by decide +kernel) fun t _ y => ?_
  blk_simp
  rw [after1_7]
  unfold_out out1_7
  rw [emb7]
  simp only [a0, a1, a2, a3]
  rw [w_second]
  canon_tiles x h
  all_goals
    first
    | rw [out0]
    | rw [out1]
    | rw [out2]
    | rw [out3]
    · pointwise [xc, rd2, rd3, rd4, rd5]
      congr 1
      · congr 1
        · funext m
          congr 1
          · funext d
            blk_ext []
          · funext d
            blk_ext []
        · funext m
          blk_ext []
      · congr 1
        blk_ext []
    · intro m
      pointwise [rd2, rd4]
      refine score_finite _ _ (fun d => hq _ ?_) fun d => hk _
      show (_ : ℕ) < _
      simp [ix2]
      try omega

end Cert.SampleIdeal.Attn
end
-- ==== Proof.SampleValue.lean ====
/- What the sampled tokens' four launches leave in the result arrays, from the arguments. -/
module

public import proofs.«01_k».proof.Proof.SampleRun
public import proofs.«01_k».proof.Proof.SampleY
public import proofs.«01_k».proof.Proof.SampleState
public import proofs.«01_k».proof.Proof.SampleC
public import proofs.«01_k».proof.Proof.SampleN
public import proofs.«01_k».proof.Proof.SampleHidden
public import proofs.«01_k».proof.Proof.SampleXc
public import proofs.«01_k».proof.Proof.SampleOut
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SampleIdeal.Run
open Cert.SampleIdeal Cert.SampleIdeal.Gen

variable (m : (ℓ : Loc nD τ sig) → Buf (Elt Ideal) ℓ) (ρ : Dev nD → PrngReg) (c : Dev nD)

/-- An argument as launched. -/
abbrev arg (b : Ref sig .tc) : Buf (Elt Ideal) ((c : Thread nD τ).loc b) := m ((c : Thread nD τ).loc b)

theorem v1 (a : Ref sig .tc) (h : a ∈ argRefs) : V1 m ρ c a = arg m c a := W1_args m ρ c a h
theorem v3 (a : Ref sig .tc) (h : a ∈ argRefs) : V3 m ρ c a = arg m c a := W3_args m ρ c a h
theorem v5 (a : Ref sig .tc) (h : a ∈ argRefs) : V5 m ρ c a = arg m c a := W5_args m ρ c a h

theorem state_in : V1 m ρ c main_v0 = shapeCast S128x4x512x512 (arg m c main_arg8) shapeCasts_S1x128x4x512x512_S128x4x512x512 := by
  change StableHlo.after hostOps0 (W0 m ρ c) (Proc.devRef .tc main_v0) = _
  entry_read
  rfl
theorem norm_in : V1 m ρ c main_v1 = shapeCast S128x4x512 (arg m c main_arg9) shapeCasts_S1x128x4x512_S128x4x512 := by
  change StableHlo.after hostOps0 (W0 m ρ c) (Proc.devRef .tc main_v1) = _
  entry_read
  rfl
theorem keys_in : V3 m ρ c main_v3 = shapeCast S128x256x4x256 (arg m c main_arg10) shapeCasts_S1x128x256x4x256_S128x256x4x256 := by
  change StableHlo.after hostOps1 (W2 m ρ c) (Proc.devRef .tc main_v3) = _
  entry_read
  rw [W2_args m ρ c main_arg10 (by decide)]
  rfl
theorem vals_in : V3 m ρ c main_v4 = shapeCast S128x256x4x256 (arg m c main_arg11) shapeCasts_S1x128x256x4x256_S128x256x4x256 := by
  change StableHlo.after hostOps1 (W2 m ρ c) (Proc.devRef .tc main_v4) = _
  entry_read
  rw [W2_args m ρ c main_arg11 (by decide)]
  rfl
theorem x_in : V5 m ρ c main_v6 = shapeCast S1024x2048 (arg m c main_arg13) shapeCasts_S128x8x2048_S1024x2048 := by
  change StableHlo.after hostOps2 (W4 m ρ c) (Proc.devRef .tc main_v6) = _
  entry_read
  rw [W4_args m ρ c main_arg13 (by decide)]
  rfl
theorem g_in : V5 m ρ c main_v8 = broadcastInDim S1x2048 ![1] bcast_S2048_S1x2048_1 (shapeCast S2048 (arg m c main_arg14) shapeCasts_S1x2048_S2048) := by
  change StableHlo.after hostOps2 (W4 m ρ c) (Proc.devRef .tc main_v8) = _
  entry_read
  rw [W4_args m ρ c main_arg14 (by decide)]
  rfl
theorem wa_in : V5 m ρ c main_v10 = truncf (F := Ideal) (φ := .f32) .bf16 (shapeCast S1024x2048 (arg m c main_arg15) shapeCasts_S1x1024x2048_S1024x2048) bitsLt_bf16_f32 := by
  change StableHlo.after hostOps2 (W4 m ρ c) (Proc.devRef .tc main_v10) = _
  entry_read
  rw [W4_args m ρ c main_arg15 (by decide)]
  rfl
theorem wb_in : V5 m ρ c main_v12 = truncf (F := Ideal) (φ := .f32) .bf16 (shapeCast S2048x2048 (arg m c main_arg16) shapeCasts_S1x2048x2048_S2048x2048) bitsLt_bf16_f32 := by
  change StableHlo.after hostOps2 (W4 m ρ c) (Proc.devRef .tc main_v12) = _
  entry_read
  rw [W4_args m ρ c main_arg16 (by decide)]
  rfl
theorem wc_in : V5 m ρ c main_v14 = truncf (F := Ideal) (φ := .f32) .bf16 (shapeCast S1024x2048 (arg m c main_arg17) shapeCasts_S1x1024x2048_S1024x2048) bitsLt_bf16_f32 := by
  change StableHlo.after hostOps2 (W4 m ρ c) (Proc.devRef .tc main_v14) = _
  entry_read
  rw [W4_args m ρ c main_arg17 (by decide)]
  rfl
theorem wo_in : V5 m ρ c main_v16 = truncf (F := Ideal) (φ := .f32) .bf16 (shapeCast S2048x2048 (arg m c main_arg18) shapeCasts_S1x2048x2048_S2048x2048) bitsLt_bf16_f32 := by
  change StableHlo.after hostOps2 (W4 m ρ c) (Proc.devRef .tc main_v16) = _
  entry_read
  rw [W4_args m ρ c main_arg18 (by decide)]
  rfl

/-- The statistics' stabilisers stay below infinity, the queries and keys are finite. -/
structure Tame : Prop where
  stat : ∀ j : S1024x128.Idx, 8 ≤ (j 1).val → (j 1).val < 12 → (arg m c main_arg7 : FVec Ideal S1024x128 .f32) j ≠ (⊤ : EReal)
  query : ∀ j : S1024x8192.Idx, (j 1).val < 1024 → ∃ r : ℝ, (arg m c main_arg4 : FVec Ideal S1024x8192 .f32) j = (r : EReal)
  key : ∀ j : S1x128x256x4x256.Idx, ∃ r : ℝ, (arg m c main_arg10 : FVec Ideal S1x128x256x4x256 .f32) j = (r : EReal)

theorem out13 : W7 m ρ c (Proc.devRef .tc main_v2_0) = State.proj (arg m c main_arg0) (arg m c main_arg1) := by
  rw [W7_of m ρ c main_v2_0 (by decide), W6_of m ρ c main_v2_0 (by decide), W5_of m ρ c main_v2_0 (by decide), W4_of m ρ c main_v2_0 (by decide),
    W3_of m ρ c main_v2_0 (by decide)]
  exact ((W2_arr m ρ c 13).trans (State.final13 (V1 m ρ) c)).trans
    (congrArg₂ State.proj (v1 m ρ c main_arg0 (by decide)) (v1 m ρ c main_arg1 (by decide)))

theorem out15 : W7 m ρ c (Proc.devRef .tc main_v2_2) = State.cNew (arg m c main_arg3) (arg m c main_arg6) (arg m c main_arg7)
    (shapeCast S128x4x512x512 (arg m c main_arg8) shapeCasts_S1x128x4x512x512_S128x4x512x512) := by
  rw [W7_of m ρ c main_v2_2 (by decide), W6_of m ρ c main_v2_2 (by decide), W5_of m ρ c main_v2_2 (by decide), W4_of m ρ c main_v2_2 (by decide),
    W3_of m ρ c main_v2_2 (by decide)]
  refine ((W2_arr m ρ c 15).trans (State.final15 (V1 m ρ) c)).trans ?_
  rw [state_in, v1 m ρ c main_arg3 (by decide), v1 m ρ c main_arg6 (by decide), v1 m ρ c main_arg7 (by decide)]

theorem out16 : W7 m ρ c (Proc.devRef .tc main_v2_3) = State.nNew (arg m c main_arg3) (arg m c main_arg6) (arg m c main_arg7)
    (shapeCast S128x4x512 (arg m c main_arg9) shapeCasts_S1x128x4x512_S128x4x512) := by
  rw [W7_of m ρ c main_v2_3 (by decide), W6_of m ρ c main_v2_3 (by decide), W5_of m ρ c main_v2_3 (by decide), W4_of m ρ c main_v2_3 (by decide),
    W3_of m ρ c main_v2_3 (by decide)]
  refine ((W2_arr m ρ c 16).trans (State.final16 (V1 m ρ) c)).trans ?_
  rw [norm_in, v1 m ρ c main_arg3 (by decide), v1 m ρ c main_arg6 (by decide), v1 m ρ c main_arg7 (by decide)]

theorem out6 : W7 m ρ c (Proc.devRef .tc main_v5_0) = Attn.proj (arg m c main_arg0) (arg m c main_arg2) := by
  rw [W7_of m ρ c main_v5_0 (by decide), W6_of m ρ c main_v5_0 (by decide), W5_of m ρ c main_v5_0 (by decide)]
  exact ((W4_arr m ρ c 6).trans (Attn.final6 (V3 m ρ) c)).trans
    (congrArg₂ Attn.proj (v3 m ρ c main_arg0 (by decide)) (v3 m ρ c main_arg2 (by decide)))

variable (tame : Tame m c)
include tame

theorem hidden : V5 m ρ c main_v2_1 = State.hb (arg m c main_arg3) (arg m c main_arg5) (arg m c main_arg7)
    (shapeCast S128x4x512x512 (arg m c main_arg8) shapeCasts_S1x128x4x512x512_S128x4x512x512)
    (shapeCast S128x4x512 (arg m c main_arg9) shapeCasts_S1x128x4x512_S128x4x512) := by
  change W5 m ρ c (Proc.devRef .tc main_v2_1) = _
  rw [W5_of m ρ c main_v2_1 (by decide), W4_of m ρ c main_v2_1 (by decide), W3_of m ρ c main_v2_1 (by decide)]
  refine ((W2_arr m ρ c 14).trans (State.final14 (V1 m ρ) c ?_)).trans ?_
  · rw [v1 m ρ c main_arg7 (by decide)]; exact tame.stat
  · rw [state_in, norm_in, v1 m ρ c main_arg3 (by decide), v1 m ρ c main_arg5 (by decide), v1 m ρ c main_arg7 (by decide)]

theorem attended : V5 m ρ c main_v5_1 = Attn.xc (arg m c main_arg4)
    (shapeCast S128x256x4x256 (arg m c main_arg10) shapeCasts_S1x128x256x4x256_S128x256x4x256)
    (shapeCast S128x256x4x256 (arg m c main_arg11) shapeCasts_S1x128x256x4x256_S128x256x4x256) := by
  change W5 m ρ c (Proc.devRef .tc main_v5_1) = _
  rw [W5_of m ρ c main_v5_1 (by decide)]
  refine ((W4_arr m ρ c 7).trans (Attn.final7 (V3 m ρ) c ?_ ?_)).trans ?_
  · rw [v3 m ρ c main_arg4 (by decide)]; exact tame.query
  · rw [keys_in]; exact fun j => tame.key _
  · rw [keys_in, vals_in, v3 m ρ c main_arg4 (by decide)]

theorem out4 : W7 m ρ c (Proc.devRef .tc main_v18) = Tail.yOf (arg m c main_arg3) (arg m c main_arg4) (arg m c main_arg5) (arg m c main_arg7)
    (arg m c main_arg8) (arg m c main_arg9) (arg m c main_arg10) (arg m c main_arg11) (arg m c main_arg12) (arg m c main_arg13)
    (arg m c main_arg14) (arg m c main_arg15) (arg m c main_arg16) (arg m c main_arg17) (arg m c main_arg18) := by
  refine ((W7_arr m ρ c 4).trans (Tail.final4 (V6 m ρ) c)).trans ?_
  have e17 : V6 m ρ c main_v17 = _ := (W6_arr m ρ c 11).trans (Tail.final11 (V5 m ρ) c)
  have e6 : V6 m ρ c main_v6 = _ := (W6_of m ρ c main_v6 (by decide)).trans (x_in m ρ c)
  have e8 : V6 m ρ c main_v8 = _ := (W6_of m ρ c main_v8 (by decide)).trans (g_in m ρ c)
  have e16 : V6 m ρ c main_v16 = _ := (W6_of m ρ c main_v16 (by decide)).trans (wo_in m ρ c)
  rw [e17, e6, e8, e16, hidden m ρ c tame, attended m ρ c tame, wa_in, wb_in, wc_in, v5 m ρ c main_arg3 (by decide), v5 m ρ c main_arg4 (by decide),
    v5 m ρ c main_arg12 (by decide)]
  rfl

end Cert.SampleIdeal.Run
end
-- ==== Proof.Finite.lean ====
/- Values compared below infinity: what the preconditions say of one entry. -/
module

public import proofs.«01_k».proof.Proof.Softmax
public import Idealize.ShloMosaic.Lib.ReduceAll
public import Idealize.ShloMosaic.Lib.Pointwise

@[expose] public section

noncomputable section

open Idealize.ShloMosaic

namespace Layer

theorem posInf_eq : Ideal.ofBits .f32 0x7F800000#32 = ⊤ := by simp [Ideal.ofBits, Ideal.ieee]

/-- A value compared below infinity is not infinity. -/
theorem ne_top_of_olt (x : EReal) (h : Ideal.cmp .olt x (Ideal.ofBits .f32 0x7F800000#32) = 1#1) : x ≠ ⊤ := by
  rw [posInf_eq] at h
  exact ((Ideal.cmp_olt_eq_one _ _).1 h).ne

/-- A value whose magnitude compares below infinity is a real. -/
theorem real_of_olt (x : EReal) (h : Ideal.cmp .olt (FloatOps.hostAbsf (F := Ideal) (φ := .f32) x) (Ideal.ofBits .f32 0x7F800000#32) = 1#1) :
    ∃ r : ℝ, x = (r : EReal) := by
  have h1 : max x (-x) ≠ ⊤ := ne_top_of_olt _ h
  have h2 : x ≠ ⊤ := fun e => h1 (by rw [e]; simp)
  have h3 : x ≠ ⊥ := fun e => h1 (by rw [e]; simp)
  exact ⟨x.toReal, (EReal.coe_toReal h2 h3).symm⟩

/-- A conjunction of two one-bit flags. -/
theorem andi_one {s : Shape} (a b : IVec s 1) (i : s.Idx) (h : andi a b i = 1#1) : a i = 1#1 ∧ b i = 1#1 := by
  change IntOp.andi (a i) (b i) = 1#1 at h
  revert h
  generalize a i = p
  generalize b i = q
  revert p q
  decide

end Layer
end
-- ==== Proof.SampleTame.lean ====
/- What the precondition of the sampled tokens' launches says of the arguments' entries. -/
module

public import proofs.«01_k».proof.Proof.SampleValue
public import proofs.«01_k».proof.Proof.Finite
public import proofs.«01_k».proof.Pre_sample_tame
public import proofs.«01_k».proof.Defs

@[expose] public section

set_option maxRecDepth 16384

noncomputable section

open Idealize.ShloMosaic Idealize.ShloMosaic.TcCoe

namespace Cert.SampleIdeal.Run
open Cert.SampleIdeal Layer

variable [hP : Cert.Pre_sample_tame.Facts] (m : (ℓ : Loc nD τ sig) → Buf (Elt Ideal) ℓ)

instance : Subsingleton Cert.Pre_sample_tame.S_.Idx := ⟨fun a b => funext fun i => i.elim0⟩

theorem tame_of (h : Cert.Pre_SampleIdeal_sample_tame m) (c : Dev nD) : Tame m c := by
  have e := congrFun (h c) (Shape.Idx.first hP.h_S_)
  obtain ⟨e1, e3⟩ := andi_one _ _ _ e
  obtain ⟨e1, e2⟩ := andi_one _ _ _ e1
  have f1 := Host.reduce_andi_all _ _ _ _ _ e1
  have f2 := Host.reduce_andi_all _ _ _ _ _ e2
  have f3 := Host.reduce_andi_all _ _ _ _ _ e3
  refine ⟨fun j h8 h12 => ?_, fun j hj => ?_, fun j => ?_⟩
  · have g := ne_top_of_olt _ (f1 (ix2 (j 0) ⟨(j 1).val - 8, by show _ < 4; omega⟩))
    refine fun t => g (Eq.trans ?_ t)
    pointwise []
    blk_ext []
  · obtain ⟨r, hr⟩ := real_of_olt _ (f2 (ix2 (j 0) ⟨(j 1).val, hj⟩))
    refine ⟨r, Eq.trans ?_ hr⟩
    pointwise []
    blk_ext []
  · exact real_of_olt _ (f3 j)

end Cert.SampleIdeal.Run
end
-- ==== Proof.RefSampleState.lean ====
/- The reference's rearranged projections, gates and stabilisers, entry by entry. -/
module

public import proofs.«01_k».proof.Proof.SampleParts
public import proofs.«01_k».proof.Proof.SampleAttnParts
public import proofs.«01_k».proof.Proof.Softmax
public import proofs.«01_k».proof.Proof.Gen.RefSampleIdeal.Run
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.RefSampleIdeal.Mixed
open Cert.RefSampleIdeal Cert.RefSampleIdeal.Gen Cert.RefSampleIdeal.Value
open Cert.SampleIdeal.State (tok col pc cNew nNew)

variable (V0 : Valuation τ sig (Elt Ideal))

theorem v12_at (x : S128x4x8x512.Idx) :
    res_main_v12 V0 x = V0 (Proc.devRef .tc main_arg3) (ix2 (tok (x 0) (x 2)) (pc 1 (x 1) (x 3))) := by
  pointwise [res_main_v12]
  blk_ext []
theorem v20_at (x : S128x4x8x512.Idx) :
    res_main_v20 V0 x = HMul.hMul (α := EReal) (β := EReal) (γ := EReal) (V0 (Proc.devRef .tc main_arg3) (ix2 (tok (x 0) (x 2)) (pc 2 (x 1) (x 3)))) kscale := by
  pointwise [res_main_v20]
  congr 1
  blk_ext []
theorem v26_at (x : S128x4x8.Idx) : res_main_v26 V0 x = V0 (Proc.devRef .tc main_arg6) (ix2 (tok (x 0) (x 2)) (col 4 (x 1))) := by
  pointwise [res_main_v26]
  blk_ext []
theorem v37_at (x : S128x4x8.Idx) : res_main_v37 V0 x = V0 (Proc.devRef .tc main_arg7) (ix2 (tok (x 0) (x 2)) (col 4 (x 1))) := by
  pointwise [res_main_v37]
  blk_ext []
theorem v40_at (x : S128x4x8.Idx) : res_main_v40 V0 x = V0 (Proc.devRef .tc main_arg7) (ix2 (tok (x 0) (x 2)) (col 8 (x 1))) := by
  pointwise [res_main_v40]
  blk_ext []
theorem v59_at (x : S128x4.Idx) : res_main_v59 V0 x = V0 (Proc.devRef .tc main_arg7) (ix2 (tok (x 0) 7) (col 8 (x 1))) := by
  pointwise [res_main_v59, v40_at]
theorem v67_at (x : S128x4x8.Idx) : res_main_v67 V0 x
    = tokenWeight (V0 (Proc.devRef .tc main_arg6) (ix2 (tok (x 0) 7) (col 4 (x 1)))) (V0 (Proc.devRef .tc main_arg6) (ix2 (tok (x 0) (x 2)) (col 4 (x 1))))
        (V0 (Proc.devRef .tc main_arg6) (ix2 (tok (x 0) (x 2)) (col 0 (x 1)))) (V0 (Proc.devRef .tc main_arg7) (ix2 (tok (x 0) 7) (col 8 (x 1)))) := by
  pointwise [res_main_v67, v26_at, v59_at, tokenWeight]
  congr 3
  blk_ext []
theorem v72_at (x : S128x4.Idx) : res_main_v72 V0 x
    = decay (V0 (Proc.devRef .tc main_arg6) (ix2 (tok (x 0) 7) (col 4 (x 1)))) (V0 (Proc.devRef .tc main_arg6) (ix2 (tok (x 0) 7) (col 8 (x 1))))
        (V0 (Proc.devRef .tc main_arg7) (ix2 (tok (x 0) 7) (col 8 (x 1)))) := by
  pointwise [res_main_v72, v26_at, v59_at, decay]
  congr 3
  blk_ext []

/-- The values by head, rearranged. -/
def byHead (A : FVec Ideal S1024x12288 .f32) : FVec Ideal S128x4x8x512 .f32 :=
  transpose S128x4x8x512 [0, 2, 1, 3] (shapeCast _ (extractStridedSlice S1024x2048 ![0, 6144] A slices_S1024x12288_S1024x2048_0_6144)
    shapeCasts_S1024x2048_S128x8x4x512) transposes_S128x8x4x512_S128x4x8x512_0_2_1_3

theorem byHead_at (A : FVec Ideal S1024x12288 .f32) (x : S128x4x8x512.Idx) : byHead A x = A (ix2 (tok (x 0) (x 2)) (pc 3 (x 1) (x 3))) := by
  pointwise [byHead]
  blk_ext []

/-- The new matrix state from the decay, the old state, the tokens' weights, the values and the scaled keys. -/
def stateOf (d : FVec Ideal S128x4 .f32) (C : FVec Ideal S128x4x512x512 .f32) (w : FVec Ideal S128x4x8 .f32)
    (v k : FVec Ideal S128x4x8x512 .f32) : FVec Ideal S128x4x512x512 .f32 :=
  addf (mulf (broadcastInDim S128x4x512x512 ![0, 1, 2, 3] bcast_S128x4x1x1_S128x4x512x512_0_1_2_3
      (broadcastInDim S128x4x1x1 ![0, 1] bcast_S128x4_S128x4x1x1_0_1 d)) C)
    (Host.dotGeneral dot_S128x4x8x512_S128x4x8x512_S128x4x512x512_2_2_3_3_01_01 none
      (mulf (broadcastInDim S128x4x8x512 ![0, 1, 2, 3] bcast_S128x4x8x1_S128x4x8x512_0_1_2_3
        (broadcastInDim S128x4x8x1 ![0, 1, 2] bcast_S128x4x8_S128x4x8x1_0_1_2 w)) v) k)

theorem c_ref : stateOf (res_main_v72 V0) (res_main_v8 V0) (res_main_v67 V0) (byHead (V0 (Proc.devRef .tc main_arg3))) (res_main_v20 V0)
      = cNew (V0 (Proc.devRef .tc main_arg3)) (V0 (Proc.devRef .tc main_arg6)) (V0 (Proc.devRef .tc main_arg7)) (res_main_v8 V0) := by
  funext x
  pointwise [stateOf, v72_at, v67_at, v20_at, byHead_at, cNew, newC]

/-- The new normaliser from the decay, the old one, the tokens' weights and the scaled keys. -/
def normOf (d : FVec Ideal S128x4 .f32) (n : FVec Ideal S128x4x512 .f32) (w : FVec Ideal S128x4x8 .f32)
    (k : FVec Ideal S128x4x8x512 .f32) : FVec Ideal S128x4x512 .f32 :=
  addf (mulf (broadcastInDim S128x4x512 ![0, 1, 2] bcast_S128x4x1_S128x4x512_0_1_2
      (broadcastInDim S128x4x1 ![0, 1] bcast_S128x4_S128x4x1_0_1 d)) n)
    (Host.dotGeneral dot_S128x4x8_S128x4x8x512_S128x4x512_2_2_n_3_01_01 none w k)

theorem n_ref : normOf (res_main_v72 V0) (res_main_v9 V0) (res_main_v67 V0) (res_main_v20 V0)
      = nNew (V0 (Proc.devRef .tc main_arg3)) (V0 (Proc.devRef .tc main_arg6)) (V0 (Proc.devRef .tc main_arg7)) (res_main_v9 V0) := by
  funext x
  pointwise [normOf, v72_at, v67_at, v20_at, nNew, newN]

/-- The prompt rows' projections. -/
theorem a_ref : Host.dotGeneral (φ₁ := .f32) (φ₂ := .f32) dot_S8192x2048_S2048x12288_S8192x12288_1_0_0_1_n_n none
      (extf .f32 (V0 (Proc.devRef .tc main_arg0) : FVec Ideal S8192x2048 .bf16) bitsLt_bf16_f32)
      (transpose S2048x12288 [1, 0] (extf .f32 (V0 (Proc.devRef .tc main_arg1) : FVec Ideal S12288x2048 .bf16) bitsLt_bf16_f32) transposes_S12288x2048_S2048x12288_1_0)
      = Cert.SampleIdeal.State.proj (V0 (Proc.devRef .tc main_arg0)) (V0 (Proc.devRef .tc main_arg1)) := by
  funext x
  pointwise [Cert.SampleIdeal.State.proj]

theorem b_ref : Host.dotGeneral (φ₁ := .f32) (φ₂ := .f32) dot_S8192x2048_S2048x8192_S8192x8192_1_0_0_1_n_n none
      (extf .f32 (V0 (Proc.devRef .tc main_arg0) : FVec Ideal S8192x2048 .bf16) bitsLt_bf16_f32)
      (transpose S2048x8192 [1, 0] (extf .f32 (V0 (Proc.devRef .tc main_arg2) : FVec Ideal S8192x2048 .bf16) bitsLt_bf16_f32) transposes_S8192x2048_S2048x8192_1_0)
      = Cert.SampleIdeal.Attn.proj (V0 (Proc.devRef .tc main_arg0)) (V0 (Proc.devRef .tc main_arg2)) := by
  funext x
  pointwise [Cert.SampleIdeal.Attn.proj]

end Cert.RefSampleIdeal.Mixed
end
-- ==== Proof.RefSampleParts.lean ====
/- The reference's mLSTM output and attention, entry by entry. -/
module

public import proofs.«01_k».proof.Proof.RefSampleState
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.RefSampleIdeal.Mixed
open Cert.RefSampleIdeal Cert.RefSampleIdeal.Gen Cert.RefSampleIdeal.Value
open Cert.SampleIdeal.State (tok col pc cNew nNew)

variable (V0 : Valuation τ sig (Elt Ideal))

/-- The gated attention from its exponentials, the values and the gate. -/
def gatedAttn (p : FVec Ideal S128x4x8x256 .f32) (v : FVec Ideal S1x128x256x4x256 .f32) (z : FVec Ideal S1024x1024 .f32) : FVec Ideal S1024x1024 .f32 :=
    mulf (shapeCast _ (transpose S128x8x4x256 [0, 3, 1, 2] (Host.dotGeneral
    dot_S128x256x4x256_S128x4x8x256_S128x4x256x8_1_3_3_2_02_01 none (shapeCast _ v
    shapeCasts_S1x128x256x4x256_S128x256x4x256) (Host.divf p (broadcastInDim S128x4x8x256 ![0, 1, 2, 3]
    bcast_S128x4x8x1_S128x4x8x256_0_1_2_3 (broadcastInDim S128x4x8x1 ![0, 1, 2] bcast_S128x4x8_S128x4x8x1_0_1_2
    (Host.reduceAdd p (constant S_ .f32 0x00000000#32) reducesTo_S128x4x8x256_S128x4x8_d3 h_S_)))))
    transposes_S128x4x256x8_S128x8x4x256_0_3_1_2) shapeCasts_S128x8x4x256_S1024x1024) (mulf z (Host.divf
    (broadcastInDim S1024x1024 ![] bcast_S_S1024x1024 (constant S_ .f32 0x3F800000#32)) (addf (broadcastInDim
    S1024x1024 ![] bcast_S_S1024x1024 (constant S_ .f32 0x3F800000#32)) (Host.exp (Host.negf z)))))

theorem scores_at (x : S128x4x8x256.Idx) : res_main_v94 V0 x
    = score (fun d : Fin 256 => V0 (Proc.devRef .tc main_arg4) (ix2 (tok (x 0) (x 2)) ⟨256 * (x 1).val + d.val, by idx_bounds; omega⟩))
        fun d => V0 (Proc.devRef .tc main_arg10) (ix5 0 (x 0) (x 3) (x 1) d) := by
  pointwise [res_main_v94, score]
  congr 1
  refine Finset.sum_congr rfl fun d _ => ?_
  congr 1
  blk_ext []

/-- The exponentials of the scores less their maximum. -/
def expOf (s : FVec Ideal S128x4x8x256 .f32) : FVec Ideal S128x4x8x256 .f32 :=
    Host.exp (subf s (broadcastInDim S128x4x8x256 ![0, 1, 2, 3] bcast_S128x4x8x1_S128x4x8x256_0_1_2_3 (broadcastInDim
    S128x4x8x1 ![0, 1, 2] bcast_S128x4x8_S128x4x8x1_0_1_2 (maximumf (broadcastInDim S128x4x8 ![] bcast_S_S128x4x8
    (constant S_ .f32 0xFF800000#32)) (Host.reduce FloatOps.maximumf s (constant S_ .f32 0xFF800000#32)
    reducesTo_S128x4x8x256_S128x4x8_d3 h_S_)))))

theorem expOf_at (s : FVec Ideal S128x4x8x256 .f32) (x : S128x4x8x256.Idx) :
    expOf s x = Ideal.exp (s x - Finset.univ.sup fun m => s (ix4 (x 0) (x 1) (x 2) m)) := by
  simp only [← fold_max]
  pointwise [expOf]
  congr 2
  rw [fold_max, negInf_eq, max_eq_right bot_le]

theorem exp_at (x : S128x4x8x256.Idx) : res_main_v101 V0 x = expOf (res_main_v94 V0) x := rfl

end Cert.RefSampleIdeal.Mixed
end
-- ==== Proof.RefSampleXc.lean ====
/- The reference's mLSTM output and attention, entry by entry. -/
module

public import proofs.«01_k».proof.Proof.RefSampleParts
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.RefSampleIdeal.Mixed
open Cert.RefSampleIdeal Cert.RefSampleIdeal.Gen Cert.RefSampleIdeal.Value
open Cert.SampleIdeal.State (tok col pc cNew nNew)

variable (V0 : Valuation τ sig (Elt Ideal))

theorem tok_split (r : Fin 1024) : tok ⟨r.val / 8, by omega⟩ ⟨r.val % 8, Nat.mod_lt _ (by decide)⟩ = r :=
  Fin.ext (by simp only; omega)

theorem gatedAttn_at (p : FVec Ideal S128x4x8x256 .f32) (v : FVec Ideal S1x128x256x4x256 .f32) (z : FVec Ideal S1024x1024 .f32)
    (x : S1024x1024.Idx) (b : Fin 128) (s : Fin 8) (h : Fin 4) (hb : b.val = (x 0).val / 8) (hs : s.val = (x 0).val % 8)
    (hh : h.val = (x 1).val / 256) : gatedAttn p v z x
      = (∑ m, Ideal.div (p (ix4 b h s m)) (∑ l, p (ix4 b h s l)) * v (ix5 0 b m h ⟨(x 1).val % 256, Nat.mod_lt _ (by decide)⟩)) * swish (z x) := by
  have b1 : (x 0).val / 8 < 128 := by clear hb hs hh; idx_bounds; omega
  have b2 : (x 1).val / 256 < 4 := by clear hb hs hh; idx_bounds; omega
  obtain rfl : b = ⟨(x 0).val / 8, b1⟩ := Fin.ext hb
  obtain rfl : s = ⟨(x 0).val % 8, Nat.mod_lt _ (by decide)⟩ := Fin.ext hs
  obtain rfl : h = ⟨(x 1).val / 256, b2⟩ := Fin.ext hh
  pointwise [gatedAttn, swish, sg]
  congr 1
  exact Finset.sum_congr rfl fun m _ => mul_comm _ _

/-- The attention's weights and values give its sum. -/
theorem attend_congr {P : Fin 256 → EReal} {s s' v v' : Fin 256 → EReal} (h : ∀ m, P m = Ideal.exp (s m - Finset.univ.sup s)) (hs : ∀ m, s m = s' m)
    (hv : ∀ m, v m = v' m) : ∑ m, Ideal.div (P m) (∑ l, P l) * v m = attend s' v' := by
  obtain rfl : s = s' := funext hs
  obtain rfl : v = v' := funext hv
  simp only [h, attend]

theorem gate_at (x : S1024x1024.Idx) : res_main_v109 V0 x = V0 (Proc.devRef .tc main_arg4) (ix2 (x 0) ⟨1024 + (x 1).val, by idx_bounds; omega⟩) := by
  pointwise [res_main_v109]

theorem reshape_at (v : FVec Ideal S1x128x256x4x256 .f32) (y : S128x256x4x256.Idx) :
    shapeCast S128x256x4x256 v shapeCasts_S1x128x256x4x256_S128x256x4x256 y = v (ix5 0 (y 0) (y 1) (y 2) (y 3)) := by
  pointwise []

theorem xc_ref : gatedAttn (res_main_v101 V0) (V0 (Proc.devRef .tc main_arg11)) (res_main_v109 V0)
      = Cert.SampleIdeal.Attn.xc (V0 (Proc.devRef .tc main_arg4)) (shapeCast S128x256x4x256 (V0 (Proc.devRef .tc main_arg10) : FVec Ideal S1x128x256x4x256 .f32) shapeCasts_S1x128x256x4x256_S128x256x4x256)
          (shapeCast S128x256x4x256 (V0 (Proc.devRef .tc main_arg11) : FVec Ideal S1x128x256x4x256 .f32) shapeCasts_S1x128x256x4x256_S128x256x4x256) := by
  funext x
  have et : tok ⟨(x 0).val / 8, by idx_bounds; omega⟩ ⟨(x 0).val % 8, Nat.mod_lt _ (by decide)⟩ = x 0 := tok_split _
  refine (gatedAttn_at _ _ _ x ⟨(x 0).val / 8, by idx_bounds; omega⟩ ⟨(x 0).val % 8, Nat.mod_lt _ (by decide)⟩
    ⟨(x 1).val / 256, by idx_bounds; omega⟩ rfl rfl rfl).trans (congrArg₂ (fun a b : EReal => a * b) ?_ (congrArg swish (gate_at V0 x)))
  refine attend_congr (fun m => (exp_at V0 _).trans (expOf_at _ _)) (fun m => ?_) fun m => (reshape_at (V0 (Proc.devRef .tc main_arg11)) (ix4 _ m _ _)).symm
  refine (scores_at V0 _).trans (congrArg₂ score ?_ (funext fun k => (reshape_at (V0 (Proc.devRef .tc main_arg10)) (ix4 _ m _ k)).symm))
  exact congrArg (fun r => fun d : Fin 256 => (V0 (Proc.devRef .tc main_arg4) : FVec Ideal S1024x8192 .f32) (ix2 r ⟨256 * ((x 1).val / 256) + d.val, by idx_bounds; omega⟩)) et

end Cert.RefSampleIdeal.Mixed
end
-- ==== Proof.RefSampleHid.lean ====
/- The reference's mLSTM output, entry by entry. -/
module

public import proofs.«01_k».proof.Proof.RefSampleXc
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.RefSampleIdeal.Mixed
open Cert.RefSampleIdeal Cert.RefSampleIdeal.Gen Cert.RefSampleIdeal.Value
open Cert.SampleIdeal.State (tok col pc cNew nNew)

variable (V0 : Valuation τ sig (Elt Ideal))

/-- The mLSTM's output from the intra-token part `num` and `den`, the weight `iw` and stabiliser `mx`, the queries and the state. -/
def hiddenOf (num : FVec Ideal S1024x2048 .f32) (stat : FVec Ideal S1024x128 .f32) (iw mx : FVec Ideal S128x4x8 .f32)
    (q : FVec Ideal S128x4x8x512 .f32) (C : FVec Ideal S128x4x512x512 .f32) (n : FVec Ideal S128x4x512 .f32) : FVec Ideal S1024x2048 .f32 :=
    shapeCast _ (transpose S128x8x4x512 [0, 2, 1, 3] (Host.divf (addf (transpose S128x4x8x512 [0, 2, 1, 3] (shapeCast
    _ num shapeCasts_S1024x2048_S128x8x4x512) transposes_S128x8x4x512_S128x4x8x512_0_2_1_3) (mulf (broadcastInDim
    S128x4x8x512 ![0, 1, 2, 3] bcast_S128x4x8x1_S128x4x8x512_0_1_2_3 (broadcastInDim S128x4x8x1 ![0, 1, 2]
    bcast_S128x4x8_S128x4x8x1_0_1_2 iw)) (Host.dotGeneral dot_S128x4x8x512_S128x4x512x512_S128x4x8x512_3_3_2_2_01_01
    none q C))) (broadcastInDim S128x4x8x512 ![0, 1, 2, 3] bcast_S128x4x8x1_S128x4x8x512_0_1_2_3 (broadcastInDim
    S128x4x8x1 ![0, 1, 2] bcast_S128x4x8_S128x4x8x1_0_1_2 (maximumf (Host.absf (addf (transpose S128x4x8 [0, 2, 1]
    (shapeCast _ (extractStridedSlice S1024x4 ![0, 0] stat slices_S1024x128_S1024x4_0_0) shapeCasts_S1024x4_S128x8x4)
    transposes_S128x8x4_S128x4x8_0_2_1) (mulf iw (Host.dotGeneral dot_S128x4x512_S128x4x8x512_S128x4x8_2_3_n_2_01_01
    none n q)))) (Host.exp (Host.negf mx)))))) transposes_S128x4x8x512_S128x8x4x512_0_2_1_3)
    shapeCasts_S128x8x4x512_S1024x2048

theorem hidden_comm (num iw den mx : EReal) (q c n : Fin 512 → EReal) :
    Ideal.div (num + iw * ∑ k, q k * c k) (max (FloatOps.absf (F := Ideal) (φ := .f32) (den + iw * ∑ k, n k * q k)) (Ideal.exp (-mx)))
      = hiddenRow num iw den mx q c n := by
  simp only [hiddenRow, mul_comm (n _)]

theorem hiddenOf_at (num : FVec Ideal S1024x2048 .f32) (stat : FVec Ideal S1024x128 .f32) (iw mx : FVec Ideal S128x4x8 .f32)
    (q : FVec Ideal S128x4x8x512 .f32) (C : FVec Ideal S128x4x512x512 .f32) (n : FVec Ideal S128x4x512 .f32) (x : S1024x2048.Idx)
    (b : Fin 128) (s : Fin 8) (h : Fin 4) (hb : b.val = (x 0).val / 8) (hs : s.val = (x 0).val % 8) (hh : h.val = (x 1).val / 512) :
    hiddenOf num stat iw mx q C n x
      = hiddenRow (num x) (iw (ix3 b h s)) (stat (ix2 (x 0) (col 0 h))) (mx (ix3 b h s)) (fun k => q (ix4 b h s k))
          (fun k => C (ix4 b h ⟨(x 1).val % 512, Nat.mod_lt _ (by decide)⟩ k)) (fun k => n (ix3 b h k)) := by
  have b1 : (x 0).val / 8 < 128 := by clear hb hs hh; idx_bounds; omega
  have b2 : (x 1).val / 512 < 4 := by clear hb hs hh; idx_bounds; omega
  obtain rfl : b = ⟨(x 0).val / 8, b1⟩ := Fin.ext hb
  obtain rfl : s = ⟨(x 0).val % 8, Nat.mod_lt _ (by decide)⟩ := Fin.ext hs
  obtain rfl : h = ⟨(x 1).val / 512, b2⟩ := Fin.ext hh
  rw [← hidden_comm]
  pointwise [hiddenOf]
  have ec : (⟨(x 1).val / 512, by idx_bounds; omega⟩ : Fin 128) = col 0 ⟨(x 1).val / 512, by idx_bounds; omega⟩ := Fin.ext (by simp)
  have hst : stat (ix2 (x 0) ⟨(x 1).val / 512, by idx_bounds; omega⟩) = stat (ix2 (x 0) (col 0 ⟨(x 1).val / 512, b2⟩)) :=
    congrArg (fun r => stat (ix2 (x 0) r)) ec
  simp only [hst]

theorem hiddenRow_congr {a a' i i' d d' m m' : EReal} {q q' c c' n n' : Fin 512 → EReal} (h1 : a = a') (h2 : i = i') (h3 : d = d')
    (h4 : m = m') (h5 : ∀ k, q k = q' k) (h6 : c = c') (h7 : n = n') : hiddenRow a i d m q c n = hiddenRow a' i' d' m' q' c' n' := by
  rw [h1, h2, h3, h4, show q = q' from funext h5, h6, h7]

theorem hb_ref : hiddenOf (V0 (Proc.devRef .tc main_arg5)) (V0 (Proc.devRef .tc main_arg7)) (res_main_v37 V0) (res_main_v40 V0)
      (res_main_v12 V0) (res_main_v8 V0) (res_main_v9 V0)
      = Cert.SampleIdeal.State.hb (V0 (Proc.devRef .tc main_arg3)) (V0 (Proc.devRef .tc main_arg5)) (V0 (Proc.devRef .tc main_arg7))
          (res_main_v8 V0) (res_main_v9 V0) := by
  funext x
  have et : tok ⟨(x 0).val / 8, by idx_bounds; omega⟩ ⟨(x 0).val % 8, Nat.mod_lt _ (by decide)⟩ = x 0 := tok_split _
  refine (hiddenOf_at _ _ _ _ _ _ _ x ⟨(x 0).val / 8, by idx_bounds; omega⟩ ⟨(x 0).val % 8, Nat.mod_lt _ (by decide)⟩
    ⟨(x 1).val / 512, by idx_bounds; omega⟩ rfl rfl rfl).trans (hiddenRow_congr rfl ?_ rfl ?_ (fun k => ?_) rfl rfl)
  · refine (v37_at V0 _).trans ?_
    exact congrArg (fun r => (V0 (Proc.devRef .tc main_arg7) : FVec Ideal S1024x128 .f32) (ix2 r _)) et
  · refine (v40_at V0 _).trans ?_
    exact congrArg (fun r => (V0 (Proc.devRef .tc main_arg7) : FVec Ideal S1024x128 .f32) (ix2 r _)) et
  · refine (v12_at V0 _).trans ?_
    exact congrArg (fun r => (V0 (Proc.devRef .tc main_arg3) : FVec Ideal S1024x12288 .f32) (ix2 r _)) et

end Cert.RefSampleIdeal.Mixed
end
-- ==== Proof.RefSampleOut.lean ====
/- The reference's output, entry by entry. -/
module

public import proofs.«01_k».proof.Proof.RefSampleHid
public import proofs.«01_k».proof.Proof.SampleY
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.RefSampleIdeal.Mixed
open Cert.RefSampleIdeal Cert.RefSampleIdeal.Gen Cert.RefSampleIdeal.Value
open Cert.SampleIdeal.Tail (gatedSum outRows yOf)

variable (V0 : Valuation τ sig (Elt Ideal))

/-- The gated sum of the three branches from the projections, the branches' rows and the weights. -/
def gatedOf (A : FVec Ideal S1024x12288 .f32) (B : FVec Ideal S1024x8192 .f32) (xa : FVec Ideal S1024x1024 .bf16) (hb z : FVec Ideal S1024x2048 .f32)
    (xc : FVec Ideal S1024x1024 .f32) (wa wc : FVec Ideal S1x1024x2048 .f32) (wb : FVec Ideal S1x2048x2048 .f32) : FVec Ideal S1024x2048 .f32 :=
    addf (addf (mulf (Host.divf (broadcastInDim S1024x2048 ![] bcast_S_S1024x2048 (constant S_ .f32 0x3F800000#32))
    (addf (broadcastInDim S1024x2048 ![] bcast_S_S1024x2048 (constant S_ .f32 0x3F800000#32)) (Host.exp (Host.negf
    (extractStridedSlice S1024x2048 ![0, 2048] B slices_S1024x8192_S1024x2048_0_2048))))) (Host.dotGeneral
    dot_S1024x1024_S1024x2048_S1024x2048_1_0_0_1_n_n none (extf .f32 xa bitsLt_bf16_f32) (shapeCast _ wa
    shapeCasts_S1x1024x2048_S1024x2048))) (mulf (Host.divf (broadcastInDim S1024x2048 ![] bcast_S_S1024x2048 (constant
    S_ .f32 0x3F800000#32)) (addf (broadcastInDim S1024x2048 ![] bcast_S_S1024x2048 (constant S_ .f32 0x3F800000#32))
    (Host.exp (Host.negf (extractStridedSlice S1024x2048 ![0, 4096] B slices_S1024x8192_S1024x2048_0_4096)))))
    (Host.dotGeneral dot_S1024x2048_S2048x2048_S1024x2048_1_0_0_1_n_n none (mulf (mulf (Host.divf (broadcastInDim
    S1024x2048 ![] bcast_S_S1024x2048 (constant S_ .f32 0x3F800000#32)) (addf (broadcastInDim S1024x2048 ![]
    bcast_S_S1024x2048 (constant S_ .f32 0x3F800000#32)) (Host.exp (Host.negf (extractStridedSlice S1024x2048 ![0,
    8192] A slices_S1024x12288_S1024x2048_0_8192))))) hb) (mulf z (Host.divf (broadcastInDim S1024x2048 ![]
    bcast_S_S1024x2048 (constant S_ .f32 0x3F800000#32)) (addf (broadcastInDim S1024x2048 ![] bcast_S_S1024x2048
    (constant S_ .f32 0x3F800000#32)) (Host.exp (Host.negf z)))))) (shapeCast _ wb
    shapeCasts_S1x2048x2048_S2048x2048)))) (mulf (Host.divf (broadcastInDim S1024x2048 ![] bcast_S_S1024x2048
    (constant S_ .f32 0x3F800000#32)) (addf (broadcastInDim S1024x2048 ![] bcast_S_S1024x2048 (constant S_ .f32
    0x3F800000#32)) (Host.exp (Host.negf (extractStridedSlice S1024x2048 ![0, 6144] B
    slices_S1024x8192_S1024x2048_0_6144))))) (Host.dotGeneral dot_S1024x1024_S1024x2048_S1024x2048_1_0_0_1_n_n none xc
    (shapeCast _ wc shapeCasts_S1x1024x2048_S1024x2048)))

theorem gatedOf_eq (A : FVec Ideal S1024x12288 .f32) (B : FVec Ideal S1024x8192 .f32) (xa : FVec Ideal S1024x1024 .bf16) (hb z : FVec Ideal S1024x2048 .f32)
    (xc : FVec Ideal S1024x1024 .f32) (wa wc : FVec Ideal S1x1024x2048 .f32) (wb : FVec Ideal S1x2048x2048 .f32)
    (hz : z = extractStridedSlice S1024x2048 ![0, 10240] A slices_S1024x12288_S1024x2048_0_10240) :
    gatedOf A B xa hb z xc wa wc wb = gatedSum A B xa hb xc (truncf .bf16 (shapeCast S1024x2048 wa shapeCasts_S1x1024x2048_S1024x2048) Cert.SampleIdeal.Gen.bitsLt_bf16_f32)
      (truncf .bf16 (shapeCast S1024x2048 wc shapeCasts_S1x1024x2048_S1024x2048) Cert.SampleIdeal.Gen.bitsLt_bf16_f32)
      (truncf .bf16 (shapeCast S2048x2048 wb shapeCasts_S1x2048x2048_S2048x2048) Cert.SampleIdeal.Gen.bitsLt_bf16_f32) := by
  subst hz
  funext x
  pointwise [gatedOf, gatedSum, merged, swish, sg]

/-- The output from the projected rows, the layer's input and the scale. -/
def rowsOf (x : FVec Ideal S128x8x2048 .f32) (p : FVec Ideal S1024x2048 .f32) (g : FVec Ideal S1x2048 .f32) : FVec Ideal S1024x2048 .f32 :=
    addf (shapeCast _ x shapeCasts_S128x8x2048_S1024x2048) (mulf (mulf p (broadcastInDim S1024x2048 ![0, 1]
    bcast_S1024x1_S1024x2048_0_1 (Host.rsqrt (addf (Host.divf (broadcastInDim S1024x1 ![0] bcast_S1024_S1024x1_0
    (Host.reduceAdd (mulf p p) (constant S_ .f32 0x00000000#32) reducesTo_S1024x2048_S1024_d1 h_S_)) (broadcastInDim
    S1024x1 ![] bcast_S_S1024x1 (constant S_ .f32 0x45000000#32))) (broadcastInDim S1024x1 ![] bcast_S_S1024x1
    (constant S_ .f32 0x358637BD#32)))))) (broadcastInDim S1024x2048 ![0, 1] bcast_S1x2048_S1024x2048_0_1
    (broadcastInDim S1x2048 ![1] bcast_S2048_S1x2048_1 (shapeCast _ g shapeCasts_S1x2048_S2048))))

/-- The output projection. -/
def projOf (s : FVec Ideal S1024x2048 .f32) (w : FVec Ideal S1x2048x2048 .f32) : FVec Ideal S1024x2048 .f32 :=
  Host.dotGeneral dot_S1024x2048_S2048x2048_S1024x2048_1_0_0_1_n_n none s (shapeCast _ w shapeCasts_S1x2048x2048_S2048x2048)

theorem rowsOf_eq (x : FVec Ideal S128x8x2048 .f32) (s : FVec Ideal S1024x2048 .f32) (g : FVec Ideal S1x2048 .f32) (w : FVec Ideal S1x2048x2048 .f32) :
    rowsOf x (projOf s w) g = outRows s (shapeCast S1024x2048 x shapeCasts_S128x8x2048_S1024x2048)
      (broadcastInDim S1x2048 ![1] bcast_S2048_S1x2048_1 (shapeCast S2048 g shapeCasts_S1x2048_S2048))
      (truncf .bf16 (shapeCast S2048x2048 w shapeCasts_S1x2048x2048_S2048x2048) Cert.SampleIdeal.Gen.bitsLt_bf16_f32) := by
  funext j
  pointwise [rowsOf, projOf, outRows, outRow]

theorem sum_ref : res_main_v158 V0
      = gatedOf (V0 (Proc.devRef .tc main_arg3)) (V0 (Proc.devRef .tc main_arg4)) (V0 (Proc.devRef .tc main_arg12))
          (hiddenOf (V0 (Proc.devRef .tc main_arg5)) (V0 (Proc.devRef .tc main_arg7)) (res_main_v37 V0) (res_main_v40 V0)
            (res_main_v12 V0) (res_main_v8 V0) (res_main_v9 V0)) (res_main_v119 V0)
          (gatedAttn (res_main_v101 V0) (V0 (Proc.devRef .tc main_arg11)) (res_main_v109 V0))
          (V0 (Proc.devRef .tc main_arg15)) (V0 (Proc.devRef .tc main_arg17)) (V0 (Proc.devRef .tc main_arg16)) := rfl

theorem y_ref : rowsOf (V0 (Proc.devRef .tc main_arg13)) (res_main_v159 V0) (V0 (Proc.devRef .tc main_arg14))
      = yOf (V0 (Proc.devRef .tc main_arg3)) (V0 (Proc.devRef .tc main_arg4)) (V0 (Proc.devRef .tc main_arg5)) (V0 (Proc.devRef .tc main_arg7))
          (V0 (Proc.devRef .tc main_arg8)) (V0 (Proc.devRef .tc main_arg9)) (V0 (Proc.devRef .tc main_arg10)) (V0 (Proc.devRef .tc main_arg11))
          (V0 (Proc.devRef .tc main_arg12)) (V0 (Proc.devRef .tc main_arg13)) (V0 (Proc.devRef .tc main_arg14)) (V0 (Proc.devRef .tc main_arg15))
          (V0 (Proc.devRef .tc main_arg16)) (V0 (Proc.devRef .tc main_arg17)) (V0 (Proc.devRef .tc main_arg18)) := by
  have e := sum_ref V0
  rw [hb_ref V0, xc_ref V0] at e
  have e2 := e.trans (gatedOf_eq _ _ _ _ _ _ _ _ _ rfl)
  have e3 : res_main_v159 V0 = projOf (res_main_v158 V0) (V0 (Proc.devRef .tc main_arg18)) := rfl
  rw [e3, e2]
  exact rowsOf_eq _ _ _ _

end Cert.RefSampleIdeal.Mixed
end
-- ==== Proof.SampleClaim.lean ====
/- The sampled tokens' launches and the layer's mathematics leave the same results. -/
module

public import proofs.«01_k».proof.Proof.SampleTame
public import proofs.«01_k».proof.Proof.RefSampleOut
public import proofs.«01_k».proof.Proof.Gen.Pre_sample_tame
public import proofs.«01_k».proof.Defs
public import Idealize.ShloMosaic.Lib.Claim
public import Idealize.ShloMosaic.Adequacy

@[expose] public section

set_option maxRecDepth 16384

noncomputable section

open Idealize.ShloMosaic Idealize.ShloMosaic.TcCoe Idealize.SL.Sem

namespace Cert.SampleIdeal.Run
open Cert.SampleIdeal Cert.SampleIdeal.Gen

variable (m : (ℓ : Loc nD τ sig) → Buf (Elt Ideal) ℓ) (ρ : Dev nD → PrngReg)

/-- The run, with every result as a function of the arguments. -/
theorem results (tame : ∀ c, Tame m c) : θ_run defs (onTc (τ := τ) (main (F := Ideal))) ⟨m, fun _ => 0, ρ⟩ (fun r => ∀ c : Dev nD,
      r.2.mem ((c.tc : Thread nD τ).loc main_v2_0) = State.proj (arg m c main_arg0) (arg m c main_arg1)
      ∧ r.2.mem ((c.tc : Thread nD τ).loc main_v5_0) = Attn.proj (arg m c main_arg0) (arg m c main_arg2)
      ∧ r.2.mem ((c.tc : Thread nD τ).loc main_v18) = Tail.yOf (arg m c main_arg3) (arg m c main_arg4) (arg m c main_arg5) (arg m c main_arg7) (arg m c main_arg8) (arg m c main_arg9) (arg m c main_arg10) (arg m c main_arg11) (arg m c main_arg12) (arg m c main_arg13) (arg m c main_arg14) (arg m c main_arg15) (arg m c main_arg16) (arg m c main_arg17) (arg m c main_arg18)
      ∧ r.2.mem ((c.tc : Thread nD τ).loc main_v2_2) = State.cNew (arg m c main_arg3) (arg m c main_arg6) (arg m c main_arg7) (shapeCast S128x4x512x512 (arg m c main_arg8) shapeCasts_S1x128x4x512x512_S128x4x512x512)
      ∧ r.2.mem ((c.tc : Thread nD τ).loc main_v2_3) = State.nNew (arg m c main_arg3) (arg m c main_arg6) (arg m c main_arg7) (shapeCast S128x4x512 (arg m c main_arg9) shapeCasts_S1x128x4x512_S128x4x512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    have k : ∀ a ∈ argRefs, ¬ (Proc.devRef .tc a : DevRef τ sig).isScoped → r.2.mem ((c.tc : Thread nD τ).loc a) = m ((c.tc : Thread nD τ).loc a) :=
      fun a ha hs => (h c _ (mem_uc a hs)).trans (W7_args m ρ c a ha)
    exact ⟨(h c _ (mem_uc main_v2_0 (by decide))).trans (out13 m ρ c),
    (h c _ (mem_uc main_v5_0 (by decide))).trans (out6 m ρ c),
    (h c _ (mem_uc main_v18 (by decide))).trans (out4 m ρ c (tame c)),
    (h c _ (mem_uc main_v2_2 (by decide))).trans (out15 m ρ c),
    (h c _ (mem_uc main_v2_3 (by decide))).trans (out16 m ρ c),
    k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide), k main_arg12 (by decide) (by decide), k main_arg13 (by decide) (by decide), k main_arg14 (by decide) (by decide), k main_arg15 (by decide) (by decide), k main_arg16 (by decide) (by decide), k main_arg17 (by decide) (by decide), k main_arg18 (by decide) (by decide)⟩) (run_all m ρ)

end Cert.SampleIdeal.Run

namespace Cert.RefSampleIdeal.Mixed
open Cert.RefSampleIdeal Cert.RefSampleIdeal.Gen

variable (m : (ℓ : Loc nD τ sig) → Buf (Elt Ideal) ℓ) (ρ : Dev nD → PrngReg)

/-- The reference's run, with every result as the same function of the arguments. -/
theorem results : θ_run defs (onTc (τ := τ) (main (F := Ideal))) ⟨m, fun _ => 0, ρ⟩ (fun r => ∀ c : Dev nD,
      r.2.mem ((c.tc : Thread nD τ).loc main_v3) = Cert.SampleIdeal.State.proj (m ((c.tc : Thread nD τ).loc main_arg0)) (m ((c.tc : Thread nD τ).loc main_arg1))
      ∧ r.2.mem ((c.tc : Thread nD τ).loc main_v7) = Cert.SampleIdeal.Attn.proj (m ((c.tc : Thread nD τ).loc main_arg0)) (m ((c.tc : Thread nD τ).loc main_arg2))
      ∧ r.2.mem ((c.tc : Thread nD τ).loc main_v173) = Cert.SampleIdeal.Tail.yOf (m ((c.tc : Thread nD τ).loc main_arg3)) (m ((c.tc : Thread nD τ).loc main_arg4)) (m ((c.tc : Thread nD τ).loc main_arg5)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v80) = Cert.SampleIdeal.State.cNew (m ((c.tc : Thread nD τ).loc main_arg3)) (m ((c.tc : Thread nD τ).loc main_arg6)) (m ((c.tc : Thread nD τ).loc main_arg7)) (shapeCast S128x4x512x512 (m ((c.tc : Thread nD τ).loc main_arg8)) shapeCasts_S1x128x4x512x512_S128x4x512x512)
      ∧ r.2.mem ((c.tc : Thread nD τ).loc main_v85) = Cert.SampleIdeal.State.nNew (m ((c.tc : Thread nD τ).loc main_arg3)) (m ((c.tc : Thread nD τ).loc main_arg6)) (m ((c.tc : Thread nD τ).loc main_arg7)) (shapeCast S128x4x512 (m ((c.tc : Thread nD τ).loc main_arg9)) shapeCasts_S1x128x4x512_S128x4x512)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => by
    obtain ⟨h0, h1, h2, h3, h4, rest⟩ := h c
    exact ⟨h0.trans (a_ref _), h1.trans (b_ref _), h2.trans (y_ref _), h3.trans (c_ref _), h4.trans (n_ref _), rest⟩) (Cert.RefSampleIdeal.Value.run m ρ)

end Cert.RefSampleIdeal.Mixed

namespace Cert.Proof

theorem frame_ref_sample : Cert.quiescent_RefSampleIdeal (hRefSampleIdeal := Cert.RefSampleIdeal.Gen.facts) := fun m ρ _ =>
  (θ_run Cert.RefSampleIdeal.defs _ _).mono (fun r h => ⟨fun c => (h c).2.2.2.2.2, sem_eq_zero_of_no_sems (by decide) r.2⟩)
    (Cert.RefSampleIdeal.Value.run m ρ)

theorem frame_ref_sample_pre : Cert.quiescent_RefSampleIdeal_pre_sample_tame (hRefSampleIdeal := Cert.RefSampleIdeal.Gen.facts)
    (hPre_sample_tame := Cert.Pre_sample_tame.Gen.facts) := fun m ρ _ => frame_ref_sample m ρ trivial

theorem algebraic_sample : Cert.algebraic_SampleIdeal_RefSampleIdeal_pre_sample_tame (hSampleIdeal := Cert.SampleIdeal.Gen.facts)
    (hRefSampleIdeal := Cert.RefSampleIdeal.Gen.facts) (hPre_sample_tame := Cert.Pre_sample_tame.Gen.facts) := by
  pair_intro
  · run_from Cert.SampleIdeal.Run.results m g (Cert.SampleIdeal.Run.tame_of m hpre)
  · run_from Cert.RefSampleIdeal.Mixed.results m' g'

end Cert.Proof
end
-- ==== Proof.PromptRun.lean ====
/- The run of the prompt's four launches, with what every buffer ends holding. -/
module

public import proofs.«01_k».proof.Proof.Gen.PromptIdeal.Frame
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

namespace Cert.PromptIdeal.Run
open Cert.PromptIdeal Cert.PromptIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every buffer outside the regions ends at the fold of the host lines and the regions' write-backs. -/
theorem run_all : θ_run defs (onTc (τ := τ) (main (F := F))) ⟨m, fun _ => 0, ρ⟩ (fun r => ∀ c : Dev nD, ∀ b ∈ Pipeline.ucRefs τ sig,
      r.2.mem ((c : Thread nD τ).1, b) = W7 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => h)

end Cert.PromptIdeal.Run
end
-- ==== Proof.PromptTail.lean ====
/- The bodies of the prompt's gated sum and output projection, entry by entry. -/
module

public import proofs.«01_k».proof.Proof.Gen.PromptIdeal.Skeleton
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.PromptIdeal.Tail
open Cert.PromptIdeal Cert.PromptIdeal.Gen

/-- The gated mLSTM row the merging body forms. -/
theorem gated_at (o hb z : FVec Ideal S256x2048 .f32) (y : S256x2048.Idx) :
    k2_pay3 (F := Ideal) o hb z y = sg (o y) * hb y * swish (z y) := by
  pointwise [k2_pay3]
  rw [swish, ← sg_tanh, ← sg_tanh]

/-- The merging body at an entry. -/
theorem merge_at (xa : FVec Ideal S256x1024 .bf16) (hb o z : FVec Ideal S256x2048 .f32) (xc : FVec Ideal S256x1024 .bf16)
    (ga gb gc : FVec Ideal S256x2048 .f32) (wa wc : FVec Ideal S1024x2048 .bf16) (wb : FVec Ideal S2048x2048 .bf16)
    (y : S256x2048.Idx) :
    k2_pay1 (F := Ideal) (k2_pay2 (F := Ideal) xa wa ga) (k2_pay3 (F := Ideal) o hb z) wb gb xc wc gc y
      = merged (ga y) (gb y) (gc y) (fun k => xa (ix2 (y 0) k)) (fun k => o (ix2 (y 0) k)) (fun k => hb (ix2 (y 0) k))
          (fun k => z (ix2 (y 0) k)) (fun k => xc (ix2 (y 0) k)) (fun k => wa (ix2 k (y 1))) (fun k => wb (ix2 k (y 1)))
          (fun k => wc (ix2 k (y 1))) := by
  pointwise [k2_pay1, k2_pay2]
  simp only [gated_at, sg_tanh]
  rfl

/-- The output projection's body at an entry. -/
theorem out_at (row : FVec Ideal S512x2048 .bf16) (w : FVec Ideal S2048x2048 .bf16) (x : FVec Ideal S512x2048 .f32)
    (g : FVec Ideal S1x2048 .f32) (y : S512x2048.Idx) :
    k3_pay1 (F := Ideal) row w x g y
      = outRow (x y) (fun k => row (ix2 (y 0) k)) (fun k l => w (ix2 k l)) (g (ix2 0 (y 1))) (y 1) := by
  pointwise [k3_pay1, outRow]

end Cert.PromptIdeal.Tail
end
-- ==== Proof.PromptOut.lean ====
/- What the prompt's gated sum and output projection leave. -/
module

public import proofs.«01_k».proof.Proof.PromptTail
public import proofs.«01_k».proof.Proof.Gen.PromptIdeal.Frame
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.PromptIdeal.Tail
open Cert.PromptIdeal Cert.PromptIdeal.Gen

theorem idx2 : ∀ t : Fin cfg2.N, win2_0.index t = ![t.val, 0] ∧ win2_1.index t = ![t.val, 0]
    ∧ win2_2.index t = ![t.val, 4] ∧ win2_3.index t = ![t.val, 5] ∧ win2_4.index t = ![t.val, 0]
    ∧ win2_5.index t = ![t.val, 1] ∧ win2_6.index t = ![t.val, 2] ∧ win2_7.index t = ![t.val, 3]
    ∧ win2_8.index t = ![0, 0] ∧ win2_9.index t = ![0, 0] ∧ win2_10.index t = ![0, 0] ∧ win2_11.index t = ![t.val, 0] :=
  (by decide +kernel : ∀ t : Fin grid2.N, _)

theorem idx3 : ∀ t : Fin cfg3.N, win3_0.index t = ![t.val, 0] ∧ win3_1.index t = ![t.val, 0]
    ∧ win3_2.index t = ![0, 0] ∧ win3_3.index t = ![0, 0] ∧ win3_4.index t = ![t.val, 0] :=
  (by decide +kernel : ∀ t : Fin grid3.N, _)

/-- The gated sum of the branches, entry by entry. -/
def gatedSum (A : FVec Ideal S8192x12288 .f32) (B : FVec Ideal S8192x8192 .f32) (xa : FVec Ideal S8192x1024 .bf16)
    (hb : FVec Ideal S8192x2048 .f32) (xc : FVec Ideal S8192x1024 .bf16) (wa wc : FVec Ideal S1024x2048 .bf16)
    (wb : FVec Ideal S2048x2048 .bf16) : FVec Ideal S8192x2048 .bf16 := fun j =>
  merged (B (ix2 (j 0) ⟨2048 + (j 1).val, by idx_bounds; omega⟩)) (B (ix2 (j 0) ⟨4096 + (j 1).val, by idx_bounds; omega⟩))
    (B (ix2 (j 0) ⟨6144 + (j 1).val, by idx_bounds; omega⟩)) (fun k => xa (ix2 (j 0) k))
    (fun k : Fin 2048 => A (ix2 (j 0) ⟨8192 + k.val, by omega⟩)) (fun k => hb (ix2 (j 0) k))
    (fun k : Fin 2048 => A (ix2 (j 0) ⟨10240 + k.val, by omega⟩)) (fun k => xc (ix2 (j 0) k)) (fun k => wa (ix2 k (j 1)))
    (fun k => wb (ix2 k (j 1))) (fun k => wc (ix2 k (j 1)))

/-- The layer's output rows, entry by entry. -/
def outRows (row : FVec Ideal S8192x2048 .bf16) (x : FVec Ideal S8192x2048 .f32) (g : FVec Ideal S1x2048 .f32)
    (w : FVec Ideal S2048x2048 .bf16) : FVec Ideal S8192x2048 .f32 := fun j =>
  outRow (x j) (fun k => row (ix2 (j 0) k)) (fun k l => w (ix2 k l)) (g (ix2 0 (j 1))) (j 1)

variable (V : (c : Dev nD) → (b : Ref sig .tc) → Buf (Elt Ideal) ((c : Thread nD τ).loc b))

set_option maxHeartbeats 1000000 in
theorem final11 (c : Dev nD) : (dat2 V c).arrAt 11 cfg2.N
    = gatedSum (V c main_arg3) (V c main_arg4) (V c main_arg5) (V c main_arg6) (V c main_v8) (V c main_v13) (V c main_v17)
        (V c main_v15) := by
  refine (dat2 V c).arrAt_eq_of_covers 11 _ (by decide +kernel) fun t _ y => ?_
  blk_simp
  rw [after2_11]
  unfold out2_11
  frame_out
  rw [merge_at]
  pointwise [gatedSum]
  congr 1 <;> (try funext k) <;> blk_point [iblk2, idx2 t]

theorem emb4 (t : Fin cfg3.N) (y : S512x2048.Idx) :
    ((View.whole main_v21).slice (win3_4.rect t)).emb y = ix2 ⟨512 * t.val + (y 0).val, by idx_bounds; have := t.isLt; change t.val < 16 at this; omega⟩ (y 1) := by
  blk_ext [idx3 t]

theorem final4 (c : Dev nD) : (dat3 V c).arrAt 4 cfg3.N
    = outRows (V c main_v20) (V c main_v9) (V c main_v11) (V c main_v19) := by
  refine (dat3 V c).arrAt_eq_of_covers 4 _ (by decide +kernel) fun t _ y => ?_
  blk_simp
  rw [after3_4, emb4]
  unfold out3_4
  frame_out
  rw [out_at]
  pointwise [outRows]
  congr 1 <;> (try funext k) <;> (try funext l) <;> blk_point [iblk3, idx3 t]

end Cert.PromptIdeal.Tail
end
-- ==== Proof.PromptAttn.lean ====
/- What the prompt's attention over the memory leaves. -/
module

public import proofs.«01_k».proof.Proof.Softmax
public import proofs.«01_k».proof.Proof.Gen.PromptIdeal.Frame
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.PromptIdeal.Attn
open Cert.PromptIdeal Cert.PromptIdeal.Gen

/-- One head's gated rows: the softmax of the scores of query row `q`, applied to the values, times the gate. -/
theorem head_at (q : FVec Ideal S1024x256 .f32) (K v : FVec Ideal S1x256x256 .f32) (z : FVec Ideal S1024x256 .f32) (y : S1024x256.Idx)
    (hs : ∀ m, ∃ r : ℝ, score (fun d => q (ix2 (y 0) d)) (fun d => K (ix3 0 m d)) = r) :
    k1_pay2 (F := Ideal) q K v z y
      = attend (fun m => score (fun d => q (ix2 (y 0) d)) fun d => K (ix3 0 m d)) (fun m => v (ix3 0 m (y 1))) * swish (z y) := by
  rw [← attend_eq (by decide) _ _ hs]
  simp only [← fold_max]
  pointwise [k1_pay2]
  rw [sg_tanh]
  rfl

/-- The four heads run the same code. -/
theorem second (q : FVec Ideal S1024x256 .f32) (K v : FVec Ideal S1x256x256 .f32) (z : FVec Ideal S1024x256 .f32) :
    k1_pay3 (F := Ideal) q K v z = k1_pay2 (F := Ideal) q K v z := rfl
theorem third (q : FVec Ideal S1024x256 .f32) (K v : FVec Ideal S1x256x256 .f32) (z : FVec Ideal S1024x256 .f32) :
    k1_pay4 (F := Ideal) q K v z = k1_pay2 (F := Ideal) q K v z := rfl
theorem fourth (q : FVec Ideal S1024x256 .f32) (K v : FVec Ideal S1x256x256 .f32) (z : FVec Ideal S1024x256 .f32) :
    k1_pay1 (F := Ideal) (k1_pay5 (F := Ideal) q) K v z = k1_pay2 (F := Ideal) q K v z := rfl

theorem idx : ∀ t : Fin cfg1.N, win1_0.index t = ![t.val, 0] ∧ win1_1.index t = ![t.val, 1] ∧ win1_2.index t = ![t.val / 2, 0, 0]
    ∧ win1_3.index t = ![t.val / 2, 0, 0] ∧ win1_4.index t = ![t.val, 0] :=
  (by decide +kernel : ∀ t : Fin grid1.N, _)

/-- The gated attention, entry by entry: sequence `j 0 / 2048`, head `j 1 / 256`. -/
def xc (B : FVec Ideal S8192x8192 .f32) (K v : FVec Ideal S4x256x1024 .f32) : FVec Ideal S8192x1024 .bf16 := fun j =>
  let h : Fin 4 := ⟨(j 1).val / 256, by idx_bounds; omega⟩
  let b : Fin 4 := ⟨(j 0).val / 2048, by idx_bounds; omega⟩
  attend (fun m => score (fun x : Fin 256 => B (ix2 (j 0) ⟨256 * h.val + x.val, by omega⟩)) fun x : Fin 256 => K (ix3 b m ⟨256 * h.val + x.val, by omega⟩))
    (fun m => v (ix3 b m (j 1))) * swish (B (ix2 (j 0) ⟨1024 + (j 1).val, by idx_bounds; omega⟩))

variable (V : (c : Dev nD) → (b : Ref sig .tc) → Buf (Elt Ideal) ((c : Thread nD τ).loc b))

theorem emb4 (t : Fin cfg1.N) (y : S1024x1024.Idx) : ((View.whole main_v8).slice (win1_4.rect t)).emb y
    = ix2 ⟨1024 * t.val + (y 0).val, by idx_bounds; have := t.isLt; change t.val < 8 at this; omega⟩ (y 1) := by
  blk_ext [idx t]

theorem rd0 (c : Dev nD) (t : Fin cfg1.N) (x : S1024x1024.Idx) : iblk1 V c 0 t x
    = V c main_arg4 (ix2 ⟨1024 * t.val + (x 0).val, by idx_bounds; have := t.isLt; change t.val < 8 at this; omega⟩
      ⟨(x 1).val, by idx_bounds; omega⟩) := by
  blk_ext [iblk1, idx t]
theorem rd1 (c : Dev nD) (t : Fin cfg1.N) (x : S1024x1024.Idx) : iblk1 V c 1 t x
    = V c main_arg4 (ix2 ⟨1024 * t.val + (x 0).val, by idx_bounds; have := t.isLt; change t.val < 8 at this; omega⟩
      ⟨1024 + (x 1).val, by idx_bounds; omega⟩) := by
  blk_ext [iblk1, idx t]
theorem rd2 (c : Dev nD) (t : Fin cfg1.N) (x : S1x256x1024.Idx) : iblk1 V c 2 t x
    = V c main_v6 (ix3 ⟨t.val / 2, by have := t.isLt; change t.val < 8 at this; omega⟩ (x 1) (x 2)) := by
  blk_ext [iblk1, idx t]
theorem rd3 (c : Dev nD) (t : Fin cfg1.N) (x : S1x256x1024.Idx) : iblk1 V c 3 t x
    = V c main_v7 (ix3 ⟨t.val / 2, by have := t.isLt; change t.val < 8 at this; omega⟩ (x 1) (x 2)) := by
  blk_ext [iblk1, idx t]

set_option maxHeartbeats 1000000 in
theorem final4 (c : Dev nD)
    (hq : ∀ j : S8192x8192.Idx, (j 1).val < 1024 → ∃ r : ℝ, (V c main_arg4 : FVec Ideal S8192x8192 .f32) j = (r : EReal))
    (hk : ∀ j : S4x256x1024.Idx, ∃ r : ℝ, (V c main_v6 : FVec Ideal S4x256x1024 .f32) j = (r : EReal)) :
    (dat1 V c).arrAt 4 cfg1.N = xc (V c main_arg4) (V c main_v6) (V c main_v7) := by
  refine (dat1 V c).arrAt_eq_of_covers 4 _ (by decide +kernel) fun t _ y => ?_
  blk_simp
  rw [after1_4]
  unfold out1_4
  rw [emb4]
  simp only [second, third, fourth]
  canon_tiles x h
  all_goals
    rw [head_at]
    · pointwise [xc, rd0, rd1, rd2, rd3]
      congr 1
      · congr 1
        · funext m
          congr 1
          · funext d
            blk_ext []
          · funext d
            blk_ext []
        · funext m
          blk_ext []
      · congr 1
        blk_ext []
    · intro m
      pointwise [rd0, rd2]
      refine score_finite _ _ (fun d => hq _ ?_) fun d => hk _
      show (_ : ℕ) < _
      simp [ix2]
      try omega

end Cert.PromptIdeal.Attn
end
-- ==== Proof.PromptMemory.lean ====
/- What the memory tokens' launch leaves: their keys and values. -/
module

public import proofs.«01_k».proof.Proof.RefMemKv
public import proofs.«01_k».proof.Proof.Gen.PromptIdeal.Frame
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.PromptIdeal.Memory
open Cert.PromptIdeal Cert.PromptIdeal.Gen

open Cert.RefMemKvIdeal.Memory (entry)

variable (V : (c : Dev nD) → (b : Ref sig .tc) → Buf (Elt Ideal) ((c : Thread nD τ).loc b))

theorem idx : ∀ t : Fin cfg0.N, win0_0.index t = ![t.val, 0] ∧ win0_1.index t = ![0, 0]
    ∧ win0_2.index t = ![0, 0] ∧ win0_3.index t = ![t.val, 0] ∧ win0_4.index t = ![t.val, 0] :=
  (by decide +kernel : ∀ t : Fin grid0.N, _)

/-- The keys of every memory token, entry by entry. -/
def keyRows (x : FVec Ideal S1024x2048 .f32) (g : FVec Ideal S1x2048 .f32) (w : FVec Ideal S2048x2048 .bf16) :
    FVec Ideal S1024x1024 .f32 := fun j =>
  entry (fun k => x (ix2 (j 0) k)) (fun k => g (ix2 0 k)) fun k => w (ix2 k ⟨(j 1).val, (j 1).isLt.trans (by decide)⟩)

/-- Their values. -/
def valRows (x : FVec Ideal S1024x2048 .f32) (g : FVec Ideal S1x2048 .f32) (w : FVec Ideal S2048x2048 .bf16) :
    FVec Ideal S1024x1024 .f32 := fun j =>
  entry (fun k => x (ix2 (j 0) k)) (fun k => g (ix2 0 k)) fun k => w (ix2 k ⟨1024 + (j 1).val, by idx_bounds; omega⟩)

/-- The launch's product at an index. -/
theorem pay_at (x : FVec Ideal S256x2048 .f32) (g : FVec Ideal S1x2048 .f32) (w : FVec Ideal S2048x2048 .bf16) (y : S256x2048.Idx) :
    k0_pay1 (F := Ideal) x g w y = entry (fun k => x (ix2 (y 0) k)) (fun k => g (ix2 0 k)) fun k => w (ix2 k (y 1)) := by
  pointwise [k0_pay1, entry]

theorem rows (c : Dev nD) : (dat0 V c).arrAt 3 cfg0.N = keyRows (V c main_v0) (V c main_v2) (V c main_v4) := by
  refine (dat0 V c).arrAt_eq_of_covers 3 _ (by decide +kernel) fun t _ y => ?_
  blk_simp
  rw [after0_3]; unfold out0_3; frame_out
  pointwise [k0_pay2]
  rw [pay_at]
  pointwise [keyRows]
  congr 1 <;> funext k <;> blk_point [iblk0, idx t]

theorem vals (c : Dev nD) : (dat0 V c).arrAt 4 cfg0.N = valRows (V c main_v0) (V c main_v2) (V c main_v4) := by
  refine (dat0 V c).arrAt_eq_of_covers 4 _ (by decide +kernel) fun t _ y => ?_
  blk_simp
  rw [after0_4]; unfold out0_4; frame_out
  pointwise [k0_pay3]
  rw [pay_at]
  pointwise [valRows]
  congr 1 <;> funext k <;> blk_point [iblk0, idx t]

end Cert.PromptIdeal.Memory
end
-- ==== Proof.MemoryFinite.lean ====
/- Finite memory tokens, gain and weight have finite keys. -/
module

public import proofs.«01_k».proof.Proof.Softmax
public import proofs.«01_k».proof.Proof.RefMemKv
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Layer
open Cert.RefMemKvIdeal.Memory (entry)

/-- The width of a row, as a constant. -/
theorem width_eq : Ideal.ofBits .f32 0x45000000#32 = ((2048 : ℝ) : EReal) := by
  simp [Ideal.ofBits, Ideal.ieee, -EReal.coe_mul]; norm_num

/-- What keeps the root mean square off zero, a positive constant. -/
theorem eps_eq : Ideal.ofBits .f32 0x358637BD#32 = ((8796093 / 2 ^ 43 : ℝ) : EReal) := by
  simp [Ideal.ofBits, Ideal.ieee, -EReal.coe_mul]; norm_num

theorem rsqrt_pos {r : ℝ} (h : 0 < r) : Ideal.rsqrt (r : EReal) = (((Real.sqrt r)⁻¹ : ℝ) : EReal) := by
  change (if r < 0 then ⊥ else if r = 0 then ⊤ else _) = _
  rw [if_neg (not_lt.2 h.le), if_neg h.ne']

/-- A sum of reals' squares is a real at least zero. -/
theorem square_sum {n : ℕ} (x : Fin n → EReal) (hx : ∀ k, ∃ r : ℝ, x k = r) : ∃ r : ℝ, 0 ≤ r ∧ ∑ l, x l * x l = (r : EReal) := by
  choose f hf using hx
  refine ⟨∑ l, f l * f l, Finset.sum_nonneg fun l _ => mul_self_nonneg _, ?_⟩
  simp only [hf, ← EReal.coe_mul]
  exact (map_sum (⟨⟨fun r : ℝ => (r : EReal), EReal.coe_zero⟩, EReal.coe_add⟩ : ℝ →+ EReal) _ _).symm

theorem entry_finite (x g w : Fin 2048 → EReal) (hx : ∀ k, ∃ r : ℝ, x k = r) (hg : ∀ k, ∃ r : ℝ, g k = r) (hw : ∀ k, ∃ r : ℝ, w k = r) :
    ∃ r : ℝ, entry x g w = r := by
  obtain ⟨s, hs, es⟩ := square_sum x hx
  have hd : (0 : ℝ) < s * (1 / 2048) + 8796093 / 2 ^ 43 := by positivity
  have e1 : Ideal.rsqrt (Ideal.div (∑ l, x l * x l) (Ideal.ofBits .f32 0x45000000#32) + Ideal.ofBits .f32 0x358637BD#32)
      = (((Real.sqrt (s * (1 / 2048) + 8796093 / 2 ^ 43))⁻¹ : ℝ) : EReal) := by
    rw [es, eps_eq, width_eq, Ideal.div_coe (by norm_num), ← EReal.coe_mul, ← EReal.coe_add, rsqrt_pos hd]
  unfold entry
  rw [e1]
  refine finite_sum _ _ fun k _ => ?_
  obtain ⟨a, ha⟩ := hx k
  obtain ⟨b, hb⟩ := hg k
  obtain ⟨d, hd⟩ := hw k
  exact ⟨a * ((Real.sqrt (s * (1 / 2048) + 8796093 / 2 ^ 43))⁻¹) * b * d, by rw [ha, hb, hd, ← EReal.coe_mul, ← EReal.coe_mul, ← EReal.coe_mul]⟩

end Layer
end
-- ==== Proof.PromptY.lean ====
/- The prompt's results from the arguments. -/
module

public import proofs.«01_k».proof.Proof.PromptOut
public import proofs.«01_k».proof.Proof.PromptAttn
public import proofs.«01_k».proof.Proof.PromptMemory
public import proofs.«01_k».proof.Proof.MemoryFinite
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.PromptIdeal.Tail
open Cert.PromptIdeal Cert.PromptIdeal.Gen

/-- The memory tokens' keys from the tokens, the gain and the weight. -/
def keysOf (x : FVec Ideal S4x256x2048 .f32) (g : FVec Ideal S1x2048 .f32) (w : FVec Ideal S1x2048x2048 .f32) : FVec Ideal S1024x1024 .f32 :=
  Memory.keyRows (shapeCast S1024x2048 x shapeCasts_S4x256x2048_S1024x2048)
    (broadcastInDim S1x2048 ![1] bcast_S2048_S1x2048_1 (shapeCast S2048 g shapeCasts_S1x2048_S2048))
    (truncf .bf16 (shapeCast S2048x2048 w shapeCasts_S1x2048x2048_S2048x2048) bitsLt_bf16_f32)

theorem keysOf_finite (x : FVec Ideal S4x256x2048 .f32) (g : FVec Ideal S1x2048 .f32) (w : FVec Ideal S1x2048x2048 .f32)
    (hx : ∀ j, ∃ r : ℝ, x j = (r : EReal)) (hg : ∀ j, ∃ r : ℝ, g j = (r : EReal)) (hw : ∀ j, ∃ r : ℝ, w j = (r : EReal))
    (j : S1024x1024.Idx) : ∃ r : ℝ, keysOf x g w j = (r : EReal) := by
  unfold keysOf Memory.keyRows
  refine entry_finite _ _ _ (fun k => ?_) (fun k => ?_) fun k => ?_
  · pointwise []; exact hx _
  · pointwise []; exact hg _
  · pointwise []; exact hw _

/-- Their values. -/
def valsOf (x : FVec Ideal S4x256x2048 .f32) (g : FVec Ideal S1x2048 .f32) (w : FVec Ideal S1x2048x2048 .f32) : FVec Ideal S1024x1024 .f32 :=
  Memory.valRows (shapeCast S1024x2048 x shapeCasts_S4x256x2048_S1024x2048)
    (broadcastInDim S1x2048 ![1] bcast_S2048_S1x2048_1 (shapeCast S2048 g shapeCasts_S1x2048_S2048))
    (truncf .bf16 (shapeCast S2048x2048 w shapeCasts_S1x2048x2048_S2048x2048) bitsLt_bf16_f32)

/-- The output from the projections, keys, values, pooling and mLSTM rows, input, scale and weights. -/
def yOf (A : FVec Ideal S8192x12288 .f32) (B : FVec Ideal S8192x8192 .f32) (K v : FVec Ideal S1024x1024 .f32) (xa : FVec Ideal S8192x1024 .bf16)
    (hb : FVec Ideal S8192x2048 .f32) (x : FVec Ideal S4x2048x2048 .f32) (g : FVec Ideal S1x2048 .f32) (wa : FVec Ideal S1x1024x2048 .f32)
    (wb : FVec Ideal S1x2048x2048 .f32) (wc : FVec Ideal S1x1024x2048 .f32) (wo : FVec Ideal S1x2048x2048 .f32) : FVec Ideal S8192x2048 .f32 :=
  outRows
    (gatedSum A B xa hb
      (Attn.xc B (shapeCast S4x256x1024 K shapeCasts_S1024x1024_S4x256x1024) (shapeCast S4x256x1024 v shapeCasts_S1024x1024_S4x256x1024))
      (truncf .bf16 (shapeCast S1024x2048 wa shapeCasts_S1x1024x2048_S1024x2048) bitsLt_bf16_f32)
      (truncf .bf16 (shapeCast S1024x2048 wc shapeCasts_S1x1024x2048_S1024x2048) bitsLt_bf16_f32)
      (truncf .bf16 (shapeCast S2048x2048 wb shapeCasts_S1x2048x2048_S2048x2048) bitsLt_bf16_f32))
    (shapeCast S8192x2048 x shapeCasts_S4x2048x2048_S8192x2048)
    (broadcastInDim S1x2048 ![1] bcast_S2048_S1x2048_1 (shapeCast S2048 g shapeCasts_S1x2048_S2048))
    (truncf .bf16 (shapeCast S2048x2048 wo shapeCasts_S1x2048x2048_S2048x2048) bitsLt_bf16_f32)

end Cert.PromptIdeal.Tail
end
-- ==== Proof.PromptValue.lean ====
/- What every result of the prompt's program ends holding, from the arguments. -/
module

public import proofs.«01_k».proof.Proof.PromptRun
public import proofs.«01_k».proof.Proof.PromptY
public import proofs.«01_k».proof.Proof.MemoryFinite
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.PromptIdeal.Run
open Cert.PromptIdeal Cert.PromptIdeal.Gen

variable (m : (ℓ : Loc nD τ sig) → Buf (Elt Ideal) ℓ) (ρ : Dev nD → PrngReg) (c : Dev nD)

/-- An argument as launched. -/
abbrev arg (b : Ref sig .tc) : Buf (Elt Ideal) ((c : Thread nD τ).loc b) := m ((c : Thread nD τ).loc b)

theorem v3 (a : Ref sig .tc) (h : a ∈ argRefs) : V3 m ρ c a = arg m c a := W3_args m ρ c a h
theorem v5 (a : Ref sig .tc) (h : a ∈ argRefs) : V5 m ρ c a = arg m c a := W5_args m ρ c a h

theorem x0_in : V1 m ρ c main_v0 = shapeCast S1024x2048 (arg m c main_arg0) shapeCasts_S4x256x2048_S1024x2048 := by
  change StableHlo.after hostOps0 (W0 m ρ c) (Proc.devRef .tc main_v0) = _
  entry_read
  rfl
theorem g0_in : V1 m ρ c main_v2 = broadcastInDim S1x2048 ![1] bcast_S2048_S1x2048_1 (shapeCast S2048 (arg m c main_arg1) shapeCasts_S1x2048_S2048) := by
  change StableHlo.after hostOps0 (W0 m ρ c) (Proc.devRef .tc main_v2) = _
  entry_read
  rfl
theorem w0_in : V1 m ρ c main_v4 = truncf (F := Ideal) (φ := .f32) .bf16 (shapeCast S2048x2048 (arg m c main_arg2) shapeCasts_S1x2048x2048_S2048x2048) bitsLt_bf16_f32 := by
  change StableHlo.after hostOps0 (W0 m ρ c) (Proc.devRef .tc main_v4) = _
  entry_read
  rfl
theorem x_in : V5 m ρ c main_v9 = shapeCast S8192x2048 (arg m c main_arg7) shapeCasts_S4x2048x2048_S8192x2048 := by
  change StableHlo.after hostOps2 (W4 m ρ c) (Proc.devRef .tc main_v9) = _
  entry_read
  rw [W4_args m ρ c main_arg7 (by decide)]
  rfl
theorem g_in : V5 m ρ c main_v11 = broadcastInDim S1x2048 ![1] bcast_S2048_S1x2048_1 (shapeCast S2048 (arg m c main_arg8) shapeCasts_S1x2048_S2048) := by
  change StableHlo.after hostOps2 (W4 m ρ c) (Proc.devRef .tc main_v11) = _
  entry_read
  rw [W4_args m ρ c main_arg8 (by decide)]
  rfl
theorem wa_in : V5 m ρ c main_v13 = truncf (F := Ideal) (φ := .f32) .bf16 (shapeCast S1024x2048 (arg m c main_arg9) shapeCasts_S1x1024x2048_S1024x2048) bitsLt_bf16_f32 := by
  change StableHlo.after hostOps2 (W4 m ρ c) (Proc.devRef .tc main_v13) = _
  entry_read
  rw [W4_args m ρ c main_arg9 (by decide)]
  rfl
theorem wb_in : V5 m ρ c main_v15 = truncf (F := Ideal) (φ := .f32) .bf16 (shapeCast S2048x2048 (arg m c main_arg10) shapeCasts_S1x2048x2048_S2048x2048) bitsLt_bf16_f32 := by
  change StableHlo.after hostOps2 (W4 m ρ c) (Proc.devRef .tc main_v15) = _
  entry_read
  rw [W4_args m ρ c main_arg10 (by decide)]
  rfl
theorem wc_in : V5 m ρ c main_v17 = truncf (F := Ideal) (φ := .f32) .bf16 (shapeCast S1024x2048 (arg m c main_arg11) shapeCasts_S1x1024x2048_S1024x2048) bitsLt_bf16_f32 := by
  change StableHlo.after hostOps2 (W4 m ρ c) (Proc.devRef .tc main_v17) = _
  entry_read
  rw [W4_args m ρ c main_arg11 (by decide)]
  rfl
theorem wo_in : V5 m ρ c main_v19 = truncf (F := Ideal) (φ := .f32) .bf16 (shapeCast S2048x2048 (arg m c main_arg12) shapeCasts_S1x2048x2048_S2048x2048) bitsLt_bf16_f32 := by
  change StableHlo.after hostOps2 (W4 m ρ c) (Proc.devRef .tc main_v19) = _
  entry_read
  rw [W4_args m ρ c main_arg12 (by decide)]
  rfl

theorem mem_keys : W2 m ρ c (Proc.devRef .tc main_v5_0) = Tail.keysOf (arg m c main_arg0) (arg m c main_arg1) (arg m c main_arg2) := by
  refine ((W2_arr m ρ c 3).trans (Memory.rows (V1 m ρ) c)).trans ?_
  rw [x0_in, g0_in, w0_in]
  rfl
theorem mem_vals : W2 m ρ c (Proc.devRef .tc main_v5_1) = Tail.valsOf (arg m c main_arg0) (arg m c main_arg1) (arg m c main_arg2) := by
  refine ((W2_arr m ρ c 4).trans (Memory.vals (V1 m ρ) c)).trans ?_
  rw [x0_in, g0_in, w0_in]
  rfl

theorem keys_in : V3 m ρ c main_v6 = shapeCast S4x256x1024 (Tail.keysOf (arg m c main_arg0) (arg m c main_arg1) (arg m c main_arg2)) shapeCasts_S1024x1024_S4x256x1024 := by
  change StableHlo.after hostOps1 (W2 m ρ c) (Proc.devRef .tc main_v6) = _
  entry_read
  rw [mem_keys]
  rfl
theorem vals_in : V3 m ρ c main_v7 = shapeCast S4x256x1024 (Tail.valsOf (arg m c main_arg0) (arg m c main_arg1) (arg m c main_arg2)) shapeCasts_S1024x1024_S4x256x1024 := by
  change StableHlo.after hostOps1 (W2 m ρ c) (Proc.devRef .tc main_v7) = _
  entry_read
  rw [mem_vals]
  rfl

theorem out_keys : W7 m ρ c (Proc.devRef .tc main_v5_0) = Tail.keysOf (arg m c main_arg0) (arg m c main_arg1) (arg m c main_arg2) := by
  rw [W7_of m ρ c main_v5_0 (by decide), W6_of m ρ c main_v5_0 (by decide), W5_of m ρ c main_v5_0 (by decide), W4_of m ρ c main_v5_0 (by decide),
    W3_of m ρ c main_v5_0 (by decide)]
  exact mem_keys m ρ c
theorem out_vals : W7 m ρ c (Proc.devRef .tc main_v5_1) = Tail.valsOf (arg m c main_arg0) (arg m c main_arg1) (arg m c main_arg2) := by
  rw [W7_of m ρ c main_v5_1 (by decide), W6_of m ρ c main_v5_1 (by decide), W5_of m ρ c main_v5_1 (by decide), W4_of m ρ c main_v5_1 (by decide),
    W3_of m ρ c main_v5_1 (by decide)]
  exact mem_vals m ρ c

/-- The queries, the memory tokens, their gain and their weight are finite. -/
structure Tame : Prop where
  query : ∀ j : S8192x8192.Idx, (j 1).val < 1024 → ∃ r : ℝ, (arg m c main_arg4 : FVec Ideal S8192x8192 .f32) j = (r : EReal)
  token : ∀ j : S4x256x2048.Idx, ∃ r : ℝ, (arg m c main_arg0 : FVec Ideal S4x256x2048 .f32) j = (r : EReal)
  gain : ∀ j : S1x2048.Idx, ∃ r : ℝ, (arg m c main_arg1 : FVec Ideal S1x2048 .f32) j = (r : EReal)
  weight : ∀ j : S1x2048x2048.Idx, ∃ r : ℝ, (arg m c main_arg2 : FVec Ideal S1x2048x2048 .f32) j = (r : EReal)

variable (tame : Tame m c)
include tame

/-- The keys are finite. -/
theorem keys_finite (j : S1024x1024.Idx) : ∃ r : ℝ, Tail.keysOf (arg m c main_arg0) (arg m c main_arg1) (arg m c main_arg2) j = (r : EReal) :=
  Tail.keysOf_finite _ _ _ tame.token tame.gain tame.weight j

theorem attended : V5 m ρ c main_v8 = Attn.xc (arg m c main_arg4)
    (shapeCast S4x256x1024 (Tail.keysOf (arg m c main_arg0) (arg m c main_arg1) (arg m c main_arg2)) shapeCasts_S1024x1024_S4x256x1024)
    (shapeCast S4x256x1024 (Tail.valsOf (arg m c main_arg0) (arg m c main_arg1) (arg m c main_arg2)) shapeCasts_S1024x1024_S4x256x1024) := by
  change W5 m ρ c (Proc.devRef .tc main_v8) = _
  rw [W5_of m ρ c main_v8 (by decide)]
  refine ((W4_arr m ρ c 4).trans (Attn.final4 (V3 m ρ) c ?_ ?_)).trans ?_
  · rw [v3 m ρ c main_arg4 (by decide)]; exact tame.query
  · rw [keys_in]; exact fun j => keys_finite m c tame _
  · rw [keys_in, vals_in, v3 m ρ c main_arg4 (by decide)]

theorem out_y : W7 m ρ c (Proc.devRef .tc main_v21) = Tail.yOf (arg m c main_arg3) (arg m c main_arg4)
    (Tail.keysOf (arg m c main_arg0) (arg m c main_arg1) (arg m c main_arg2)) (Tail.valsOf (arg m c main_arg0) (arg m c main_arg1) (arg m c main_arg2)) (arg m c main_arg5) (arg m c main_arg6) (arg m c main_arg7) (arg m c main_arg8)
    (arg m c main_arg9) (arg m c main_arg10) (arg m c main_arg11) (arg m c main_arg12) := by
  refine ((W7_arr m ρ c 4).trans (Tail.final4 (V6 m ρ) c)).trans ?_
  have e20 : V6 m ρ c main_v20 = _ := (W6_arr m ρ c 11).trans (Tail.final11 (V5 m ρ) c)
  have e9 : V6 m ρ c main_v9 = _ := (W6_of m ρ c main_v9 (by decide)).trans (x_in m ρ c)
  have e11 : V6 m ρ c main_v11 = _ := (W6_of m ρ c main_v11 (by decide)).trans (g_in m ρ c)
  have e19 : V6 m ρ c main_v19 = _ := (W6_of m ρ c main_v19 (by decide)).trans (wo_in m ρ c)
  rw [e20, e9, e11, e19, attended m ρ c tame, wa_in, wb_in, wc_in, v5 m ρ c main_arg3 (by decide), v5 m ρ c main_arg4 (by decide),
    v5 m ρ c main_arg5 (by decide), v5 m ρ c main_arg6 (by decide)]
  rfl

end Cert.PromptIdeal.Run
end
-- ==== Proof.PromptTame.lean ====
/- The precondition, read as finite queries, memory tokens, gain and weight. -/
module

public import proofs.«01_k».proof.Proof.PromptValue
public import proofs.«01_k».proof.Proof.Finite
public import proofs.«01_k».proof.Pre_prompt_tame
public import proofs.«01_k».proof.Defs

@[expose] public section

set_option maxRecDepth 16384

noncomputable section

open Idealize.ShloMosaic Idealize.ShloMosaic.TcCoe

namespace Cert.PromptIdeal.Run
open Cert.PromptIdeal Layer

variable [hP : Cert.Pre_prompt_tame.Facts] (m : (ℓ : Loc nD τ sig) → Buf (Elt Ideal) ℓ)

instance : Subsingleton Cert.Pre_prompt_tame.S_.Idx := ⟨fun a b => funext fun i => i.elim0⟩

theorem tame_of (h : Cert.Pre_PromptIdeal_prompt_tame m) (c : Dev nD) : Tame m c := by
  have e := congrFun (h c) (Shape.Idx.first hP.h_S_)
  obtain ⟨e1, e4⟩ := andi_one _ _ _ e
  obtain ⟨e1, e3⟩ := andi_one _ _ _ e1
  obtain ⟨e1, e2⟩ := andi_one _ _ _ e1
  have f1 := Host.reduce_andi_all _ _ _ _ _ e1
  have f2 := Host.reduce_andi_all _ _ _ _ _ e2
  have f3 := Host.reduce_andi_all _ _ _ _ _ e3
  have f4 := Host.reduce_andi_all _ _ _ _ _ e4
  refine ⟨fun j hj => ?_, fun j => real_of_olt _ (f2 j), fun j => real_of_olt _ (f3 j), fun j => real_of_olt _ (f4 j)⟩
  obtain ⟨r, hr⟩ := real_of_olt _ (f1 (ix2 (j 0) ⟨(j 1).val, hj⟩))
  refine ⟨r, Eq.trans ?_ hr⟩
  pointwise []
  blk_ext []

end Cert.PromptIdeal.Run
end
-- ==== Proof.RefPromptMemory.lean ====
/- The reference's keys and values of the memory tokens, entry by entry. -/
module

public import proofs.«01_k».proof.Proof.PromptY
public import proofs.«01_k».proof.Proof.Gen.RefPromptIdeal.Run
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.RefPromptIdeal.Layered
open Cert.RefPromptIdeal Cert.RefPromptIdeal.Gen Cert.RefPromptIdeal.Value
open Cert.PromptIdeal.Tail (keysOf valsOf yOf gatedSum outRows)

/-- The normalised memory tokens times the weight: keys and values side by side. -/
def kvOf (x : FVec Ideal S4x256x2048 .f32) (g : FVec Ideal S1x2048 .f32) (w : FVec Ideal S1x2048x2048 .f32) : FVec Ideal S4x256x2048 .f32 :=
  Host.dotGeneral dot_S4x256x2048_S2048x2048_S4x256x2048_2_0_01_1_n_n none (mulf (mulf x (broadcastInDim S4x256x2048
  ![0, 1, 2] bcast_S4x256x1_S4x256x2048_0_1_2 (Host.rsqrt (addf (Host.divf (broadcastInDim S4x256x1 ![0, 1]
  bcast_S4x256_S4x256x1_0_1 (Host.reduceAdd (mulf x x) (constant S_ .f32 0x00000000#32)
  reducesTo_S4x256x2048_S4x256_d2 h_S_)) (broadcastInDim S4x256x1 ![] bcast_S_S4x256x1 (constant S_ .f32
  0x45000000#32))) (broadcastInDim S4x256x1 ![] bcast_S_S4x256x1 (constant S_ .f32 0x358637BD#32)))))) (broadcastInDim
  S4x256x2048 ![0, 1, 2] bcast_S1x1x2048_S4x256x2048_0_1_2 (broadcastInDim S1x1x2048 ![2] bcast_S2048_S1x1x2048_2
  (shapeCast _ g shapeCasts_S1x2048_S2048)))) (shapeCast _ w shapeCasts_S1x2048x2048_S2048x2048)

/-- The keys' half. -/
def keyHalf (p : FVec Ideal S4x256x2048 .f32) : FVec Ideal S4x256x1024 .f32 :=
  extractStridedSlice S4x256x1024 ![0, 0, 0] p slices_S4x256x2048_S4x256x1024_0_0_0

/-- The values' half. -/
def valHalf (p : FVec Ideal S4x256x2048 .f32) : FVec Ideal S4x256x1024 .f32 :=
  extractStridedSlice S4x256x1024 ![0, 0, 1024] p slices_S4x256x2048_S4x256x1024_0_0_1024

theorem keys_eq (x : FVec Ideal S4x256x2048 .f32) (g : FVec Ideal S1x2048 .f32) (w : FVec Ideal S1x2048x2048 .f32) :
    shapeCast S1024x1024 (keyHalf (kvOf x g w)) shapeCasts_S4x256x1024_S1024x1024 = keysOf x g w := by
  funext j
  pointwise [keyHalf, kvOf, keysOf, Cert.PromptIdeal.Memory.keyRows, Cert.RefMemKvIdeal.Memory.entry]

theorem vals_eq (x : FVec Ideal S4x256x2048 .f32) (g : FVec Ideal S1x2048 .f32) (w : FVec Ideal S1x2048x2048 .f32) :
    shapeCast S1024x1024 (valHalf (kvOf x g w)) shapeCasts_S4x256x1024_S1024x1024 = valsOf x g w := by
  funext j
  pointwise [valHalf, kvOf, valsOf, Cert.PromptIdeal.Memory.valRows, Cert.RefMemKvIdeal.Memory.entry]

/-- The halves are the flat rows, by sequence. -/
theorem keyHalf_eq (x : FVec Ideal S4x256x2048 .f32) (g : FVec Ideal S1x2048 .f32) (w : FVec Ideal S1x2048x2048 .f32) : keyHalf (kvOf x g w)
    = shapeCast S4x256x1024 (keysOf x g w) Cert.PromptIdeal.Gen.shapeCasts_S1024x1024_S4x256x1024 := by
  rw [← keys_eq]
  funext j
  pointwise []
  blk_ext []

theorem valHalf_eq (x : FVec Ideal S4x256x2048 .f32) (g : FVec Ideal S1x2048 .f32) (w : FVec Ideal S1x2048x2048 .f32) : valHalf (kvOf x g w)
    = shapeCast S4x256x1024 (valsOf x g w) Cert.PromptIdeal.Gen.shapeCasts_S1024x1024_S4x256x1024 := by
  rw [← vals_eq]
  funext j
  pointwise []
  blk_ext []

end Cert.RefPromptIdeal.Layered
end
-- ==== Proof.RefPromptAttn.lean ====
/- The reference's attention over the memory, entry by entry. -/
module

public import proofs.«01_k».proof.Proof.PromptY
public import proofs.«01_k».proof.Proof.Softmax
public import proofs.«01_k».proof.Proof.Gen.RefPromptIdeal.Run
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.RefPromptIdeal.Layered
open Cert.RefPromptIdeal Cert.RefPromptIdeal.Gen Cert.RefPromptIdeal.Value
open Cert.PromptIdeal.Tail (keysOf valsOf yOf gatedSum outRows)

/-- The scores of the queries and keys, by sequence and head. -/
def scoresOf (B : FVec Ideal S8192x8192 .f32) (K : FVec Ideal S4x256x1024 .f32) : FVec Ideal S4x4x2048x256 .f32 :=
  mulf (Host.dotGeneral dot_S4x2048x4x256_S4x256x4x256_S4x4x2048x256_3_3_1_1_02_02 none (shapeCast _
  (extractStridedSlice S8192x1024 ![0, 0] B slices_S8192x8192_S8192x1024_0_0) shapeCasts_S8192x1024_S4x2048x4x256)
  (shapeCast _ K shapeCasts_S4x256x1024_S4x256x4x256)) (broadcastInDim S4x4x2048x256 ![] bcast_S_S4x4x2048x256
  (constant S_ .f32 0x3D800000#32))

/-- The largest score of every query. -/
def topOf (s : FVec Ideal S4x4x2048x256 .f32) : FVec Ideal S4x4x2048 .f32 :=
  Host.reduce FloatOps.maximumf s (constant S_ .f32 0xFF800000#32) reducesTo_S4x4x2048x256_S4x4x2048_d3 h_S_

theorem topOf_at (s : FVec Ideal S4x4x2048x256 .f32) (x : S4x4x2048.Idx) :
    topOf s x = Finset.univ.fold max (Ideal.ofBits .f32 0xFF800000#32) fun m => s (ix4 (x 0) (x 1) (x 2) m) := by
  pointwise [topOf]

/-- The exponentials of the scores less a bound of every query. -/
def expBelow (s : FVec Ideal S4x4x2048x256 .f32) (u : FVec Ideal S4x4x2048 .f32) : FVec Ideal S4x4x2048x256 .f32 :=
  Host.exp (subf s (broadcastInDim S4x4x2048x256 ![0, 1, 2, 3] bcast_S4x4x2048x1_S4x4x2048x256_0_1_2_3 (broadcastInDim
  S4x4x2048x1 ![0, 1, 2] bcast_S4x4x2048_S4x4x2048x1_0_1_2 (maximumf (broadcastInDim S4x4x2048 ![] bcast_S_S4x4x2048
  (constant S_ .f32 0xFF800000#32)) u))))

theorem expBelow_at (s : FVec Ideal S4x4x2048x256 .f32) (u : FVec Ideal S4x4x2048 .f32) (x : S4x4x2048x256.Idx) :
    expBelow s u x = Ideal.exp (s x - max (Ideal.ofBits .f32 0xFF800000#32) (u (ix3 (x 0) (x 1) (x 2)))) := by
  pointwise [expBelow]

/-- The exponentials of the scores less their maximum. -/
def expOf (s : FVec Ideal S4x4x2048x256 .f32) : FVec Ideal S4x4x2048x256 .f32 := expBelow s (topOf s)

/-- The gated attention from its exponentials, the values and the projection that holds the gate. -/
def gatedAttn (p : FVec Ideal S4x4x2048x256 .f32) (v : FVec Ideal S4x256x1024 .f32) (B : FVec Ideal S8192x8192 .f32) : FVec Ideal S8192x1024 .f32 :=
  mulf (shapeCast _ (transpose S4x2048x4x256 [0, 3, 1, 2] (Host.dotGeneral
  dot_S4x256x4x256_S4x4x2048x256_S4x4x256x2048_1_3_3_2_02_01 none (shapeCast _ v shapeCasts_S4x256x1024_S4x256x4x256)
  (Host.divf p (broadcastInDim S4x4x2048x256 ![0, 1, 2, 3] bcast_S4x4x2048x1_S4x4x2048x256_0_1_2_3 (broadcastInDim
  S4x4x2048x1 ![0, 1, 2] bcast_S4x4x2048_S4x4x2048x1_0_1_2 (Host.reduceAdd p (constant S_ .f32 0x00000000#32)
  reducesTo_S4x4x2048x256_S4x4x2048_d3 h_S_))))) transposes_S4x4x256x2048_S4x2048x4x256_0_3_1_2)
  shapeCasts_S4x2048x4x256_S8192x1024) (mulf (extractStridedSlice S8192x1024 ![0, 1024] B
  slices_S8192x8192_S8192x1024_0_1024) (Host.divf (broadcastInDim S8192x1024 ![] bcast_S_S8192x1024 (constant S_ .f32
  0x3F800000#32)) (addf (broadcastInDim S8192x1024 ![] bcast_S_S8192x1024 (constant S_ .f32 0x3F800000#32)) (Host.exp
  (Host.negf (extractStridedSlice S8192x1024 ![0, 1024] B slices_S8192x8192_S8192x1024_0_1024))))))

theorem scoresOf_at (B : FVec Ideal S8192x8192 .f32) (K : FVec Ideal S4x256x1024 .f32) (b h : Fin 4) (s : Fin 2048) (m : Fin 256) : scoresOf B K (ix4 b h s m)
    = score (fun d : Fin 256 => B (ix2 ⟨2048 * b.val + s.val, by omega⟩ ⟨256 * h.val + d.val, by omega⟩))
        fun d : Fin 256 => K (ix3 b m ⟨256 * h.val + d.val, by omega⟩) := by
  pointwise [scoresOf, score]
  congr 1
  refine Finset.sum_congr rfl fun d _ => ?_
  congr 1
  · blk_ext []
  · blk_ext []

theorem expOf_at (s : FVec Ideal S4x4x2048x256 .f32) (x : S4x4x2048x256.Idx) :
    expOf s x = Ideal.exp (s x - Finset.univ.sup fun m => s (ix4 (x 0) (x 1) (x 2) m)) := by
  have h := topOf_at s (ix3 (x 0) (x 1) (x 2))
  rw [fold_max] at h
  refine (expBelow_at s _ x).trans ?_
  rw [h, negInf_eq, max_eq_right bot_le]
  rfl

theorem gatedAttn_at (p : FVec Ideal S4x4x2048x256 .f32) (v : FVec Ideal S4x256x1024 .f32) (B : FVec Ideal S8192x8192 .f32) (x : S8192x1024.Idx)
    (b h : Fin 4) (s : Fin 2048) (hb : b.val = (x 0).val / 2048) (hs : s.val = (x 0).val % 2048)
    (hh : h.val = (x 1).val / 256) : gatedAttn p v B x
      = (∑ m, Ideal.div (p (ix4 b h s m)) (∑ l, p (ix4 b h s l)) * v (ix3 b m (x 1)))
        * swish (B (ix2 (x 0) ⟨1024 + (x 1).val, by idx_bounds; omega⟩)) := by
  have b1 : (x 0).val / 2048 < 4 := by clear hb hs hh; idx_bounds; omega
  have b2 : (x 1).val / 256 < 4 := by clear hb hs hh; idx_bounds; omega
  obtain rfl : b = ⟨(x 0).val / 2048, b1⟩ := Fin.ext hb
  obtain rfl : s = ⟨(x 0).val % 2048, Nat.mod_lt _ (by decide)⟩ := Fin.ext hs
  obtain rfl : h = ⟨(x 1).val / 256, b2⟩ := Fin.ext hh
  pointwise [gatedAttn, swish, sg]
  congr 1
  refine Finset.sum_congr rfl fun m _ => ?_
  rw [mul_comm]

/-- The attention's weights and values give its sum. -/
theorem attend_congr {P : Fin 256 → EReal} {s s' v v' : Fin 256 → EReal} (h : ∀ m, P m = Ideal.exp (s m - Finset.univ.sup s)) (hs : ∀ m, s m = s' m)
    (hv : ∀ m, v m = v' m) : ∑ m, Ideal.div (P m) (∑ l, P l) * v m = attend s' v' := by
  obtain rfl : s = s' := funext hs
  obtain rfl : v = v' := funext hv
  simp only [h, attend]

theorem xc_eq (B : FVec Ideal S8192x8192 .f32) (K : FVec Ideal S4x256x1024 .f32) (v : FVec Ideal S4x256x1024 .f32) : gatedAttn (expOf (scoresOf B K)) v B = Cert.PromptIdeal.Attn.xc B K v := by
  funext x
  have et : (⟨2048 * ((x 0).val / 2048) + (x 0).val % 2048, by idx_bounds; omega⟩ : Fin 8192) = x 0 := Fin.ext (by simp only; omega)
  refine (gatedAttn_at _ _ _ x ⟨(x 0).val / 2048, by idx_bounds; omega⟩ ⟨(x 1).val / 256, by idx_bounds; omega⟩
    ⟨(x 0).val % 2048, Nat.mod_lt _ (by decide)⟩ rfl rfl rfl).trans (congrArg₂ (fun a b : EReal => a * b) ?_ rfl)
  refine attend_congr (fun m => expOf_at _ _) (fun m => ?_) fun m => rfl
  refine (scoresOf_at B K _ _ _ m).trans (congrArg₂ score ?_ rfl)
  exact congrArg (fun r => fun d : Fin 256 => B (ix2 r ⟨256 * ((x 1).val / 256) + d.val, by idx_bounds; omega⟩)) et

end Cert.RefPromptIdeal.Layered
end
-- ==== Proof.RefPromptOut.lean ====
/- The reference's output for the prompt, entry by entry. -/
module

public import proofs.«01_k».proof.Proof.RefPromptMemory
public import proofs.«01_k».proof.Proof.RefPromptAttn
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.RefPromptIdeal.Layered
open Cert.RefPromptIdeal Cert.RefPromptIdeal.Gen Cert.RefPromptIdeal.Value
open Cert.PromptIdeal.Tail (keysOf valsOf yOf gatedSum outRows)

/-- The gated sum of the three branches from the projections, the branches' rows and the weights. -/
def gatedOf (A : FVec Ideal S8192x12288 .f32) (B : FVec Ideal S8192x8192 .f32) (xa : FVec Ideal S8192x1024 .bf16) (hb : FVec Ideal S8192x2048 .f32)
    (xc : FVec Ideal S8192x1024 .f32) (wa wc : FVec Ideal S1x1024x2048 .f32) (wb : FVec Ideal S1x2048x2048 .f32) : FVec Ideal S8192x2048 .f32 :=
  addf (addf (mulf (Host.divf (broadcastInDim S8192x2048 ![] bcast_S_S8192x2048 (constant S_ .f32 0x3F800000#32))
  (addf (broadcastInDim S8192x2048 ![] bcast_S_S8192x2048 (constant S_ .f32 0x3F800000#32)) (Host.exp (Host.negf
  (extractStridedSlice S8192x2048 ![0, 2048] B slices_S8192x8192_S8192x2048_0_2048))))) (Host.dotGeneral
  dot_S8192x1024_S1024x2048_S8192x2048_1_0_0_1_n_n none (extf .f32 xa bitsLt_bf16_f32) (shapeCast _ wa
  shapeCasts_S1x1024x2048_S1024x2048))) (mulf (Host.divf (broadcastInDim S8192x2048 ![] bcast_S_S8192x2048 (constant
  S_ .f32 0x3F800000#32)) (addf (broadcastInDim S8192x2048 ![] bcast_S_S8192x2048 (constant S_ .f32 0x3F800000#32))
  (Host.exp (Host.negf (extractStridedSlice S8192x2048 ![0, 4096] B slices_S8192x8192_S8192x2048_0_4096)))))
  (Host.dotGeneral dot_S8192x2048_S2048x2048_S8192x2048_1_0_0_1_n_n none (mulf (mulf (Host.divf (broadcastInDim
  S8192x2048 ![] bcast_S_S8192x2048 (constant S_ .f32 0x3F800000#32)) (addf (broadcastInDim S8192x2048 ![]
  bcast_S_S8192x2048 (constant S_ .f32 0x3F800000#32)) (Host.exp (Host.negf (extractStridedSlice S8192x2048 ![0, 8192]
  A slices_S8192x12288_S8192x2048_0_8192))))) hb) (mulf (extractStridedSlice S8192x2048 ![0, 10240] A
  slices_S8192x12288_S8192x2048_0_10240) (Host.divf (broadcastInDim S8192x2048 ![] bcast_S_S8192x2048 (constant S_
  .f32 0x3F800000#32)) (addf (broadcastInDim S8192x2048 ![] bcast_S_S8192x2048 (constant S_ .f32 0x3F800000#32))
  (Host.exp (Host.negf (extractStridedSlice S8192x2048 ![0, 10240] A slices_S8192x12288_S8192x2048_0_10240)))))))
  (shapeCast _ wb shapeCasts_S1x2048x2048_S2048x2048)))) (mulf (Host.divf (broadcastInDim S8192x2048 ![]
  bcast_S_S8192x2048 (constant S_ .f32 0x3F800000#32)) (addf (broadcastInDim S8192x2048 ![] bcast_S_S8192x2048
  (constant S_ .f32 0x3F800000#32)) (Host.exp (Host.negf (extractStridedSlice S8192x2048 ![0, 6144] B
  slices_S8192x8192_S8192x2048_0_6144))))) (Host.dotGeneral dot_S8192x1024_S1024x2048_S8192x2048_1_0_0_1_n_n none xc
  (shapeCast _ wc shapeCasts_S1x1024x2048_S1024x2048)))

theorem gatedOf_eq (A : FVec Ideal S8192x12288 .f32) (B : FVec Ideal S8192x8192 .f32) (xa : FVec Ideal S8192x1024 .bf16) (hb : FVec Ideal S8192x2048 .f32)
    (xc : FVec Ideal S8192x1024 .f32) (wa wc : FVec Ideal S1x1024x2048 .f32) (wb : FVec Ideal S1x2048x2048 .f32) :
    gatedOf A B xa hb xc wa wc wb = gatedSum A B xa hb xc (truncf .bf16 (shapeCast S1024x2048 wa shapeCasts_S1x1024x2048_S1024x2048) Cert.PromptIdeal.Gen.bitsLt_bf16_f32)
      (truncf .bf16 (shapeCast S1024x2048 wc shapeCasts_S1x1024x2048_S1024x2048) Cert.PromptIdeal.Gen.bitsLt_bf16_f32)
      (truncf .bf16 (shapeCast S2048x2048 wb shapeCasts_S1x2048x2048_S2048x2048) Cert.PromptIdeal.Gen.bitsLt_bf16_f32) := by
  funext x
  pointwise [gatedOf, gatedSum, merged, swish, sg]

/-- The output projection. -/
def projOf (s : FVec Ideal S8192x2048 .f32) (w : FVec Ideal S1x2048x2048 .f32) : FVec Ideal S8192x2048 .f32 :=
  Host.dotGeneral dot_S8192x2048_S2048x2048_S8192x2048_1_0_0_1_n_n none s (shapeCast _ w shapeCasts_S1x2048x2048_S2048x2048)

/-- The output from the projected rows, the layer's input and the scale. -/
def rowsOf (x : FVec Ideal S4x2048x2048 .f32) (p : FVec Ideal S8192x2048 .f32) (g : FVec Ideal S1x2048 .f32) : FVec Ideal S8192x2048 .f32 :=
  addf (shapeCast _ x shapeCasts_S4x2048x2048_S8192x2048) (mulf (mulf p (broadcastInDim S8192x2048 ![0, 1]
  bcast_S8192x1_S8192x2048_0_1 (Host.rsqrt (addf (Host.divf (broadcastInDim S8192x1 ![0] bcast_S8192_S8192x1_0
  (Host.reduceAdd (mulf p p) (constant S_ .f32 0x00000000#32) reducesTo_S8192x2048_S8192_d1 h_S_)) (broadcastInDim
  S8192x1 ![] bcast_S_S8192x1 (constant S_ .f32 0x45000000#32))) (broadcastInDim S8192x1 ![] bcast_S_S8192x1 (constant
  S_ .f32 0x358637BD#32)))))) (broadcastInDim S8192x2048 ![0, 1] bcast_S1x2048_S8192x2048_0_1 (broadcastInDim S1x2048
  ![1] bcast_S2048_S1x2048_1 (shapeCast _ g shapeCasts_S1x2048_S2048))))

theorem rowsOf_eq (x : FVec Ideal S4x2048x2048 .f32) (s : FVec Ideal S8192x2048 .f32) (g : FVec Ideal S1x2048 .f32) (w : FVec Ideal S1x2048x2048 .f32) :
    rowsOf x (projOf s w) g = outRows s (shapeCast S8192x2048 x shapeCasts_S4x2048x2048_S8192x2048)
      (broadcastInDim S1x2048 ![1] bcast_S2048_S1x2048_1 (shapeCast S2048 g shapeCasts_S1x2048_S2048))
      (truncf .bf16 (shapeCast S2048x2048 w shapeCasts_S1x2048x2048_S2048x2048) Cert.PromptIdeal.Gen.bitsLt_bf16_f32) := by
  funext j
  pointwise [rowsOf, projOf, outRows, outRow]

/-- The whole output, from arrays. -/
theorem y_eq (A : FVec Ideal S8192x12288 .f32) (B : FVec Ideal S8192x8192 .f32) (xa : FVec Ideal S8192x1024 .bf16) (hb : FVec Ideal S8192x2048 .f32)
    (mem : FVec Ideal S4x256x2048 .f32) (gm : FVec Ideal S1x2048 .f32) (wm : FVec Ideal S1x2048x2048 .f32)
    (x : FVec Ideal S4x2048x2048 .f32) (g : FVec Ideal S1x2048 .f32) (wa wc : FVec Ideal S1x1024x2048 .f32) (wb wo : FVec Ideal S1x2048x2048 .f32) :
    rowsOf x (projOf (gatedOf A B xa hb (gatedAttn (expOf (scoresOf B (keyHalf (kvOf mem gm wm)))) (valHalf (kvOf mem gm wm)) B) wa wc wb) wo) g
      = yOf A B (keysOf mem gm wm) (valsOf mem gm wm) xa hb x g wa wb wc wo := by
  rw [keyHalf_eq, valHalf_eq, xc_eq, rowsOf_eq, gatedOf_eq]
  rfl

variable (m : (ℓ : Loc nD τ sig) → Buf (Elt Ideal) ℓ) (c : Dev nD)

theorem y_term : res_main_v103 m c = rowsOf (m ((c.tc : Thread nD τ).loc main_arg7)) (projOf (gatedOf (m ((c.tc : Thread nD τ).loc main_arg3))
      (m ((c.tc : Thread nD τ).loc main_arg4)) (m ((c.tc : Thread nD τ).loc main_arg5)) (m ((c.tc : Thread nD τ).loc main_arg6))
      (gatedAttn (expOf (scoresOf (m ((c.tc : Thread nD τ).loc main_arg4)) (keyHalf (kvOf (m ((c.tc : Thread nD τ).loc main_arg0))
        (m ((c.tc : Thread nD τ).loc main_arg1)) (m ((c.tc : Thread nD τ).loc main_arg2))))))
        (valHalf (kvOf (m ((c.tc : Thread nD τ).loc main_arg0)) (m ((c.tc : Thread nD τ).loc main_arg1)) (m ((c.tc : Thread nD τ).loc main_arg2))))
        (m ((c.tc : Thread nD τ).loc main_arg4))) (m ((c.tc : Thread nD τ).loc main_arg9)) (m ((c.tc : Thread nD τ).loc main_arg11))
      (m ((c.tc : Thread nD τ).loc main_arg10))) (m ((c.tc : Thread nD τ).loc main_arg12))) (m ((c.tc : Thread nD τ).loc main_arg8)) := rfl

theorem y_ref : res_main_v103 m c = yOf (m ((c.tc : Thread nD τ).loc main_arg3)) (m ((c.tc : Thread nD τ).loc main_arg4))
      (keysOf (m ((c.tc : Thread nD τ).loc main_arg0)) (m ((c.tc : Thread nD τ).loc main_arg1)) (m ((c.tc : Thread nD τ).loc main_arg2)))
      (valsOf (m ((c.tc : Thread nD τ).loc main_arg0)) (m ((c.tc : Thread nD τ).loc main_arg1)) (m ((c.tc : Thread nD τ).loc main_arg2)))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) :=
  (y_term m c).trans (y_eq _ _ _ _ _ _ _ _ _ _ _ _ _)

end Cert.RefPromptIdeal.Layered
end
-- ==== Proof.PromptClaim.lean ====
/- The prompt's launches and the layer's mathematics leave the same results. -/
module

public import proofs.«01_k».proof.Proof.PromptTame
public import proofs.«01_k».proof.Proof.RefPromptOut
public import proofs.«01_k».proof.Proof.Gen.Pre_prompt_tame
public import proofs.«01_k».proof.Defs
public import Idealize.ShloMosaic.Lib.Claim
public import Idealize.ShloMosaic.Adequacy

@[expose] public section

set_option maxRecDepth 16384

noncomputable section

open Idealize.ShloMosaic Idealize.ShloMosaic.TcCoe Idealize.SL.Sem

namespace Cert.PromptIdeal.Run
open Cert.PromptIdeal Cert.PromptIdeal.Gen

variable (m : (ℓ : Loc nD τ sig) → Buf (Elt Ideal) ℓ) (ρ : Dev nD → PrngReg)

/-- The run, with every result as a function of the arguments. -/
theorem results (tame : ∀ c, Tame m c) : θ_run defs (onTc (τ := τ) (main (F := Ideal))) ⟨m, fun _ => 0, ρ⟩ (fun r => ∀ c : Dev nD,
      r.2.mem ((c.tc : Thread nD τ).loc main_v21) = Tail.yOf (arg m c main_arg3) (arg m c main_arg4) (Tail.keysOf (arg m c main_arg0) (arg m c main_arg1) (arg m c main_arg2)) (Tail.valsOf (arg m c main_arg0) (arg m c main_arg1) (arg m c main_arg2)) (arg m c main_arg5) (arg m c main_arg6) (arg m c main_arg7) (arg m c main_arg8) (arg m c main_arg9) (arg m c main_arg10) (arg m c main_arg11) (arg m c main_arg12)
      ∧ r.2.mem ((c.tc : Thread nD τ).loc main_v5_0) = Tail.keysOf (arg m c main_arg0) (arg m c main_arg1) (arg m c main_arg2)
      ∧ r.2.mem ((c.tc : Thread nD τ).loc main_v5_1) = Tail.valsOf (arg m c main_arg0) (arg m c main_arg1) (arg m c main_arg2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    have k : ∀ a ∈ argRefs, ¬ (Proc.devRef .tc a : DevRef τ sig).isScoped → r.2.mem ((c.tc : Thread nD τ).loc a) = m ((c.tc : Thread nD τ).loc a) :=
      fun a ha hs => (h c _ (mem_uc a hs)).trans (W7_args m ρ c a ha)
    exact ⟨(h c _ (mem_uc main_v21 (by decide))).trans (out_y m ρ c (tame c)),
    (h c _ (mem_uc main_v5_0 (by decide))).trans (out_keys m ρ c),
    (h c _ (mem_uc main_v5_1 (by decide))).trans (out_vals m ρ c),
    k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide), k main_arg12 (by decide) (by decide)⟩) (run_all m ρ)

end Cert.PromptIdeal.Run

namespace Cert.RefPromptIdeal.Layered
open Cert.RefPromptIdeal Cert.RefPromptIdeal.Gen

variable (m : (ℓ : Loc nD τ sig) → Buf (Elt Ideal) ℓ) (ρ : Dev nD → PrngReg)

/-- The reference's run, with every result as the same function of the arguments. -/
theorem results : θ_run defs (onTc (τ := τ) (main (F := Ideal))) ⟨m, fun _ => 0, ρ⟩ (fun r => ∀ c : Dev nD,
      r.2.mem ((c.tc : Thread nD τ).loc main_v103) = Cert.PromptIdeal.Tail.yOf (m ((c.tc : Thread nD τ).loc main_arg3)) (m ((c.tc : Thread nD τ).loc main_arg4)) (Cert.PromptIdeal.Tail.keysOf (m ((c.tc : Thread nD τ).loc main_arg0)) (m ((c.tc : Thread nD τ).loc main_arg1)) (m ((c.tc : Thread nD τ).loc main_arg2))) (Cert.PromptIdeal.Tail.valsOf (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v104) = Cert.PromptIdeal.Tail.keysOf (m ((c.tc : Thread nD τ).loc main_arg0)) (m ((c.tc : Thread nD τ).loc main_arg1)) (m ((c.tc : Thread nD τ).loc main_arg2))
      ∧ r.2.mem ((c.tc : Thread nD τ).loc main_v105) = Cert.PromptIdeal.Tail.valsOf (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    obtain ⟨h0, h1, h2, rest⟩ := h c
    exact ⟨h0.trans (y_ref m c), h1.trans (keys_eq _ _ _), h2.trans (vals_eq _ _ _), rest⟩) (Cert.RefPromptIdeal.Value.run m ρ)

end Cert.RefPromptIdeal.Layered

namespace Cert.Proof

theorem frame_ref_prompt : Cert.quiescent_RefPromptIdeal (hRefPromptIdeal := Cert.RefPromptIdeal.Gen.facts) := fun m ρ _ =>
  (θ_run Cert.RefPromptIdeal.defs _ _).mono (fun r h => ⟨fun c => (h c).2.2.2, sem_eq_zero_of_no_sems (by decide) r.2⟩)
    (Cert.RefPromptIdeal.Value.run m ρ)

theorem frame_ref_prompt_pre : Cert.quiescent_RefPromptIdeal_pre_prompt_tame (hRefPromptIdeal := Cert.RefPromptIdeal.Gen.facts)
    (hPre_prompt_tame := Cert.Pre_prompt_tame.Gen.facts) := fun m ρ _ => frame_ref_prompt m ρ trivial

theorem algebraic_prompt : Cert.algebraic_PromptIdeal_RefPromptIdeal_pre_prompt_tame (hPromptIdeal := Cert.PromptIdeal.Gen.facts)
    (hRefPromptIdeal := Cert.RefPromptIdeal.Gen.facts) (hPre_prompt_tame := Cert.Pre_prompt_tame.Gen.facts) := by
  pair_intro
  · run_from Cert.PromptIdeal.Run.results m g (Cert.PromptIdeal.Run.tame_of m hpre)
  · run_from Cert.RefPromptIdeal.Layered.results m' g'

end Cert.Proof
end
-- ==== Proof.ShortSums.lean ====
/- The mLSTM within the new tokens: its weights and sums, and the same over a tile with other sequences masked. -/
module

public import proofs.«01_k».proof.Proof.Softmax
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Layer

/-! ## The mLSTM within a few tokens -/

/-- The logarithm of the weight of token `s` at token `t`: the difference of the cumulated forget gates and the input gate,
minus infinity for a later token. -/
def gateLog {n : ℕ} (b : EReal) (br ig : Fin n → EReal) (t s : Fin n) : EReal := if s ≤ t then b - br s + ig s else ⊥

/-- The stabiliser: the largest logarithm of a weight, the old state's among them. -/
def gateTop {n : ℕ} (b m0 : EReal) (br ig : Fin n → EReal) (t : Fin n) : EReal := max (b + m0) (Finset.univ.sup (gateLog b br ig t))

/-- The weight of the old state. -/
def stateWeight {n : ℕ} (b m0 : EReal) (br ig : Fin n → EReal) (t : Fin n) : EReal := Ideal.exp (b + m0 - gateTop b m0 br ig t)

/-- The weighted score of token `s`. -/
def gatedScore {n : ℕ} (b m0 : EReal) (br ig qk : Fin n → EReal) (t s : Fin n) : EReal :=
  qk s * Ideal.exp (gateLog b br ig t s - gateTop b m0 br ig t)

/-! ## The same over a tile of 128 rows with the other sequences masked -/

/-- Token `s` of the sequence that row `r` of a tile lies in. -/
abbrev near (r : Fin 128) (s : Fin 8) : Fin 128 := ⟨r.val / 8 * 8 + s.val, by omega⟩

/-- The place of row `r` in its sequence. -/
abbrev place (r : Fin 128) : Fin 8 := ⟨r.val % 8, Nat.mod_lt _ (by decide)⟩

theorem near_inj (r : Fin 128) : Function.Injective (near r) := fun a b e => by
  have := congrArg Fin.val e
  simp only [near] at this
  exact Fin.ext (by omega)

theorem eq_near {r c : Fin 128} (h : c.val / 8 = r.val / 8) : near r (place c) = c := Fin.ext (by simp only [near, place]; omega)

/-- A sum over a tile's rows whose terms vanish outside the row's own sequence. -/
theorem sum_near (r : Fin 128) (g : Fin 128 → EReal) (hg : ∀ c, c.val / 8 ≠ r.val / 8 → g c = 0) :
    ∑ c, g c = ∑ s, g (near r s) := by
  symm
  refine Finset.sum_of_injOn (near r) (near_inj r).injOn (fun _ _ => Finset.mem_coe.2 (Finset.mem_univ _)) (fun c _ hc => hg c fun e => hc ?_) fun _ _ => rfl
  exact ⟨place c, by simp, eq_near e⟩

theorem sup_near (r : Fin 128) (S : Fin 128 → EReal) (hS : ∀ c, c.val / 8 ≠ r.val / 8 → S c = ⊥) :
    Finset.univ.sup S = Finset.univ.sup fun s => S (near r s) := by
  refine le_antisymm (Finset.sup_le fun c _ => ?_) (Finset.sup_le fun s _ => Finset.le_sup (f := S) (Finset.mem_univ _))
  by_cases e : c.val / 8 = r.val / 8
  · exact le_trans (le_of_eq (congrArg S (eq_near e).symm)) (Finset.le_sup (f := fun s => S (near r s)) (Finset.mem_univ (place c)))
  · rw [hS c e]; exact bot_le

/-- The masked logarithms over a tile. -/
def tileLog (b : EReal) (br ig : Fin 128 → EReal) (r c : Fin 128) : EReal :=
  if c.val ≤ r.val ∧ c.val / 8 = r.val / 8 then b - br c + ig c else ⊥

theorem tileLog_near (b : EReal) (br ig : Fin 128 → EReal) (r : Fin 128) (s : Fin 8) :
    tileLog b br ig r (near r s) = gateLog b (fun s => br (near r s)) (fun s => ig (near r s)) (place r) s := by
  unfold tileLog gateLog
  refine if_congr ?_ rfl rfl
  simp only [near, place, Fin.le_def]
  omega

theorem tileLog_far (b : EReal) (br ig : Fin 128 → EReal) (r c : Fin 128) (h : c.val / 8 ≠ r.val / 8) : tileLog b br ig r c = ⊥ :=
  if_neg fun e => h e.2

theorem tile_top (b m0 : EReal) (br ig : Fin 128 → EReal) (r : Fin 128) : max (b + m0) (Finset.univ.sup (tileLog b br ig r))
    = gateTop b m0 (fun s => br (near r s)) (fun s => ig (near r s)) (place r) := by
  rw [sup_near r _ (tileLog_far b br ig r)]
  simp only [tileLog_near]
  rfl

theorem tile_sum (b m0 : EReal) (br ig qk v : Fin 128 → EReal) (r : Fin 128) :
    ∑ c, qk c * Ideal.exp (tileLog b br ig r c - max (b + m0) (Finset.univ.sup (tileLog b br ig r))) * v c
      = ∑ s, gatedScore b m0 (fun s => br (near r s)) (fun s => ig (near r s)) (fun s => qk (near r s)) (place r) s * v (near r s) := by
  rw [tile_top, sum_near r]
  · simp only [tileLog_near]; rfl
  · intro c hc
    rw [tileLog_far b br ig r c hc, sub_eq_add_neg, EReal.bot_add, exp_bot, mul_zero, zero_mul]

theorem tile_den (b m0 : EReal) (br ig qk : Fin 128 → EReal) (r : Fin 128) :
    ∑ c, qk c * Ideal.exp (tileLog b br ig r c - max (b + m0) (Finset.univ.sup (tileLog b br ig r)))
      = ∑ s, gatedScore b m0 (fun s => br (near r s)) (fun s => ig (near r s)) (fun s => qk (near r s)) (place r) s := by
  rw [tile_top, sum_near r]
  · simp only [tileLog_near]; rfl
  · intro c hc
    rw [tileLog_far b br ig r c hc, sub_eq_add_neg, EReal.bot_add, exp_bot, mul_zero]

end Layer
end
-- ==== Proof.ShortHead.lean ====
/- The body of the mLSTM within the new tokens, one head at a row and column of a tile. -/
module

public import proofs.«01_k».proof.Proof.Gen.ShortIdeal.Skeleton
public import proofs.«01_k».proof.Proof.ShortSums
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.ShortIdeal.Within
open Cert.ShortIdeal Cert.ShortIdeal.Gen

theorem mask_all : ∀ r c : Fin 128, k0_pay1 (ix2 r c) = if c.val ≤ r.val ∧ c.val / 8 = r.val / 8 then 1#1 else 0#1 := by
  intro r c
  pointwise [k0_pay1]
  revert r c
  decide +kernel

/-- The masked logarithms of the first head, at an entry. -/
theorem log_at (b : FVec Ideal S128x1 .f32) (ig br : FVec Ideal S1x128 .f32) (r c : Fin 128) :
    k0_pay6 (F := Ideal) b ig br (ix2 r c) = tileLog (b (ix2 r 0)) (fun c => br (ix2 0 c)) (fun c => ig (ix2 0 c)) r c := by
  pointwise [k0_pay6]
  rw [mask_all, negInf_eq, tileLog]
  split
  · exact if_pos rfl
  · exact if_neg (by decide)

theorem topTile_at (b m0 : FVec Ideal S128x1 .f32) (ig br : FVec Ideal S1x128 .f32) (r : Fin 128) :
    k0_pay8 (F := Ideal) b m0 ig br (ix2 r 0) = max (b (ix2 r 0) + m0 (ix2 r 0))
      (Finset.univ.sup (tileLog (b (ix2 r 0)) (fun c => br (ix2 0 c)) (fun c => ig (ix2 0 c)) r)) := by
  simp only [← fold_max]
  pointwise [k0_pay8, k0_pay7]
  exact congrArg (max _) (Finset.fold_congr fun c _ => log_at b ig br r c)

theorem diff_at (b m0 : FVec Ideal S128x1 .f32) (ig br : FVec Ideal S1x128 .f32) (r c : Fin 128) :
    k0_pay9 (F := Ideal) b m0 ig br (ix2 r c) = tileLog (b (ix2 r 0)) (fun c => br (ix2 0 c)) (fun c => ig (ix2 0 c)) r c
      - max (b (ix2 r 0) + m0 (ix2 r 0)) (Finset.univ.sup (tileLog (b (ix2 r 0)) (fun c => br (ix2 0 c)) (fun c => ig (ix2 0 c)) r)) := by
  rw [← topTile_at, ← log_at]
  pointwise [k0_pay9]

theorem score_at (q k : FVec Ideal S128x512 .bf16) (e : FVec Ideal S128x128 .f32) (r c : Fin 128) :
    k0_pay11 (F := Ideal) q k e (ix2 r c) = (∑ d, q (ix2 r d) * k (ix2 c d)) * Ideal.exp (e (ix2 r c)) := by
  pointwise [k0_pay11]

theorem num_sum (q k v : FVec Ideal S128x512 .bf16) (e : FVec Ideal S128x128 .f32) (r : Fin 128) (x : Fin 512) :
    k0_pay12 (F := Ideal) q k v e (ix2 r x) = ∑ c : Fin 128, k0_pay11 (F := Ideal) q k e (ix2 r c) * v (ix2 c x) := by
  pointwise [k0_pay12]

theorem den_sum (q k : FVec Ideal S128x512 .bf16) (e : FVec Ideal S128x128 .f32) (r : Fin 128) :
    k0_pay13 (F := Ideal) q k e (ix2 r 0) = ∑ c : Fin 128, k0_pay11 (F := Ideal) q k e (ix2 r c) := by
  pointwise [k0_pay13]

/-- The first head's stabiliser. -/
theorem top_at (b m0 : FVec Ideal S128x1 .f32) (ig br : FVec Ideal S1x128 .f32) (r : Fin 128) :
    k0_pay8 (F := Ideal) b m0 ig br (ix2 r 0) = gateTop (b (ix2 r 0)) (m0 (ix2 r 0)) (fun s => br (ix2 0 (near r s)))
      (fun s => ig (ix2 0 (near r s))) (place r) :=
  (topTile_at b m0 ig br r).trans (tile_top _ _ _ _ _)

/-- The first head's weight of the old state. -/
theorem weight_at (b m0 : FVec Ideal S128x1 .f32) (ig br : FVec Ideal S1x128 .f32) (r : Fin 128) :
    k0_pay10 (F := Ideal) (k0_pay7 b m0) (k0_pay8 b m0 ig br) (ix2 r 0) = stateWeight (b (ix2 r 0)) (m0 (ix2 r 0))
      (fun s => br (ix2 0 (near r s))) (fun s => ig (ix2 0 (near r s))) (place r) := by
  rw [stateWeight, ← top_at]
  pointwise [k0_pay10, k0_pay7]

/-- The operands of the scores. -/
theorem query_at (q : FVec Ideal S128x512 .f32) (y : S128x512.Idx) : k0_pay3 (F := Ideal) q y = q y := by
  pointwise [k0_pay3]
theorem key_at (k : FVec Ideal S128x512 .f32) (y : S128x512.Idx) : k0_pay4 (F := Ideal) k y = k y * kscale := by
  pointwise [k0_pay4]
theorem value_at (v : FVec Ideal S128x512 .f32) (y : S128x512.Idx) : k0_pay5 (F := Ideal) v y = v y := by
  pointwise [k0_pay5]

/-- The first head's part of the numerator. -/
theorem num_at (b m0 : FVec Ideal S128x1 .f32) (ig br : FVec Ideal S1x128 .f32) (q k v : FVec Ideal S128x512 .f32) (r : Fin 128) (x : Fin 512) :
    k0_pay12 (F := Ideal) (k0_pay3 q) (k0_pay4 k) (k0_pay5 v) (k0_pay9 b m0 ig br) (ix2 r x)
      = ∑ s, gatedScore (b (ix2 r 0)) (m0 (ix2 r 0)) (fun s => br (ix2 0 (near r s))) (fun s => ig (ix2 0 (near r s)))
          (fun s => ∑ d, q (ix2 r d) * (k (ix2 (near r s) d) * kscale)) (place r) s * v (ix2 (near r s) x) := by
  rw [num_sum]
  simp only [score_at, diff_at, query_at, key_at, value_at]
  exact tile_sum (b (ix2 r 0)) (m0 (ix2 r 0)) (fun c => br (ix2 0 c)) (fun c => ig (ix2 0 c))
    (fun c => ∑ d, q (ix2 r d) * (k (ix2 c d) * kscale)) (fun c => v (ix2 c x)) r

/-- The first head's part of the denominator. -/
theorem den_at (b m0 : FVec Ideal S128x1 .f32) (ig br : FVec Ideal S1x128 .f32) (q k : FVec Ideal S128x512 .f32) (r : Fin 128) :
    k0_pay13 (F := Ideal) (k0_pay3 q) (k0_pay4 k) (k0_pay9 b m0 ig br) (ix2 r 0)
      = ∑ s, gatedScore (b (ix2 r 0)) (m0 (ix2 r 0)) (fun s => br (ix2 0 (near r s))) (fun s => ig (ix2 0 (near r s)))
          (fun s => ∑ d, q (ix2 r d) * (k (ix2 (near r s) d) * kscale)) (place r) s := by
  rw [den_sum]
  simp only [score_at, diff_at, query_at, key_at]
  exact tile_den (b (ix2 r 0)) (m0 (ix2 r 0)) (fun c => br (ix2 0 c)) (fun c => ig (ix2 0 c))
    (fun c => ∑ d, q (ix2 r d) * (k (ix2 c d) * kscale)) r

/-! The other heads' functions are the first head's. -/

variable (b m0 : FVec Ideal S128x1 .f32) (ig br : FVec Ideal S1x128 .f32) (q k v : FVec Ideal S128x512 .f32)

theorem num1 : k0_pay23 (F := Ideal) k0_pay1 b m0 (k0_pay14 q) (k0_pay15 k) (k0_pay16 v) (k0_pay17 b ig br)
    = k0_pay12 (k0_pay3 q) (k0_pay4 k) (k0_pay5 v) (k0_pay9 b m0 ig br) := rfl
theorem num2 : k0_pay32 (F := Ideal) k0_pay1 b m0 ig br (k0_pay25 q) (k0_pay26 k) v
    = k0_pay12 (k0_pay3 q) (k0_pay4 k) (k0_pay5 v) (k0_pay9 b m0 ig br) := rfl
theorem num3 : k0_pay39 (F := Ideal) k0_pay1 b m0 ig br q k v
    = k0_pay12 (k0_pay3 q) (k0_pay4 k) (k0_pay5 v) (k0_pay9 b m0 ig br) := rfl
theorem den1 : k0_pay24 (F := Ideal) k0_pay1 b m0 (k0_pay14 q) (k0_pay15 k) (k0_pay17 b ig br)
    = k0_pay13 (k0_pay3 q) (k0_pay4 k) (k0_pay9 b m0 ig br) := rfl
theorem den2 : k0_pay33 (F := Ideal) k0_pay1 b m0 ig br (k0_pay25 q) (k0_pay26 k)
    = k0_pay13 (k0_pay3 q) (k0_pay4 k) (k0_pay9 b m0 ig br) := rfl
theorem den3 : k0_pay40 (F := Ideal) k0_pay1 b m0 ig br q k
    = k0_pay13 (k0_pay3 q) (k0_pay4 k) (k0_pay9 b m0 ig br) := rfl
theorem weight1 : k0_pay21 (F := Ideal) k0_pay1 b m0 (k0_pay17 b ig br) = k0_pay10 (k0_pay7 b m0) (k0_pay8 b m0 ig br) := rfl
theorem weight2 : k0_pay30 (F := Ideal) k0_pay1 b m0 ig br = k0_pay10 (k0_pay7 b m0) (k0_pay8 b m0 ig br) := rfl
theorem weight3 : k0_pay37 (F := Ideal) k0_pay1 b m0 ig br = k0_pay10 (k0_pay7 b m0) (k0_pay8 b m0 ig br) := rfl
theorem top1 : k0_pay20 (F := Ideal) k0_pay1 b m0 (k0_pay17 b ig br) = k0_pay8 b m0 ig br := rfl
theorem top2 : k0_pay29 (F := Ideal) k0_pay1 b m0 ig br = k0_pay8 b m0 ig br := rfl
theorem top3 : k0_pay36 (F := Ideal) k0_pay1 b m0 ig br = k0_pay8 b m0 ig br := rfl

end Cert.ShortIdeal.Within
end
-- ==== Proof.ShortParts.lean ====
/- The mLSTM within the new tokens as functions of the projection and the gates, with what its blocks hold. -/
module

public import proofs.«01_k».proof.Proof.Gen.ShortIdeal.Value
public import proofs.«01_k».proof.Proof.ShortHead
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.ShortIdeal.Within
open Cert.ShortIdeal Cert.ShortIdeal.Gen

/-- Token `s` of the sequence that row `i` lies in. -/
abbrev mate (i : Fin 1024) (s : Fin 8) : Fin 1024 := ⟨i.val / 8 * 8 + s.val, by omega⟩

/-- The place of row `i` in its sequence. -/
abbrev turn (i : Fin 1024) : Fin 8 := ⟨i.val % 8, Nat.mod_lt _ (by decide)⟩

/-- Gate column `o + h`. -/
abbrev gcol (o : ℕ) (h : Fin 4) (ho : o ≤ 8 := by decide) : Fin 128 := ⟨o + h.val, by omega⟩

/-- Row `o + h` of the transposed gates. -/
abbrev grow (o : ℕ) (h : Fin 4) (ho : o ≤ 4 := by decide) : Fin 8 := ⟨o + h.val, by omega⟩

/-- Column `d` of head `h` in group `g` of the projection. -/
abbrev pcol (g : ℕ) (h : Fin 4) (d : Fin 512) (hg : g ≤ 4 := by decide) : Fin 12288 := ⟨2048 * g + 512 * h.val + d.val, by omega⟩

section
variable (P : FVec Ideal S1024x12288 .f32) (G : FVec Ideal S1024x128 .f32) (T : FVec Ideal S8x1024 .f32)

/-- The weighted score of token `s` of the sequence at row `i` for head `h`. -/
def scoreOf (i : Fin 1024) (h : Fin 4) (s : Fin 8) : EReal :=
  gatedScore (G (ix2 i (gcol 4 h))) (G (ix2 i (gcol 8 h))) (fun s => T (ix2 (grow 4 h) (mate i s))) (fun s => T (ix2 (grow 0 h) (mate i s)))
    (fun s => ∑ d : Fin 512, P (ix2 i (pcol 1 h d)) * (P (ix2 (mate i s) (pcol 2 h d)) * kscale)) (turn i) s

/-- The part of the numerator from the new tokens. -/
def numOf : FVec Ideal S1024x2048 .f32 := fun j =>
  let h : Fin 4 := ⟨(j 1).val / 512, by idx_bounds; omega⟩
  ∑ s, scoreOf P G T (j 0) h s * P (ix2 (mate (j 0) s) (pcol 3 h ⟨(j 1).val % 512, Nat.mod_lt _ (by decide)⟩))

/-- The part of the denominator from the new tokens. -/
def denOf (i : Fin 1024) (h : Fin 4) : EReal := ∑ s, scoreOf P G T i h s

/-- The weight of the old state. -/
def weightOf (i : Fin 1024) (h : Fin 4) : EReal :=
  stateWeight (G (ix2 i (gcol 4 h))) (G (ix2 i (gcol 8 h))) (fun s => T (ix2 (grow 4 h) (mate i s))) (fun s => T (ix2 (grow 0 h) (mate i s))) (turn i)

/-- The stabiliser. -/
def stabOf (i : Fin 1024) (h : Fin 4) : EReal :=
  gateTop (G (ix2 i (gcol 4 h))) (G (ix2 i (gcol 8 h))) (fun s => T (ix2 (grow 4 h) (mate i s))) (fun s => T (ix2 (grow 0 h) (mate i s))) (turn i)

/-- The statistics of a row: the denominators, the weights of the old state, the stabilisers, then zeros. -/
def statAt (i : Fin 1024) (j : Fin 128) : EReal :=
  if h0 : j.val < 4 then denOf P G T i ⟨j.val, h0⟩
  else if h1 : j.val - 4 < 4 then weightOf G T i ⟨j.val - 4, h1⟩
  else if h2 : j.val - 8 < 4 then stabOf G T i ⟨j.val - 8, h2⟩
  else Ideal.ofBits .f32 0x00000000#32

/-- The statistics. -/
def statOf : FVec Ideal S1024x128 .f32 := fun y => statAt P G T (y 0) (y 1)

end

theorem numOf_at (P : FVec Ideal S1024x12288 .f32) (G : FVec Ideal S1024x128 .f32) (T : FVec Ideal S8x1024 .f32) (j : S1024x2048.Idx)
    (i : Fin 1024) (h : Fin 4) (x : Fin 512) (h0 : (j 0).val = i.val) (h1 : (j 1).val = 512 * h.val + x.val) :
    numOf P G T j = ∑ s, scoreOf P G T i h s * P (ix2 (mate i s) (pcol 3 h x)) := by
  rw [show j = ix2 i ⟨512 * h.val + x.val, by omega⟩ by
    funext a; refine Fin.cases (Fin.ext h0) (fun a => ?_) a; obtain rfl : a = 0 := Subsingleton.elim _ _; exact Fin.ext h1]
  have eh : (512 * h.val + x.val) / 512 = h.val := by omega
  have ex : (512 * h.val + x.val) % 512 = x.val := by omega
  unfold numOf
  simp only [ix2_0, ix2_1, eh, ex]

theorem idx : ∀ t : Fin cfg0.N, win0_0.index t = ![t.val, 1] ∧ win0_1.index t = ![t.val, 2] ∧ win0_2.index t = ![t.val, 3]
    ∧ win0_3.index t = ![t.val, 0] ∧ win0_4.index t = ![0, t.val] ∧ win0_5.index t = ![t.val, 0] ∧ win0_6.index t = ![t.val, 0] :=
  (by decide +kernel : ∀ t : Fin grid0.N, _)

variable (m : (ℓ : Loc nD τ sig) → Buf (Elt Ideal) ℓ)

/-- Row `r` of tile `t`. -/
abbrev at_ (t : Fin cfg0.N) (r : Fin 128) : Fin 1024 := ⟨128 * t.val + r.val, by have := t.isLt; change t.val < 8 at this; omega⟩

theorem mate_at (t : Fin cfg0.N) (r : Fin 128) (s : Fin 8) : mate (at_ t r) s = at_ t (near r s) :=
  Fin.ext (by simp only [mate, at_, near]; omega)
theorem turn_at (t : Fin cfg0.N) (r : Fin 128) : turn (at_ t r) = place r :=
  Fin.ext (by simp only [turn, at_, place]; omega)

theorem rd0 (c : Dev nD) (t : Fin cfg0.N) (x : S128x2048.Idx) :
    iblk m c 0 t x = m ((c : Thread nD τ).loc main_arg0) (ix2 (at_ t (x 0)) ⟨2048 + (x 1).val, by idx_bounds; omega⟩) := by
  blk_ext [iblk, V, idx t]
theorem rd1 (c : Dev nD) (t : Fin cfg0.N) (x : S128x2048.Idx) :
    iblk m c 1 t x = m ((c : Thread nD τ).loc main_arg0) (ix2 (at_ t (x 0)) ⟨4096 + (x 1).val, by idx_bounds; omega⟩) := by
  blk_ext [iblk, V, idx t]
theorem rd2 (c : Dev nD) (t : Fin cfg0.N) (x : S128x2048.Idx) :
    iblk m c 2 t x = m ((c : Thread nD τ).loc main_arg0) (ix2 (at_ t (x 0)) ⟨6144 + (x 1).val, by idx_bounds; omega⟩) := by
  blk_ext [iblk, V, idx t]
theorem rd3 (c : Dev nD) (t : Fin cfg0.N) (x : S128x128.Idx) :
    iblk m c 3 t x = m ((c : Thread nD τ).loc main_arg1) (ix2 (at_ t (x 0)) (x 1)) := by
  blk_ext [iblk, V, idx t]
theorem rd4 (c : Dev nD) (t : Fin cfg0.N) (x : S8x128.Idx) :
    iblk m c 4 t x = m ((c : Thread nD τ).loc main_arg2) (ix2 (x 0) (at_ t (x 1))) := by
  blk_ext [iblk, V, idx t]
theorem emb5 (t : Fin cfg0.N) (y : S128x2048.Idx) : ((View.whole main_v0_0).slice (win0_5.rect t)).emb y = ix2 (at_ t (y 0)) (y 1) := by
  blk_ext [idx t]
theorem emb6 (t : Fin cfg0.N) (y : S128x128.Idx) : ((View.whole main_v0_1).slice (win0_6.rect t)).emb y = ix2 (at_ t (y 0)) (y 1) := by
  blk_ext [idx t]

end Cert.ShortIdeal.Within
end
-- ==== Proof.ShortValue.lean ====
/- What the call for the mLSTM within the new tokens leaves in its two result arrays. -/
module

public import proofs.«01_k».proof.Proof.ShortParts
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.ShortIdeal.Within
open Cert.ShortIdeal Cert.ShortIdeal.Gen

/-- What head `h` loads at tile `t`, said of the vectors it loads. -/
structure Loads (G : FVec Ideal S1024x128 .f32) (T : FVec Ideal S8x1024 .f32) (t : Fin cfg0.N) (h : Fin 4)
    (b m0 : FVec Ideal S128x1 .f32) (ig br : FVec Ideal S1x128 .f32) : Prop where
  decay : ∀ r, b (ix2 r 0) = G (ix2 (at_ t r) (gcol 4 h))
  stab : ∀ r, m0 (ix2 r 0) = G (ix2 (at_ t r) (gcol 8 h))
  gate : ∀ r, ig (ix2 0 r) = T (ix2 (grow 0 h) (at_ t r))
  decays : ∀ r, br (ix2 0 r) = T (ix2 (grow 4 h) (at_ t r))

/-- A head's block of the projection at tile `t`, said of the vector loaded. -/
abbrev Block (P : FVec Ideal S1024x12288 .f32) (t : Fin cfg0.N) (h : Fin 4) (g : ℕ) (hg : g ≤ 4) (q : FVec Ideal S128x512 .f32) : Prop :=
  ∀ r d, q (ix2 r d) = P (ix2 (at_ t r) (pcol g h d hg))

section
variable {P : FVec Ideal S1024x12288 .f32} {G : FVec Ideal S1024x128 .f32} {T : FVec Ideal S8x1024 .f32} {t : Fin cfg0.N} {h : Fin 4}
    {b m0 : FVec Ideal S128x1 .f32} {ig br : FVec Ideal S1x128 .f32} {q k v : FVec Ideal S128x512 .f32}

theorem num_tile (L : Loads G T t h b m0 ig br) (Q : Block P t h 1 (by decide) q) (K : Block P t h 2 (by decide) k)
    (W : Block P t h 3 (by decide) v) (r : Fin 128) (x : Fin 512) :
    k0_pay12 (F := Ideal) (k0_pay3 q) (k0_pay4 k) (k0_pay5 v) (k0_pay9 b m0 ig br) (ix2 r x)
      = ∑ s, scoreOf P G T (at_ t r) h s * P (ix2 (mate (at_ t r) s) (pcol 3 h x)) := by
  rw [num_at]
  unfold scoreOf
  simp only [L.decay, L.stab, L.gate, L.decays, Q _ _, K _ _, W _ _, mate_at, turn_at]

theorem num_tile_at (L : Loads G T t h b m0 ig br) (Q : Block P t h 1 (by decide) q) (K : Block P t h 2 (by decide) k)
    (W : Block P t h 3 (by decide) v) (x : S128x512.Idx) :
    k0_pay12 (F := Ideal) (k0_pay3 q) (k0_pay4 k) (k0_pay5 v) (k0_pay9 b m0 ig br) x
      = ∑ s, scoreOf P G T (at_ t (x 0)) h s * P (ix2 (mate (at_ t (x 0)) s) (pcol 3 h (x 1))) := by
  rw [show x = ix2 (x 0) (x 1) by
    funext a; refine Fin.cases rfl (fun a => ?_) a; obtain rfl : a = 0 := Subsingleton.elim _ _; rfl]
  exact num_tile L Q K W _ _

theorem den_tile (L : Loads G T t h b m0 ig br) (Q : Block P t h 1 (by decide) q) (K : Block P t h 2 (by decide) k) (r : Fin 128) :
    k0_pay13 (F := Ideal) (k0_pay3 q) (k0_pay4 k) (k0_pay9 b m0 ig br) (ix2 r 0) = denOf P G T (at_ t r) h := by
  rw [den_at]
  unfold denOf scoreOf
  simp only [L.decay, L.stab, L.gate, L.decays, Q _ _, K _ _, mate_at, turn_at]

theorem weight_tile (L : Loads G T t h b m0 ig br) (r : Fin 128) :
    k0_pay10 (F := Ideal) (k0_pay7 b m0) (k0_pay8 b m0 ig br) (ix2 r 0) = weightOf G T (at_ t r) h := by
  rw [weight_at]
  unfold weightOf
  simp only [L.decay, L.stab, L.gate, L.decays, mate_at, turn_at]

theorem stab_tile (L : Loads G T t h b m0 ig br) (r : Fin 128) :
    k0_pay8 (F := Ideal) b m0 ig br (ix2 r 0) = stabOf G T (at_ t r) h := by
  rw [top_at]
  unfold stabOf
  simp only [L.decay, L.stab, L.gate, L.decays, mate_at, turn_at]
end

variable (m : (ℓ : Loc nD τ sig) → Buf (Elt Ideal) ℓ)

theorem ix2_ext {a b : ℕ} {i i' : Fin a} {j j' : Fin b} (e : i.val = i'.val) (e' : j.val = j'.val) : (ix2 i j : (⟨2, ![a, b]⟩ : Shape).Idx) = ix2 i' j' := by
  rw [Fin.ext e, Fin.ext e']

/-- What a head loads of the gates is its columns and rows of them. -/
theorem loads (c : Dev nD) (t : Fin cfg0.N) (h : Fin 4) (i4 i8 i0' i4') :
    Loads (m ((c : Thread nD τ).loc main_arg1)) (m ((c : Thread nD τ).loc main_arg2)) t h
      (fun x => iblk m c 3 t ((Rect.unit (s := S128x128) ![0, 4 + h.val] ![128, 1] i4).idx x))
      (fun x => iblk m c 3 t ((Rect.unit (s := S128x128) ![0, 8 + h.val] ![128, 1] i8).idx x))
      (fun x => iblk m c 4 t ((Rect.unit (s := S8x128) ![0 + h.val, 0] ![1, 128] i0').idx x))
      (fun x => iblk m c 4 t ((Rect.unit (s := S8x128) ![4 + h.val, 0] ![1, 128] i4').idx x)) where
  decay r := (rd3 m c t _).trans (congrArg _ (ix2_ext (by change 128 * t.val + (0 + 1 * r.val) = 128 * t.val + r.val; omega) (by change 4 + h.val + 1 * 0 = 4 + h.val; omega)))
  stab r := (rd3 m c t _).trans (congrArg _ (ix2_ext (by change 128 * t.val + (0 + 1 * r.val) = 128 * t.val + r.val; omega) (by change 8 + h.val + 1 * 0 = 8 + h.val; omega)))
  gate r := (rd4 m c t _).trans (congrArg _ (ix2_ext (by change 0 + h.val + 1 * 0 = 0 + h.val; omega) (by change 128 * t.val + (0 + 1 * r.val) = 128 * t.val + r.val; omega)))
  decays r := (rd4 m c t _).trans (congrArg _ (ix2_ext (by change 4 + h.val + 1 * 0 = 4 + h.val; omega) (by change 128 * t.val + (0 + 1 * r.val) = 128 * t.val + r.val; omega)))

/-- What a head loads of the projection: its query columns. -/
theorem query (c : Dev nD) (t : Fin cfg0.N) (h : Fin 4) (i) : Block (m ((c : Thread nD τ).loc main_arg0)) t h 1 (by decide)
    (fun x => iblk m c 0 t ((Rect.unit (s := S128x2048) ![0, 512 * h.val] ![128, 512] i).idx x)) :=
  fun r d => (rd0 m c t _).trans (congrArg _ (ix2_ext (by change 128 * t.val + (0 + 1 * r.val) = 128 * t.val + r.val; omega) (by change 2048 + (512 * h.val + 1 * d.val) = 2048 * 1 + 512 * h.val + d.val; omega)))

/-- What a head loads of the projection: its key columns. -/
theorem key (c : Dev nD) (t : Fin cfg0.N) (h : Fin 4) (i) : Block (m ((c : Thread nD τ).loc main_arg0)) t h 2 (by decide)
    (fun x => iblk m c 1 t ((Rect.unit (s := S128x2048) ![0, 512 * h.val] ![128, 512] i).idx x)) :=
  fun r d => (rd1 m c t _).trans (congrArg _ (ix2_ext (by change 128 * t.val + (0 + 1 * r.val) = 128 * t.val + r.val; omega) (by change 4096 + (512 * h.val + 1 * d.val) = 2048 * 2 + 512 * h.val + d.val; omega)))

/-- What a head loads of the projection: its value columns. -/
theorem value (c : Dev nD) (t : Fin cfg0.N) (h : Fin 4) (i) : Block (m ((c : Thread nD τ).loc main_arg0)) t h 3 (by decide)
    (fun x => iblk m c 2 t ((Rect.unit (s := S128x2048) ![0, 512 * h.val] ![128, 512] i).idx x)) :=
  fun r d => (rd2 m c t _).trans (congrArg _ (ix2_ext (by change 128 * t.val + (0 + 1 * r.val) = 128 * t.val + r.val; omega) (by change 6144 + (512 * h.val + 1 * d.val) = 2048 * 3 + 512 * h.val + d.val; omega)))

theorem point5 (c : Dev nD) (t : Fin cfg0.N) (y : S128x2048.Idx) : (outsAt0 m c t).1 y
    = numOf (m ((c : Thread nD τ).loc main_arg0)) (m ((c : Thread nD τ).loc main_arg1)) (m ((c : Thread nD τ).loc main_arg2)) (ix2 (at_ t (y 0)) (y 1)) := by
  unfold outsAt0; frame_out
  simp only [num1, num2, num3]
  canon_tiles x h
  · exact (num_tile_at (loads m c t 3 _ _ _ _) (query m c t 3 _) (key m c t 3 _) (value m c t 3 _) x).trans
      (numOf_at _ _ _ _ (at_ t (x 0)) 3 (x 1) (by simp [h0]) (by simp [h1])).symm
  · exact (num_tile_at (loads m c t 2 _ _ _ _) (query m c t 2 _) (key m c t 2 _) (value m c t 2 _) x).trans
      (numOf_at _ _ _ _ (at_ t (x 0)) 2 (x 1) (by simp [h0]) (by simp [h1])).symm
  · exact (num_tile_at (loads m c t 1 _ _ _ _) (query m c t 1 _) (key m c t 1 _) (value m c t 1 _) x).trans
      (numOf_at _ _ _ _ (at_ t (x 0)) 1 (x 1) (by simp [h0]) (by simp [h1])).symm
  · exact (num_tile_at (loads m c t 0 _ _ _ _) (query m c t 0 _) (key m c t 0 _) (value m c t 0 _) x).trans
      (numOf_at _ _ _ _ (at_ t (x 0)) 0 (x 1) (by simp [h0]) (by simp [h1])).symm

theorem final5 (c : Dev nD) : (dats m 0 c).arrAt 5 (cfgs 0).N
    = numOf (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, emb5]; exact point5 m c t y

end Cert.ShortIdeal.Within
end
-- ==== Proof.ShortStat.lean ====
/- What the call for the mLSTM within the new tokens leaves in its second result array, the statistics. -/
module

public import proofs.«01_k».proof.Proof.ShortValue
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.ShortIdeal.Within
open Cert.ShortIdeal Cert.ShortIdeal.Gen

/-- A write of column `o` read back in that column. -/
theorem col_hit (o : ℕ) (inb : ∀ a, (![0, o] : Fin 2 → ℕ) a + (![128, 1] : Fin 2 → ℕ) a ≤ S128x128.size a) (w : FVec Ideal S128x1 .f32)
    (L : List (View.Piece (Elt Ideal) S128x128 .f32)) (r j : Fin 128) (e : j.val = o) :
    View.canon (⟨Rect.unit ![0, o] ![128, 1] inb, w⟩ :: L) (ix2 r j) = w (ix2 r 0) := by
  have hx : (ix2 r j : S128x128.Idx) = (Rect.unit ![0, o] ![128, 1] inb).emb (ix2 r 0) := by
    funext a
    refine Fin.cases (Fin.ext ?_) (fun a => ?_) a
    · rw [ValueKit.rect_emb_unit_val]; simp
    · obtain rfl : a = 0 := Subsingleton.elim _ _
      refine Fin.ext ?_; rw [ValueKit.rect_emb_unit_val]; simp [e]
  rw [hx]; exact View.canon_cons_emb _ _ _ _

/-- A write of column `o` changes no other column. -/
theorem col_miss (o : ℕ) (inb : ∀ a, (![0, o] : Fin 2 → ℕ) a + (![128, 1] : Fin 2 → ℕ) a ≤ S128x128.size a) (w : FVec Ideal S128x1 .f32)
    (L : List (View.Piece (Elt Ideal) S128x128 .f32)) (r j : Fin 128) (e : ¬ j.val = o) :
    View.canon (⟨Rect.unit ![0, o] ![128, 1] inb, w⟩ :: L) (ix2 r j) = View.canon L (ix2 r j) := by
  refine View.canon_cons_of_not_mem _ _ fun h => e ?_
  have := (Rect.mem_set_unit (inb := inb)).mp h 1
  have e1 : o ≤ j.val ∧ j.val < o + 1 := this
  omega

/-- The write of the whole block read back. -/
theorem whole_hit (inb : ∀ a, (![0, 0] : Fin 2 → ℕ) a + (![128, 128] : Fin 2 → ℕ) a ≤ S128x128.size a) (w : FVec Ideal S128x128 .f32)
    (L : List (View.Piece (Elt Ideal) S128x128 .f32)) (y : S128x128.Idx) :
    View.canon (⟨Rect.unit ![0, 0] ![128, 128] inb, w⟩ :: L) y = w y := by
  have hx : y = (Rect.unit ![0, 0] ![128, 128] inb).emb y := by
    funext a
    refine Fin.cases (Fin.ext ?_) (fun a => ?_) a
    · rw [ValueKit.rect_emb_unit_val]; simp
    · obtain rfl : a = 0 := Subsingleton.elim _ _
      refine Fin.ext ?_; rw [ValueKit.rect_emb_unit_val]; simp
  conv_lhs => rw [hx]
  exact View.canon_cons_emb _ _ _ _

section
variable (P : FVec Ideal S1024x12288 .f32) (G : FVec Ideal S1024x128 .f32) (T : FVec Ideal S8x1024 .f32)
theorem statOf_den (i : Fin 1024) (j : Fin 128) (h : Fin 4) (e : j.val = 0 + h.val) : statOf P G T (ix2 i j) = denOf P G T i h := by
  change statAt P G T i j = _
  unfold statAt
  rw [dif_pos (by omega)]
  exact congrArg _ (Fin.ext (by simp only; omega))
theorem statOf_weight (i : Fin 1024) (j : Fin 128) (h : Fin 4) (e : j.val = 4 + h.val) : statOf P G T (ix2 i j) = weightOf G T i h := by
  change statAt P G T i j = _
  unfold statAt
  rw [dif_neg (by omega), dif_pos (by omega)]
  exact congrArg _ (Fin.ext (by simp only; omega))
theorem statOf_stab (i : Fin 1024) (j : Fin 128) (h : Fin 4) (e : j.val = 8 + h.val) : statOf P G T (ix2 i j) = stabOf G T i h := by
  change statAt P G T i j = _
  unfold statAt
  rw [dif_neg (by omega), dif_neg (by omega), dif_pos (by omega)]
  exact congrArg _ (Fin.ext (by simp only; omega))
theorem statOf_zero (i : Fin 1024) (j : Fin 128) (e : 12 ≤ j.val) : statOf P G T (ix2 i j) = Ideal.ofBits .f32 0x00000000#32 := by
  change statAt P G T i j = _
  unfold statAt
  rw [dif_neg (by omega), dif_neg (by omega), dif_neg (by omega)]
end

variable (m : (ℓ : Loc nD τ sig) → Buf (Elt Ideal) ℓ)

theorem point6 (c : Dev nD) (t : Fin cfg0.N) (y : S128x128.Idx) : (outsAt0 m c t).2 y
    = statOf (m ((c : Thread nD τ).loc main_arg0)) (m ((c : Thread nD τ).loc main_arg1)) (m ((c : Thread nD τ).loc main_arg2)) (ix2 (at_ t (y 0)) (y 1)) := by
  unfold outsAt0; frame_out
  simp only [den1, den2, den3, weight1, weight2, weight3, top1, top2, top3]
  obtain ⟨r, j, rfl⟩ : ∃ r j : Fin 128, y = ix2 r j := ⟨y 0, y 1, by funext a; refine Fin.cases rfl (fun a => ?_) a; obtain rfl : a = 0 := Subsingleton.elim _ _; rfl⟩
  by_cases e11 : j.val = 11
  · exact (col_hit _ _ _ _ _ _ e11).trans ((stab_tile (loads m c t 3 _ _ _ _) r).trans (statOf_stab _ _ _ _ _ 3 e11).symm)
  refine (col_miss _ _ _ _ _ _ e11).trans ?_
  by_cases e7 : j.val = 7
  · exact (col_hit _ _ _ _ _ _ e7).trans ((weight_tile (loads m c t 3 _ _ _ _) r).trans (statOf_weight _ _ _ _ _ 3 e7).symm)
  refine (col_miss _ _ _ _ _ _ e7).trans ?_
  by_cases e3 : j.val = 3
  · exact (col_hit _ _ _ _ _ _ e3).trans ((den_tile (loads m c t 3 _ _ _ _) (query m c t 3 _) (key m c t 3 _) r).trans (statOf_den _ _ _ _ _ 3 e3).symm)
  refine (col_miss _ _ _ _ _ _ e3).trans ?_
  by_cases e10 : j.val = 10
  · exact (col_hit _ _ _ _ _ _ e10).trans ((stab_tile (loads m c t 2 _ _ _ _) r).trans (statOf_stab _ _ _ _ _ 2 e10).symm)
  refine (col_miss _ _ _ _ _ _ e10).trans ?_
  by_cases e6 : j.val = 6
  · exact (col_hit _ _ _ _ _ _ e6).trans ((weight_tile (loads m c t 2 _ _ _ _) r).trans (statOf_weight _ _ _ _ _ 2 e6).symm)
  refine (col_miss _ _ _ _ _ _ e6).trans ?_
  by_cases e2 : j.val = 2
  · exact (col_hit _ _ _ _ _ _ e2).trans ((den_tile (loads m c t 2 _ _ _ _) (query m c t 2 _) (key m c t 2 _) r).trans (statOf_den _ _ _ _ _ 2 e2).symm)
  refine (col_miss _ _ _ _ _ _ e2).trans ?_
  by_cases e9 : j.val = 9
  · exact (col_hit _ _ _ _ _ _ e9).trans ((stab_tile (loads m c t 1 _ _ _ _) r).trans (statOf_stab _ _ _ _ _ 1 e9).symm)
  refine (col_miss _ _ _ _ _ _ e9).trans ?_
  by_cases e5 : j.val = 5
  · exact (col_hit _ _ _ _ _ _ e5).trans ((weight_tile (loads m c t 1 _ _ _ _) r).trans (statOf_weight _ _ _ _ _ 1 e5).symm)
  refine (col_miss _ _ _ _ _ _ e5).trans ?_
  by_cases e1 : j.val = 1
  · exact (col_hit _ _ _ _ _ _ e1).trans ((den_tile (loads m c t 1 _ _ _ _) (query m c t 1 _) (key m c t 1 _) r).trans (statOf_den _ _ _ _ _ 1 e1).symm)
  refine (col_miss _ _ _ _ _ _ e1).trans ?_
  by_cases e8 : j.val = 8
  · exact (col_hit _ _ _ _ _ _ e8).trans ((stab_tile (loads m c t 0 _ _ _ _) r).trans (statOf_stab _ _ _ _ _ 0 e8).symm)
  refine (col_miss _ _ _ _ _ _ e8).trans ?_
  by_cases e4 : j.val = 4
  · exact (col_hit _ _ _ _ _ _ e4).trans ((weight_tile (loads m c t 0 _ _ _ _) r).trans (statOf_weight _ _ _ _ _ 0 e4).symm)
  refine (col_miss _ _ _ _ _ _ e4).trans ?_
  by_cases e0 : j.val = 0
  · exact (col_hit _ _ _ _ _ _ e0).trans ((den_tile (loads m c t 0 _ _ _ _) (query m c t 0 _) (key m c t 0 _) r).trans (statOf_den _ _ _ _ _ 0 e0).symm)
  refine (col_miss _ _ _ _ _ _ e0).trans ?_
  refine (whole_hit _ _ _ _).trans ?_
  refine Eq.trans ?_ (statOf_zero _ _ _ (at_ t r) j (by omega)).symm
  pointwise [k0_pay2]

theorem final6 (c : Dev nD) : (dats m 0 c).arrAt 6 (cfgs 0).N
    = statOf (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6, emb6]; exact point6 m c t y

end Cert.ShortIdeal.Within
end
-- ==== Proof.RefShortParts.lean ====
/- The steps of the reference for the mLSTM within the new tokens, entry by entry. -/
module

public import proofs.«01_k».proof.Proof.Gen.RefShortIdeal.Run
public import proofs.«01_k».proof.Proof.ShortParts
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.RefShortIdeal.Within
open Cert.RefShortIdeal Cert.RefShortIdeal.Gen Cert.RefShortIdeal.Value
open Cert.ShortIdeal.Within (mate turn gcol grow pcol scoreOf numOf numOf_at denOf weightOf stabOf statAt statOf)

/-- Token `s` of sequence `n`. -/
abbrev tok (n : Fin 128) (s : Fin 8) : Fin 1024 := ⟨8 * n.val + s.val, by omega⟩

theorem mate_tok (n : Fin 128) (t s : Fin 8) : mate (tok n t) s = tok n s := Fin.ext (by simp only [mate, tok]; omega)
theorem turn_tok (n : Fin 128) (t : Fin 8) : turn (tok n t) = t := Fin.ext (by simp only [turn, tok]; omega)

/-- Gate columns by sequence, head and token. -/
def byHead (x : FVec Ideal S1024x4 .f32) : FVec Ideal S128x4x8 .f32 :=
  transpose S128x4x8 [0, 2, 1] (shapeCast S128x8x4 x shapeCasts_S1024x4_S128x8x4) transposes_S128x8x4_S128x4x8_0_2_1

theorem byHead_at (x : FVec Ideal S1024x4 .f32) (n : Fin 128) (h : Fin 4) (t : Fin 8) : byHead x (ix3 n h t) = x (ix2 (tok n t) h) := by
  pointwise [byHead]
  blk_ext []

/-- Columns of the projection by sequence, head and token. -/
def byHeadWide (x : FVec Ideal S1024x2048 .f32) : FVec Ideal S128x4x8x512 .f32 :=
  transpose S128x4x8x512 [0, 2, 1, 3] (shapeCast S128x8x4x512 x shapeCasts_S1024x2048_S128x8x4x512) transposes_S128x8x4x512_S128x4x8x512_0_2_1_3

theorem byHeadWide_at (x : FVec Ideal S1024x2048 .f32) (n : Fin 128) (h : Fin 4) (t : Fin 8) (d : Fin 512) :
    byHeadWide x (ix4 n h t d) = x (ix2 (tok n t) ⟨512 * h.val + d.val, by omega⟩) := by
  pointwise [byHeadWide]
  blk_ext []

/-- The causal mask. -/
def causal : IVec S8x8 1 :=
  select (cmpi .sge (addi (iotaInDim S8x8 32 0) (broadcastInDim S8x8 ![] bcast_S_S8x8 (constantI S_ 32 0#32))) (iotaInDim S8x8 32 1))
    (broadcastInDim S8x8 ![] bcast_S_S8x8 (constantI S_ 1 1#1)) (broadcastInDim S8x8 ![] bcast_S_S8x8 (constantI S_ 1 0#1))

theorem causal_at : ∀ t s : Fin 8, causal (ix2 t s) = if s ≤ t then 1#1 else 0#1 := by
  intro t s
  pointwise [causal]
  revert t s
  decide +kernel

/-- The logarithms of the weights. -/
def logs (b bs ig : FVec Ideal S128x4x8 .f32) : FVec Ideal S128x4x8x8 .f32 :=
  select (broadcastInDim S128x4x8x8 ![2, 3] bcast_S8x8_S128x4x8x8_2_3 causal)
    (addf (subf (broadcastInDim S128x4x8x8 ![0, 1, 2, 3] bcast_S128x4x8x1_S128x4x8x8_0_1_2_3 (broadcastInDim S128x4x8x1 ![0, 1, 2] bcast_S128x4x8_S128x4x8x1_0_1_2 b))
      (broadcastInDim S128x4x8x8 ![0, 1, 2, 3] bcast_S128x4x1x8_S128x4x8x8_0_1_2_3 (broadcastInDim S128x4x1x8 ![0, 1, 3] bcast_S128x4x8_S128x4x1x8_0_1_3 bs)))
      (broadcastInDim S128x4x8x8 ![0, 1, 2, 3] bcast_S128x4x1x8_S128x4x8x8_0_1_2_3 (broadcastInDim S128x4x1x8 ![0, 1, 3] bcast_S128x4x8_S128x4x1x8_0_1_3 ig)))
    (broadcastInDim S128x4x8x8 ![] bcast_S_S128x4x8x8 (id (constant S_ .f32 0xFF800000#32)))

theorem logs_at (b bs ig : FVec Ideal S128x4x8 .f32) (n : Fin 128) (h : Fin 4) (t s : Fin 8) :
    logs b bs ig (ix4 n h t s) = gateLog (b (ix3 n h t)) (fun s => bs (ix3 n h s)) (fun s => ig (ix3 n h s)) t s := by
  pointwise [logs]
  rw [causal_at]
  change Scalar.select _ _ (Ideal.ofBits .f32 0xFF800000#32) = _
  rw [negInf_eq, gateLog]
  split
  · exact if_pos rfl
  · exact if_neg (by decide)

/-- The stabilisers from the logarithms. -/
def tops (b m0 : FVec Ideal S128x4x8 .f32) (D : FVec Ideal S128x4x8x8 .f32) : FVec Ideal S128x4x8 .f32 :=
  maximumf (addf b m0) (Host.reduce FloatOps.maximumf D (constant S_ .f32 0xFF800000#32) reducesTo_S128x4x8x8_S128x4x8_d3 h_S_)

theorem tops_at (b m0 : FVec Ideal S128x4x8 .f32) (D : FVec Ideal S128x4x8x8 .f32) (n : Fin 128) (h : Fin 4) (t : Fin 8) :
    tops b m0 D (ix3 n h t) = max (b (ix3 n h t) + m0 (ix3 n h t)) (Finset.univ.sup fun s => D (ix4 n h t s)) := by
  simp only [← fold_max]
  pointwise [tops]

theorem top_at (b m0 bs ig : FVec Ideal S128x4x8 .f32) (n : Fin 128) (h : Fin 4) (t : Fin 8) :
    tops b m0 (logs b bs ig) (ix3 n h t) = gateTop (b (ix3 n h t)) (m0 (ix3 n h t)) (fun s => bs (ix3 n h s)) (fun s => ig (ix3 n h s)) t := by
  rw [tops_at, gateTop]
  simp only [logs_at]

/-- The weights of the old state. -/
def weights (b m0 M : FVec Ideal S128x4x8 .f32) : FVec Ideal S128x4x8 .f32 := Host.exp (subf (addf b m0) M)

theorem weights_at (b m0 M : FVec Ideal S128x4x8 .f32) (n : Fin 128) (h : Fin 4) (t : Fin 8) :
    weights b m0 M (ix3 n h t) = Ideal.exp (b (ix3 n h t) + m0 (ix3 n h t) - M (ix3 n h t)) := by
  pointwise [weights]

/-- The weighted scores. -/
def scores (q k : FVec Ideal S128x4x8x512 .f32) (D : FVec Ideal S128x4x8x8 .f32) (M : FVec Ideal S128x4x8 .f32) : FVec Ideal S128x4x8x8 .f32 :=
  mulf (Host.dotGeneral (φ₁ := .f32) (φ₂ := .f32) dot_S128x4x8x512_S128x4x8x512_S128x4x8x8_3_3_2_2_01_01 none q
      (mulf k (broadcastInDim S128x4x8x512 ![] bcast_S_S128x4x8x512 (constant S_ .f32 0x3D3504F3#32))))
    (Host.exp (subf D (broadcastInDim S128x4x8x8 ![0, 1, 2, 3] bcast_S128x4x8x1_S128x4x8x8_0_1_2_3 (broadcastInDim S128x4x8x1 ![0, 1, 2] bcast_S128x4x8_S128x4x8x1_0_1_2 M))))

theorem scores_at (q k : FVec Ideal S128x4x8x512 .f32) (D : FVec Ideal S128x4x8x8 .f32) (M : FVec Ideal S128x4x8 .f32)
    (n : Fin 128) (h : Fin 4) (t s : Fin 8) :
    scores q k D M (ix4 n h t s) = (∑ d : Fin 512, q (ix4 n h t d) * (k (ix4 n h s d) * kscale)) * Ideal.exp (D (ix4 n h t s) - M (ix3 n h t)) := by
  pointwise [scores]

/-- The numerator's part, rearranged. -/
def nums (S : FVec Ideal S128x4x8x8 .f32) (v : FVec Ideal S128x4x8x512 .f32) : FVec Ideal S1024x2048 .f32 :=
  shapeCast S1024x2048 (transpose S128x8x4x512 [0, 2, 1, 3] (Host.dotGeneral (φ₁ := .f32) (φ₂ := .f32) dot_S128x4x8x8_S128x4x8x512_S128x4x8x512_3_2_2_3_01_01 none S v)
    transposes_S128x4x8x512_S128x8x4x512_0_2_1_3) shapeCasts_S128x8x4x512_S1024x2048

theorem nums_at (S : FVec Ideal S128x4x8x8 .f32) (v : FVec Ideal S128x4x8x512 .f32) (n : Fin 128) (h : Fin 4) (t : Fin 8) (d : Fin 512) :
    nums S v (ix2 (tok n t) ⟨512 * h.val + d.val, by omega⟩) = ∑ s : Fin 8, S (ix4 n h t s) * v (ix4 n h s d) := by
  pointwise [nums]
  refine Finset.sum_congr rfl fun s _ => ?_
  congr 1 <;> blk_ext []

/-- The denominator's part. -/
def dens (S : FVec Ideal S128x4x8x8 .f32) : FVec Ideal S128x4x8 .f32 :=
  Host.reduceAdd S (constant S_ .f32 0x00000000#32) reducesTo_S128x4x8x8_S128x4x8_d3 h_S_

theorem dens_at (S : FVec Ideal S128x4x8x8 .f32) (n : Fin 128) (h : Fin 4) (t : Fin 8) :
    dens S (ix3 n h t) = ∑ s : Fin 8, S (ix4 n h t s) := by
  pointwise [dens]

/-- Values by sequence, head and token back as columns. -/
def flat (x : FVec Ideal S128x4x8 .f32) : FVec Ideal S1024x4 .f32 :=
  shapeCast S1024x4 (transpose S128x8x4 [0, 2, 1] x transposes_S128x4x8_S128x8x4_0_2_1) shapeCasts_S128x8x4_S1024x4

theorem flat_at (x : FVec Ideal S128x4x8 .f32) (n : Fin 128) (h : Fin 4) (t : Fin 8) : flat x (ix2 (tok n t) h) = x (ix3 n h t) := by
  pointwise [flat]
  blk_ext []

/-- The statistics side by side. -/
def stats (a b c : FVec Ideal S1024x4 .f32) : FVec Ideal S1024x128 .f32 :=
  concatenate S1024x128 1 [⟨S1024x4, a⟩, ⟨S1024x4, b⟩, ⟨S1024x4, c⟩, ⟨S1024x116, broadcastInDim S1024x116 ![] bcast_S_S1024x116 (constant S_ .f32 0x00000000#32)⟩]
    concatenates_S1024x4_S1024x4_S1024x4_S1024x116_S1024x128_d1

theorem stats_at (a b c : FVec Ideal S1024x4 .f32) (i : Fin 1024) (j : Fin 128) : stats a b c (ix2 i j)
    = if h0 : j.val < 4 then a (ix2 i ⟨j.val, h0⟩) else if h1 : j.val - 4 < 4 then b (ix2 i ⟨j.val - 4, h1⟩)
      else if h2 : j.val - 4 - 4 < 4 then c (ix2 i ⟨j.val - 4 - 4, h2⟩) else Ideal.ofBits .f32 0x00000000#32 := by
  pointwise [stats]

end Cert.RefShortIdeal.Within
end
-- ==== Proof.RefShort.lean ====
/- The two results of the reference for the mLSTM within the new tokens. -/
module

public import proofs.«01_k».proof.Proof.RefShortParts
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.RefShortIdeal.Within
open Cert.RefShortIdeal Cert.RefShortIdeal.Gen Cert.RefShortIdeal.Value
open Cert.ShortIdeal.Within (mate turn gcol grow pcol scoreOf numOf numOf_at denOf weightOf stabOf statAt statOf)

section
variable (P : FVec Ideal S1024x12288 .f32) (G : FVec Ideal S1024x128 .f32) (T : FVec Ideal S8x1024 .f32)

/-- The gates' columns and rows, and the projection's columns, as the reference cuts them. -/
def bOf : FVec Ideal S128x4x8 .f32 := byHead (extractStridedSlice S1024x4 ![0, 4] G slices_S1024x128_S1024x4_0_4)
def m0Of : FVec Ideal S128x4x8 .f32 := byHead (extractStridedSlice S1024x4 ![0, 8] G slices_S1024x128_S1024x4_0_8)
def bsOf : FVec Ideal S128x4x8 .f32 := byHead (extractStridedSlice S1024x4 ![0, 4] (transpose S1024x8 [1, 0] T transposes_S8x1024_S1024x8_1_0) slices_S1024x8_S1024x4_0_4)
def igOf : FVec Ideal S128x4x8 .f32 := byHead (extractStridedSlice S1024x4 ![0, 0] (transpose S1024x8 [1, 0] T transposes_S8x1024_S1024x8_1_0) slices_S1024x8_S1024x4_0_0)
def qOf : FVec Ideal S128x4x8x512 .f32 := byHeadWide (extractStridedSlice S1024x2048 ![0, 2048] P slices_S1024x12288_S1024x2048_0_2048)
def kOf : FVec Ideal S128x4x8x512 .f32 := byHeadWide (extractStridedSlice S1024x2048 ![0, 4096] P slices_S1024x12288_S1024x2048_0_4096)
def vOf : FVec Ideal S128x4x8x512 .f32 := byHeadWide (extractStridedSlice S1024x2048 ![0, 6144] P slices_S1024x12288_S1024x2048_0_6144)

theorem bOf_at (n : Fin 128) (h : Fin 4) (t : Fin 8) : bOf G (ix3 n h t) = G (ix2 (tok n t) (gcol 4 h)) := by
  rw [bOf, byHead_at]; pointwise []; blk_ext []
theorem m0Of_at (n : Fin 128) (h : Fin 4) (t : Fin 8) : m0Of G (ix3 n h t) = G (ix2 (tok n t) (gcol 8 h)) := by
  rw [m0Of, byHead_at]; pointwise []; blk_ext []
theorem bsOf_at (n : Fin 128) (h : Fin 4) (t : Fin 8) : bsOf T (ix3 n h t) = T (ix2 (grow 4 h) (tok n t)) := by
  rw [bsOf, byHead_at]; pointwise []; blk_ext []
theorem igOf_at (n : Fin 128) (h : Fin 4) (t : Fin 8) : igOf T (ix3 n h t) = T (ix2 (grow 0 h) (tok n t)) := by
  rw [igOf, byHead_at]; pointwise []; blk_ext []
theorem qOf_at (n : Fin 128) (h : Fin 4) (t : Fin 8) (d : Fin 512) : qOf P (ix4 n h t d) = P (ix2 (tok n t) (pcol 1 h d)) := by
  rw [qOf, byHeadWide_at]; pointwise []; blk_ext []
theorem kOf_at (n : Fin 128) (h : Fin 4) (t : Fin 8) (d : Fin 512) : kOf P (ix4 n h t d) = P (ix2 (tok n t) (pcol 2 h d)) := by
  rw [kOf, byHeadWide_at]; pointwise []; blk_ext []
theorem vOf_at (n : Fin 128) (h : Fin 4) (t : Fin 8) (d : Fin 512) : vOf P (ix4 n h t d) = P (ix2 (tok n t) (pcol 3 h d)) := by
  rw [vOf, byHeadWide_at]; pointwise []; blk_ext []

def stabRef : FVec Ideal S128x4x8 .f32 := tops (bOf G) (m0Of G) (logs (bOf G) (bsOf T) (igOf T))
def scoreRef : FVec Ideal S128x4x8x8 .f32 := scores (qOf P) (kOf P) (logs (bOf G) (bsOf T) (igOf T)) (stabRef G T)

theorem stabRef_at (n : Fin 128) (h : Fin 4) (t : Fin 8) : stabRef G T (ix3 n h t) = stabOf G T (tok n t) h := by
  rw [stabRef, top_at, stabOf]
  simp only [bOf_at, m0Of_at, bsOf_at, igOf_at, mate_tok, turn_tok]

theorem weightRef_at (n : Fin 128) (h : Fin 4) (t : Fin 8) : weights (bOf G) (m0Of G) (stabRef G T) (ix3 n h t) = weightOf G T (tok n t) h := by
  rw [weights_at, stabRef_at, bOf_at, m0Of_at]
  rfl

theorem scoreRef_at (n : Fin 128) (h : Fin 4) (t s : Fin 8) : scoreRef P G T (ix4 n h t s) = scoreOf P G T (tok n t) h s := by
  rw [scoreRef, scores_at, stabRef_at, logs_at, scoreOf, gatedScore, stabOf]
  simp only [bOf_at, bsOf_at, igOf_at, qOf_at, kOf_at, mate_tok, turn_tok]

theorem denRef_at (n : Fin 128) (h : Fin 4) (t : Fin 8) : dens (scoreRef P G T) (ix3 n h t) = denOf P G T (tok n t) h := by
  rw [dens_at, denOf]
  simp only [scoreRef_at]

theorem numRef_eq : nums (scoreRef P G T) (vOf P) = numOf P G T := by
  funext j
  obtain ⟨n, h, t, d, rfl⟩ : ∃ (n : Fin 128) (h : Fin 4) (t : Fin 8) (d : Fin 512), j = ix2 (tok n t) (⟨512 * h.val + d.val, by omega⟩ : Fin 2048) := by
    have h0 : (j 0).val < 1024 := (j 0).isLt
    have h1 : (j 1).val < 2048 := (j 1).isLt
    refine ⟨⟨(j 0).val / 8, by omega⟩, ⟨(j 1).val / 512, by omega⟩, ⟨(j 0).val % 8, Nat.mod_lt _ (by decide)⟩, ⟨(j 1).val % 512, Nat.mod_lt _ (by decide)⟩, ?_⟩
    funext a
    refine Fin.cases (Fin.ext ?_) (fun a => ?_) a
    · change (j 0).val = 8 * ((j 0).val / 8) + (j 0).val % 8; omega
    · obtain rfl : a = 0 := Subsingleton.elim _ _
      refine Fin.ext ?_
      change (j 1).val = 512 * ((j 1).val / 512) + (j 1).val % 512; omega
  rw [nums_at, numOf_at P G T _ (tok n t) h d rfl rfl]
  simp only [scoreRef_at, vOf_at, mate_tok]

theorem row_cases (i : Fin 1024) : ∃ (n : Fin 128) (t : Fin 8), i = tok n t :=
  ⟨⟨i.val / 8, by omega⟩, ⟨i.val % 8, Nat.mod_lt _ (by decide)⟩, Fin.ext (by simp only [tok]; omega)⟩

theorem statRef_eq : stats (flat (dens (scoreRef P G T))) (flat (weights (bOf G) (m0Of G) (stabRef G T))) (flat (stabRef G T)) = statOf P G T := by
  funext y
  obtain ⟨i, j, rfl⟩ : ∃ (i : Fin 1024) (j : Fin 128), y = ix2 i j :=
    ⟨y 0, y 1, by funext a; refine Fin.cases rfl (fun a => ?_) a; obtain rfl : a = 0 := Subsingleton.elim _ _; rfl⟩
  obtain ⟨n, t, rfl⟩ := row_cases i
  rw [stats_at]
  change _ = statAt P G T (tok n t) j
  simp only [flat_at, denRef_at, weightRef_at, stabRef_at, Nat.sub_sub]
  rfl

end

variable (m : (ℓ : Loc nD τ sig) → Buf (Elt Ideal) ℓ)

theorem ref_num (c : Dev nD) : res_main_v56 m c
    = numOf (m ((c : Thread nD τ).loc main_arg0)) (m ((c : Thread nD τ).loc main_arg1)) (m ((c : Thread nD τ).loc main_arg2)) :=
  (show res_main_v56 m c = nums (scoreRef (m ((c : Thread nD τ).loc main_arg0)) (m ((c : Thread nD τ).loc main_arg1)) (m ((c : Thread nD τ).loc main_arg2)))
    (vOf (m ((c : Thread nD τ).loc main_arg0))) from rfl).trans (numRef_eq _ _ _)

theorem ref_stat (c : Dev nD) : res_main_v58 m c
    = statOf (m ((c : Thread nD τ).loc main_arg0)) (m ((c : Thread nD τ).loc main_arg1)) (m ((c : Thread nD τ).loc main_arg2)) :=
  (show res_main_v58 m c = stats (flat (dens (scoreRef (m ((c : Thread nD τ).loc main_arg0)) (m ((c : Thread nD τ).loc main_arg1)) (m ((c : Thread nD τ).loc main_arg2)))))
    (flat (weights (bOf (m ((c : Thread nD τ).loc main_arg1))) (m0Of (m ((c : Thread nD τ).loc main_arg1)))
      (stabRef (m ((c : Thread nD τ).loc main_arg1)) (m ((c : Thread nD τ).loc main_arg2)))))
    (flat (stabRef (m ((c : Thread nD τ).loc main_arg1)) (m ((c : Thread nD τ).loc main_arg2)))) from rfl).trans (statRef_eq _ _ _)

end Cert.RefShortIdeal.Within
end
-- ==== Proof.MlsHead.lean ====
/- The body of the mLSTM of the prompt, one head of one chunk: the stabiliser, the weights and the two states it leaves. -/
module

public import proofs.«01_k».proof.Proof.Gen.MlsIdeal.Skeleton
public import proofs.«01_k».proof.Proof.ShortSums
public import Idealize.ShloMosaic.Lib.Pipeline.ValueKit
public import Idealize.ShloMosaic.Lib.Pointwise
public import Idealize.ShloMosaic.Lib.Claim
public import proofs.«01_k».proof.Proof.Formulas

@[expose] public section

set_option maxRecDepth 16384

noncomputable section

open Idealize.ShloMosaic Idealize.ShloMosaic.TcCoe Idealize.SL.Sem
open Idealize.ShloMosaic.Pipeline (Dat)
open Layer

namespace Cert.MlsIdeal.Prompt
open Cert.MlsIdeal Cert.MlsIdeal.Gen

/-- A comparison of two small numbers as words. -/
theorem word_sle (a b : ℕ) (ha : a < 4096) (hb : b < 4096) :
    Scalar.cmpi .sle (BitVec.ofNat 32 a) (BitVec.ofNat 32 b) = if a ≤ b then 1#1 else 0#1 := by
  have e : ∀ n : ℕ, n < 4096 → (BitVec.ofNat 32 n).toInt = (n : ℤ) := fun n hn => by
    rw [BitVec.toInt_ofNat']
    exact Int.bmod_eq_of_le (by norm_num) (by norm_num; omega)
  have h := BitVec.sle_iff_toInt_le (x := BitVec.ofNat 32 a) (y := BitVec.ofNat 32 b)
  rw [e a ha, e b hb, Int.ofNat_le] at h
  by_cases g : a ≤ b
  · rw [if_pos g]; change BitVec.ofBool (BitVec.sle _ _) = _; rw [h.2 g]; rfl
  · rw [if_neg g]; change BitVec.ofBool (BitVec.sle _ _) = _; rw [Bool.eq_false_iff.2 (mt h.1 g)]; rfl

theorem mask_at (r c : Fin 512) : k0_pay6 (ix2 r c) = if c.val ≤ r.val then 1#1 else 0#1 := by
  pointwise [k0_pay6]
  exact word_sle c.val r.val (by omega) (by omega)

/-- The last row of a chunk. -/
abbrev last : Fin 512 := ⟨511, by decide⟩

theorem log_at (b : FVec Ideal S512x1 .f32) (ig br : FVec Ideal S1x512 .f32) (r c : Fin 512) :
    k0_pay8 (F := Ideal) b ig br (ix2 r c) = gateLog (b (ix2 r 0)) (fun c => br (ix2 0 c)) (fun c => ig (ix2 0 c)) r c := by
  pointwise [k0_pay8]
  rw [mask_at, negInf_eq, gateLog]
  by_cases h : c.val ≤ r.val
  · rw [if_pos h, if_pos (Fin.le_def.2 h)]; exact if_pos rfl
  · rw [if_neg h, if_neg fun h' => h (Fin.le_def.1 h')]; exact if_neg (by decide)

theorem top_at (b : FVec Ideal S512x1 .f32) (ig br : FVec Ideal S1x512 .f32) (m0 : FVec Ideal S1x1 .f32) (r : Fin 512) :
    k0_pay10 (F := Ideal) b ig br m0 (ix2 r 0)
      = gateTop (b (ix2 r 0)) (m0 (ix2 0 0)) (fun s => br (ix2 0 s)) (fun s => ig (ix2 0 s)) r := by
  unfold gateTop
  simp only [← fold_max]
  pointwise [k0_pay10, k0_pay9]
  exact congrArg (max _) (Finset.fold_congr fun c _ => log_at b ig br r c)

theorem new_at (b : FVec Ideal S512x1 .f32) (ig br : FVec Ideal S1x512 .f32) (m0 : FVec Ideal S1x1 .f32) :
    k0_pay13 (F := Ideal) b ig br m0 (ix2 0 0)
      = gateTop (b (ix2 last 0)) (m0 (ix2 0 0)) (fun s => br (ix2 0 s)) (fun s => ig (ix2 0 s)) last := by
  rw [← top_at]
  pointwise [k0_pay13]
  rfl

/-- The weight of a token in the state after the chunk. -/
theorem tokWeight_at (i b : FVec Ideal S512x1 .f32) (ig br : FVec Ideal S1x512 .f32) (m0 : FVec Ideal S1x1 .f32) (r : Fin 512) :
    k0_pay15 (F := Ideal) i b ig br m0 (ix2 r 0)
      = Ideal.exp (b (ix2 last 0) - b (ix2 r 0) + i (ix2 r 0)
          - gateTop (b (ix2 last 0)) (m0 (ix2 0 0)) (fun s => br (ix2 0 s)) (fun s => ig (ix2 0 s)) last) := by
  rw [← new_at]
  pointwise [k0_pay15, k0_pay14]
  rfl

/-- The weight of the state before the chunk in the state after it. -/
theorem oldWeight_at (b : FVec Ideal S512x1 .f32) (ig br : FVec Ideal S1x512 .f32) (m0 : FVec Ideal S1x1 .f32) :
    k0_pay17 (F := Ideal) (k0_pay13 b ig br m0) (k0_pay16 b m0) (ix2 0 0)
      = Ideal.exp (b (ix2 last 0) + m0 (ix2 0 0)
          - gateTop (b (ix2 last 0)) (m0 (ix2 0 0)) (fun s => br (ix2 0 s)) (fun s => ig (ix2 0 s)) last) := by
  rw [← new_at]
  pointwise [k0_pay17, k0_pay16, k0_pay14]
  rfl

theorem keep_at (x : FVec Ideal S1x1 .f32) (j : Fin 128) : k0_pay18 (F := Ideal) x (ix2 0 j) = x (ix2 0 0) := by
  pointwise [k0_pay18]

theorem outer_at (w : FVec Ideal S512x1 .f32) (k v : FVec Ideal S512x512 .f32) (x y : Fin 512) :
    k0_pay55 (F := Ideal) w k v (ix2 x y) = ∑ s : Fin 512, w (ix2 s 0) * v (ix2 s x) * (k (ix2 s y) * kscale) := by
  pointwise [k0_pay55, k0_pay52]

theorem stateC_at (d : FVec Ideal S1x1 .f32) (w : FVec Ideal S512x1 .f32) (k v : FVec Ideal S512x512 .f32) (c : FVec Ideal S1x1x512x512 .f32)
    (x y : Fin 512) :
    k0_pay74 (F := Ideal) (k0_pay73 d (k0_pay55 w k v) c) (ix4 0 0 x y)
      = d (ix2 0 0) * c (ix4 0 0 x y) + ∑ s : Fin 512, w (ix2 s 0) * v (ix2 s x) * (k (ix2 s y) * kscale) := by
  rw [← outer_at]
  pointwise [k0_pay74, k0_pay73]

theorem stateN_at (d : FVec Ideal S1x1 .f32) (w : FVec Ideal S512x1 .f32) (k : FVec Ideal S512x512 .f32) (n : FVec Ideal S1x1x512 .f32) (y : Fin 512) :
    k0_pay75 (F := Ideal) w d (k0_pay71 n) k (ix3 0 0 y)
      = d (ix2 0 0) * n (ix3 0 0 y) + ∑ s : Fin 512, w (ix2 s 0) * (k (ix2 s y) * kscale) := by
  pointwise [k0_pay75, k0_pay71]

/-! The other heads' functions are the first head's. -/

variable (i b : FVec Ideal S512x1 .f32) (ig br : FVec Ideal S1x512 .f32) (m0 d : FVec Ideal S1x1 .f32) (w : FVec Ideal S512x1 .f32)
  (k v : FVec Ideal S512x512 .f32) (C : FVec Ideal S1x1x512x512 .f32) (n : FVec Ideal S1x1x512 .f32)

theorem top1 : k0_pay21 (F := Ideal) k0_pay6 b ig br m0 = k0_pay10 b ig br m0 := rfl
theorem top2 : k0_pay32 (F := Ideal) k0_pay6 b ig br m0 = k0_pay10 b ig br m0 := rfl
theorem top3 : k0_pay43 (F := Ideal) k0_pay6 b ig br m0 = k0_pay10 b ig br m0 := rfl
theorem tok1 : k0_pay26 (F := Ideal) k0_pay6 i b ig br m0 = k0_pay15 i b ig br m0 := rfl
theorem tok2 : k0_pay37 (F := Ideal) k0_pay6 i b ig br m0 = k0_pay15 i b ig br m0 := rfl
theorem tok3 : k0_pay48 (F := Ideal) k0_pay6 i b ig br m0 = k0_pay15 i b ig br m0 := rfl
theorem old1 : k0_pay27 (F := Ideal) k0_pay6 b ig br m0 = k0_pay17 (k0_pay13 b ig br m0) (k0_pay16 b m0) := rfl
theorem old2 : k0_pay38 (F := Ideal) k0_pay6 b ig br m0 = k0_pay17 (k0_pay13 b ig br m0) (k0_pay16 b m0) := rfl
theorem old3 : k0_pay49 (F := Ideal) k0_pay6 b ig br m0 = k0_pay17 (k0_pay13 b ig br m0) (k0_pay16 b m0) := rfl
theorem keep1 : k0_pay29 (F := Ideal) (k0_pay28 k0_pay6 b ig br m0) = k0_pay18 (k0_pay13 b ig br m0) := rfl
theorem keep2 : k0_pay40 (F := Ideal) (k0_pay39 k0_pay6 b ig br m0) = k0_pay18 (k0_pay13 b ig br m0) := rfl
theorem keep3 : k0_pay50 (F := Ideal) k0_pay6 b ig br m0 = k0_pay18 (k0_pay13 b ig br m0) := rfl
theorem stateC1 : k0_pay82 (F := Ideal) d (k0_pay60 w (k0_pay57 k) v) C = k0_pay74 (k0_pay73 d (k0_pay55 w k v) C) := rfl
theorem stateC2 : k0_pay89 (F := Ideal) d (k0_pay65 w k v) C = k0_pay74 (k0_pay73 d (k0_pay55 w k v) C) := rfl
theorem stateC3 : k0_pay1 (F := Ideal) d (k0_pay70 w (k0_pay67 k) v) C = k0_pay74 (k0_pay73 d (k0_pay55 w k v) C) := rfl
theorem stateN1 : k0_pay83 (F := Ideal) w d (k0_pay76 n) k = k0_pay75 w d (k0_pay71 n) k := rfl
theorem stateN2 : k0_pay92 (F := Ideal) (k0_pay90 d (k0_pay84 n)) (k0_pay91 w k) = k0_pay75 w d (k0_pay71 n) k := rfl
theorem stateN3 : k0_pay2 (F := Ideal) w d (k0_pay93 n) k = k0_pay75 w d (k0_pay71 n) k := rfl

end Cert.MlsIdeal.Prompt
end
-- ==== Proof.RefMlsParts.lean ====
/- The steps of the reference for the mLSTM of the prompt, entry by entry. -/
module

public import proofs.«01_k».proof.Proof.Gen.RefMlsIdeal.Run
public import proofs.«01_k».proof.Proof.MlsHead
public import Idealize.ShloMosaic.Lib.Pipeline.ValueKit
public import Idealize.ShloMosaic.Lib.Pointwise
public import Idealize.ShloMosaic.Lib.Claim
public import proofs.«01_k».proof.Proof.ShortSums

@[expose] public section

set_option maxRecDepth 16384

noncomputable section

open Idealize.ShloMosaic Idealize.ShloMosaic.TcCoe Idealize.SL.Sem
open Idealize.ShloMosaic.Pipeline (Dat)
open Layer

namespace Cert.RefMlsIdeal.Whole
open Cert.RefMlsIdeal Cert.RefMlsIdeal.Gen Cert.RefMlsIdeal.Value
open Cert.MlsIdeal.Prompt (word_sle)

/-- Token `s` of chunk `c` of sequence `n`, among all rows. -/
abbrev place (n c : Fin 4) (s : Fin 512) : Fin 8192 := ⟨2048 * n.val + 512 * c.val + s.val, by omega⟩
/-- Token `u` of sequence `n`, among all rows. -/
abbrev row (n : Fin 4) (u : Fin 2048) : Fin 8192 := ⟨2048 * n.val + u.val, by omega⟩
/-- The chunk of token `u`, and its number in the chunk. -/
abbrev chunk (u : Fin 2048) : Fin 4 := ⟨u.val / 512, by omega⟩
abbrev within (u : Fin 2048) : Fin 512 := ⟨u.val % 512, Nat.mod_lt _ (by decide)⟩

/-- The forget gates by sequence, chunk, token and head. -/
def forgets (G : FVec Ideal S8192x128 .f32) : FVec Ideal S4x4x512x4 .f32 :=
  extractStridedSlice S4x4x512x4 ![0, 0, 0, 4] (shapeCast S4x4x512x128 G shapeCasts_S8192x128_S4x4x512x128) slices_S4x4x512x128_S4x4x512x4_0_0_0_4

theorem forgets_at (G : FVec Ideal S8192x128 .f32) (n c : Fin 4) (s : Fin 512) (h : Fin 4) :
    forgets G (ix4 n c s h) = G (ix2 (place n c s) ⟨4 + h.val, by omega⟩) := by
  pointwise [forgets]
  blk_ext []

/-- The last token's gates of each chunk. -/
def ends (B : FVec Ideal S4x4x512x4 .f32) : FVec Ideal S4x4x4 .f32 :=
  shapeCast S4x4x4 (extractStridedSlice S4x4x1x4 ![0, 0, 511, 0] B slices_S4x4x512x4_S4x4x1x4_0_0_511_0) shapeCasts_S4x4x1x4_S4x4x4

theorem ends_at (B : FVec Ideal S4x4x512x4 .f32) (n c h : Fin 4) : ends B (ix3 n c h) = B (ix4 n c ⟨511, by decide⟩ h) := by
  pointwise [ends]
  blk_ext []

/-- Which chunks are earlier. -/
def earlier : IVec S4x4 1 :=
  cmpi .slt (broadcastInDim S4x4 ![0, 1] bcast_S1x4_S4x4_0_1 (broadcastInDim S1x4 ![1] bcast_S4_S1x4_1 (iotaInDim S4 32 0)))
    (broadcastInDim S4x4 ![0, 1] bcast_S4x1_S4x4_0_1 (broadcastInDim S4x1 ![0] bcast_S4_S4x1_0 (iotaInDim S4 32 0)))

theorem earlier_at : ∀ c d : Fin 4, earlier (ix2 c d) = if d.val < c.val then 1#1 else 0#1 := by
  intro c d
  pointwise [earlier]
  revert c d
  decide +kernel

/-- The gates of all earlier chunks. -/
def befores (E : FVec Ideal S4x4x4 .f32) : FVec Ideal S4x4x4 .f32 :=
  Host.reduceAdd (select (broadcastInDim S4x4x4x4 ![0, 1, 2, 3] bcast_S1x4x4x1_S4x4x4x4_0_1_2_3 (broadcastInDim S1x4x4x1 ![1, 2] bcast_S4x4_S1x4x4x1_1_2 earlier))
      (broadcastInDim S4x4x4x4 ![0, 1, 2, 3] bcast_S4x1x4x4_S4x4x4x4_0_1_2_3 (broadcastInDim S4x1x4x4 ![0, 2, 3] bcast_S4x4x4_S4x1x4x4_0_2_3 E))
      (broadcastInDim S4x4x4x4 ![] bcast_S_S4x4x4x4 (id (constant S_ .f32 0x00000000#32))))
    (constant S_ .f32 0x00000000#32) reducesTo_S4x4x4x4_S4x4x4_d2 h_S_

theorem befores_at (E : FVec Ideal S4x4x4 .f32) (n c h : Fin 4) :
    befores E (ix3 n c h) = ∑ d : Fin 4, if d.val < c.val then E (ix3 n d h) else 0 := by
  pointwise [befores]
  refine Finset.sum_congr rfl fun d _ => ?_
  rw [earlier_at]
  change Scalar.select _ _ (Ideal.ofBits .f32 0x00000000#32) = _
  rw [Ideal.ofBits_zero_f32]
  split
  · exact if_pos rfl
  · exact if_neg (by decide)

/-- The gates cumulated over the whole sequence, by sequence, token and head. -/
def totals (B : FVec Ideal S4x4x512x4 .f32) (E : FVec Ideal S4x4x4 .f32) : FVec Ideal S4x2048x4 .f32 :=
  shapeCast S4x2048x4 (addf B (broadcastInDim S4x4x512x4 ![0, 1, 2, 3] bcast_S4x4x1x4_S4x4x512x4_0_1_2_3
    (broadcastInDim S4x4x1x4 ![0, 1, 3] bcast_S4x4x4_S4x4x1x4_0_1_3 E))) shapeCasts_S4x4x512x4_S4x2048x4

theorem totals_at (B : FVec Ideal S4x4x512x4 .f32) (E : FVec Ideal S4x4x4 .f32) (n : Fin 4) (u : Fin 2048) (h : Fin 4) :
    totals B E (ix3 n u h) = B (ix4 n (chunk u) (within u) h) + E (ix3 n (chunk u) h) := by
  pointwise [totals]

/-- The same from the transposed gates, by head, sequence and token. -/
def sources (T : FVec Ideal S8x8192 .f32) (E : FVec Ideal S4x4x4 .f32) : FVec Ideal S4x4x2048 .f32 :=
  shapeCast S4x4x2048 (addf (shapeCast S4x4x4x512 (extractStridedSlice S4x8192 ![4, 0] T slices_S8x8192_S4x8192_4_0) shapeCasts_S4x8192_S4x4x4x512)
    (broadcastInDim S4x4x4x512 ![0, 1, 2, 3] bcast_S4x4x4x1_S4x4x4x512_0_1_2_3 (broadcastInDim S4x4x4x1 ![0, 1, 2] bcast_S4x4x4_S4x4x4x1_0_1_2
      (transpose S4x4x4 [2, 0, 1] E transposes_S4x4x4_S4x4x4_2_0_1)))) shapeCasts_S4x4x4x512_S4x4x2048

theorem sources_at (T : FVec Ideal S8x8192 .f32) (E : FVec Ideal S4x4x4 .f32) (h n : Fin 4) (u : Fin 2048) :
    sources T E (ix3 h n u) = T (ix2 ⟨4 + h.val, by omega⟩ (row n u)) + E (ix3 n (chunk u) h) := by
  pointwise [sources]
  congr 1 <;> blk_ext []

/-- The input gates from the transposed gates, by head, sequence and token. -/
def inputs (T : FVec Ideal S8x8192 .f32) : FVec Ideal S4x4x2048 .f32 :=
  shapeCast S4x4x2048 (extractStridedSlice S4x8192 ![0, 0] T slices_S8x8192_S4x8192_0_0) shapeCasts_S4x8192_S4x4x2048

theorem inputs_at (T : FVec Ideal S8x8192 .f32) (h n : Fin 4) (u : Fin 2048) : inputs T (ix3 h n u) = T (ix2 ⟨h.val, by omega⟩ (row n u)) := by
  pointwise [inputs]
  blk_ext []

/-- Values by sequence, token and head, the head first. -/
def headFirst (x : FVec Ideal S4x2048x4 .f32) : FVec Ideal S4x4x2048 .f32 := transpose S4x4x2048 [2, 0, 1] x transposes_S4x2048x4_S4x4x2048_2_0_1

theorem headFirst_at (x : FVec Ideal S4x2048x4 .f32) (h n : Fin 4) (u : Fin 2048) : headFirst x (ix3 h n u) = x (ix3 n u h) := by
  pointwise [headFirst]

/-- The causal mask. -/
def causal : IVec S2048x2048 1 :=
  cmpi .sle (broadcastInDim S2048x2048 ![0, 1] bcast_S1x2048_S2048x2048_0_1 (broadcastInDim S1x2048 ![1] bcast_S2048_S1x2048_1 (iotaInDim S2048 32 0)))
    (broadcastInDim S2048x2048 ![0, 1] bcast_S2048x1_S2048x2048_0_1 (broadcastInDim S2048x1 ![0] bcast_S2048_S2048x1_0 (iotaInDim S2048 32 0)))

theorem causal_at (t s : Fin 2048) : causal (ix2 t s) = if s.val ≤ t.val then 1#1 else 0#1 := by
  pointwise [causal]
  exact word_sle s.val t.val (by omega) (by omega)

/-- The logarithms of the weights. -/
def logs (b bs ig : FVec Ideal S4x4x2048 .f32) : FVec Ideal S4x4x2048x2048 .f32 :=
  select (broadcastInDim S4x4x2048x2048 ![2, 3] bcast_S2048x2048_S4x4x2048x2048_2_3 causal)
    (addf (subf (broadcastInDim S4x4x2048x2048 ![0, 1, 2, 3] bcast_S4x4x2048x1_S4x4x2048x2048_0_1_2_3 (broadcastInDim S4x4x2048x1 ![0, 1, 2] bcast_S4x4x2048_S4x4x2048x1_0_1_2 b))
      (broadcastInDim S4x4x2048x2048 ![0, 1, 2, 3] bcast_S4x4x1x2048_S4x4x2048x2048_0_1_2_3 (broadcastInDim S4x4x1x2048 ![0, 1, 3] bcast_S4x4x2048_S4x4x1x2048_0_1_3 bs)))
      (broadcastInDim S4x4x2048x2048 ![0, 1, 2, 3] bcast_S4x4x1x2048_S4x4x2048x2048_0_1_2_3 (broadcastInDim S4x4x1x2048 ![0, 1, 3] bcast_S4x4x2048_S4x4x1x2048_0_1_3 ig)))
    (broadcastInDim S4x4x2048x2048 ![] bcast_S_S4x4x2048x2048 (id (constant S_ .f32 0xFF800000#32)))

theorem logs_at (b bs ig : FVec Ideal S4x4x2048 .f32) (h n : Fin 4) (t s : Fin 2048) :
    logs b bs ig (ix4 h n t s) = gateLog (b (ix3 h n t)) (fun s => bs (ix3 h n s)) (fun s => ig (ix3 h n s)) t s := by
  pointwise [logs]
  rw [causal_at]
  change Scalar.select _ _ (Ideal.ofBits .f32 0xFF800000#32) = _
  rw [negInf_eq, gateLog]
  by_cases g : s.val ≤ t.val
  · rw [if_pos g, if_pos (Fin.le_def.2 g)]; exact if_pos rfl
  · rw [if_neg g, if_neg fun g' => g (Fin.le_def.1 g')]; exact if_neg (by decide)

/-- The stabilisers, by sequence, token and head. -/
def tops (b : FVec Ideal S4x4x2048 .f32) (D : FVec Ideal S4x4x2048x2048 .f32) : FVec Ideal S4x2048x4 .f32 :=
  transpose S4x2048x4 [1, 2, 0] (maximumf b (Host.reduce FloatOps.maximumf D (constant S_ .f32 0xFF800000#32) reducesTo_S4x4x2048x2048_S4x4x2048_d3 h_S_))
    transposes_S4x4x2048_S4x2048x4_1_2_0

theorem tops_at (b : FVec Ideal S4x4x2048 .f32) (D : FVec Ideal S4x4x2048x2048 .f32) (n : Fin 4) (t : Fin 2048) (h : Fin 4) :
    tops b D (ix3 n t h) = max (b (ix3 h n t)) (Finset.univ.sup fun s => D (ix4 h n t s)) := by
  simp only [← fold_max]
  pointwise [tops]

theorem top_at (b bs ig : FVec Ideal S4x4x2048 .f32) (n : Fin 4) (t : Fin 2048) (h : Fin 4) :
    tops b (logs b bs ig) (ix3 n t h) = gateTop (b (ix3 h n t)) 0 (fun s => bs (ix3 h n s)) (fun s => ig (ix3 h n s)) t := by
  rw [tops_at, gateTop, add_zero]
  simp only [logs_at]

/-- The input gates by sequence, token and head. -/
def inputCols (G : FVec Ideal S8192x128 .f32) : FVec Ideal S4x2048x4 .f32 :=
  shapeCast S4x2048x4 (extractStridedSlice S8192x4 ![0, 0] G slices_S8192x128_S8192x4_0_0) shapeCasts_S8192x4_S4x2048x4

theorem inputCols_at (G : FVec Ideal S8192x128 .f32) (n : Fin 4) (u : Fin 2048) (h : Fin 4) :
    inputCols G (ix3 n u h) = G (ix2 (row n u) ⟨h.val, by omega⟩) := by
  pointwise [inputCols]
  blk_ext []

/-- The last token's row for every token. -/
def lastRow (x : FVec Ideal S4x2048x4 .f32) : FVec Ideal S4x2048x4 .f32 :=
  broadcastInDim S4x2048x4 ![0, 1, 2] bcast_S4x1x4_S4x2048x4_0_1_2 (extractStridedSlice S4x1x4 ![0, 2047, 0] x slices_S4x2048x4_S4x1x4_0_2047_0)

theorem lastRow_at (x : FVec Ideal S4x2048x4 .f32) (n : Fin 4) (u : Fin 2048) (h : Fin 4) :
    lastRow x (ix3 n u h) = x (ix3 n ⟨2047, by decide⟩ h) := by
  pointwise [lastRow]
  blk_ext []

/-- The weights of the tokens in the state. -/
def weights (B I M : FVec Ideal S4x2048x4 .f32) : FVec Ideal S4x2048x4 .f32 := Host.exp (subf (addf (subf (lastRow B) B) I) (lastRow M))

theorem weights_at (B I M : FVec Ideal S4x2048x4 .f32) (n : Fin 4) (u : Fin 2048) (h : Fin 4) : weights B I M (ix3 n u h)
    = Ideal.exp (B (ix3 n ⟨2047, by decide⟩ h) - B (ix3 n u h) + I (ix3 n u h) - M (ix3 n ⟨2047, by decide⟩ h)) := by
  rw [← lastRow_at B n u h, ← lastRow_at M n u h]
  pointwise [weights]

/-- A weight for every column of a head. -/
def wide (w : FVec Ideal S4x2048x4 .f32) : FVec Ideal S4x2048x4x512 .f32 :=
  broadcastInDim S4x2048x4x512 ![0, 1, 2, 3] bcast_S4x2048x4x1_S4x2048x4x512_0_1_2_3 (broadcastInDim S4x2048x4x1 ![0, 1, 2] bcast_S4x2048x4_S4x2048x4x1_0_1_2 w)

/-- The scaled keys and the values. -/
def keys (P : FVec Ideal S8192x12288 .f32) : FVec Ideal S4x2048x4x512 .f32 :=
  mulf (shapeCast S4x2048x4x512 (extractStridedSlice S8192x2048 ![0, 4096] P slices_S8192x12288_S8192x2048_0_4096) shapeCasts_S8192x2048_S4x2048x4x512)
    (broadcastInDim S4x2048x4x512 ![] bcast_S_S4x2048x4x512 (constant S_ .f32 0x3D3504F3#32))
def values (P : FVec Ideal S8192x12288 .f32) : FVec Ideal S4x2048x4x512 .f32 :=
  shapeCast S4x2048x4x512 (extractStridedSlice S8192x2048 ![0, 6144] P slices_S8192x12288_S8192x2048_0_6144) shapeCasts_S8192x2048_S4x2048x4x512

theorem keys_at (P : FVec Ideal S8192x12288 .f32) (n : Fin 4) (u : Fin 2048) (h : Fin 4) (y : Fin 512) :
    keys P (ix4 n u h y) = P (ix2 (row n u) ⟨4096 + 512 * h.val + y.val, by omega⟩) * kscale := by
  pointwise [keys]
  congr 1
  blk_ext []
theorem values_at (P : FVec Ideal S8192x12288 .f32) (n : Fin 4) (u : Fin 2048) (h : Fin 4) (x : Fin 512) :
    values P (ix4 n u h x) = P (ix2 (row n u) ⟨6144 + 512 * h.val + x.val, by omega⟩) := by
  pointwise [values]
  blk_ext []

/-- The states. -/
def states (w : FVec Ideal S4x2048x4 .f32) (v k : FVec Ideal S4x2048x4x512 .f32) : FVec Ideal S4x4x512x512 .f32 :=
  Host.dotGeneral (φ₁ := .f32) (φ₂ := .f32) dot_S4x2048x4x512_S4x2048x4x512_S4x4x512x512_1_1_3_3_02_02 none (mulf (wide w) v) k

theorem states_at (w : FVec Ideal S4x2048x4 .f32) (v k : FVec Ideal S4x2048x4x512 .f32) (n h : Fin 4) (x y : Fin 512) :
    states w v k (ix4 n h x y) = ∑ u : Fin 2048, w (ix3 n u h) * v (ix4 n u h x) * k (ix4 n u h y) := by
  pointwise [states, wide]

/-- The normalisers. -/
def norms (w : FVec Ideal S4x2048x4 .f32) (k : FVec Ideal S4x2048x4x512 .f32) : FVec Ideal S4x4x512 .f32 :=
  Host.reduceAdd (mulf (wide w) k) (constant S_ .f32 0x00000000#32) reducesTo_S4x2048x4x512_S4x4x512_d1 h_S_

theorem norms_at (w : FVec Ideal S4x2048x4 .f32) (k : FVec Ideal S4x2048x4x512 .f32) (n h : Fin 4) (y : Fin 512) :
    norms w k (ix3 n h y) = ∑ u : Fin 2048, w (ix3 n u h) * k (ix4 n u h y) := by
  pointwise [norms, wide]

/-- The stabilisers, beside zeros. -/
def beside (M : FVec Ideal S4x2048x4 .f32) : FVec Ideal S8192x128 .f32 :=
  concatenate S8192x128 1 [⟨S8192x4, shapeCast S8192x4 M shapeCasts_S4x2048x4_S8192x4⟩,
    ⟨S8192x124, broadcastInDim S8192x124 ![] bcast_S_S8192x124 (constant S_ .f32 0x00000000#32)⟩] concatenates_S8192x4_S8192x124_S8192x128_d1

theorem beside_at (M : FVec Ideal S4x2048x4 .f32) (i : Fin 8192) (j : Fin 128) : beside M (ix2 i j)
    = if h : j.val < 4 then M (ix3 ⟨i.val / 2048, by omega⟩ ⟨i.val % 2048, Nat.mod_lt _ (by decide)⟩ ⟨j.val, h⟩) else 0 := by
  have e : ∀ h : Fin 4, shapeCast S8192x4 M shapeCasts_S4x2048x4_S8192x4 (ix2 i h) = M (ix3 ⟨i.val / 2048, by omega⟩ ⟨i.val % 2048, Nat.mod_lt _ (by decide)⟩ h) := fun h => by
    pointwise []
    blk_ext []
  simp only [← e]
  rw [← Ideal.ofBits_zero_f32]
  pointwise [beside]

end Cert.RefMlsIdeal.Whole
end
-- ==== Proof.MlsTiles.lean ====
/- The four heads' stores read back, for each of the arrays the body of the mLSTM of the prompt writes. -/
module

public import proofs.«01_k».proof.Proof.MlsHead
public import Idealize.ShloMosaic.Lib.WritesUnit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Layer

namespace Cert.MlsIdeal.Prompt
open Cert.MlsIdeal Cert.MlsIdeal.Gen

section General
variable {s : Shape} {size : Fin s.rank → ℕ}

/-- A store read back at a place inside it. -/
theorem store_hit (off : Fin s.rank → ℕ) (inb : ∀ a, off a + size a ≤ s.size a) (w : (Rect.unit off size inb).shape.Idx → EReal)
    (L : List (View.Piece (Elt Ideal) s .f32)) (y : s.Idx) (x : (Rect.unit off size inb).shape.Idx) (h : ∀ a, (y a).val = off a + (x a).val) :
    View.canon ((⟨Rect.unit off size inb, w⟩ : View.Piece (Elt Ideal) s .f32) :: L) y = w x := by
  have e : y = (Rect.unit off size inb).emb x := funext fun a => Fin.ext (by rw [ValueKit.rect_emb_unit_val]; exact h a)
  rw [e]
  exact View.canon_cons_emb _ _ _ _

/-- A store changes no place outside it. -/
theorem store_miss (off : Fin s.rank → ℕ) (inb : ∀ a, off a + size a ≤ s.size a) (w : (Rect.unit off size inb).shape.Idx → EReal)
    (L : List (View.Piece (Elt Ideal) s .f32)) (y : s.Idx) (a : Fin s.rank) (h : (y a).val < off a ∨ off a + size a ≤ (y a).val) :
    View.canon ((⟨Rect.unit off size inb, w⟩ : View.Piece (Elt Ideal) s .f32) :: L) y = View.canon L y := by
  refine View.canon_cons_of_not_mem _ _ fun h' => ?_
  have := (Rect.mem_set_unit (inb := inb)).mp h' a
  omega
end General

/-- The stores of the state. -/
theorem tilesC (w0 w1 w2 w3 : FVec Ideal S1x1x512x512 .f32) (L : List (View.Piece (Elt Ideal) S1x4x512x512 .f32)) (i0 i1 i2 i3)
    (h : Fin 4) (x y : Fin 512) (F : Fin 4 → EReal) (e0 : w0 (ix4 0 0 x y) = F 0) (e1 : w1 (ix4 0 0 x y) = F 1)
    (e2 : w2 (ix4 0 0 x y) = F 2) (e3 : w3 (ix4 0 0 x y) = F 3) :
    View.canon ((⟨Rect.unit ![0, 3, 0, 0] ![1, 1, 512, 512] i3, w3⟩ : View.Piece (Elt Ideal) S1x4x512x512 .f32)
      :: ⟨Rect.unit ![0, 2, 0, 0] ![1, 1, 512, 512] i2, w2⟩ :: ⟨Rect.unit ![0, 1, 0, 0] ![1, 1, 512, 512] i1, w1⟩
      :: ⟨Rect.unit ![0, 0, 0, 0] ![1, 1, 512, 512] i0, w0⟩ :: L) (ix4 0 h x y) = F h := by
  have hit : ∀ (o : ℕ) (inb) (w : FVec Ideal S1x1x512x512 .f32) (L : List (View.Piece (Elt Ideal) S1x4x512x512 .f32)), h.val = o →
      View.canon ((⟨Rect.unit ![0, o, 0, 0] ![1, 1, 512, 512] inb, w⟩ : View.Piece (Elt Ideal) S1x4x512x512 .f32) :: L) (ix4 0 h x y)
        = w (ix4 0 0 x y) := fun o inb w L e => store_hit (s := S1x4x512x512) (size := ![1, 1, 512, 512]) ![0, o, 0, 0] inb w L _ (ix4 0 0 x y) fun a => by
    fin_cases a
    · rfl
    · change h.val = o + 0; omega
    · change x.val = 0 + x.val; omega
    · change y.val = 0 + y.val; omega
  have miss : ∀ (o : ℕ) (inb) (w : FVec Ideal S1x1x512x512 .f32) (L : List (View.Piece (Elt Ideal) S1x4x512x512 .f32)), h.val < o →
      View.canon ((⟨Rect.unit ![0, o, 0, 0] ![1, 1, 512, 512] inb, w⟩ : View.Piece (Elt Ideal) S1x4x512x512 .f32) :: L) (ix4 0 h x y)
        = View.canon L (ix4 0 h x y) := fun o inb w L e => store_miss (s := S1x4x512x512) (size := ![1, 1, 512, 512]) ![0, o, 0, 0] inb w L _ 1 (Or.inl e)
  by_cases h3 : h.val = 3
  · exact (hit 3 i3 w3 _ h3).trans (e3.trans (congrArg F (Fin.ext h3.symm)))
  refine (miss 3 i3 w3 _ (by omega)).trans ?_
  by_cases h2 : h.val = 2
  · exact (hit 2 i2 w2 _ h2).trans (e2.trans (congrArg F (Fin.ext h2.symm)))
  refine (miss 2 i2 w2 _ (by omega)).trans ?_
  by_cases h1 : h.val = 1
  · exact (hit 1 i1 w1 _ h1).trans (e1.trans (congrArg F (Fin.ext h1.symm)))
  refine (miss 1 i1 w1 _ (by omega)).trans ?_
  have h0 : h.val = 0 := by omega
  exact (hit 0 i0 w0 _ h0).trans (e0.trans (congrArg F (Fin.ext h0.symm)))

/-- The stores of the normaliser. -/
theorem tilesN (w0 w1 w2 w3 : FVec Ideal S1x1x512 .f32) (L : List (View.Piece (Elt Ideal) S1x4x512 .f32)) (i0 i1 i2 i3)
    (h : Fin 4) (y : Fin 512) (F : Fin 4 → EReal) (e0 : w0 (ix3 0 0 y) = F 0) (e1 : w1 (ix3 0 0 y) = F 1)
    (e2 : w2 (ix3 0 0 y) = F 2) (e3 : w3 (ix3 0 0 y) = F 3) :
    View.canon ((⟨Rect.unit ![0, 3, 0] ![1, 1, 512] i3, w3⟩ : View.Piece (Elt Ideal) S1x4x512 .f32)
      :: ⟨Rect.unit ![0, 2, 0] ![1, 1, 512] i2, w2⟩ :: ⟨Rect.unit ![0, 1, 0] ![1, 1, 512] i1, w1⟩
      :: ⟨Rect.unit ![0, 0, 0] ![1, 1, 512] i0, w0⟩ :: L) (ix3 0 h y) = F h := by
  have hit : ∀ (o : ℕ) (inb) (w : FVec Ideal S1x1x512 .f32) (L : List (View.Piece (Elt Ideal) S1x4x512 .f32)), h.val = o →
      View.canon ((⟨Rect.unit ![0, o, 0] ![1, 1, 512] inb, w⟩ : View.Piece (Elt Ideal) S1x4x512 .f32) :: L) (ix3 0 h y)
        = w (ix3 0 0 y) := fun o inb w L e => store_hit (s := S1x4x512) (size := ![1, 1, 512]) ![0, o, 0] inb w L _ (ix3 0 0 y) fun a => by
    fin_cases a
    · rfl
    · change h.val = o + 0; omega
    · change y.val = 0 + y.val; omega
  have miss : ∀ (o : ℕ) (inb) (w : FVec Ideal S1x1x512 .f32) (L : List (View.Piece (Elt Ideal) S1x4x512 .f32)), h.val < o →
      View.canon ((⟨Rect.unit ![0, o, 0] ![1, 1, 512] inb, w⟩ : View.Piece (Elt Ideal) S1x4x512 .f32) :: L) (ix3 0 h y)
        = View.canon L (ix3 0 h y) := fun o inb w L e => store_miss (s := S1x4x512) (size := ![1, 1, 512]) ![0, o, 0] inb w L _ 1 (Or.inl e)
  by_cases h3 : h.val = 3
  · exact (hit 3 i3 w3 _ h3).trans (e3.trans (congrArg F (Fin.ext h3.symm)))
  refine (miss 3 i3 w3 _ (by omega)).trans ?_
  by_cases h2 : h.val = 2
  · exact (hit 2 i2 w2 _ h2).trans (e2.trans (congrArg F (Fin.ext h2.symm)))
  refine (miss 2 i2 w2 _ (by omega)).trans ?_
  by_cases h1 : h.val = 1
  · exact (hit 1 i1 w1 _ h1).trans (e1.trans (congrArg F (Fin.ext h1.symm)))
  refine (miss 1 i1 w1 _ (by omega)).trans ?_
  have h0 : h.val = 0 := by omega
  exact (hit 0 i0 w0 _ h0).trans (e0.trans (congrArg F (Fin.ext h0.symm)))

/-- The stores of the rows' stabilisers, over a block filled with `z` first. -/
theorem tilesM (w0 w1 w2 w3 : FVec Ideal S512x1 .f32) (z : FVec Ideal S512x128 .f32) (i0 i1 i2 i3 iz)
    (r : Fin 512) (j : Fin 128) (F : Fin 4 → EReal) (e0 : w0 (ix2 r 0) = F 0) (e1 : w1 (ix2 r 0) = F 1)
    (e2 : w2 (ix2 r 0) = F 2) (e3 : w3 (ix2 r 0) = F 3) :
    View.canon [(⟨Rect.unit ![0, 3] ![512, 1] i3, w3⟩ : View.Piece (Elt Ideal) S512x128 .f32),
      ⟨Rect.unit ![0, 2] ![512, 1] i2, w2⟩, ⟨Rect.unit ![0, 1] ![512, 1] i1, w1⟩, ⟨Rect.unit ![0, 0] ![512, 1] i0, w0⟩,
      ⟨Rect.unit ![0, 0] ![512, 128] iz, z⟩] (ix2 r j) = if h : j.val < 4 then F ⟨j.val, h⟩ else z (ix2 r j) := by
  have hit : ∀ (o : ℕ) (inb) (w : FVec Ideal S512x1 .f32) (L : List (View.Piece (Elt Ideal) S512x128 .f32)), j.val = o →
      View.canon ((⟨Rect.unit ![0, o] ![512, 1] inb, w⟩ : View.Piece (Elt Ideal) S512x128 .f32) :: L) (ix2 r j)
        = w (ix2 r 0) := fun o inb w L e => store_hit (s := S512x128) (size := ![512, 1]) ![0, o] inb w L _ (ix2 r 0) fun a => by
    fin_cases a
    · change r.val = 0 + r.val; omega
    · change j.val = o + 0; omega
  have miss : ∀ (o : ℕ) (inb) (w : FVec Ideal S512x1 .f32) (L : List (View.Piece (Elt Ideal) S512x128 .f32)), j.val ≠ o →
      View.canon ((⟨Rect.unit ![0, o] ![512, 1] inb, w⟩ : View.Piece (Elt Ideal) S512x128 .f32) :: L) (ix2 r j)
        = View.canon L (ix2 r j) := fun o inb w L e => store_miss (s := S512x128) (size := ![512, 1]) ![0, o] inb w L _ 1 (by
          change j.val < o ∨ o + 1 ≤ j.val; omega)
  by_cases h3 : j.val = 3
  · rw [dif_pos (by omega), show (⟨j.val, by omega⟩ : Fin 4) = 3 from Fin.ext h3]
    exact (hit _ _ _ _ h3).trans e3
  refine (miss _ _ _ _ h3).trans ?_
  by_cases h2 : j.val = 2
  · rw [dif_pos (by omega), show (⟨j.val, by omega⟩ : Fin 4) = 2 from Fin.ext h2]
    exact (hit _ _ _ _ h2).trans e2
  refine (miss _ _ _ _ h2).trans ?_
  by_cases h1 : j.val = 1
  · rw [dif_pos (by omega), show (⟨j.val, by omega⟩ : Fin 4) = 1 from Fin.ext h1]
    exact (hit _ _ _ _ h1).trans e1
  refine (miss _ _ _ _ h1).trans ?_
  by_cases h0 : j.val = 0
  · rw [dif_pos (by omega), show (⟨j.val, by omega⟩ : Fin 4) = 0 from Fin.ext h0]
    exact (hit _ _ _ _ h0).trans e0
  refine (miss _ _ _ _ h0).trans ?_
  rw [dif_neg (by omega)]
  exact store_hit (s := S512x128) (size := ![512, 128]) ![0, 0] iz z [] _ (ix2 r j) fun a => by
    fin_cases a
    · change r.val = 0 + r.val; omega
    · change j.val = 0 + j.val; omega

/-- The stores of the heads' stabilisers. -/
theorem tilesS (w0 w1 w2 w3 : FVec Ideal S1x128 .f32) (L : List (View.Piece (Elt Ideal) S8x128 .f32)) (i0 i1 i2 i3)
    (h : Fin 4) (F : Fin 4 → EReal) (e0 : w0 (ix2 0 0) = F 0) (e1 : w1 (ix2 0 0) = F 1)
    (e2 : w2 (ix2 0 0) = F 2) (e3 : w3 (ix2 0 0) = F 3) :
    View.canon ((⟨Rect.unit ![3, 0] ![1, 128] i3, w3⟩ : View.Piece (Elt Ideal) S8x128 .f32)
      :: ⟨Rect.unit ![2, 0] ![1, 128] i2, w2⟩ :: ⟨Rect.unit ![1, 0] ![1, 128] i1, w1⟩
      :: ⟨Rect.unit ![0, 0] ![1, 128] i0, w0⟩ :: L) (ix2 ⟨h.val, by omega⟩ 0) = F h := by
  have hit : ∀ (o : ℕ) (inb) (w : FVec Ideal S1x128 .f32) (L : List (View.Piece (Elt Ideal) S8x128 .f32)), h.val = o →
      View.canon ((⟨Rect.unit ![o, 0] ![1, 128] inb, w⟩ : View.Piece (Elt Ideal) S8x128 .f32) :: L) (ix2 ⟨h.val, by omega⟩ 0)
        = w (ix2 0 0) := fun o inb w L e => store_hit (s := S8x128) (size := ![1, 128]) ![o, 0] inb w L _ (ix2 0 0) fun a => by
    fin_cases a
    · change h.val = o + 0; omega
    · rfl
  have miss : ∀ (o : ℕ) (inb) (w : FVec Ideal S1x128 .f32) (L : List (View.Piece (Elt Ideal) S8x128 .f32)), h.val < o →
      View.canon ((⟨Rect.unit ![o, 0] ![1, 128] inb, w⟩ : View.Piece (Elt Ideal) S8x128 .f32) :: L) (ix2 ⟨h.val, by omega⟩ 0)
        = View.canon L (ix2 ⟨h.val, by omega⟩ 0) := fun o inb w L e => store_miss (s := S8x128) (size := ![1, 128]) ![o, 0] inb w L _ 0 (Or.inl e)
  by_cases h3 : h.val = 3
  · exact (hit 3 i3 w3 _ h3).trans (e3.trans (congrArg F (Fin.ext h3.symm)))
  refine (miss 3 i3 w3 _ (by omega)).trans ?_
  by_cases h2 : h.val = 2
  · exact (hit 2 i2 w2 _ h2).trans (e2.trans (congrArg F (Fin.ext h2.symm)))
  refine (miss 2 i2 w2 _ (by omega)).trans ?_
  by_cases h1 : h.val = 1
  · exact (hit 1 i1 w1 _ h1).trans (e1.trans (congrArg F (Fin.ext h1.symm)))
  refine (miss 1 i1 w1 _ (by omega)).trans ?_
  have h0 : h.val = 0 := by omega
  exact (hit 0 i0 w0 _ h0).trans (e0.trans (congrArg F (Fin.ext h0.symm)))

/-- The same where what was there before stays in the other rows. -/
theorem tilesS_over {κ : Kind} {sp : Space} (v : View sig κ sp S8x128 .f32) (f : v.ty.Contents (Elt Ideal))
    (w0 w1 w2 w3 : FVec Ideal S1x128 .f32) (i0 i1 i2 i3)
    (h : Fin 4) (F : Fin 4 → EReal) (e0 : w0 (ix2 0 0) = F 0) (e1 : w1 (ix2 0 0) = F 1)
    (e2 : w2 (ix2 0 0) = F 2) (e3 : w3 (ix2 0 0) = F 3) :
    v.read (Elt Ideal) (v.writes (Elt Ideal) f [(⟨Rect.unit ![3, 0] ![1, 128] i3, w3⟩ : View.Piece (Elt Ideal) S8x128 .f32),
      ⟨Rect.unit ![2, 0] ![1, 128] i2, w2⟩, ⟨Rect.unit ![1, 0] ![1, 128] i1, w1⟩, ⟨Rect.unit ![0, 0] ![1, 128] i0, w0⟩])
      (ix2 ⟨h.val, by omega⟩ 0) = F h := by
  refine (View.read_writes_apply_eq_canon v f _ _ ?_).trans (tilesS w0 w1 w2 w3 [] i0 i1 i2 i3 h F e0 e1 e2 e3)
  have mem : ∀ (o : ℕ) (inb), h.val = o → (ix2 ⟨h.val, by omega⟩ 0 : S8x128.Idx) ∈ (Rect.unit (s := S8x128) ![o, 0] ![1, 128] inb).set :=
    fun o inb e => (Rect.mem_set_unit (inb := inb)).2 fun a => by
      fin_cases a
      · change o ≤ h.val ∧ h.val < o + 1; omega
      · change 0 ≤ 0 ∧ 0 < 0 + 128; omega
  by_cases h3 : h.val = 3
  · exact ⟨_, .head _, mem 3 i3 h3⟩
  by_cases h2 : h.val = 2
  · exact ⟨_, .tail _ (.head _), mem 2 i2 h2⟩
  by_cases h1 : h.val = 1
  · exact ⟨_, .tail _ (.tail _ (.head _)), mem 1 i1 h1⟩
  · exact ⟨_, .tail _ (.tail _ (.tail _ (.head _))), mem 0 i0 (by omega)⟩

end Cert.MlsIdeal.Prompt
end
-- ==== Proof.MlsStep.lean ====
/- One point of the mLSTM of the prompt: what it leaves, in terms of its blocks and of what the point before left. -/
module

public import proofs.«01_k».proof.Proof.Gen.MlsIdeal.Value
public import proofs.«01_k».proof.Proof.MlsTiles

@[expose] public section

set_option maxRecDepth 16384

noncomputable section

open Idealize.ShloMosaic Idealize.ShloMosaic.TcCoe Idealize.SL.Sem
open Idealize.ShloMosaic.Pipeline (Dat)
open Layer

namespace Cert.MlsIdeal.Prompt
open Cert.MlsIdeal Cert.MlsIdeal.Gen

/-- The gate column, the gate row and the projection's column that head `h` uses. -/
abbrev gateCol (o : ℕ) (h : Fin 4) (ho : o ≤ 4) : Fin 128 := ⟨o + h.val, by omega⟩
abbrev gateRow (o : ℕ) (h : Fin 4) (ho : o ≤ 4) : Fin 8 := ⟨o + h.val, by omega⟩
abbrev headCol (h : Fin 4) (x : Fin 512) : Fin 2048 := ⟨512 * h.val + x.val, by omega⟩
abbrev headRow (h : Fin 4) : Fin 8 := ⟨h.val, by omega⟩

section
variable (G : FVec Ideal S512x128 .f32) (T : FVec Ideal S8x512 .f32) (K V : FVec Ideal S512x2048 .f32)
  (S : FVec Ideal S8x128 .f32) (C : FVec Ideal S1x4x512x512 .f32) (N : FVec Ideal S1x4x512 .f32) (h : Fin 4)

/-! ## What a head does with its chunk -/

/-- The stabiliser of row `r`. -/
def topRow (r : Fin 512) : EReal :=
  gateTop (G (ix2 r (gateCol 4 h (by decide)))) (S (ix2 (headRow h) 0)) (fun s => T (ix2 (gateRow 4 h (by decide)) s))
    (fun s => T (ix2 (gateRow 0 h (by decide)) s)) r

/-- The weight of the state before the chunk. -/
def oldOf : EReal := Ideal.exp (G (ix2 last (gateCol 4 h (by decide))) + S (ix2 (headRow h) 0) - topRow G T S h last)

/-- The weight of token `s`. -/
def tokOf (s : Fin 512) : EReal :=
  Ideal.exp (G (ix2 last (gateCol 4 h (by decide))) - G (ix2 s (gateCol 4 h (by decide))) + G (ix2 s (gateCol 0 h (by decide))) - topRow G T S h last)

/-- The state after the chunk. -/
def stateOf (x y : Fin 512) : EReal :=
  oldOf G T S h * C (ix4 0 h x y) + ∑ s : Fin 512, tokOf G T S h s * V (ix2 s (headCol h x)) * (K (ix2 s (headCol h y)) * kscale)

/-- The normaliser after the chunk. -/
def normOf (y : Fin 512) : EReal := oldOf G T S h * N (ix3 0 h y) + ∑ s : Fin 512, tokOf G T S h s * (K (ix2 s (headCol h y)) * kscale)

/-! ## A head's loads -/

theorem ldG (o : ℕ) (ho : o ≤ 4) (i) (r : Fin 512) :
    View.ld (Val := Elt Ideal) (e' := .f32) G (Rect.unit (s := S512x128) ![0, o + h.val] ![512, 1] i) (ix2 r 0) = G (ix2 r (gateCol o h ho)) :=
  congrArg G (funext fun a => Fin.ext (by
    fin_cases a
    · change 0 + 1 * r.val = r.val; omega
    · change o + h.val + 1 * 0 = o + h.val; omega))
theorem ldT (o : ℕ) (ho : o ≤ 4) (i) (s : Fin 512) :
    View.ld (Val := Elt Ideal) (e' := .f32) T (Rect.unit (s := S8x512) ![o + h.val, 0] ![1, 512] i) (ix2 0 s) = T (ix2 (gateRow o h ho) s) :=
  congrArg T (funext fun a => Fin.ext (by
    fin_cases a
    · change o + h.val + 1 * 0 = o + h.val; omega
    · change 0 + 1 * s.val = s.val; omega))
theorem ldS (i) : View.ld (Val := Elt Ideal) (e' := .f32) S (Rect.unit (s := S8x128) ![h.val, 0] ![1, 1] i) (ix2 0 0) = S (ix2 (headRow h) 0) :=
  congrArg S (funext fun a => Fin.ext (by
    fin_cases a
    · change h.val + 1 * 0 = h.val; omega
    · change 0 + 1 * 0 = 0; omega))
theorem ldK (i) (s x : Fin 512) :
    View.ld (Val := Elt Ideal) (e' := .f32) K (Rect.unit (s := S512x2048) ![0, 512 * h.val] ![512, 512] i) (ix2 s x) = K (ix2 s (headCol h x)) :=
  congrArg K (funext fun a => Fin.ext (by
    fin_cases a
    · change 0 + 1 * s.val = s.val; omega
    · change 512 * h.val + 1 * x.val = 512 * h.val + x.val; omega))
theorem ldC (i) (x y : Fin 512) :
    View.ld (Val := Elt Ideal) (e' := .f32) C (Rect.unit (s := S1x4x512x512) ![0, h.val, 0, 0] ![1, 1, 512, 512] i) (ix4 0 0 x y) = C (ix4 0 h x y) :=
  congrArg C (funext fun a => Fin.ext (by
    fin_cases a
    · change 0 + 1 * 0 = 0; omega
    · change h.val + 1 * 0 = h.val; omega
    · change 0 + 1 * x.val = x.val; omega
    · change 0 + 1 * y.val = y.val; omega))
theorem ldN (i) (y : Fin 512) :
    View.ld (Val := Elt Ideal) (e' := .f32) N (Rect.unit (s := S1x4x512) ![0, h.val, 0] ![1, 1, 512] i) (ix3 0 0 y) = N (ix3 0 h y) :=
  congrArg N (funext fun a => Fin.ext (by
    fin_cases a
    · change 0 + 1 * 0 = 0; omega
    · change h.val + 1 * 0 = h.val; omega
    · change 0 + 1 * y.val = y.val; omega))

/-! ## A head's results, from its loads -/

variable (b i : FVec Ideal S512x1 .f32) (ig br : FVec Ideal S1x512 .f32) (m0 : FVec Ideal S1x1 .f32)

/-- The gates and the stabiliser that head `h` loads. -/
structure Loaded : Prop where
  decay : ∀ r, b (ix2 r 0) = G (ix2 r (gateCol 4 h (by decide)))
  gate : ∀ s, ig (ix2 0 s) = T (ix2 (gateRow 0 h (by decide)) s)
  decays : ∀ s, br (ix2 0 s) = T (ix2 (gateRow 4 h (by decide)) s)
  stab : m0 (ix2 0 0) = S (ix2 (headRow h) 0)

theorem loaded (i1 i2 i3 i4) : Loaded G T S h (View.ld (Val := Elt Ideal) (e' := .f32) G (Rect.unit (s := S512x128) ![0, 4 + h.val] ![512, 1] i1))
    (View.ld (Val := Elt Ideal) (e' := .f32) T (Rect.unit (s := S8x512) ![0 + h.val, 0] ![1, 512] i2))
    (View.ld (Val := Elt Ideal) (e' := .f32) T (Rect.unit (s := S8x512) ![4 + h.val, 0] ![1, 512] i3))
    (View.ld (Val := Elt Ideal) (e' := .f32) S (Rect.unit (s := S8x128) ![h.val, 0] ![1, 1] i4)) where
  decay r := ldG G h 4 (by decide) _ r
  gate s := ldT T h 0 (by decide) _ s
  decays s := ldT T h 4 (by decide) _ s
  stab := ldS S h _

variable {G T S h b ig br m0}

theorem row_top (L : Loaded G T S h b ig br m0) (r : Fin 512) : k0_pay10 (F := Ideal) b ig br m0 (ix2 r 0) = topRow G T S h r := by
  rw [top_at]
  unfold topRow
  simp only [L.decay, L.gate, L.decays, L.stab]

theorem row_keep (L : Loaded G T S h b ig br m0) (j : Fin 128) : k0_pay18 (F := Ideal) (k0_pay13 b ig br m0) (ix2 0 j) = topRow G T S h last := by
  rw [keep_at, new_at]
  unfold topRow
  simp only [L.decay, L.gate, L.decays, L.stab]

theorem row_old (L : Loaded G T S h b ig br m0) :
    k0_pay17 (F := Ideal) (k0_pay13 b ig br m0) (k0_pay16 b m0) (ix2 0 0) = oldOf G T S h := by
  rw [oldWeight_at]
  unfold oldOf topRow
  simp only [L.decay, L.gate, L.decays, L.stab]

variable {i} in
theorem row_tok (L : Loaded G T S h b ig br m0) (I : ∀ r, i (ix2 r 0) = G (ix2 r (gateCol 0 h (by decide)))) (s : Fin 512) :
    k0_pay15 (F := Ideal) i b ig br m0 (ix2 s 0) = tokOf G T S h s := by
  rw [tokWeight_at]
  unfold tokOf topRow
  simp only [L.decay, L.gate, L.decays, L.stab, I]

variable {K V C N i} {k v : FVec Ideal S512x512 .f32} {cl : FVec Ideal S1x1x512x512 .f32} {nl : FVec Ideal S1x1x512 .f32}

theorem row_state (L : Loaded G T S h b ig br m0) (I : ∀ r, i (ix2 r 0) = G (ix2 r (gateCol 0 h (by decide))))
    (hk : ∀ s x, k (ix2 s x) = K (ix2 s (headCol h x))) (hv : ∀ s x, v (ix2 s x) = V (ix2 s (headCol h x)))
    (hc : ∀ x y, cl (ix4 0 0 x y) = C (ix4 0 h x y)) (x y : Fin 512) :
    k0_pay74 (F := Ideal) (k0_pay73 (k0_pay17 (k0_pay13 b ig br m0) (k0_pay16 b m0)) (k0_pay55 (k0_pay15 i b ig br m0) k v) cl) (ix4 0 0 x y)
      = stateOf G T K V S C h x y := by
  rw [stateC_at, row_old L, hc]
  unfold stateOf
  simp only [row_tok L I, hk, hv]

theorem row_norm (L : Loaded G T S h b ig br m0) (I : ∀ r, i (ix2 r 0) = G (ix2 r (gateCol 0 h (by decide))))
    (hk : ∀ s x, k (ix2 s x) = K (ix2 s (headCol h x))) (hn : ∀ y, nl (ix3 0 0 y) = N (ix3 0 h y)) (y : Fin 512) :
    k0_pay75 (F := Ideal) (k0_pay15 i b ig br m0) (k0_pay17 (k0_pay13 b ig br m0) (k0_pay16 b m0)) (k0_pay71 nl) k (ix3 0 0 y)
      = normOf G T K S N h y := by
  rw [stateN_at, row_old L, hn]
  unfold normOf
  simp only [row_tok L I, hk]
end

variable (m : (ℓ : Loc nD τ sig) → Buf (Elt Ideal) ℓ)

/-- What point `t` leaves, with `S`, `C` and `N` there before. -/
structure Step (c : Dev nD) (t : Fin cfg0.N) (S : FVec Ideal S8x128 .f32) (C : FVec Ideal S1x4x512x512 .f32) (N : FVec Ideal S1x4x512 .f32) : Prop where
  keep : ∀ h : Fin 4, (outsAt0 m c t.val t.isLt).2.2.2.2 (ix2 (headRow h) 0) = topRow (iblk m c 3 t) (iblk m c 4 t) S h last
  tops : ∀ (r : Fin 512) (j : Fin 128), (outsAt0 m c t.val t.isLt).2.2.2.1 (ix2 r j)
    = if h : j.val < 4 then topRow (iblk m c 3 t) (iblk m c 4 t) S ⟨j.val, h⟩ r else k0_pay7 (F := Ideal) (ix2 r j)
  state : ∀ (h : Fin 4) (x y : Fin 512), (outsAt0 m c t.val t.isLt).2.1 (ix4 0 h x y)
    = stateOf (iblk m c 3 t) (iblk m c 4 t) (iblk m c 1 t) (iblk m c 2 t) S C h x y
  norm : ∀ (h : Fin 4) (y : Fin 512), (outsAt0 m c t.val t.isLt).2.2.1 (ix3 0 h y)
    = normOf (iblk m c 3 t) (iblk m c 4 t) (iblk m c 1 t) S N h y

theorem first (c : Dev nD) (t : Fin cfg0.N) (h0 : t.val % 4 = 0) : Step m c t (k0_pay5 (F := Ideal)) (k0_pay3 (F := Ideal)) (k0_pay4 (F := Ideal)) where
  keep h := by
    rw [outsAt0_A m c t h0]; frame_out
    simp (discharger := decide) only [↓View.readCov_skip, ↓View.readCov_fill, keep1, keep2, keep3]
    exact tilesS _ _ _ _ _ _ _ _ _ h (fun h => topRow (iblk m c 3 t) (iblk m c 4 t) (k0_pay5 (F := Ideal)) h last)
      (row_keep (loaded _ _ _ 0 _ _ _ _) 0) (row_keep (loaded _ _ _ 1 _ _ _ _) 0) (row_keep (loaded _ _ _ 2 _ _ _ _) 0) (row_keep (loaded _ _ _ 3 _ _ _ _) 0)
  tops r j := by
    rw [outsAt0_A m c t h0]; frame_out
    simp (discharger := decide) only [↓View.readCov_skip, ↓View.readCov_fill, top1, top2, top3]
    exact tilesM _ _ _ _ _ _ _ _ _ _ r j (fun h => topRow (iblk m c 3 t) (iblk m c 4 t) (k0_pay5 (F := Ideal)) h r)
      (row_top (loaded _ _ _ 0 _ _ _ _) r) (row_top (loaded _ _ _ 1 _ _ _ _) r) (row_top (loaded _ _ _ 2 _ _ _ _) r) (row_top (loaded _ _ _ 3 _ _ _ _) r)
  state h x y := by
    rw [outsAt0_A m c t h0]; frame_out
    simp (discharger := decide) only [↓View.readCov_skip, ↓View.readCov_fill, tok1, tok2, tok3, old1, old2, old3, stateC1, stateC2, stateC3]
    exact tilesC _ _ _ _ _ _ _ _ _ h x y (fun h => stateOf (iblk m c 3 t) (iblk m c 4 t) (iblk m c 1 t) (iblk m c 2 t) (k0_pay5 (F := Ideal)) (k0_pay3 (F := Ideal)) h x y)
      (row_state (loaded _ _ _ 0 _ _ _ _) (ldG _ 0 0 (by decide) _) (ldK _ 0 _) (ldK _ 0 _) (ldC _ 0 _) x y)
      (row_state (loaded _ _ _ 1 _ _ _ _) (ldG _ 1 0 (by decide) _) (ldK _ 1 _) (ldK _ 1 _) (ldC _ 1 _) x y)
      (row_state (loaded _ _ _ 2 _ _ _ _) (ldG _ 2 0 (by decide) _) (ldK _ 2 _) (ldK _ 2 _) (ldC _ 2 _) x y)
      (row_state (loaded _ _ _ 3 _ _ _ _) (ldG _ 3 0 (by decide) _) (ldK _ 3 _) (ldK _ 3 _) (ldC _ 3 _) x y)
  norm h y := by
    rw [outsAt0_A m c t h0]; frame_out
    simp (discharger := decide) only [↓View.readCov_skip, ↓View.readCov_fill, tok1, tok2, tok3, old1, old2, old3, stateN1, stateN2, stateN3]
    exact tilesN _ _ _ _ _ _ _ _ _ h y (fun h => normOf (iblk m c 3 t) (iblk m c 4 t) (iblk m c 1 t) (k0_pay5 (F := Ideal)) (k0_pay4 (F := Ideal)) h y)
      (row_norm (loaded _ _ _ 0 _ _ _ _) (ldG _ 0 0 (by decide) _) (ldK _ 0 _) (ldN _ 0 _) y)
      (row_norm (loaded _ _ _ 1 _ _ _ _) (ldG _ 1 0 (by decide) _) (ldK _ 1 _) (ldN _ 1 _) y)
      (row_norm (loaded _ _ _ 2 _ _ _ _) (ldG _ 2 0 (by decide) _) (ldK _ 2 _) (ldN _ 2 _) y)
      (row_norm (loaded _ _ _ 3 _ _ _ _) (ldG _ 3 0 (by decide) _) (ldK _ 3 _) (ldN _ 3 _) y)

theorem later (c : Dev nD) (t : Fin cfg0.N) (h0 : ¬ t.val % 4 = 0) (hb) : Step m c t (outsAt0 m c (t.val - 1) hb).2.2.2.2
    (outsAt0 m c (t.val - 1) hb).2.1 (outsAt0 m c (t.val - 1) hb).2.2.1 where
  keep h := by
    rw [outsAt0_B m c t h0]; frame_out
    simp only [read_unread_whole, keep1, keep2, keep3]
    exact tilesS_over _ _ _ _ _ _ _ _ _ _ h (fun h => topRow (iblk m c 3 t) (iblk m c 4 t) (outsAt0 m c (t.val - 1) hb).2.2.2.2 h last)
      (row_keep (loaded _ _ _ 0 _ _ _ _) 0) (row_keep (loaded _ _ _ 1 _ _ _ _) 0) (row_keep (loaded _ _ _ 2 _ _ _ _) 0) (row_keep (loaded _ _ _ 3 _ _ _ _) 0)
  tops r j := by
    rw [outsAt0_B m c t h0]; frame_out
    simp only [read_unread_whole, top1, top2, top3]
    exact tilesM _ _ _ _ _ _ _ _ _ _ r j (fun h => topRow (iblk m c 3 t) (iblk m c 4 t) (outsAt0 m c (t.val - 1) hb).2.2.2.2 h r)
      (row_top (loaded _ _ _ 0 _ _ _ _) r) (row_top (loaded _ _ _ 1 _ _ _ _) r) (row_top (loaded _ _ _ 2 _ _ _ _) r) (row_top (loaded _ _ _ 3 _ _ _ _) r)
  state h x y := by
    rw [outsAt0_B m c t h0]; frame_out
    simp only [read_unread_whole, tok1, tok2, tok3, old1, old2, old3, stateC1, stateC2, stateC3]
    exact tilesC _ _ _ _ _ _ _ _ _ h x y (fun h => stateOf (iblk m c 3 t) (iblk m c 4 t) (iblk m c 1 t) (iblk m c 2 t) (outsAt0 m c (t.val - 1) hb).2.2.2.2 (outsAt0 m c (t.val - 1) hb).2.1 h x y)
      (row_state (loaded _ _ _ 0 _ _ _ _) (ldG _ 0 0 (by decide) _) (ldK _ 0 _) (ldK _ 0 _) (ldC _ 0 _) x y)
      (row_state (loaded _ _ _ 1 _ _ _ _) (ldG _ 1 0 (by decide) _) (ldK _ 1 _) (ldK _ 1 _) (ldC _ 1 _) x y)
      (row_state (loaded _ _ _ 2 _ _ _ _) (ldG _ 2 0 (by decide) _) (ldK _ 2 _) (ldK _ 2 _) (ldC _ 2 _) x y)
      (row_state (loaded _ _ _ 3 _ _ _ _) (ldG _ 3 0 (by decide) _) (ldK _ 3 _) (ldK _ 3 _) (ldC _ 3 _) x y)
  norm h y := by
    rw [outsAt0_B m c t h0]; frame_out
    simp only [read_unread_whole, tok1, tok2, tok3, old1, old2, old3, stateN1, stateN2, stateN3]
    exact tilesN _ _ _ _ _ _ _ _ _ h y (fun h => normOf (iblk m c 3 t) (iblk m c 4 t) (iblk m c 1 t) (outsAt0 m c (t.val - 1) hb).2.2.2.2 (outsAt0 m c (t.val - 1) hb).2.2.1 h y)
      (row_norm (loaded _ _ _ 0 _ _ _ _) (ldG _ 0 0 (by decide) _) (ldK _ 0 _) (ldN _ 0 _) y)
      (row_norm (loaded _ _ _ 1 _ _ _ _) (ldG _ 1 0 (by decide) _) (ldK _ 1 _) (ldN _ 1 _) y)
      (row_norm (loaded _ _ _ 2 _ _ _ _) (ldG _ 2 0 (by decide) _) (ldK _ 2 _) (ldN _ 2 _) y)
      (row_norm (loaded _ _ _ 3 _ _ _ _) (ldG _ 3 0 (by decide) _) (ldK _ 3 _) (ldN _ 3 _) y)

end Cert.MlsIdeal.Prompt
end
-- ==== Proof.MlsMath.lean ====
/- The mLSTM's state run chunk by chunk is the state of one pass over the whole sequence. -/
module

public import proofs.«01_k».proof.Proof.ShortSums
public import proofs.«01_k».proof.Proof.Formulas

@[expose] public section

noncomputable section

open Idealize.ShloMosaic Idealize.ShloMosaic.TcCoe Idealize.SL.Sem

namespace Layer

/-- The last token of a chunk. -/
abbrev lastTok : Fin 512 := ⟨511, by decide⟩

/-- The stabiliser before chunk `c`: zero, and then that of the last token of the chunk before. `b` are the forget gates cumulated
within their chunk, `g` the same and `a` the input gates as the sources see them. -/
def runTop (b g a : ℕ → Fin 512 → EReal) : ℕ → EReal
  | 0 => 0
  | c + 1 => gateTop (b c lastTok) (runTop b g a c) (g c) (a c) lastTok

/-- The weight of the state before chunk `c` in the state after it. -/
def runOld (b g a : ℕ → Fin 512 → EReal) (c : ℕ) : EReal := Ideal.exp (b c lastTok + runTop b g a c - runTop b g a (c + 1))

/-- The weight of token `s` of chunk `c` in the state after the chunk. -/
def runTok (b g a i : ℕ → Fin 512 → EReal) (c : ℕ) (s : Fin 512) : EReal := Ideal.exp (b c lastTok - b c s + i c s - runTop b g a (c + 1))

/-- The state before chunk `c` of what the tokens bring, `x`. -/
def runState (b g a i x : ℕ → Fin 512 → EReal) : ℕ → EReal
  | 0 => 0
  | c + 1 => runOld b g a c * runState b g a i x c + ∑ s, runTok b g a i c s * x c s

/-! ## One stabiliser, over the reals -/

section
variable {n : ℕ} (b m : ℝ) (g a : Fin n → ℝ) (t : Fin n)

theorem gateTop_le (x : ℝ) : gateTop (b : EReal) m (fun s => (g s : EReal)) (fun s => (a s : EReal)) t ≤ x
    ↔ b + m ≤ x ∧ ∀ s ≤ t, b - g s + a s ≤ x := by
  unfold gateTop
  rw [max_le_iff, Finset.sup_le_iff]
  refine and_congr (by norm_cast) ⟨fun h s hs => ?_, fun h s _ => ?_⟩
  · have := h s (Finset.mem_univ _)
    rw [gateLog, if_pos hs] at this
    exact_mod_cast this
  · rw [gateLog]
    split
    · rename_i hs; exact_mod_cast h s hs
    · exact bot_le

theorem gateTop_real : ∃ y : ℝ, gateTop (b : EReal) m (fun s => (g s : EReal)) (fun s => (a s : EReal)) t = y := by
  refine ⟨(gateTop (b : EReal) m (fun s => (g s : EReal)) (fun s => (a s : EReal)) t).toReal, (EReal.coe_toReal ?_ ?_).symm⟩
  · refine ne_of_lt ?_
    unfold gateTop
    refine max_lt (by exact_mod_cast EReal.coe_lt_top (b + m)) ?_
    refine (Finset.sup_lt_iff (bot_lt_top)).2 fun s _ => ?_
    rw [gateLog]
    split
    · exact_mod_cast EReal.coe_lt_top (b - g s + a s)
    · exact bot_lt_top
  · refine ne_of_gt (lt_of_lt_of_le ?_ (le_max_left _ _))
    exact_mod_cast EReal.bot_lt_coe (b + m)
end

/-- Two reals with the same upper bounds are one. -/
theorem eq_of_bounds {u v : EReal} (hu : ∃ y : ℝ, u = y) (hv : ∃ y : ℝ, v = y) (h : ∀ x : ℝ, u ≤ x ↔ v ≤ x) : u = v := by
  obtain ⟨y, rfl⟩ := hu
  obtain ⟨z, rfl⟩ := hv
  exact le_antisymm ((h z).2 le_rfl) ((h y).1 le_rfl)

/-! ## The run -/

/-- The finite gates of a sequence, by chunk and token. -/
abbrev up (f : ℕ → Fin 512 → ℝ) : ℕ → Fin 512 → EReal := fun c s => (f c s : EReal)

/-- The forget gates of all earlier chunks. -/
def before (b : ℕ → Fin 512 → ℝ) (c : ℕ) : ℝ := ∑ c' ∈ Finset.range c, b c' lastTok

theorem before_succ (b : ℕ → Fin 512 → ℝ) (c : ℕ) : before b (c + 1) = before b c + b c lastTok := Finset.sum_range_succ _ _

section
variable (b g a i : ℕ → Fin 512 → ℝ)

theorem runTop_real (c : ℕ) : ∃ y : ℝ, runTop (up b) (up g) (up a) c = y := by
  induction c with
  | zero => exact ⟨0, rfl⟩
  | succ c ih =>
    obtain ⟨y, hy⟩ := ih
    rw [runTop, hy]
    exact gateTop_real _ _ _ _ _

theorem runTop_le (c : ℕ) (x : ℝ) : runTop (up b) (up g) (up a) c ≤ x
    ↔ before b c ≤ x ∧ ∀ c' < c, ∀ s, before b c - (g c' s + before b c') + a c' s ≤ x := by
  induction c generalizing x with
  | zero => simp [runTop, before]
  | succ c ih =>
    obtain ⟨y, hy⟩ := runTop_real b g a c
    rw [runTop, hy, gateTop_le]
    have h := ih (x - b c lastTok)
    rw [hy, EReal.coe_le_coe_iff] at h
    rw [show b c lastTok + y ≤ x ↔ y ≤ x - b c lastTok by constructor <;> intro <;> linarith, h, before_succ]
    constructor
    · rintro ⟨⟨h1, h2⟩, h3⟩
      refine ⟨by linarith, fun c' hc s => ?_⟩
      rcases Nat.lt_succ_iff_lt_or_eq.1 hc with hc | rfl
      · have := h2 c' hc s; linarith
      · have := h3 s (Fin.le_def.2 (by have := s.isLt; show s.val ≤ 511; omega)); linarith
    · rintro ⟨h1, h2⟩
      refine ⟨⟨by linarith, fun c' hc s => ?_⟩, fun s _ => ?_⟩
      · have := h2 c' (by omega) s; linarith
      · have := h2 c (by omega) s; linarith

/-- The stabiliser of a token in the run is that of one pass over the whole sequence. -/
theorem run_top (c : Fin 4) (r : Fin 512) :
    gateTop (b c r : EReal) (runTop (up b) (up g) (up a) c) (up g c) (up a c) r
      = gateTop ((b c r + before b c : ℝ) : EReal) (0 : ℝ)
          (fun u : Fin 2048 => ((g (u.val / 512) ⟨u.val % 512, Nat.mod_lt _ (by decide)⟩ + before b (u.val / 512) : ℝ) : EReal))
          (fun u : Fin 2048 => ((a (u.val / 512) ⟨u.val % 512, Nat.mod_lt _ (by decide)⟩ : ℝ) : EReal))
          ⟨512 * c.val + r.val, by omega⟩ := by
  obtain ⟨y, hy⟩ := runTop_real b g a c
  rw [hy]
  refine eq_of_bounds (gateTop_real _ _ _ _ _) (gateTop_real _ _ _ _ _) fun x => ?_
  rw [gateTop_le, gateTop_le]
  have h := runTop_le b g a c (x - b c r)
  rw [hy, EReal.coe_le_coe_iff] at h
  rw [show b c r + y ≤ x ↔ y ≤ x - b c r by constructor <;> intro <;> linarith, h]
  constructor
  · rintro ⟨⟨h1, h2⟩, h3⟩
    refine ⟨by linarith, fun u hu => ?_⟩
    have hu' : u.val ≤ 512 * c.val + r.val := hu
    rcases Nat.lt_or_ge (u.val / 512) c.val with hc | hc
    · have := h2 _ hc ⟨u.val % 512, Nat.mod_lt _ (by decide)⟩; linarith
    · have e : u.val / 512 = c.val := by omega
      rw [e]
      have := h3 ⟨u.val % 512, Nat.mod_lt _ (by decide)⟩ (Fin.le_def.2 (by show u.val % 512 ≤ r.val; omega)); linarith
  · rintro ⟨h1, h2⟩
    have key : ∀ (c' : ℕ) (hc : c' < 4) (s : Fin 512), 512 * c' + s.val ≤ 512 * c.val + r.val →
        b c r + before b c - (g c' s + before b c') + a c' s ≤ x := fun c' hc s hs => by
      have := h2 ⟨512 * c' + s.val, by omega⟩ hs
      have e : (512 * c' + s.val) / 512 = c' := by omega
      have e' : (⟨(512 * c' + s.val) % 512, Nat.mod_lt _ (by decide)⟩ : Fin 512) = s := Fin.ext (by simp only; omega)
      simp only [e, e'] at this
      exact this
    refine ⟨⟨by linarith, fun c' hc s => ?_⟩, fun s hs => ?_⟩
    · have := key c' (by omega) s (by omega); linarith
    · have := key c c.isLt s (by have : s.val ≤ r.val := hs; omega); linarith

/-- A factor that is a real number and not negative goes into a sum. -/
theorem real_mul_sum {ι : Type*} (S : Finset ι) (f : ι → EReal) (e : ℝ) (he : 0 ≤ e) : (e : EReal) * ∑ j ∈ S, f j = ∑ j ∈ S, (e : EReal) * f j := by
  classical
  induction S using Finset.induction_on with
  | empty => simp
  | insert j S hj ih =>
    rw [Finset.sum_insert hj, Finset.sum_insert hj, ← ih]
    exact EReal.left_distrib_of_nonneg_of_ne_top (by exact_mod_cast he) (EReal.coe_ne_top _) _ _

theorem run_state (x : ℕ → Fin 512 → EReal) (c : ℕ) (M : ℝ) (hM : runTop (up b) (up g) (up a) c = M) :
    runState (up b) (up g) (up a) (up i) x c
      = ∑ c' ∈ Finset.range c, ∑ s, ((Real.exp (before b c - (b c' s + before b c') + i c' s - M) : ℝ) : EReal) * x c' s := by
  induction c generalizing M with
  | zero => simp [runState]
  | succ c ih =>
    obtain ⟨y, hy⟩ := runTop_real b g a c
    rw [runState, ih y hy, Finset.sum_range_succ]
    have ho : runOld (up b) (up g) (up a) c = ((Real.exp (b c lastTok + y - M) : ℝ) : EReal) := by
      unfold runOld
      rw [hy, hM]
      exact_mod_cast Ideal.exp_coe (b c lastTok + y - M)
    have ht : ∀ s, runTok (up b) (up g) (up a) (up i) c s
        = ((Real.exp (before b (c + 1) - (b c s + before b c) + i c s - M) : ℝ) : EReal) := fun s => by
      unfold runTok
      rw [hM, show before b (c + 1) - (b c s + before b c) + i c s - M = b c lastTok - b c s + i c s - M by rw [before_succ]; ring]
      exact_mod_cast Ideal.exp_coe (b c lastTok - b c s + i c s - M)
    rw [ho, real_mul_sum _ _ _ (Real.exp_nonneg _)]
    simp only [ht]
    refine congrArg (· + _) (Finset.sum_congr rfl fun c' _ => ?_)
    rw [real_mul_sum _ _ _ (Real.exp_nonneg _)]
    refine Finset.sum_congr rfl fun s _ => ?_
    rw [← mul_assoc, ← EReal.coe_mul, ← Real.exp_add, before_succ]
    congr 3
    ring

/-- A sum over chunks and their tokens is the sum over the whole sequence. -/
theorem sum_chunks (f : ℕ → Fin 512 → EReal) :
    ∑ c' ∈ Finset.range 4, ∑ s, f c' s = ∑ u : Fin 2048, f (u.val / 512) ⟨u.val % 512, Nat.mod_lt _ (by decide)⟩ := by
  rw [Finset.sum_range]
  rw [← Fintype.sum_prod_type' (fun (c : Fin 4) s => f c.val s)]
  exact (Equiv.sum_comp (finProdFinEquiv (m := 4) (n := 512)).symm (fun p => f p.1.val p.2)).symm

end
end Layer
end
-- ==== Proof.MlsRun.lean ====
/- The run of the mLSTM of the prompt over a sequence's four chunks, in terms of the call's arguments. -/
module

public import proofs.«01_k».proof.Proof.MlsStep
public import proofs.«01_k».proof.Proof.MlsMath

@[expose] public section

set_option maxRecDepth 16384

noncomputable section

open Idealize.ShloMosaic Idealize.ShloMosaic.TcCoe Idealize.SL.Sem
open Idealize.ShloMosaic.Pipeline (Dat)
open Layer

namespace Cert.MlsIdeal.Prompt
open Cert.MlsIdeal Cert.MlsIdeal.Gen

/-- Token `s` of chunk `k` of sequence `n`. -/
abbrev tok (n : Fin 4) (k : ℕ) (s : Fin 512) : Fin 8192 := ⟨(2048 * n.val + 512 * k + s.val) % 8192, Nat.mod_lt _ (by decide)⟩

section
variable (P : FVec Ideal S8192x12288 .f32) (G : FVec Ideal S8192x128 .f32) (T : FVec Ideal S8x8192 .f32) (n : Fin 4) (h : Fin 4)

/-- The forget gates of a sequence and head, cumulated within each chunk, and the input gates. -/
def forgetOf : ℕ → Fin 512 → EReal := fun k s => G (ix2 (tok n k s) (gateCol 4 h (by decide)))
def inputOf : ℕ → Fin 512 → EReal := fun k s => G (ix2 (tok n k s) (gateCol 0 h (by decide)))
/-- The same as the transposed gates have them. -/
def forgetRow : ℕ → Fin 512 → EReal := fun k s => T (ix2 (gateRow 4 h (by decide)) (tok n k s))
def inputRow : ℕ → Fin 512 → EReal := fun k s => T (ix2 (gateRow 0 h (by decide)) (tok n k s))
/-- The scaled keys and the values. -/
def keyOf (y : Fin 512) : ℕ → Fin 512 → EReal := fun k s => P (ix2 (tok n k s) ⟨4096 + 512 * h.val + y.val, by omega⟩) * kscale
def valueOf (x : Fin 512) : ℕ → Fin 512 → EReal := fun k s => P (ix2 (tok n k s) ⟨6144 + 512 * h.val + x.val, by omega⟩)

/-- The stabiliser, the state and the normaliser before chunk `k`. -/
abbrev heldTop (k : ℕ) : EReal := runTop (forgetOf G n h) (forgetRow T n h) (inputRow T n h) k
abbrev heldState (x y : Fin 512) (k : ℕ) : EReal :=
  runState (forgetOf G n h) (forgetRow T n h) (inputRow T n h) (inputOf G n h) (fun k s => valueOf P n h x k s * keyOf P n h y k s) k
abbrev heldNorm (y : Fin 512) (k : ℕ) : EReal :=
  runState (forgetOf G n h) (forgetRow T n h) (inputRow T n h) (inputOf G n h) (keyOf P n h y) k
/-- The stabiliser of row `r` of chunk `k`. -/
abbrev rowTop (k : ℕ) (r : Fin 512) : EReal :=
  gateTop (forgetOf G n h k r) (heldTop G T n h k) (forgetRow T n h k) (inputRow T n h k) r
end

variable (m : (ℓ : Loc nD τ sig) → Buf (Elt Ideal) ℓ)

theorem idx : ∀ t : Fin cfg0.N, win0_1.index t = ![t.val, 2] ∧ win0_2.index t = ![t.val, 3] ∧ win0_3.index t = ![t.val, 0]
    ∧ win0_4.index t = ![0, t.val] := (by decide +kernel : ∀ t : Fin grid0.N, _)

/-- Row `r` of the blocks at point `t`. -/
abbrev at_ (t : Fin cfg0.N) (r : Fin 512) : Fin 8192 := ⟨512 * t.val + r.val, by have := t.isLt; change t.val < 16 at this; omega⟩

theorem rd1 (c : Dev nD) (t : Fin cfg0.N) (x : S512x2048.Idx) :
    iblk m c 1 t x = m ((c : Thread nD τ).loc main_arg0) (ix2 (at_ t (x 0)) ⟨4096 + (x 1).val, by idx_bounds; omega⟩) := by
  blk_ext [iblk, V, idx t]
theorem rd2 (c : Dev nD) (t : Fin cfg0.N) (x : S512x2048.Idx) :
    iblk m c 2 t x = m ((c : Thread nD τ).loc main_arg0) (ix2 (at_ t (x 0)) ⟨6144 + (x 1).val, by idx_bounds; omega⟩) := by
  blk_ext [iblk, V, idx t]
theorem rd3 (c : Dev nD) (t : Fin cfg0.N) (x : S512x128.Idx) :
    iblk m c 3 t x = m ((c : Thread nD τ).loc main_arg1) (ix2 (at_ t (x 0)) (x 1)) := by
  blk_ext [iblk, V, idx t]
theorem rd4 (c : Dev nD) (t : Fin cfg0.N) (x : S8x512.Idx) :
    iblk m c 4 t x = m ((c : Thread nD τ).loc main_arg2) (ix2 (x 0) (at_ t (x 1))) := by
  blk_ext [iblk, V, idx t]

theorem at_tok (t : Fin cfg0.N) (n : Fin 4) (k : ℕ) (ht : t.val = 4 * n.val + k) (r : Fin 512) : at_ t r = tok n k r := by
  refine Fin.ext ?_
  have := t.isLt
  change t.val < 16 at this
  simp only [at_, tok]
  omega

section
variable (c : Dev nD) (t : Fin cfg0.N) (n : Fin 4) (k : ℕ) (ht : t.val = 4 * n.val + k) (S : FVec Ideal S8x128 .f32) (C : FVec Ideal S1x4x512x512 .f32)
  (N : FVec Ideal S1x4x512 .f32) (h : Fin 4)
include ht

theorem topRow_run (hS : S (ix2 (headRow h) 0) = heldTop (m ((c : Thread nD τ).loc main_arg1)) (m ((c : Thread nD τ).loc main_arg2)) n h k) (r : Fin 512) :
    topRow (iblk m c 3 t) (iblk m c 4 t) S h r = rowTop (m ((c : Thread nD τ).loc main_arg1)) (m ((c : Thread nD τ).loc main_arg2)) n h k r := by
  unfold topRow
  simp only [rd3, rd4, hS, ix2_0, ix2_1, at_tok t n k ht]
  rfl

theorem oldOf_run (hS : S (ix2 (headRow h) 0) = heldTop (m ((c : Thread nD τ).loc main_arg1)) (m ((c : Thread nD τ).loc main_arg2)) n h k) :
    oldOf (iblk m c 3 t) (iblk m c 4 t) S h = runOld (forgetOf (m ((c : Thread nD τ).loc main_arg1)) n h) (forgetRow (m ((c : Thread nD τ).loc main_arg2)) n h)
      (inputRow (m ((c : Thread nD τ).loc main_arg2)) n h) k := by
  unfold oldOf
  rw [topRow_run m c t n k ht S h hS, hS, rd3]
  simp only [ix2_0, ix2_1, at_tok t n k ht]
  rfl

theorem tokOf_run (hS : S (ix2 (headRow h) 0) = heldTop (m ((c : Thread nD τ).loc main_arg1)) (m ((c : Thread nD τ).loc main_arg2)) n h k) (s : Fin 512) :
    tokOf (iblk m c 3 t) (iblk m c 4 t) S h s = runTok (forgetOf (m ((c : Thread nD τ).loc main_arg1)) n h) (forgetRow (m ((c : Thread nD τ).loc main_arg2)) n h)
      (inputRow (m ((c : Thread nD τ).loc main_arg2)) n h) (inputOf (m ((c : Thread nD τ).loc main_arg1)) n h) k s := by
  unfold tokOf
  rw [topRow_run m c t n k ht S h hS, rd3, rd3, rd3]
  simp only [ix2_0, ix2_1, at_tok t n k ht]
  rfl

theorem stateOf_run (hS : S (ix2 (headRow h) 0) = heldTop (m ((c : Thread nD τ).loc main_arg1)) (m ((c : Thread nD τ).loc main_arg2)) n h k) (x y : Fin 512)
    (hC : C (ix4 0 h x y) = heldState (m ((c : Thread nD τ).loc main_arg0)) (m ((c : Thread nD τ).loc main_arg1)) (m ((c : Thread nD τ).loc main_arg2)) n h x y k) :
    stateOf (iblk m c 3 t) (iblk m c 4 t) (iblk m c 1 t) (iblk m c 2 t) S C h x y
      = heldState (m ((c : Thread nD τ).loc main_arg0)) (m ((c : Thread nD τ).loc main_arg1)) (m ((c : Thread nD τ).loc main_arg2)) n h x y (k + 1) := by
  unfold stateOf heldState runState
  rw [hC, oldOf_run m c t n k ht S h hS]
  refine congrArg₂ (· + ·) rfl (Finset.sum_congr rfl fun s _ => ?_)
  rw [tokOf_run m c t n k ht S h hS, mul_assoc, rd1, rd2]
  simp only [ix2_0, ix2_1, at_tok t n k ht]
  refine congrArg _ (congrArg₂ (· * ·) ?_ (congrArg₂ (· * ·) ?_ rfl))
  · exact congrArg _ (congrArg₂ ix2 rfl (Fin.ext (by simp only [headCol]; omega)))
  · exact congrArg _ (congrArg₂ ix2 rfl (Fin.ext (by simp only [headCol]; omega)))

theorem normOf_run (hS : S (ix2 (headRow h) 0) = heldTop (m ((c : Thread nD τ).loc main_arg1)) (m ((c : Thread nD τ).loc main_arg2)) n h k) (y : Fin 512)
    (hN : N (ix3 0 h y) = heldNorm (m ((c : Thread nD τ).loc main_arg0)) (m ((c : Thread nD τ).loc main_arg1)) (m ((c : Thread nD τ).loc main_arg2)) n h y k) :
    normOf (iblk m c 3 t) (iblk m c 4 t) (iblk m c 1 t) S N h y
      = heldNorm (m ((c : Thread nD τ).loc main_arg0)) (m ((c : Thread nD τ).loc main_arg1)) (m ((c : Thread nD τ).loc main_arg2)) n h y (k + 1) := by
  unfold normOf heldNorm runState
  rw [hN, oldOf_run m c t n k ht S h hS]
  refine congrArg₂ (· + ·) rfl (Finset.sum_congr rfl fun s _ => ?_)
  rw [tokOf_run m c t n k ht S h hS, rd1]
  simp only [ix2_0, ix2_1, at_tok t n k ht]
  refine congrArg _ (congrArg₂ (· * ·) ?_ rfl)
  exact congrArg _ (congrArg₂ ix2 rfl (Fin.ext (by simp only [headCol]; omega)))
end

/-- What the point of chunk `k` of sequence `n` leaves. -/
structure Held (c : Dev nD) (n : Fin 4) (k : ℕ) (hj : 4 * n.val + k < cfg0.N) : Prop where
  keep : ∀ h : Fin 4, (outsAt0 m c (4 * n.val + k) hj).2.2.2.2 (ix2 (headRow h) 0)
    = heldTop (m ((c : Thread nD τ).loc main_arg1)) (m ((c : Thread nD τ).loc main_arg2)) n h (k + 1)
  tops : ∀ (r : Fin 512) (j : Fin 128), (outsAt0 m c (4 * n.val + k) hj).2.2.2.1 (ix2 r j)
    = if h : j.val < 4 then rowTop (m ((c : Thread nD τ).loc main_arg1)) (m ((c : Thread nD τ).loc main_arg2)) n ⟨j.val, h⟩ k r else k0_pay7 (F := Ideal) (ix2 r j)
  state : ∀ (h : Fin 4) (x y : Fin 512), (outsAt0 m c (4 * n.val + k) hj).2.1 (ix4 0 h x y)
    = heldState (m ((c : Thread nD τ).loc main_arg0)) (m ((c : Thread nD τ).loc main_arg1)) (m ((c : Thread nD τ).loc main_arg2)) n h x y (k + 1)
  norm : ∀ (h : Fin 4) (y : Fin 512), (outsAt0 m c (4 * n.val + k) hj).2.2.1 (ix3 0 h y)
    = heldNorm (m ((c : Thread nD τ).loc main_arg0)) (m ((c : Thread nD τ).loc main_arg1)) (m ((c : Thread nD τ).loc main_arg2)) n h y (k + 1)

/-- From what was there before to what is there after. -/
theorem held_of_step (c : Dev nD) (n : Fin 4) (k : ℕ) (hj : 4 * n.val + k < cfg0.N) (S : FVec Ideal S8x128 .f32) (C : FVec Ideal S1x4x512x512 .f32)
    (N : FVec Ideal S1x4x512 .f32) (st : Step m c ⟨4 * n.val + k, hj⟩ S C N)
    (hS : ∀ h, S (ix2 (headRow h) 0) = heldTop (m ((c : Thread nD τ).loc main_arg1)) (m ((c : Thread nD τ).loc main_arg2)) n h k)
    (hC : ∀ h x y, C (ix4 0 h x y) = heldState (m ((c : Thread nD τ).loc main_arg0)) (m ((c : Thread nD τ).loc main_arg1)) (m ((c : Thread nD τ).loc main_arg2)) n h x y k)
    (hN : ∀ h y, N (ix3 0 h y) = heldNorm (m ((c : Thread nD τ).loc main_arg0)) (m ((c : Thread nD τ).loc main_arg1)) (m ((c : Thread nD τ).loc main_arg2)) n h y k) :
    Held m c n k hj where
  keep h := (st.keep h).trans (topRow_run m c _ n k rfl S h (hS h) last)
  tops r j := (st.tops r j).trans (by
    split
    · exact topRow_run m c _ n k rfl S _ (hS _) r
    · rfl)
  state h x y := (st.state h x y).trans (stateOf_run m c _ n k rfl S C h (hS h) x y (hC h x y))
  norm h y := (st.norm h y).trans (normOf_run m c _ n k rfl S N h (hS h) y (hN h y))

theorem zeroS (i) : k0_pay5 (F := Ideal) i = 0 := by pointwise [k0_pay5]
theorem zeroC (i) : k0_pay3 (F := Ideal) i = 0 := by pointwise [k0_pay3]
theorem zeroN (i) : k0_pay4 (F := Ideal) i = 0 := by pointwise [k0_pay4]

theorem held (c : Dev nD) (n : Fin 4) : ∀ (k : ℕ) (hk : k < 4) (hj : 4 * n.val + k < cfg0.N), Held m c n k hj
  | 0, _, hj => held_of_step m c n 0 hj _ _ _ (first m c ⟨4 * n.val + 0, hj⟩ (by change (4 * n.val + 0) % 4 = 0; omega))
      (fun _ => zeroS _) (fun _ _ _ => zeroC _) (fun _ _ => zeroN _)
  | k + 1, hk, hj => by
    have hj' : 4 * n.val + k < cfg0.N := lt_trans (Nat.lt_succ_self _) hj
    have ih := held c n k (by omega) hj'
    exact held_of_step m c n (k + 1) hj _ _ _ (later m c ⟨4 * n.val + (k + 1), hj⟩ (by change ¬ (4 * n.val + (k + 1)) % 4 = 0; omega) hj')
      ih.keep ih.state ih.norm

end Cert.MlsIdeal.Prompt
end
-- ==== Proof.MlsValue.lean ====
/- What the call for the mLSTM of the prompt leaves in three of its result arrays: the states, the normalisers and the stabilisers. -/
module

public import proofs.«01_k».proof.Proof.MlsRun

@[expose] public section

set_option maxRecDepth 16384

noncomputable section

open Idealize.ShloMosaic Idealize.ShloMosaic.TcCoe Idealize.SL.Sem
open Idealize.ShloMosaic.Pipeline (Dat)
open Layer

namespace Cert.MlsIdeal.Prompt
open Cert.MlsIdeal Cert.MlsIdeal.Gen

section
variable (P : FVec Ideal S8192x12288 .f32) (G : FVec Ideal S8192x128 .f32) (T : FVec Ideal S8x8192 .f32)

/-- The states after the last chunk. -/
def stateArr : FVec Ideal S4x4x512x512 .f32 := fun y => heldState P G T (y 0) (y 1) (y 2) (y 3) 4

/-- The normalisers after the last chunk. -/
def normArr : FVec Ideal S4x4x512 .f32 := fun y => heldNorm P G T (y 0) (y 1) (y 2) 4

/-- The stabiliser of row `i` in column `j`. -/
def topAt (i : Fin 8192) (j : Fin 128) : EReal :=
  if h : j.val < 4 then rowTop G T ⟨i.val / 2048, by omega⟩ ⟨j.val, h⟩ (i.val % 2048 / 512) ⟨i.val % 512, Nat.mod_lt _ (by decide)⟩ else 0

/-- The stabilisers of all rows. -/
def topArr : FVec Ideal S8192x128 .f32 := fun y => topAt G T (y 0) (y 1)
end

variable (m : (ℓ : Loc nD τ sig) → Buf (Elt Ideal) ℓ)

/-- The sequence of a point. -/
abbrev seqOf (t : Fin cfg0.N) : Fin 4 := ⟨t.val / 4, by have := t.isLt; change t.val < 16 at this; omega⟩

theorem held_at (c : Dev nD) (t : Fin cfg0.N) (k : ℕ) (hk : k < 4) (e : t.val = 4 * (seqOf t).val + k) :
    ∃ hj, Held m c (seqOf t) k hj ∧ ∀ hj', outsAt0 m c t.val t.isLt = outsAt0 m c (4 * (seqOf t).val + k) hj' := by
  have hj : 4 * (seqOf t).val + k < cfg0.N := e ▸ t.isLt
  refine ⟨hj, held m c _ k hk hj, fun hj' => ?_⟩
  have : ∀ (a b : ℕ) (ha : a < cfg0.N) (hb : b < cfg0.N), a = b → outsAt0 m c a ha = outsAt0 m c b hb := by
    rintro a b ha hb rfl; rfl
  exact this _ _ _ _ e

theorem point6 (c : Dev nD) (t : Fin cfg0.N) (ht : t.val % 4 = 3) (y : S1x4x512x512.Idx) : (outsAt0 m c t.val t.isLt).2.1 y
    = stateArr (m ((c : Thread nD τ).loc main_arg0)) (m ((c : Thread nD τ).loc main_arg1)) (m ((c : Thread nD τ).loc main_arg2))
      (ix4 (seqOf t) (y 1) (y 2) (y 3)) := by
  obtain ⟨hj, H, e⟩ := held_at m c t 3 (by decide) (by simp only; omega)
  rw [e hj]
  have hy : y = ix4 0 (y 1) (y 2) (y 3) := by
    funext a
    fin_cases a
    · exact Subsingleton.elim (α := Fin 1) _ _
    · rfl
    · rfl
    · rfl
  rw [hy]
  exact H.state (y 1) (y 2) (y 3)

theorem point7 (c : Dev nD) (t : Fin cfg0.N) (ht : t.val % 4 = 3) (y : S1x4x512.Idx) : (outsAt0 m c t.val t.isLt).2.2.1 y
    = normArr (m ((c : Thread nD τ).loc main_arg0)) (m ((c : Thread nD τ).loc main_arg1)) (m ((c : Thread nD τ).loc main_arg2))
      (ix3 (seqOf t) (y 1) (y 2)) := by
  obtain ⟨hj, H, e⟩ := held_at m c t 3 (by decide) (by simp only; omega)
  rw [e hj]
  have hy : y = ix3 0 (y 1) (y 2) := by
    funext a
    fin_cases a
    · exact Subsingleton.elim (α := Fin 1) _ _
    · rfl
    · rfl
  rw [hy]
  exact H.norm (y 1) (y 2)

theorem point8 (c : Dev nD) (t : Fin cfg0.N) (y : S512x128.Idx) : (outsAt0 m c t.val t.isLt).2.2.2.1 y
    = topArr (m ((c : Thread nD τ).loc main_arg1)) (m ((c : Thread nD τ).loc main_arg2)) (ix2 (at_ t (y 0)) (y 1)) := by
  obtain ⟨hj, H, e⟩ := held_at m c t (t.val % 4) (Nat.mod_lt _ (by decide)) (by simp only; omega)
  rw [e hj]
  obtain ⟨r, j, rfl⟩ : ∃ (r : Fin 512) (j : Fin 128), y = ix2 r j := ⟨y 0, y 1, by funext a; fin_cases a <;> rfl⟩
  refine (H.tops r j).trans ?_
  change _ = topAt _ _ (at_ t r) j
  unfold topAt
  have hr := r.isLt
  have e1 : (512 * t.val + r.val) / 2048 = t.val / 4 := by omega
  have e2 : (512 * t.val + r.val) % 2048 / 512 = t.val % 4 := by omega
  have e3 : (512 * t.val + r.val) % 512 = r.val := by omega
  simp only [at_, e1, e2, e3]
  split
  · rfl
  · pointwise [k0_pay7]

theorem outs_idx : ∀ t : Fin cfg0.N, win0_6.index t = ![t.val / 4, 0, 0, 0] ∧ win0_7.index t = ![t.val / 4, 0, 0] ∧ win0_8.index t = ![t.val, 0] :=
  (by decide +kernel : ∀ t : Fin grid0.N, _)

theorem emb6 (t : Fin cfg0.N) (y : S1x4x512x512.Idx) : ((View.whole main_v0_1).slice (win0_6.rect t)).emb y = ix4 (seqOf t) (y 1) (y 2) (y 3) := by
  blk_ext [outs_idx t]
theorem emb7 (t : Fin cfg0.N) (y : S1x4x512.Idx) : ((View.whole main_v0_2).slice (win0_7.rect t)).emb y = ix3 (seqOf t) (y 1) (y 2) := by
  blk_ext [outs_idx t]
theorem emb8 (t : Fin cfg0.N) (y : S512x128.Idx) : ((View.whole main_v0_3).slice (win0_8.rect t)).emb y = ix2 (at_ t (y 0)) (y 1) := by
  blk_ext [outs_idx t]

theorem final6 (c : Dev nD) : (dats m 0 c).arrAt 6 (cfgs 0).N
    = stateArr (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, emb6]; exact point6 m c t ((flush0_6 t).mp hf) y

theorem final7 (c : Dev nD) : (dats m 0 c).arrAt 7 (cfgs 0).N
    = normArr (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7, emb7]; exact point7 m c t ((flush0_7 t).mp hf) y

theorem final8 (c : Dev nD) : (dats m 0 c).arrAt 8 (cfgs 0).N
    = topArr (m ((c : Thread nD τ).loc main_arg1)) (m ((c : Thread nD τ).loc main_arg2)) := by
  refine (dats m 0 c).arrAt_eq_of_covers 8 _ (by decide +kernel) fun t hf y => ?_
  blk_simp
  rw [after0_8, emb8]; exact point8 m c t y

end Cert.MlsIdeal.Prompt
end
-- ==== Proof.RefMls.lean ====
/- The reference for the mLSTM of the prompt gives what the run over the chunks gives, when the gates are finite. -/
module

public import proofs.«01_k».proof.Proof.RefMlsParts
public import proofs.«01_k».proof.Proof.MlsValue

@[expose] public section

set_option maxRecDepth 16384

noncomputable section

open Idealize.ShloMosaic Idealize.ShloMosaic.TcCoe Idealize.SL.Sem
open Idealize.ShloMosaic.Pipeline (Dat)
open Layer

/-- The gates that the mLSTM reads are finite. -/
structure Layer.GatesFinite (G : FVec Ideal (⟨2, ![8192, 128]⟩ : Shape) .f32) (T : FVec Ideal (⟨2, ![8, 8192]⟩ : Shape) .f32) : Prop where
  cols : ∀ (i : Fin 8192) (j : Fin 128), j.val < 8 → ∃ r : ℝ, G (ix2 i j) = (r : EReal)
  rows : ∀ (j : Fin 8) (i : Fin 8192), ∃ r : ℝ, T (ix2 j i) = (r : EReal)

namespace Cert.RefMlsIdeal.Whole
open Cert.RefMlsIdeal Cert.RefMlsIdeal.Gen Cert.RefMlsIdeal.Value
open Cert.MlsIdeal.Prompt (tok forgetOf inputOf forgetRow inputRow keyOf valueOf heldTop heldState heldNorm rowTop stateArr normArr topAt topArr)

/-- The gates of the earlier chunks, as a sum over a mask. -/
theorem before_sum (b : ℕ → Fin 512 → ℝ) (c : Fin 4) :
    (∑ d : Fin 4, if d.val < c.val then ((b d lastTok : ℝ) : EReal) else 0) = (before b c : ℝ) := by
  fin_cases c <;> simp [Fin.sum_univ_four, before, Finset.sum_range_succ]

theorem real_up (f : ℕ → Fin 512 → EReal) (hf : ∀ k s, ∃ r : ℝ, f k s = r) : f = up fun k s => (f k s).toReal := by
  funext k s
  obtain ⟨r, hr⟩ := hf k s
  simp only [up, hr, EReal.toReal_coe]

section
variable (P : FVec Ideal S8192x12288 .f32) (G : FVec Ideal S8192x128 .f32) (T : FVec Ideal S8x8192 .f32)

abbrev beforeRef : FVec Ideal S4x4x4 .f32 := befores (ends (forgets G))
abbrev totalRef : FVec Ideal S4x2048x4 .f32 := totals (forgets G) (beforeRef G)
abbrev topRef : FVec Ideal S4x2048x4 .f32 :=
  tops (headFirst (totalRef G)) (logs (headFirst (totalRef G)) (sources T (beforeRef G)) (inputs T))
abbrev weightRef : FVec Ideal S4x2048x4 .f32 := weights (totalRef G) (inputCols G) (topRef G T)

theorem tok_row (n : Fin 4) (u : Fin 2048) : row n u = tok n (u.val / 512) (within u) := Fin.ext (by simp only [row, tok, within]; omega)
theorem tok_place (n c : Fin 4) (s : Fin 512) : place n c s = tok n c s := Fin.ext (by simp only [place, tok]; omega)

/-- The finite gates of sequence `n` and head `h` as reals. -/
structure Reals (n h : Fin 4) (b i g a : ℕ → Fin 512 → ℝ) : Prop where
  b : forgetOf G n h = up b
  i : inputOf G n h = up i
  g : forgetRow T n h = up g
  a : inputRow T n h = up a

theorem reals (F : GatesFinite G T) (n h : Fin 4) : ∃ b i g a, Reals G T n h b i g a :=
  ⟨_, _, _, _, real_up _ fun k s => F.cols _ _ (by show 4 + h.val < 8; omega), real_up _ fun k s => F.cols _ _ (by show 0 + h.val < 8; omega),
    real_up _ fun k s => F.rows _ _, real_up _ fun k s => F.rows _ _⟩

variable {G T} {n h : Fin 4} {b i g a : ℕ → Fin 512 → ℝ} (R : Reals G T n h b i g a)

include R

theorem before_at (c : Fin 4) : beforeRef G (ix3 n c h) = (before b c : ℝ) := by
  rw [beforeRef, befores_at, ← before_sum]
  refine Finset.sum_congr rfl fun d _ => ?_
  rw [ends_at, forgets_at, tok_place]
  exact congrArg (fun x => if d.val < c.val then x else 0) (congrFun (congrFun R.b d) lastTok)

theorem total_at (u : Fin 2048) : totalRef G (ix3 n u h) = ((b (u.val / 512) (within u) + before b (u.val / 512) : ℝ) : EReal) := by
  rw [totalRef, totals_at, before_at R, forgets_at, tok_place, EReal.coe_add]
  exact congrArg (· + _) (congrFun (congrFun R.b _) _)

theorem source_at (u : Fin 2048) : sources T (beforeRef G) (ix3 h n u) = ((g (u.val / 512) (within u) + before b (u.val / 512) : ℝ) : EReal) := by
  rw [sources_at, before_at R, tok_row, EReal.coe_add]
  exact congrArg (· + _) (congrFun (congrFun R.g _) _)

theorem input_at (u : Fin 2048) : inputs T (ix3 h n u) = ((a (u.val / 512) (within u) : ℝ) : EReal) := by
  rw [inputs_at, tok_row]
  refine Eq.trans (congrArg (fun j => T (ix2 j _)) (Fin.ext ?_)) (congrFun (congrFun R.a _) _)
  simp

theorem inputCol_at (u : Fin 2048) : inputCols G (ix3 n u h) = ((i (u.val / 512) (within u) : ℝ) : EReal) := by
  rw [inputCols_at, tok_row]
  refine Eq.trans (congrArg (fun j => G (ix2 _ j)) (Fin.ext ?_)) (congrFun (congrFun R.i _) _)
  simp

/-- The reference's stabiliser of a row is the run's. -/
theorem topRef_at (u : Fin 2048) : topRef G T (ix3 n u h) = rowTop G T n h (u.val / 512) (within u) := by
  rw [topRef, top_at]
  simp only [headFirst_at, total_at R, source_at R, input_at R]
  have e := run_top b g a (chunk u) (within u)
  rw [show (⟨512 * (chunk u).val + (within u).val, by omega⟩ : Fin 2048) = u from Fin.ext (by simp only [chunk, within]; omega), EReal.coe_zero] at e
  unfold rowTop heldTop
  rw [R.b, R.g, R.a]
  exact e.symm

/-- The reference's weight of a token is the one token `u` has in the run's state. -/
theorem weight_at (M : ℝ) (hM : runTop (up b) (up g) (up a) 4 = M) (u : Fin 2048) : weightRef G T (ix3 n u h)
    = ((Real.exp (before b 4 - (b (u.val / 512) (within u) + before b (u.val / 512)) + i (u.val / 512) (within u) - M) : ℝ) : EReal) := by
  have ht : topRef G T (ix3 n ⟨2047, by decide⟩ h) = M := by
    rw [topRef_at R, ← hM]
    unfold rowTop heldTop
    rw [R.b, R.g, R.a]
    rfl
  have hl : totalRef G (ix3 n ⟨2047, by decide⟩ h) = (before b 4 : ℝ) := by
    rw [total_at R, show before b 4 = before b 3 + b 3 lastTok from before_succ b 3, add_comm (before b 3)]
    rfl
  rw [weightRef, weights_at, ht, hl, total_at R, inputCol_at R]
  exact_mod_cast Ideal.exp_coe _

theorem run_eq (x : ℕ → Fin 512 → EReal) : runState (forgetOf G n h) (forgetRow T n h) (inputRow T n h) (inputOf G n h) x 4
    = ∑ u : Fin 2048, weightRef G T (ix3 n u h) * x (u.val / 512) (within u) := by
  obtain ⟨M, hM⟩ := runTop_real b g a 4
  rw [R.b, R.g, R.a, R.i, run_state b g a i x 4 M hM, sum_chunks]
  exact Finset.sum_congr rfl fun u _ => by rw [weight_at R M hM]

omit R

theorem states_eq (F : GatesFinite G T) : states (weightRef G T) (values P) (keys P) = stateArr P G T := by
  funext z
  obtain ⟨n, h, x, y, rfl⟩ : ∃ (n h : Fin 4) (x y : Fin 512), z = ix4 n h x y := ⟨z 0, z 1, z 2, z 3, by funext a; fin_cases a <;> rfl⟩
  obtain ⟨b, i, g, a, R⟩ := reals G T F n h
  rw [states_at]
  refine Eq.trans (Finset.sum_congr rfl fun u _ => ?_) (run_eq R _).symm
  rw [mul_assoc, values_at, keys_at, tok_row]
  rfl

theorem norms_eq (F : GatesFinite G T) : norms (weightRef G T) (keys P) = normArr P G T := by
  funext z
  obtain ⟨n, h, y, rfl⟩ : ∃ (n h : Fin 4) (y : Fin 512), z = ix3 n h y := ⟨z 0, z 1, z 2, by funext a; fin_cases a <;> rfl⟩
  obtain ⟨b, i, g, a, R⟩ := reals G T F n h
  rw [norms_at]
  refine Eq.trans (Finset.sum_congr rfl fun u _ => ?_) (run_eq R _).symm
  rw [keys_at, tok_row]
  rfl

theorem beside_eq (F : GatesFinite G T) : beside (topRef G T) = topArr G T := by
  funext z
  obtain ⟨r, j, rfl⟩ : ∃ (r : Fin 8192) (j : Fin 128), z = ix2 r j := ⟨z 0, z 1, by funext a; fin_cases a <;> rfl⟩
  rw [beside_at]
  change _ = topAt G T r j
  unfold topAt
  split
  · obtain ⟨b, i, g, a, R⟩ := reals G T F ⟨r.val / 2048, by omega⟩ ⟨j.val, by assumption⟩
    rw [topRef_at R]
    have e : r.val % 2048 % 512 = r.val % 512 := by omega
    simp only [within, e]
  · rfl
end

variable (m : (ℓ : Loc nD τ sig) → Buf (Elt Ideal) ℓ)

theorem ref_state (c : Dev nD) (F : GatesFinite (m ((c : Thread nD τ).loc main_arg1)) (m ((c : Thread nD τ).loc main_arg2))) : res_main_v67 m c
    = stateArr (m ((c : Thread nD τ).loc main_arg0)) (m ((c : Thread nD τ).loc main_arg1)) (m ((c : Thread nD τ).loc main_arg2)) :=
  (show res_main_v67 m c = states (weightRef (m ((c : Thread nD τ).loc main_arg1)) (m ((c : Thread nD τ).loc main_arg2)))
    (values (m ((c : Thread nD τ).loc main_arg0))) (keys (m ((c : Thread nD τ).loc main_arg0))) from rfl).trans (states_eq _ F)

theorem ref_norm (c : Dev nD) (F : GatesFinite (m ((c : Thread nD τ).loc main_arg1)) (m ((c : Thread nD τ).loc main_arg2))) : res_main_v71 m c
    = normArr (m ((c : Thread nD τ).loc main_arg0)) (m ((c : Thread nD τ).loc main_arg1)) (m ((c : Thread nD τ).loc main_arg2)) :=
  (show res_main_v71 m c = norms (weightRef (m ((c : Thread nD τ).loc main_arg1)) (m ((c : Thread nD τ).loc main_arg2)))
    (keys (m ((c : Thread nD τ).loc main_arg0))) from rfl).trans (norms_eq _ F)

theorem ref_top (c : Dev nD) (F : GatesFinite (m ((c : Thread nD τ).loc main_arg1)) (m ((c : Thread nD τ).loc main_arg2))) : res_main_v74 m c
    = topArr (m ((c : Thread nD τ).loc main_arg1)) (m ((c : Thread nD τ).loc main_arg2)) :=
  (show res_main_v74 m c = beside (topRef (m ((c : Thread nD τ).loc main_arg1)) (m ((c : Thread nD τ).loc main_arg2))) from rfl).trans (beside_eq F)

end Cert.RefMlsIdeal.Whole
end
-- ==== Proof.MlsTame.lean ====
/- What the precondition of the mLSTM of the prompt says of the gates' entries. -/
module

public import proofs.«01_k».proof.Proof.RefMls
public import proofs.«01_k».proof.Proof.Finite
public import proofs.«01_k».proof.Pre_gates_tame
public import proofs.«01_k».proof.Defs

@[expose] public section

set_option maxRecDepth 16384

noncomputable section

open Idealize.ShloMosaic Idealize.ShloMosaic.TcCoe

namespace Cert.MlsIdeal.Prompt
open Cert.MlsIdeal Layer

variable [hP : Cert.Pre_gates_tame.Facts] (m : (ℓ : Loc nD τ sig) → Buf (Elt Ideal) ℓ)

instance : Subsingleton Cert.Pre_gates_tame.S_.Idx := ⟨fun a b => funext fun i => i.elim0⟩

theorem finite_of (h : Cert.Pre_MlsIdeal_gates_tame m) (c : Dev nD) :
    GatesFinite (m ((c.tc : Thread nD τ).loc main_arg1)) (m ((c.tc : Thread nD τ).loc main_arg2)) := by
  have e := congrFun (h c) (Shape.Idx.first hP.h_S_)
  obtain ⟨e1, e2⟩ := andi_one _ _ _ e
  have f1 := Host.reduce_andi_all _ _ _ _ _ e1
  have f2 := Host.reduce_andi_all _ _ _ _ _ e2
  refine ⟨fun i j hj => ?_, fun j i => real_of_olt _ (f2 (ix2 j i))⟩
  obtain ⟨r, hr⟩ := real_of_olt _ (f1 (ix2 i ⟨j.val, hj⟩))
  refine ⟨r, Eq.trans ?_ hr⟩
  pointwise []
  blk_ext []

end Cert.MlsIdeal.Prompt
end
-- ==== Proof.MlsClaim.lean ====
/- The two runs of the mLSTM of the prompt, with every result as the same function of the arguments. -/
module

public import proofs.«01_k».proof.Proof.MlsTame
public import proofs.«01_k».proof.Proof.Gen.Pre_gates_tame
public import proofs.«01_k».proof.Proof.Gen.RefMlsIdeal
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.MlsIdeal.Prompt
open Cert.MlsIdeal Cert.MlsIdeal.Gen

variable (m : (ℓ : Loc nD τ sig) → Buf (Elt Ideal) ℓ) (ρ : Dev nD → PrngReg)

/-- The kernel's run: the states, the normalisers and the stabilisers. -/
theorem results : θ_run defs (onTc (τ := τ) (main (F := Ideal))) ⟨m, fun _ => 0, ρ⟩ (fun r => ∀ c : Dev nD,
      r.2.mem ((c.tc : Thread nD τ).loc main_v0_1) = stateArr (m ((c.tc : Thread nD τ).loc main_arg0)) (m ((c.tc : Thread nD τ).loc main_arg1)) (m ((c.tc : Thread nD τ).loc main_arg2))
      ∧ r.2.mem ((c.tc : Thread nD τ).loc main_v0_2) = normArr (m ((c.tc : Thread nD τ).loc main_arg0)) (m ((c.tc : Thread nD τ).loc main_arg1)) (m ((c.tc : Thread nD τ).loc main_arg2))
      ∧ r.2.mem ((c.tc : Thread nD τ).loc main_v0_3) = topArr (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨h5, h6, h7, h8, k⟩ := h c
    exact ⟨h6.trans (final6 m c), h7.trans (final7 m c), h8.trans (final8 m c), k⟩) (Cert.MlsIdeal.Value.run_blocks m ρ)

end Cert.MlsIdeal.Prompt

namespace Cert.RefMlsIdeal.Whole
open Cert.RefMlsIdeal Cert.RefMlsIdeal.Gen
open Cert.MlsIdeal.Prompt (stateArr normArr topArr)

variable (m : (ℓ : Loc nD τ sig) → Buf (Elt Ideal) ℓ) (ρ : Dev nD → PrngReg)

/-- The reference's run, when the gates are finite. -/
theorem results (F : ∀ c : Dev nD, Layer.GatesFinite (m ((c.tc : Thread nD τ).loc main_arg1)) (m ((c.tc : Thread nD τ).loc main_arg2))) :
    θ_run defs (onTc (τ := τ) (main (F := Ideal))) ⟨m, fun _ => 0, ρ⟩ (fun r => ∀ c : Dev nD,
      r.2.mem ((c.tc : Thread nD τ).loc main_v67) = stateArr (m ((c.tc : Thread nD τ).loc main_arg0)) (m ((c.tc : Thread nD τ).loc main_arg1)) (m ((c.tc : Thread nD τ).loc main_arg2))
      ∧ r.2.mem ((c.tc : Thread nD τ).loc main_v71) = normArr (m ((c.tc : Thread nD τ).loc main_arg0)) (m ((c.tc : Thread nD τ).loc main_arg1)) (m ((c.tc : Thread nD τ).loc main_arg2))
      ∧ r.2.mem ((c.tc : Thread nD τ).loc main_v74) = topArr (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨h0, h1, h2, k⟩ := h c
    exact ⟨h0.trans (ref_state m c (F c)), h1.trans (ref_norm m c (F c)), h2.trans (ref_top m c (F c)), k⟩) (Cert.RefMlsIdeal.Value.run m ρ)

end Cert.RefMlsIdeal.Whole

namespace Cert.Proof

theorem frame_ref_mls : Cert.quiescent_RefMlsIdeal (hRefMlsIdeal := Cert.RefMlsIdeal.Gen.facts) := fun m ρ _ =>
  (θ_run Cert.RefMlsIdeal.defs _ _).mono (fun r h => ⟨fun c => (h c).2.2.2, sem_eq_zero_of_no_sems (by decide) r.2⟩)
    (Cert.RefMlsIdeal.Value.run m ρ)

theorem frame_ref_mls_pre : Cert.quiescent_RefMlsIdeal_pre_gates_tame (hRefMlsIdeal := Cert.RefMlsIdeal.Gen.facts)
    (hPre_gates_tame := Cert.Pre_gates_tame.Gen.facts) := fun m ρ _ => frame_ref_mls m ρ trivial

theorem algebraic_mls : Cert.algebraic_MlsIdeal_RefMlsIdeal_pre_gates_tame (hMlsIdeal := Cert.MlsIdeal.Gen.facts)
    (hRefMlsIdeal := Cert.RefMlsIdeal.Gen.facts) (hPre_gates_tame := Cert.Pre_gates_tame.Gen.facts) := by
  pair_intro
  · run_from Cert.MlsIdeal.Prompt.results m g
  · run_from Cert.RefMlsIdeal.Whole.results m' g' fun c => by
      rw [(hagree c).2.1, (hagree c).2.2]; exact Cert.MlsIdeal.Prompt.finite_of m hpre c

end Cert.Proof
end
-- ==== Proof.PoolIdealBody.lean ====
/- The pooling call of the prompt, at any values: what its body leaves in the window of the new state, the last 15 rows of the block of
   rows it pools, and the run of the call with that window's array known. The scratch and the pooled rows are left at some contents. -/
module

public import proofs.«01_k».proof.Proof.Gen.PoolIdeal.Frame
public import proofs.«01_k».proof.Proof.Gen.PoolIdeal.Skeleton
public import Idealize.ShloMosaic.Lib.Pipeline.Frame
public import Idealize.ShloMosaic.Lib.Pipeline.Value
public import Idealize.ShloMosaic.Lib.ValueLayout
public import Idealize.ShloMosaic.Lib.Pointwise
public import Idealize.ShloMosaic.Lib.Tactic
public import Idealize.ShloMosaic.Lib.Claim

@[expose] public section

set_option maxRecDepth 16384

noncomputable section

namespace Cert.PoolIdeal.Carry

open Cert.PoolIdeal Cert.PoolIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The body -/

/-- The condition of the body's branch: the point is the first of its sequence. -/
abbrev opening (i : grid0.Coords) : Prop := (Scalar.cmpi .ne (Scalar.extui (Scalar.cmpi .eq (BitVec.ofNat 32 (i 1).val) 0#32)) 0#32) = 1#1

abbrev scA : Memref sig .tc .vmem S528x1024 .f32 := Memref.whole cc0_scratch0
abbrev scB : Memref sig .tc .vmem S512x1024 .f32 := Memref.whole cc0_scratch1

/-- The last 15 rows of a block. -/
def tail (x : Vec F S512x1024 .f32) : Vec F S1x15x1024 .f32 :=
  fun y => x (ix2 ⟨497 + (y 1).val, by have h : (y 1).val < 15 := (y 1).isLt; omega⟩ (y 2))

/-- Rows 513 to 527 of the scratch, once the block is stored at rows 16 to 527, are the block's last 15 rows. -/
theorem tail_read (x : Vec F S512x1024 .f32) (L : List (View.Piece (Elt F) S528x1024 .f32)) :
    k0_pay12 (scA.view.readCov (⟨Rect.unit ![16, 0] S512x1024.size inb_S528x1024_S512x1024_16_0, k0_pay3 x⟩ :: L)
      (Rect.unit (s := S528x1024) ![513, 0] S15x1024.size inb_S528x1024_S15x1024_513_0).toLoadRect) = tail x := by
  funext y
  obtain ⟨u, i, j, rfl⟩ : ∃ (u : Fin 1) (i : Fin 15) (j : Fin 1024), y = ix3 u i j := ⟨y 0, y 1, y 2, by funext a; fin_cases a <;> rfl⟩
  unfold k0_pay12
  refine (ValueIdx.shapeCast_ab_1ab_apply _ _ u i j).trans ?_
  rw [View.readCov_eq_canon']
  have e : (Rect.unit (s := S528x1024) ![513, 0] S15x1024.size inb_S528x1024_S15x1024_513_0).toLoadRect.idx (ix2 i j)
      = (Rect.unit (s := S528x1024) ![16, 0] S512x1024.size inb_S528x1024_S512x1024_16_0).emb
          (ix2 (⟨497 + i.val, by omega⟩ : Fin 512) j) := by
    funext a; apply Fin.ext; fin_cases a
    · show 513 + 1 * i.val = 16 + 1 * (497 + i.val); omega
    · rfl
  show View.canon _ ((Rect.unit (s := S528x1024) ![513, 0] S15x1024.size inb_S528x1024_S15x1024_513_0).toLoadRect.idx (ix2 i j)) = _
  rw [e]
  refine (View.canon_cons_emb (Val := Elt F) (Rect.unit (s := S528x1024) ![16, 0] S512x1024.size inb_S528x1024_S512x1024_16_0) (k0_pay3 x) L _).trans ?_
  unfold k0_pay3
  exact congrFun (shapeCast_self x _) _

/-- A load of the whole of a block reads the block. -/
theorem read_all (a : Memref sig .tc .vmem S512x1024 .f32) (f : a.view.ty.Contents (Elt F)) :
    View.readAt (Elt F) a.view (Rect.unit ![0, 0] S512x1024.size inb_S512x1024_S512x1024_0_0).toLoadRect f = a.view.read (Elt F) f := by
  funext y
  show a.view.read (Elt F) f _ = _
  congr 1
  funext b; apply Fin.ext; fin_cases b
  · show 0 + 1 * (y 0).val = (y 0).val; omega
  · show 0 + 1 * (y 1).val = (y 1).val; omega

/-- What a store of the whole window leaves in it. -/
theorem stored (a : Memref sig .tc .vmem S1x15x1024 .f32) (f : a.view.ty.Contents (Elt F)) (w : Vec F S1x15x1024 .f32) :
    a.view.read (Elt F) (a.view.writes (Elt F) f [⟨Rect.unit ![0, 0, 0] S1x15x1024.size inb_S1x15x1024_S1x15x1024_0_0_0, w⟩]) = w := by
  funext y
  have e : y = (Rect.unit (s := S1x15x1024) ![0, 0, 0] S1x15x1024.size inb_S1x15x1024_S1x15x1024_0_0_0).emb y := by
    funext b; apply Fin.ext; fin_cases b
    · show (y 0).val = 0 + 1 * (y 0).val; omega
    · show (y 1).val = 0 + 1 * (y 1).val; omega
    · show (y 2).val = 0 + 1 * (y 2).val; omega
  rw [e]
  exact (View.read_writes_cons_emb (Val := Elt F) a.view f (Rect.unit (s := S1x15x1024) ![0, 0, 0] S1x15x1024.size inb_S1x15x1024_S1x15x1024_0_0_0) w [] y).trans (congrArg w e)

set_option maxHeartbeats 4000000 in
/-- The body on any staging buffers: the inputs unchanged, the window of the new state at the block's last 15 rows. -/
theorem body_run (c : Dev nD) (i : grid0.Coords) (arg2 : Memref sig .tc .vmem S512x1024 .f32) (harg2 : arg2.IsWhole)
    (arg3 : Memref sig .tc .vmem S512x1024 .f32) (harg3 : arg3.IsWhole) (arg4 : Memref sig .tc .vmem S1x15x1024 .f32) (harg4 : arg4.IsWhole)
    (arg5 : Memref sig .tc .vmem S4x256x256 .bf16) (harg5 : arg5.IsWhole) (arg6 : Memref sig .tc .vmem S1x1024 .f32) (harg6 : arg6.IsWhole)
    (arg7 : Memref sig .tc .vmem S512x1024 .bf16) (harg7 : arg7.IsWhole) (arg8 : Memref sig .tc .vmem S1x15x1024 .f32) (harg8 : arg8.IsWhole)
    (x0 : Vec F S512x1024 .f32) (x1 : Vec F S512x1024 .f32) (x2 : Vec F S1x15x1024 .f32) (x3 : Vec F S4x256x256 .bf16)
    (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (∃ d, owns (c : Thread nD τ) scA fullShare d) ∗ (∃ d, owns (c : Thread nD τ) scB fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ owns (c : Thread nD τ) arg8 fullShare (tail x0)
            ∗ (∃ d, owns (c : Thread nD τ) scA fullShare d) ∗ (∃ d, owns (c : Thread nD τ) scB fullShare d)) -∗ K ⟨⟩))
      ⊢ wp frame (wpE (defs₀ (F := F)) Variants.none c none) Set.univ
          (cc0_pool_branch i arg2 harg2 arg3 harg3 arg4 harg4 arg5 harg5 arg6 harg6 arg7 harg7 arg8 harg8 scA (Memref.isWhole_whole _) scB (Memref.isWhole_whole _)) K := by
  simp only [cc0_pool_branch_eq_skeleton]; unfold cc0_pool_branch_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, Hk⟩
  subst hf0 hf1 hf2 hf3 hf4
  by_cases hc0 : opening i
  · sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _, _; isplitr; swap; · iexact H5
      ipureintro; rfl
    isplitl [H6]
    · iexists _; isplitr; swap; · iexact H6
      ipureintro
      refine (stored _ _ _).trans ?_
      exact (tail_read _ _).trans (congrArg tail (read_all arg2 f0))
    isplitl [HS0]
    · iexists _, _; isplitr; swap; · iexact HS0
      ipureintro; rfl
    iexists _, _; isplitr; swap; · iexact HS1
    ipureintro; rfl
  · sl_exec (disch := first | sl_exact hc0)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists _, _; isplitr; swap; · iexact H5
      ipureintro; rfl
    isplitl [H6]
    · iexists _; isplitr; swap; · iexact H6
      ipureintro
      refine (stored _ _ _).trans ?_
      exact (tail_read _ _).trans (congrArg tail (read_all arg2 f0))
    isplitl [HS0]
    · iexists _, _; isplitr; swap; · iexact HS0
      ipureintro; rfl
    iexists _, _; isplitr; swap; · iexact HS1
    ipureintro; rfl

/-! ## The proof data -/

variable (m : (ℓ : Loc nD τ sig) → Buf (Elt F) ℓ) (ρ : Dev nD → PrngReg)

/-- The window of the pooled rows is forgotten: nothing here reads what the body leaves in it. -/
def forgets : Fin 7 → Bool := fun w => w == 5

/-- The proof data on core `c`: each input's window at its block, the window of the new state at the last rows of the block pooled. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => tail (iblk m c 0 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_6 (c : Dev nD) (t : Fin cfg0.N) : (dats m 0 c).after 6 t = tail (iblk m c 0 t) := by dsimp only [dats]

theorem before_0 (c : Dev nD) (t : Fin cfg0.N) (d) : (dats m 0 c).before 0 t d = iblk m c 0 t := before0_0_of m _ (A_eq m c 0) (after_0 m c) t d
theorem before_1 (c : Dev nD) (t : Fin cfg0.N) (d) : (dats m 0 c).before 1 t d = iblk m c 1 t := before0_1_of m _ (A_eq m c 1) (after_1 m c) t d
theorem before_2 (c : Dev nD) (t : Fin cfg0.N) (d) : (dats m 0 c).before 2 t d = iblk m c 2 t := before0_2_of m _ (A_eq m c 2) (after_2 m c) t d
theorem before_3 (c : Dev nD) (t : Fin cfg0.N) (d) : (dats m 0 c).before 3 t d = iblk m c 3 t := before0_3_of m _ (A_eq m c 3) (after_3 m c) t d
theorem before_4 (c : Dev nD) (t : Fin cfg0.N) (d) : (dats m 0 c).before 4 t d = iblk m c 4 t := before0_4_of m _ (A_eq m c 4) (after_4 m c) t d

abbrev ms_0 (t : Fin cfg0.N) : Memref sig .tc .vmem S512x1024 .f32 := win0_0.stage (cfg0.slots t 0)
abbrev ms_1 (t : Fin cfg0.N) : Memref sig .tc .vmem S512x1024 .f32 := win0_1.stage (cfg0.slots t 1)
abbrev ms_2 (t : Fin cfg0.N) : Memref sig .tc .vmem S1x15x1024 .f32 := win0_2.stage (cfg0.slots t 2)
abbrev ms_3 (t : Fin cfg0.N) : Memref sig .tc .vmem S4x256x256 .bf16 := win0_3.stage (cfg0.slots t 3)
abbrev ms_4 (t : Fin cfg0.N) : Memref sig .tc .vmem S1x1024 .f32 := win0_4.stage (cfg0.slots t 4)
abbrev ms_5 (t : Fin cfg0.N) : Memref sig .tc .vmem S512x1024 .bf16 := win0_5.stage (cfg0.slots t 5)
abbrev ms_6 (t : Fin cfg0.N) : Memref sig .tc .vmem S1x15x1024 .f32 := win0_6.stage (cfg0.slots t 6)

/-- The invariant: both scratch buffers at some contents, the generator register at some state. -/
theorem inv_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare d)
    ∗ (∃ d, owns (c : Thread nD τ) (ms_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ (∃ d, owns (c : Thread nD τ) (ms_5 t) fullShare d)
    ∗ owns (c : Thread nD τ) (ms_6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_6,
    show (dats m 0 c).Φ t.succ = Pipeline.ΦA spec0 c from rfl, show (dats m 0 c).Φ t.castSucc = Pipeline.ΦA spec0 c from rfl, inv_eq]
  iintro ⟨⟨⟨HA, HB⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HA]; · iexact HA
  isplitl [HB]; · iexact HB
  iintro ⟨H0, H1, H2, H3, H4, H5, H6, HA, HB⟩
  isplitl [HA HB Hg]
  · isplitl [HA HB]
    · isplitl [HA]; · iexact HA
      iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The run -/

/-- What is known of the buffers at the end. -/
abbrev Post (r : PUnit × MemSt nD τ sig (Elt F)) : Prop :=
  Pipeline.RDat.FramePost (cfgs 0) (fun c => (dats m 0 c).toRForget forgets) (V m) r ∧ r.2.sem = fun _ => 0

set_option backward.isDefEq.respectTransparency.types false in
theorem run_main : θ_run defs (onTc (τ := τ) (main (F := F))) (s₀ m ρ) (Post m) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

variable {m} in
/-- The arguments end unchanged. -/
theorem unchanged {r : PUnit × MemSt nD τ sig (Elt F)} (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(Pipeline.RDat.FramePost.arr_in h.1 c 1 rfl).trans (V_main_arg0 m c),
    ((h.1 c).2 main_arg1 (Pipeline.mem_restRefs_of main_arg1 (by decide) (by decide))).trans (V_main_arg1 m c),
    (Pipeline.RDat.FramePost.arr_in h.1 c 4 rfl).trans (V_main_arg2 m c)⟩

variable {m} in
/-- The array of the new state ends at what the windows' write-backs leave. -/
theorem state_arr {r : PUnit × MemSt nD τ sig (Elt F)} (h : Post m r) (c : Dev nD) :
    r.2.mem ((c.tc : Thread nD τ).loc main_v2_1) = (dats m 0 c).arrAt 6 (cfgs 0).N :=
  ((dats m 0 c).toRForget_arrAt_iff (by decide) _ _).mp ((h.1 c).1 6)

/-- The run terminates, its arguments end unchanged, and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨unchanged h, h.2⟩) (run_main m ρ)

end Cert.PoolIdeal.Carry
end
-- ==== Proof.PoolClaim.lean ====
/- The pooling branch's state that the prompt leaves: the last 15 rows of each sequence, by the kernel's run and by the reference's. -/
module

public import proofs.«01_k».proof.Proof.PoolIdealBody
public import proofs.«01_k».proof.Proof.PoolBody
public import proofs.«01_k».proof.Proof.Gen.RefPoolIdeal
public import proofs.«01_k».proof.Proof.Gen.RefPoolIdeal.Run
public import proofs.«01_k».proof.Defs
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.PoolIdeal.Carry
open Cert.PoolIdeal Cert.PoolIdeal.Gen

/-- The last 15 rows of each sequence's 2048, of the first 1024 columns. -/
def lastRows (P : FVec Ideal S8192x12288 .f32) : FVec Ideal S4x15x1024 .f32 :=
  fun y => P (ix2 ⟨2048 * (y 0).val + 2033 + (y 1).val, by
      have h0 : (y 0).val < 4 := (y 0).isLt
      have h1 : (y 1).val < 15 := (y 1).isLt
      omega⟩ ⟨(y 2).val, (show (y 2).val < 1024 from (y 2).isLt).trans (by decide)⟩)

variable (m : (ℓ : Loc nD τ sig) → Buf (Elt Ideal) ℓ) (ρ : Dev nD → PrngReg)

theorem idx : ∀ t : Fin cfg0.N, win0_0.index t = ![t.val, 0] ∧ win0_6.index t = ![t.val / 4, 0, 0] :=
  (by decide +kernel : ∀ t : Fin grid0.N, _)

/-- The block pooled at a point, read at an index. -/
theorem rd0 (c : Dev nD) (t : Fin cfg0.N) (x : S512x1024.Idx) :
    iblk m c 0 t x = m ((c : Thread nD τ).loc main_arg0) (ix2 ⟨512 * t.val + (x 0).val, by
      have h : t.val < 16 := t.isLt
      have h0 : (x 0).val < 512 := (x 0).isLt
      omega⟩ ⟨(x 1).val, (show (x 1).val < 1024 from (x 1).isLt).trans (by decide)⟩) := by
  blk_ext [iblk, V_main_arg0, idx t]

theorem emb6 (t : Fin cfg0.N) (y : S1x15x1024.Idx) : ((View.whole main_v2_1).slice (win0_6.rect t)).emb y
    = ix3 ⟨t.val / 4, by have := t.isLt; change t.val < 16 at this; omega⟩ (y 1) (y 2) := by
  blk_ext [idx t]

theorem final6 (c : Dev nD) : (dats m 0 c).arrAt 6 (cfgs 0).N = lastRows (m ((c : Thread nD τ).loc main_arg0)) := by
  refine (dats m 0 c).arrAt_eq_of_covers 6 _ (by decide +kernel) fun t hf y => ?_
  blk_simp
  rw [after_6, emb6]
  have ht := (flush0_6 t).mp hf
  unfold tail lastRows
  rw [rd0]
  congr 2
  apply Fin.ext
  show 512 * t.val + (497 + (y 1).val) = 2048 * (t.val / 4) + 2033 + (y 1).val
  omega

/-- The kernel's run. -/
theorem results : θ_run defs (onTc (τ := τ) (main (F := Ideal))) ⟨m, fun _ => 0, ρ⟩ (fun r => ∀ c : Dev nD,
      r.2.mem ((c.tc : Thread nD τ).loc main_v2_1) = lastRows (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(state_arr h c).trans (final6 m c), unchanged h c⟩) (run_main m ρ)

end Cert.PoolIdeal.Carry

namespace Cert.RefPoolIdeal.Whole
open Cert.RefPoolIdeal Cert.RefPoolIdeal.Gen
open Cert.PoolIdeal.Carry (lastRows)

/-- The reference's state: zeros before the rows, of which the last 15 are kept. -/
theorem ref_last (P : FVec Ideal S8192x12288 .f32) :
    extractStridedSlice S4x15x1024 ![0, 2048, 0] (concatenate S4x2063x1024 1
      [⟨S4x15x1024, broadcastInDim S4x15x1024 ![] bcast_S_S4x15x1024 (constant (F := Ideal) S_ .f32 0x00000000#32)⟩,
        ⟨S4x2048x1024, shapeCast _ (extractStridedSlice S8192x1024 ![0, 0] P slices_S8192x12288_S8192x1024_0_0) shapeCasts_S8192x1024_S4x2048x1024⟩]
      concatenates_S4x15x1024_S4x2048x1024_S4x2063x1024_d1) slices_S4x2063x1024_S4x15x1024_0_2048_0 = lastRows P := by
  funext j
  pointwise [lastRows]
  rw [dif_neg (by omega)]
  congr 2
  apply Fin.ext
  show (j 0).val * 2048 + (2048 + (j 1).val - 15) = 2048 * (j 0).val + 2033 + (j 1).val
  omega

variable (m : (ℓ : Loc nD τ sig) → Buf (Elt Ideal) ℓ) (ρ : Dev nD → PrngReg)

/-- The reference's run. -/
theorem results : θ_run defs (onTc (τ := τ) (main (F := Ideal))) ⟨m, fun _ => 0, ρ⟩ (fun r => ∀ c : Dev nD,
      r.2.mem ((c.tc : Thread nD τ).loc main_v4) = lastRows (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (ref_last _), (h c).2⟩) (Cert.RefPoolIdeal.Value.run m ρ)

end Cert.RefPoolIdeal.Whole

namespace Cert.Proof

theorem frame_ref_pool : Cert.quiescent_RefPoolIdeal (hRefPoolIdeal := Cert.RefPoolIdeal.Gen.facts) := fun m ρ _ =>
  (θ_run Cert.RefPoolIdeal.defs _ _).mono (fun r h => ⟨fun c => (h c).2, sem_eq_zero_of_no_sems (by decide) r.2⟩)
    (Cert.RefPoolIdeal.Value.run m ρ)

theorem algebraic_pool : Cert.algebraic_PoolIdeal_RefPoolIdeal (hPoolIdeal := Cert.PoolIdeal.Gen.facts)
    (hRefPoolIdeal := Cert.RefPoolIdeal.Gen.facts) := by
  pair_intro
  · run_from Cert.PoolIdeal.Carry.results m g
  · run_from Cert.RefPoolIdeal.Whole.results m' g'

end Cert.Proof
end
-- ==== Proof.PoolNewIdealBody.lean ====
/- The pooling call of the sample rows, at any values: its loop over 32 sequences, what it leaves in the window of the new state — the last 7 rows
   of each sequence's old state and then its 8 rows — and the run of the call with that window's array known. The scratch and the pooled rows
   are left at some contents. -/
module

public import proofs.«01_k».proof.Proof.Gen.PoolNewIdeal.Frame
public import proofs.«01_k».proof.Proof.Gen.PoolNewIdeal.Skeleton
public import Idealize.ShloMosaic.Lib.Pipeline.Frame
public import Idealize.ShloMosaic.Lib.Pipeline.Value
public import Idealize.ShloMosaic.Lib.ValueLayout
public import Idealize.ShloMosaic.Lib.WritesUnit
public import Idealize.ShloMosaic.Lib.Pointwise
public import Idealize.ShloMosaic.Lib.Tactic
public import Idealize.ShloMosaic.Lib.Claim

@[expose] public section

set_option maxRecDepth 16384

noncomputable section

namespace Cert.PoolNewIdeal.Carry

open Cert.PoolNewIdeal Cert.PoolNewIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The loop -/

abbrev scA : Memref sig .tc .vmem S24x1024 .f32 := Memref.whole cc0_scratch0
abbrev scB : Memref sig .tc .vmem S256x1024 .f32 := Memref.whole cc0_scratch1

theorem trips_eq : k0_t1_loop.trips = 32 := by decide +kernel
theorem off1_eq : ∀ k : Fin k0_t1_loop.trips, k0_off1 k = ![k.val, 0, 0] := by decide +kernel
theorem off2_eq : ∀ k : Fin k0_t1_loop.trips, k0_off2 k = ![8 * k.val, 0] := by decide +kernel

/-- The last 7 of a sequence's 15 old rows, then its 8 rows of the block. -/
def tail (x : Vec F S256x1024 .f32) (b : Vec F S32x15x1024 .f32) : Vec F S32x15x1024 .f32 :=
  fun y => if h : (y 1).val < 7 then b (ix3 (y 0) ⟨8 + (y 1).val, by omega⟩ (y 2))
    else x (ix2 ⟨8 * (y 0).val + ((y 1).val - 7), by
      have h0 : (y 0).val < 32 := (y 0).isLt
      have h1 : (y 1).val < 15 := (y 1).isLt
      omega⟩ (y 2))

/-- Before trip `k`: the two inputs read as they were, the first `k` sequences' states done, the scratch at some contents. -/
def inv (c : Dev nD) (arg2 : Memref sig .tc .vmem S256x1024 .f32) (arg4 : Memref sig .tc .vmem S32x15x1024 .f32)
    (arg8 : Memref sig .tc .vmem S32x15x1024 .f32) (x0 : Vec F S256x1024 .f32) (x2 : Vec F S32x15x1024 .f32) (k : Nat) (_ : Unit) : sProp 𝕄 :=
  iprop(owns (c : Thread nD τ) arg2 fullShare x0 ∗ owns (c : Thread nD τ) arg4 fullShare x2
    ∗ (∃ d, ⌜∀ y : S32x15x1024.Idx, (y 0).val < k → d y = tail x0 x2 y⌝ ∗ owns (c : Thread nD τ) arg8 fullShare d)
    ∗ (∃ d, owns (c : Thread nD τ) scA fullShare d) ∗ (∃ d, owns (c : Thread nD τ) scB fullShare d))

/-- Rows 9 to 23 of the scratch, once a sequence's old state is stored at rows 1 to 15 and its rows of the block at rows 16 to 23. -/
theorem seq_read (k : Fin k0_t1_loop.trips) (arg2 : Memref sig .tc .vmem S256x1024 .f32) (arg4 : Memref sig .tc .vmem S32x15x1024 .f32)
    (f0 : arg2.view.ty.Contents (Elt F)) (f2 : arg4.view.ty.Contents (Elt F)) (L : List (View.Piece (Elt F) S24x1024 .f32))
    (u : Fin 1) (i : Fin 15) (j : Fin 1024) :
    k0_pay11 (scA.view.readCov (⟨Rect.unit ![16, 0] S8x1024.size inb_S24x1024_S8x1024_16_0,
          k0_pay3 (View.readAt (Elt F) arg2.view (Rect.unit (s := S256x1024) (k0_off2 k) S8x1024.size (k0_off2_inb k)).toLoadRect f0)⟩
        :: ⟨Rect.unit ![1, 0] S15x1024.size inb_S24x1024_S15x1024_1_0,
          k0_pay2 (View.readAt (Elt F) arg4.view (Rect.unit (s := S32x15x1024) (k0_off1 k) S1x15x1024.size (k0_off1_inb k)).toLoadRect f2)⟩ :: L)
      (Rect.unit (s := S24x1024) ![9, 0] S15x1024.size inb_S24x1024_S15x1024_9_0).toLoadRect) (ix3 u i j)
      = tail (arg2.view.read (Elt F) f0) (arg4.view.read (Elt F) f2) (ix3 (⟨k.val, k.isLt.trans_eq trips_eq⟩ : Fin 32) i j) := by
  have hk : k.val < 32 := k.isLt.trans_eq trips_eq
  unfold k0_pay11
  refine (ValueIdx.shapeCast_ab_1ab_apply _ _ u i j).trans ?_
  rw [View.readCov_eq_canon']
  show View.canon _ ((Rect.unit (s := S24x1024) ![9, 0] S15x1024.size inb_S24x1024_S15x1024_9_0).toLoadRect.idx (ix2 i j)) = _
  unfold tail
  by_cases hi : i.val < 7
  · rw [dif_pos (show ((ix3 (⟨k.val, hk⟩ : Fin 32) i j : S32x15x1024.Idx) 1).val < 7 from hi)]
    rw [View.canon_cons_of_not_mem _ _ (Rect.not_mem_set_of_axis _ _ (0 : Fin 2) 16 8 rfl rfl rfl
      (.inl (show 9 + 1 * i.val < 16 by omega)))]
    have e : (Rect.unit (s := S24x1024) ![9, 0] S15x1024.size inb_S24x1024_S15x1024_9_0).toLoadRect.idx (ix2 i j)
        = (Rect.unit (s := S24x1024) ![1, 0] S15x1024.size inb_S24x1024_S15x1024_1_0).emb (ix2 (⟨8 + i.val, by omega⟩ : Fin 15) j) := by
      funext a; apply Fin.ext; fin_cases a
      · show 9 + 1 * i.val = 1 + 1 * (8 + i.val); omega
      · rfl
    rw [e]
    refine (View.canon_cons_emb (Val := Elt F) (Rect.unit (s := S24x1024) ![1, 0] S15x1024.size inb_S24x1024_S15x1024_1_0) _ L _).trans ?_
    unfold k0_pay2
    refine (congrFun (shapeCast_self _ _) _).trans ?_
    refine (ValueIdx.shapeCast_1ab_ab_apply _ _ _ j).trans ?_
    show arg4.view.read (Elt F) f2 _ = _
    congr 1
    have o0 : k0_off1 k 0 = k.val := congrFun (off1_eq k) 0
    have o1 : k0_off1 k 1 = 0 := congrFun (off1_eq k) 1
    have o2 : k0_off1 k 2 = 0 := congrFun (off1_eq k) 2
    funext a; apply Fin.ext; fin_cases a
    · show k0_off1 k 0 + 1 * 0 = k.val; omega
    · show k0_off1 k 1 + 1 * (8 + i.val) = 8 + i.val; omega
    · show k0_off1 k 2 + 1 * j.val = j.val; omega
  · rw [dif_neg (show ¬ ((ix3 (⟨k.val, hk⟩ : Fin 32) i j : S32x15x1024.Idx) 1).val < 7 from hi)]
    have e : (Rect.unit (s := S24x1024) ![9, 0] S15x1024.size inb_S24x1024_S15x1024_9_0).toLoadRect.idx (ix2 i j)
        = (Rect.unit (s := S24x1024) ![16, 0] S8x1024.size inb_S24x1024_S8x1024_16_0).emb (ix2 (⟨i.val - 7, by omega⟩ : Fin 8) j) := by
      funext a; apply Fin.ext; fin_cases a
      · show 9 + 1 * i.val = 16 + 1 * (i.val - 7); omega
      · rfl
    rw [e]
    refine (View.canon_cons_emb (Val := Elt F) (Rect.unit (s := S24x1024) ![16, 0] S8x1024.size inb_S24x1024_S8x1024_16_0) _ _ _).trans ?_
    unfold k0_pay3
    refine (congrFun (shapeCast_self _ _) _).trans ?_
    show arg2.view.read (Elt F) f0 _ = _
    congr 1
    have o0 : k0_off2 k 0 = 8 * k.val := congrFun (off2_eq k) 0
    have o1 : k0_off2 k 1 = 0 := congrFun (off2_eq k) 1
    funext a; apply Fin.ext; fin_cases a
    · show k0_off2 k 0 + 1 * (i.val - 7) = 8 * k.val + (i.val - 7); omega
    · show k0_off2 k 1 + 1 * j.val = j.val; omega

set_option maxHeartbeats 4000000 in
/-- A trip. -/
theorem trip (c : Dev nD) (i : grid0.Coords) (arg2 : Memref sig .tc .vmem S256x1024 .f32) (harg2 : arg2.IsWhole)
    (arg3 : Memref sig .tc .vmem S256x1024 .f32) (harg3 : arg3.IsWhole) (arg4 : Memref sig .tc .vmem S32x15x1024 .f32) (harg4 : arg4.IsWhole)
    (arg5 : Memref sig .tc .vmem S4x256x256 .bf16) (harg5 : arg5.IsWhole) (arg6 : Memref sig .tc .vmem S1x1024 .f32) (harg6 : arg6.IsWhole)
    (arg7 : Memref sig .tc .vmem S256x1024 .bf16) (harg7 : arg7.IsWhole) (arg8 : Memref sig .tc .vmem S32x15x1024 .f32) (harg8 : arg8.IsWhole)
    (arg1 : BitVec 32) (x0 : Vec F S256x1024 .f32) (x2 : Vec F S32x15x1024 .f32) (k : Fin k0_t1_loop.trips) (u : Unit) :
    inv c arg2 arg4 arg8 x0 x2 k.val u
      ⊢ wp frame (wpE (defs₀ (F := F)) Variants.none c none) Set.univ
          (k0_t1_body i arg2 harg2 arg3 harg3 arg4 harg4 arg5 harg5 arg6 harg6 arg7 harg7 arg8 harg8 scA (Memref.isWhole_whole _) scB (Memref.isWhole_whole _) arg1 k u)
          (inv c arg2 arg4 arg8 x0 x2 (k.val + 1)) := by
  unfold inv k0_t1_body
  simp only [k0_part1_eq_skeleton, k0_part2_eq_skeleton, k0_part3_eq_skeleton, k0_part4_eq_skeleton]
  unfold owns
  iintro ⟨⟨%f0, %hf0, H0⟩, ⟨%f2, %hf2, H2⟩, ⟨%d6, %hd6, %f6, %hf6, H6⟩, ⟨%ds0, %fs0, -, HS0⟩, ⟨%ds1, %fs1, -, HS1⟩⟩
  subst hf0 hf2 hf6
  sl_exec
  sl_step
  isplitl [H0]
  · iexists f0; isplitr; · ipureintro; rfl
    iexact H0
  isplitl [H2]
  · iexists f2; isplitr; · ipureintro; rfl
    iexact H2
  isplitl [H6]
  · iexists _; isplitr; swap
    · iexists _; isplitr; swap; · iexact H6
      ipureintro; rfl
    ipureintro
    intro y hy
    by_cases hyk : (y 0).val < k.val
    · refine (View.read_writes_cons_unit_of_not_mem arg8.view f6 (k0_off1_inb k) _ [] y (off1_eq k) (0 : Fin 3) (.inl hyk)).trans ?_
      exact hd6 y hyk
    · have hk : k.val < 32 := k.isLt.trans_eq trips_eq
      have e0 : (y 0).val = k.val := by omega
      have ey : y = ix3 (⟨k.val, hk⟩ : Fin 32) (y 1) (y 2) := by
        funext a; fin_cases a
        · exact Fin.ext e0
        · rfl
        · rfl
      refine (View.read_writes_cons_unit_of_mem arg8.view f6 (k0_off1_inb k) _ [] y (ix3 (0 : Fin 1) (y 1) (y 2)) (off1_eq k) ?_).trans ?_
      · intro a; fin_cases a
        · show (y 0).val = k.val + 0; omega
        · show (y 1).val = 0 + (y 1).val; omega
        · show (y 2).val = 0 + (y 2).val; omega
      · refine (seq_read k arg2 arg4 f0 f2 _ (0 : Fin 1) (y 1) (y 2)).trans ?_
        exact congrArg (tail _ _) ey.symm
  isplitl [HS0]
  · iexists _, _; isplitr; swap; · iexact HS0
    ipureintro; rfl
  iexists _, _; isplitr; swap; · iexact HS1
  ipureintro; rfl

/-! ## The body -/

set_option maxHeartbeats 4000000 in
/-- The body on any staging buffers: the inputs unchanged, the window of the new state at the last 15 rows of each sequence. -/
theorem body_run (c : Dev nD) (i : grid0.Coords) (arg2 : Memref sig .tc .vmem S256x1024 .f32) (harg2 : arg2.IsWhole)
    (arg3 : Memref sig .tc .vmem S256x1024 .f32) (harg3 : arg3.IsWhole) (arg4 : Memref sig .tc .vmem S32x15x1024 .f32) (harg4 : arg4.IsWhole)
    (arg5 : Memref sig .tc .vmem S4x256x256 .bf16) (harg5 : arg5.IsWhole) (arg6 : Memref sig .tc .vmem S1x1024 .f32) (harg6 : arg6.IsWhole)
    (arg7 : Memref sig .tc .vmem S256x1024 .bf16) (harg7 : arg7.IsWhole) (arg8 : Memref sig .tc .vmem S32x15x1024 .f32) (harg8 : arg8.IsWhole)
    (x0 : Vec F S256x1024 .f32) (x1 : Vec F S256x1024 .f32) (x2 : Vec F S32x15x1024 .f32) (x3 : Vec F S4x256x256 .bf16)
    (x4 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d) ∗ (∃ d, owns (c : Thread nD τ) arg8 fullShare d)
        ∗ (∃ d, owns (c : Thread nD τ) scA fullShare d) ∗ (∃ d, owns (c : Thread nD τ) scB fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ (∃ d, owns (c : Thread nD τ) arg7 fullShare d) ∗ owns (c : Thread nD τ) arg8 fullShare (tail x0 x2)
            ∗ (∃ d, owns (c : Thread nD τ) scA fullShare d) ∗ (∃ d, owns (c : Thread nD τ) scB fullShare d)) -∗ K ⟨⟩))
      ⊢ wp frame (wpE (defs₀ (F := F)) Variants.none c none) Set.univ
          (cc0_pool_branch i arg2 harg2 arg3 harg3 arg4 harg4 arg5 harg5 arg6 harg6 arg7 harg7 arg8 harg8 scA (Memref.isWhole_whole _) scB (Memref.isWhole_whole _)) K := by
  simp only [cc0_pool_branch_eq_skeleton]; unfold cc0_pool_branch_skel
  simp only [k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, %hf6, H6⟩, ⟨%ds0, %fs0, %hs0, HS0⟩, ⟨%ds1, %fs1, %hs1, HS1⟩, Hk⟩
  subst hf0 hf1 hf2 hf3 hf4
  sl_exec
  sl_for (inv c arg2 arg4 arg8 (arg2.view.read (Elt F) f0) (arg4.view.read (Elt F) f2)) $$ [H0 H2 H6 HS0 HS1]
  case region =>
    intro k a
    exact trip c i arg2 harg2 arg3 harg3 arg4 harg4 arg5 harg5 arg6 harg6 arg7 harg7 arg8 harg8 _ _ _ k a
  · unfold inv owns
    isplitl [H0]
    · iexists f0; isplitr; · ipureintro; rfl
      iexact H0
    isplitl [H2]
    · iexists f2; isplitr; · ipureintro; rfl
      iexact H2
    isplitl [H6]
    · iexists d6; isplitr
      · ipureintro; intro y hy; exact absurd hy (Nat.not_lt_zero _)
      iexists f6; isplitr; · ipureintro; exact hf6
      iexact H6
    isplitl [HS0]
    · iexists ds0, fs0; isplitr; · ipureintro; exact hs0
      iexact HS0
    iexists ds1, fs1; isplitr; · ipureintro; exact hs1
    iexact HS1
  iintro %a HI
  unfold inv owns
  icases HI with ⟨⟨%g0, %hg0, H0⟩, ⟨%g2, %hg2, H2⟩, ⟨%e6, %he6, %g6, %hg6, H6⟩, ⟨%es0, %gs0, -, HS0⟩, ⟨%es1, %gs1, -, HS1⟩⟩
  sl_exec
  sl_step
  iapply Hk
  isplitl [H0]
  · iexists g0; isplitr; · ipureintro; exact hg0
    iexact H0
  isplitl [H1]
  · iexists f1; isplitr; · ipureintro; rfl
    iexact H1
  isplitl [H2]
  · iexists g2; isplitr; · ipureintro; exact hg2
    iexact H2
  isplitl [H3]
  · iexists f3; isplitr; · ipureintro; rfl
    iexact H3
  isplitl [H4]
  · iexists f4; isplitr; · ipureintro; rfl
    iexact H4
  isplitl [H5]
  · iexists _, _; isplitr; swap; · iexact H5
    ipureintro; rfl
  isplitl [H6]
  · iexists g6; isplitr; swap; · iexact H6
    ipureintro
    rw [hg6]
    funext y
    exact he6 y ((y 0).isLt.trans_eq trips_eq.symm)
  isplitl [HS0]
  · iexists _, gs0; isplitr; swap; · iexact HS0
    ipureintro; rfl
  iexists _, _; isplitr; swap; · iexact HS1
  ipureintro; rfl

/-! ## The proof data -/

variable (m : (ℓ : Loc nD τ sig) → Buf (Elt F) ℓ) (ρ : Dev nD → PrngReg)

/-- The window of the pooled rows is forgotten: nothing here reads what the body leaves in it. -/
def forgets : Fin 7 → Bool := fun w => w == 5

/-- The proof data on core `c`: each input's window at its block, the window of the new state at the last rows of each sequence pooled. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Pipeline.Dat.unnamed (cfg := cfg0) 5 t
    | ⟨6, _⟩ => tail (iblk m c 0 t) (iblk m c 2 t)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_6 (c : Dev nD) (t : Fin cfg0.N) : (dats m 0 c).after 6 t = tail (iblk m c 0 t) (iblk m c 2 t) := by dsimp only [dats]

theorem before_0 (c : Dev nD) (t : Fin cfg0.N) (d) : (dats m 0 c).before 0 t d = iblk m c 0 t := before0_0_of m _ (A_eq m c 0) (after_0 m c) t d
theorem before_1 (c : Dev nD) (t : Fin cfg0.N) (d) : (dats m 0 c).before 1 t d = iblk m c 1 t := before0_1_of m _ (A_eq m c 1) (after_1 m c) t d
theorem before_2 (c : Dev nD) (t : Fin cfg0.N) (d) : (dats m 0 c).before 2 t d = iblk m c 2 t := before0_2_of m _ (A_eq m c 2) (after_2 m c) t d
theorem before_3 (c : Dev nD) (t : Fin cfg0.N) (d) : (dats m 0 c).before 3 t d = iblk m c 3 t := before0_3_of m _ (A_eq m c 3) (after_3 m c) t d
theorem before_4 (c : Dev nD) (t : Fin cfg0.N) (d) : (dats m 0 c).before 4 t d = iblk m c 4 t := before0_4_of m _ (A_eq m c 4) (after_4 m c) t d

abbrev ms_0 (t : Fin cfg0.N) : Memref sig .tc .vmem S256x1024 .f32 := win0_0.stage (cfg0.slots t 0)
abbrev ms_1 (t : Fin cfg0.N) : Memref sig .tc .vmem S256x1024 .f32 := win0_1.stage (cfg0.slots t 1)
abbrev ms_2 (t : Fin cfg0.N) : Memref sig .tc .vmem S32x15x1024 .f32 := win0_2.stage (cfg0.slots t 2)
abbrev ms_3 (t : Fin cfg0.N) : Memref sig .tc .vmem S4x256x256 .bf16 := win0_3.stage (cfg0.slots t 3)
abbrev ms_4 (t : Fin cfg0.N) : Memref sig .tc .vmem S1x1024 .f32 := win0_4.stage (cfg0.slots t 4)
abbrev ms_5 (t : Fin cfg0.N) : Memref sig .tc .vmem S256x1024 .bf16 := win0_5.stage (cfg0.slots t 5)
abbrev ms_6 (t : Fin cfg0.N) : Memref sig .tc .vmem S32x15x1024 .f32 := win0_6.stage (cfg0.slots t 6)

/-- The invariant: both scratch buffers at some contents, the generator register at some state. -/
theorem inv_eq (c : Dev nD) :
    (Pipeline.ΦA spec0 c : sProp 𝕄)
      = iprop(iprop((∃ d, owns (c : Thread nD τ) scA fullShare d) ∗ (∃ d, owns (c : Thread nD τ) scB fullShare d)) ∗ (∃ r, prngReg c r)) := by
  unfold Pipeline.ΦA; rw [scopedRest0_eq]; simp only [scA, scB, owns_whole]; try rfl

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare d)
    ∗ (∃ d, owns (c : Thread nD τ) (ms_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ (∃ d, owns (c : Thread nD τ) (ms_5 t) fullShare d)
    ∗ owns (c : Thread nD τ) (ms_6 t) fullShare ((dats m 0 c).after 6 t))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_6,
    show (dats m 0 c).Φ t.succ = Pipeline.ΦA spec0 c from rfl, show (dats m 0 c).Φ t.castSucc = Pipeline.ΦA spec0 c from rfl, inv_eq]
  iintro ⟨⟨⟨HA, HB⟩, Hg⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HA]; · iexact HA
  isplitl [HB]; · iexact HB
  iintro ⟨H0, H1, H2, H3, H4, H5, H6, HA, HB⟩
  isplitl [HA HB Hg]
  · isplitl [HA HB]
    · isplitl [HA]; · iexact HA
      iexact HB
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-! ## The run -/

/-- What is known of the buffers at the end. -/
abbrev Post (r : PUnit × MemSt nD τ sig (Elt F)) : Prop :=
  Pipeline.RDat.FramePost (cfgs 0) (fun c => (dats m 0 c).toRForget forgets) (V m) r ∧ r.2.sem = fun _ => 0

set_option backward.isDefEq.respectTransparency.types false in
theorem run_main : θ_run defs (onTc (τ := τ) (main (F := F))) (s₀ m ρ) (Post m) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

variable {m} in
/-- The arguments end unchanged. -/
theorem unchanged {r : PUnit × MemSt nD τ sig (Elt F)} (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(Pipeline.RDat.FramePost.arr_in h.1 c 1 rfl).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    (Pipeline.RDat.FramePost.arr_in h.1 c 4 rfl).trans (V_main_arg3 m c)⟩

variable {m} in
/-- The array of the new state ends at what the windows' write-backs leave. -/
theorem state_arr {r : PUnit × MemSt nD τ sig (Elt F)} (h : Post m r) (c : Dev nD) :
    r.2.mem ((c.tc : Thread nD τ).loc main_v2_1) = (dats m 0 c).arrAt 6 (cfgs 0).N :=
  ((dats m 0 c).toRForget_arrAt_iff (by decide) _ _).mp ((h.1 c).1 6)

/-- The run terminates, its arguments end unchanged, and every semaphore reads zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨unchanged h, h.2⟩) (run_main m ρ)

end Cert.PoolNewIdeal.Carry
end
-- ==== Proof.PoolNewClaim.lean ====
/- The pooling branch's state that the sample rows leave: of each sequence the last 7 old rows and then its 8, by the kernel's run and by the
   reference's. -/
module

public import proofs.«01_k».proof.Proof.PoolNewIdealBody
public import proofs.«01_k».proof.Proof.PoolNewBody
public import proofs.«01_k».proof.Proof.Gen.RefPoolNewIdeal
public import proofs.«01_k».proof.Proof.Gen.RefPoolNewIdeal.Run
public import proofs.«01_k».proof.Defs
public import Idealize.ShloMosaic.Lib.Pipeline.ValueKit
public import Idealize.ShloMosaic.Lib.Pointwise
public import Idealize.ShloMosaic.Lib.Claim
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.PoolNewIdeal.Carry
open Cert.PoolNewIdeal Cert.PoolNewIdeal.Gen

/-- Of each of the 128 sequences: the last 7 of its 15 old rows, then its 8 rows' first 1024 columns. -/
def newRows (P : FVec Ideal S1024x12288 .f32) (S : FVec Ideal S1x128x15x1024 .f32) : FVec Ideal S128x15x1024 .f32 :=
  fun y => if h : (y 1).val < 7 then S (ix4 (0 : Fin 1) (y 0) ⟨8 + (y 1).val, by omega⟩ (y 2))
    else P (ix2 ⟨8 * (y 0).val + ((y 1).val - 7), by
      have h0 : (y 0).val < 128 := (y 0).isLt
      have h1 : (y 1).val < 15 := (y 1).isLt
      omega⟩ ⟨(y 2).val, (show (y 2).val < 1024 from (y 2).isLt).trans (by decide)⟩)

variable (m : (ℓ : Loc nD τ sig) → Buf (Elt Ideal) ℓ) (ρ : Dev nD → PrngReg)

theorem idx : ∀ t : Fin cfg0.N, win0_0.index t = ![t.val, 0] ∧ win0_2.index t = ![t.val, 0, 0] ∧ win0_6.index t = ![t.val, 0, 0] :=
  (by decide +kernel : ∀ t : Fin grid0.N, _)

/-- The old state as the call finds it: the argument's one batch. -/
theorem V_main_v0 (c : Dev nD) : V m c main_v0
    = shapeCast S128x15x1024 (m ((c : Thread nD τ).loc main_arg1) : FVec Ideal S1x128x15x1024 .f32) shapeCasts_S1x128x15x1024_S128x15x1024 := by
  unfold V
  after_results <;> rfl

/-- The blocks read at a point, at an index. -/
theorem rd0 (c : Dev nD) (t : Fin cfg0.N) (x : S256x1024.Idx) :
    iblk m c 0 t x = m ((c : Thread nD τ).loc main_arg0) (ix2 ⟨256 * t.val + (x 0).val, by
      have h : t.val < 4 := t.isLt
      have h0 : (x 0).val < 256 := (x 0).isLt
      omega⟩ ⟨(x 1).val, (show (x 1).val < 1024 from (x 1).isLt).trans (by decide)⟩) := by
  blk_ext [iblk, V_main_arg0, idx t]

theorem rd2v (c : Dev nD) (t : Fin cfg0.N) (x : S32x15x1024.Idx) :
    iblk m c 2 t x = V m c main_v0 (ix3 (⟨32 * t.val + (x 0).val, by
      have h : t.val < 4 := t.isLt
      have h0 : (x 0).val < 32 := (x 0).isLt
      omega⟩ : Fin 128) (x 1) (x 2)) := by
  blk_ext [iblk, idx t]

theorem rd2 (c : Dev nD) (t : Fin cfg0.N) (x : S32x15x1024.Idx) :
    iblk m c 2 t x = m ((c : Thread nD τ).loc main_arg1) (ix4 (0 : Fin 1) (⟨32 * t.val + (x 0).val, by
      have h : t.val < 4 := t.isLt
      have h0 : (x 0).val < 32 := (x 0).isLt
      omega⟩ : Fin 128) (x 1) (x 2)) := by
  rw [rd2v, V_main_v0]
  exact ValueIdx.shapeCast_1abc_abc_apply _ _ _ _ _

theorem emb6 (t : Fin cfg0.N) (y : S32x15x1024.Idx) : ((View.whole main_v2_1).slice (win0_6.rect t)).emb y
    = ix3 (⟨32 * t.val + (y 0).val, by
      have h : t.val < 4 := t.isLt
      have h0 : (y 0).val < 32 := (y 0).isLt
      omega⟩ : Fin 128) (y 1) (y 2) := by
  blk_ext [idx t]

theorem final6 (c : Dev nD) : (dats m 0 c).arrAt 6 (cfgs 0).N
    = newRows (m ((c : Thread nD τ).loc main_arg0)) (m ((c : Thread nD τ).loc main_arg1)) := by
  refine (dats m 0 c).arrAt_eq_of_covers 6 _ (by decide +kernel) fun t hf y => ?_
  blk_simp
  rw [after_6, emb6]
  obtain ⟨j, i, ch, rfl⟩ : ∃ (j : Fin 32) (i : Fin 15) (ch : Fin 1024), y = ix3 j i ch := ⟨y 0, y 1, y 2, by funext a; fin_cases a <;> rfl⟩
  show tail (iblk m c 0 t) (iblk m c 2 t) (ix3 j i ch) = newRows _ _ (ix3 (⟨32 * t.val + j.val, _⟩ : Fin 128) i ch)
  unfold tail newRows
  by_cases hi : i.val < 7
  · refine (dif_pos hi).trans (Eq.trans ?_ (dif_pos hi).symm)
    exact rd2 m c t _
  · refine (dif_neg hi).trans (Eq.trans ?_ (dif_neg hi).symm)
    refine (rd0 m c t _).trans ?_
    congr 2
    apply Fin.ext
    show 256 * t.val + (8 * j.val + (i.val - 7)) = 8 * (32 * t.val + j.val) + (i.val - 7)
    omega

/-- The kernel's run. -/
theorem results : θ_run defs (onTc (τ := τ) (main (F := Ideal))) ⟨m, fun _ => 0, ρ⟩ (fun r => ∀ c : Dev nD,
      r.2.mem ((c.tc : Thread nD τ).loc main_v2_1) = newRows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(state_arr h c).trans (final6 m c), unchanged h c⟩) (run_main m ρ)

end Cert.PoolNewIdeal.Carry

namespace Cert.RefPoolNewIdeal.Whole
open Cert.RefPoolNewIdeal Cert.RefPoolNewIdeal.Gen
open Cert.PoolNewIdeal.Carry (newRows)

/-- The reference's state: the old rows, then the 8 new ones, of which the last 15 are kept. -/
theorem ref_new (P : FVec Ideal S1024x12288 .f32) (S : FVec Ideal S1x128x15x1024 .f32) :
    extractStridedSlice S128x15x1024 ![0, 8, 0] (concatenate S128x23x1024 1
      [⟨S128x15x1024, shapeCast _ S shapeCasts_S1x128x15x1024_S128x15x1024⟩,
        ⟨S128x8x1024, shapeCast _ (extractStridedSlice S1024x1024 ![0, 0] P slices_S1024x12288_S1024x1024_0_0) shapeCasts_S1024x1024_S128x8x1024⟩]
      concatenates_S128x15x1024_S128x8x1024_S128x23x1024_d1) slices_S128x23x1024_S128x15x1024_0_8_0 = newRows P S := by
  funext j
  pointwise [newRows]
  by_cases hi : (j 1).val < 7
  · rw [dif_pos hi, dif_pos (by omega)]
  · rw [dif_neg hi, dif_neg (by omega)]
    congr 2
    apply Fin.ext
    show (j 0).val * 8 + (8 + (j 1).val - 15) = 8 * (j 0).val + ((j 1).val - 7)
    omega

variable (m : (ℓ : Loc nD τ sig) → Buf (Elt Ideal) ℓ) (ρ : Dev nD → PrngReg)

/-- The reference's run. -/
theorem results : θ_run defs (onTc (τ := τ) (main (F := Ideal))) ⟨m, fun _ => 0, ρ⟩ (fun r => ∀ c : Dev nD,
      r.2.mem ((c.tc : Thread nD τ).loc main_v4) = newRows (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (ref_new _ _), (h c).2⟩) (Cert.RefPoolNewIdeal.Value.run m ρ)

end Cert.RefPoolNewIdeal.Whole

namespace Cert.Proof

theorem frame_ref_pool_new : Cert.quiescent_RefPoolNewIdeal (hRefPoolNewIdeal := Cert.RefPoolNewIdeal.Gen.facts) := fun m ρ _ =>
  (θ_run Cert.RefPoolNewIdeal.defs _ _).mono (fun r h => ⟨fun c => (h c).2, sem_eq_zero_of_no_sems (by decide) r.2⟩)
    (Cert.RefPoolNewIdeal.Value.run m ρ)

theorem algebraic_pool_new : Cert.algebraic_PoolNewIdeal_RefPoolNewIdeal (hPoolNewIdeal := Cert.PoolNewIdeal.Gen.facts)
    (hRefPoolNewIdeal := Cert.RefPoolNewIdeal.Gen.facts) := by
  pair_intro
  · run_from Cert.PoolNewIdeal.Carry.results m g
  · run_from Cert.RefPoolNewIdeal.Whole.results m' g'

end Cert.Proof
end
-- ==== Proof.lean ====
module

public import proofs.«01_k».proof.Proof.Gen.Sample
public import proofs.«01_k».proof.Proof.Gen.Sample.Skeleton
public import proofs.«01_k».proof.Proof.Gen.Sample.Launch
public import proofs.«01_k».proof.Proof.Gen.Sample.Points
public import proofs.«01_k».proof.Proof.Gen.Sample.Frame
public import proofs.«01_k».proof.Proof.Gen.SampleIdeal
public import proofs.«01_k».proof.Proof.Gen.SampleIdeal.Skeleton
public import proofs.«01_k».proof.Proof.Gen.SampleIdeal.Launch
public import proofs.«01_k».proof.Proof.Gen.SampleIdeal.Points
public import proofs.«01_k».proof.Proof.Gen.SampleIdeal.Frame
public import proofs.«01_k».proof.Proof.Gen.RefSampleIdeal
public import proofs.«01_k».proof.Proof.Gen.RefSampleIdeal.Run
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.RefPromptIdeal
public import proofs.«01_k».proof.Proof.Gen.RefPromptIdeal.Run
public import proofs.«01_k».proof.Proof.Gen.Pre_prompt_tame
public import proofs.«01_k».proof.Proof.Gen.Short
public import proofs.«01_k».proof.Proof.Gen.Short.Skeleton
public import proofs.«01_k».proof.Proof.Gen.Short.Launch
public import proofs.«01_k».proof.Proof.Gen.Short.Points
public import proofs.«01_k».proof.Proof.Gen.Short.Frame
public import proofs.«01_k».proof.Proof.Gen.ShortIdeal
public import proofs.«01_k».proof.Proof.Gen.ShortIdeal.Skeleton
public import proofs.«01_k».proof.Proof.Gen.ShortIdeal.Launch
public import proofs.«01_k».proof.Proof.Gen.ShortIdeal.Points
public import proofs.«01_k».proof.Proof.Gen.ShortIdeal.Frame
public import proofs.«01_k».proof.Proof.Gen.ShortIdeal.Value
public import proofs.«01_k».proof.Proof.Gen.RefShortIdeal
public import proofs.«01_k».proof.Proof.Gen.RefShortIdeal.Run
public import proofs.«01_k».proof.Proof.Gen.Mls
public import proofs.«01_k».proof.Proof.Gen.Mls.Skeleton
public import proofs.«01_k».proof.Proof.Gen.Mls.Launch
public import proofs.«01_k».proof.Proof.Gen.Mls.Points
public import proofs.«01_k».proof.Proof.Gen.Mls.Frame
public import proofs.«01_k».proof.Proof.Gen.MlsIdeal
public import proofs.«01_k».proof.Proof.Gen.MlsIdeal.Skeleton
public import proofs.«01_k».proof.Proof.Gen.MlsIdeal.Launch
public import proofs.«01_k».proof.Proof.Gen.MlsIdeal.Points
public import proofs.«01_k».proof.Proof.Gen.MlsIdeal.Frame
public import proofs.«01_k».proof.Proof.Gen.MlsIdeal.Value
public import proofs.«01_k».proof.Proof.Gen.RefMlsIdeal
public import proofs.«01_k».proof.Proof.Gen.RefMlsIdeal.Run
public import proofs.«01_k».proof.Proof.Gen.Pool
public import proofs.«01_k».proof.Proof.Gen.PoolNew
public import proofs.«01_k».proof.Proof.Gen.Pool.Skeleton
public import proofs.«01_k».proof.Proof.Gen.PoolNew.Skeleton
public import proofs.«01_k».proof.Proof.Gen.Pool.Launch
public import proofs.«01_k».proof.Proof.Gen.PoolNew.Launch
public import proofs.«01_k».proof.Proof.Gen.Pool.Points
public import proofs.«01_k».proof.Proof.Gen.PoolNew.Points
public import proofs.«01_k».proof.Proof.Gen.Pool.Frame
public import proofs.«01_k».proof.Proof.Gen.PoolNew.Frame
public import proofs.«01_k».proof.Proof.Gen.PoolIdeal
public import proofs.«01_k».proof.Proof.Gen.PoolNewIdeal
public import proofs.«01_k».proof.Proof.Gen.PoolIdeal.Skeleton
public import proofs.«01_k».proof.Proof.Gen.PoolNewIdeal.Skeleton
public import proofs.«01_k».proof.Proof.Gen.PoolIdeal.Launch
public import proofs.«01_k».proof.Proof.Gen.PoolNewIdeal.Launch
public import proofs.«01_k».proof.Proof.Gen.PoolIdeal.Points
public import proofs.«01_k».proof.Proof.Gen.PoolNewIdeal.Points
public import proofs.«01_k».proof.Proof.Gen.PoolIdeal.Frame
public import proofs.«01_k».proof.Proof.Gen.PoolNewIdeal.Frame
public import proofs.«01_k».proof.Proof.Gen.RefPoolIdeal
public import proofs.«01_k».proof.Proof.Gen.RefPoolNewIdeal
public import proofs.«01_k».proof.Proof.Gen.RefPoolIdeal.Run
public import proofs.«01_k».proof.Proof.Gen.RefPoolNewIdeal.Run
public import proofs.«01_k».proof.Proof.Gen.Pre_gates_tame
public import proofs.«01_k».proof.Defs
public import proofs.«01_k».proof.Proof.Gen.InA
public import proofs.«01_k».proof.Proof.Gen.InA.Skeleton
public import proofs.«01_k».proof.Proof.Gen.InA.Launch
public import proofs.«01_k».proof.Proof.Gen.InA.Points
public import proofs.«01_k».proof.Proof.Gen.InA.Frame
public import proofs.«01_k».proof.Proof.Gen.InAIdeal
public import proofs.«01_k».proof.Proof.Gen.InAIdeal.Skeleton
public import proofs.«01_k».proof.Proof.Gen.InAIdeal.Launch
public import proofs.«01_k».proof.Proof.Gen.InAIdeal.Points
public import proofs.«01_k».proof.Proof.Gen.InAIdeal.Frame
public import proofs.«01_k».proof.Proof.Gen.RefInAIdeal
public import proofs.«01_k».proof.Proof.Gen.InB
public import proofs.«01_k».proof.Proof.Gen.InB.Skeleton
public import proofs.«01_k».proof.Proof.Gen.InB.Launch
public import proofs.«01_k».proof.Proof.Gen.InB.Points
public import proofs.«01_k».proof.Proof.Gen.InB.Frame
public import proofs.«01_k».proof.Proof.Gen.InBIdeal
public import proofs.«01_k».proof.Proof.Gen.InBIdeal.Skeleton
public import proofs.«01_k».proof.Proof.Gen.InBIdeal.Launch
public import proofs.«01_k».proof.Proof.Gen.InBIdeal.Points
public import proofs.«01_k».proof.Proof.Gen.InBIdeal.Frame
public import proofs.«01_k».proof.Proof.Gen.RefInBIdeal
public import proofs.«01_k».proof.Proof.Gen.MemKv
public import proofs.«01_k».proof.Proof.Gen.MemKv.Skeleton
public import proofs.«01_k».proof.Proof.Gen.MemKv.Launch
public import proofs.«01_k».proof.Proof.Gen.MemKv.Points
public import proofs.«01_k».proof.Proof.Gen.MemKv.Frame
public import proofs.«01_k».proof.Proof.Gen.MemKvIdeal
public import proofs.«01_k».proof.Proof.Gen.MemKvIdeal.Skeleton
public import proofs.«01_k».proof.Proof.Gen.MemKvIdeal.Launch
public import proofs.«01_k».proof.Proof.Gen.MemKvIdeal.Points
public import proofs.«01_k».proof.Proof.Gen.MemKvIdeal.Frame
public import proofs.«01_k».proof.Proof.Gen.RefMemKvIdeal
public import proofs.«01_k».proof.Proof.Gen.InAIdeal.Value
public import proofs.«01_k».proof.Proof.Gen.InBIdeal.Value
public import proofs.«01_k».proof.Proof.Gen.MemKvIdeal.Value
public import proofs.«01_k».proof.Proof.Gen.RefInAIdeal.Run
public import proofs.«01_k».proof.Proof.Gen.RefInBIdeal.Run
public import proofs.«01_k».proof.Proof.Gen.RefMemKvIdeal.Run
public import proofs.«01_k».proof.Proof.InAValue
public import proofs.«01_k».proof.Proof.InBValue
public import proofs.«01_k».proof.Proof.MemKvValue
public import proofs.«01_k».proof.Proof.SampleClaim
public import proofs.«01_k».proof.Proof.PromptClaim
public import proofs.«01_k».proof.Proof.ShortStat
public import proofs.«01_k».proof.Proof.RefShort
public import proofs.«01_k».proof.Proof.MlsClaim
public import proofs.«01_k».proof.Proof.PoolClaim
public import proofs.«01_k».proof.Proof.PoolNewClaim
public import proofs.«01_k».proof.Proof.Gen.Pre_sample_tame
public import Idealize.ShloMosaic.Adequacy
public import Idealize.ShloMosaic.Init

@[expose] public section

noncomputable section

namespace Cert.Proof

open Idealize.ShloMosaic Idealize.SL.Sem Cert.InA

theorem frame_ref_ina : Cert.quiescent_RefInAIdeal (hRefInAIdeal := Cert.RefInAIdeal.Gen.facts) := fun m ρ _ =>
  (θ_run Cert.RefInAIdeal.defs _ _).mono (fun r h => ⟨fun c => (h c).2.2, sem_eq_zero_of_no_sems (by decide) r.2⟩)
    (Cert.RefInAIdeal.Value.run m ρ)

theorem frame_ref_inb : Cert.quiescent_RefInBIdeal (hRefInBIdeal := Cert.RefInBIdeal.Gen.facts) := fun m ρ _ =>
  (θ_run Cert.RefInBIdeal.defs _ _).mono (fun r h => ⟨fun c => (h c).2.2, sem_eq_zero_of_no_sems (by decide) r.2⟩)
    (Cert.RefInBIdeal.Value.run m ρ)

theorem frame_ref_memkv : Cert.quiescent_RefMemKvIdeal (hRefMemKvIdeal := Cert.RefMemKvIdeal.Gen.facts) := fun m ρ _ =>
  (θ_run Cert.RefMemKvIdeal.defs _ _).mono (fun r h => ⟨fun c => (h c).2.2, sem_eq_zero_of_no_sems (by decide) r.2⟩)
    (Cert.RefMemKvIdeal.Value.run m ρ)

theorem algebraic_a : Cert.algebraic_InAIdeal_RefInAIdeal (hInAIdeal := Cert.InAIdeal.Gen.facts) (hRefInAIdeal := Cert.RefInAIdeal.Gen.facts) := by
  pair_intro
  · run_from Cert.InAIdeal.Value.run_blocks m g
  · run_from Cert.RefInAIdeal.Value.run m' g'
    · exact (Cert.RefInAIdeal.Proj.ref_proj _ _).trans (Cert.InAIdeal.Proj.final2 m c).symm
    · exact (Cert.RefInAIdeal.Proj.ref_rows _).trans (Cert.InAIdeal.Proj.final3 m c).symm

theorem algebraic_b : Cert.algebraic_InBIdeal_RefInBIdeal (hInBIdeal := Cert.InBIdeal.Gen.facts) (hRefInBIdeal := Cert.RefInBIdeal.Gen.facts) := by
  pair_intro
  · run_from Cert.InBIdeal.Value.run_blocks m g
  · run_from Cert.RefInBIdeal.Value.run m' g'
    · exact (Cert.RefInBIdeal.Proj.ref_proj _ _).trans (Cert.InBIdeal.Proj.final2 m c).symm
    · exact (Cert.RefInBIdeal.Proj.ref_rows _).trans (Cert.InBIdeal.Proj.final3 m c).symm

theorem algebraic_memkv : Cert.algebraic_MemKvIdeal_RefMemKvIdeal (hMemKvIdeal := Cert.MemKvIdeal.Gen.facts) (hRefMemKvIdeal := Cert.RefMemKvIdeal.Gen.facts) := by
  pair_intro
  · run_from Cert.MemKvIdeal.Value.run_blocks m g
  · run_from Cert.RefMemKvIdeal.Value.run m' g'
    · exact (Cert.MemKvIdeal.Memory.final3 m c).symm
    · exact (Cert.MemKvIdeal.Memory.final4 m c).symm

theorem frame_ref_short : Cert.quiescent_RefShortIdeal (hRefShortIdeal := Cert.RefShortIdeal.Gen.facts) := fun m ρ _ =>
  (θ_run Cert.RefShortIdeal.defs _ _).mono (fun r h => ⟨fun c => (h c).2.2, sem_eq_zero_of_no_sems (by decide) r.2⟩)
    (Cert.RefShortIdeal.Value.run m ρ)

theorem algebraic_short : Cert.algebraic_ShortIdeal_RefShortIdeal (hShortIdeal := Cert.ShortIdeal.Gen.facts) (hRefShortIdeal := Cert.RefShortIdeal.Gen.facts) := by
  pair_intro
  · run_from Cert.ShortIdeal.Value.run_blocks m g
  · run_from Cert.RefShortIdeal.Value.run m' g'
    · rw [Cert.RefShortIdeal.Within.ref_num, (hagree c).1, (hagree c).2.1, (hagree c).2.2]; exact (Cert.ShortIdeal.Within.final5 m c).symm
    · rw [Cert.RefShortIdeal.Within.ref_stat, (hagree c).1, (hagree c).2.1, (hagree c).2.2]; exact (Cert.ShortIdeal.Within.final6 m c).symm

theorem claim : Cert.Claim := ⟨Cert.InA.Gen.facts, Cert.InAIdeal.Gen.facts, Cert.RefInAIdeal.Gen.facts, Cert.InB.Gen.facts, Cert.InBIdeal.Gen.facts, Cert.RefInBIdeal.Gen.facts, Cert.MemKv.Gen.facts, Cert.MemKvIdeal.Gen.facts, Cert.RefMemKvIdeal.Gen.facts,
  Cert.Sample.Gen.facts, Cert.SampleIdeal.Gen.facts, Cert.RefSampleIdeal.Gen.facts,
  Cert.Prompt.Gen.facts, Cert.PromptIdeal.Gen.facts, Cert.RefPromptIdeal.Gen.facts,
  Cert.Short.Gen.facts, Cert.ShortIdeal.Gen.facts, Cert.RefShortIdeal.Gen.facts,
  Cert.Mls.Gen.facts, Cert.MlsIdeal.Gen.facts, Cert.RefMlsIdeal.Gen.facts,
  Cert.Pool.Gen.facts, Cert.PoolIdeal.Gen.facts, Cert.RefPoolIdeal.Gen.facts,
  Cert.PoolNew.Gen.facts, Cert.PoolNewIdeal.Gen.facts, Cert.RefPoolNewIdeal.Gen.facts,
  Cert.Pre_sample_tame.Gen.facts, Cert.Pre_prompt_tame.Gen.facts, Cert.Pre_gates_tame.Gen.facts,
  fun m ρ _ => Cert.InA.Gen.frame m ρ, fun m ρ _ => Cert.InAIdeal.Gen.frame m ρ, frame_ref_ina,
  fun m ρ _ => Cert.InB.Gen.frame m ρ, fun m ρ _ => Cert.InBIdeal.Gen.frame m ρ, frame_ref_inb,
  fun m ρ _ => Cert.MemKv.Gen.frame m ρ, fun m ρ _ => Cert.MemKvIdeal.Gen.frame m ρ, frame_ref_memkv,
  fun m ρ _ => Cert.Sample.Gen.frame m ρ, fun m ρ _ => Cert.SampleIdeal.Gen.frame m ρ, fun m ρ _ => Cert.SampleIdeal.Gen.frame m ρ,
  frame_ref_sample, frame_ref_sample_pre,
  fun m ρ _ => Cert.Prompt.Gen.frame m ρ, fun m ρ _ => Cert.PromptIdeal.Gen.frame m ρ, fun m ρ _ => Cert.PromptIdeal.Gen.frame m ρ,
  frame_ref_prompt, frame_ref_prompt_pre,
  fun m ρ _ => Cert.Short.Gen.frame m ρ, fun m ρ _ => Cert.ShortIdeal.Gen.frame m ρ, frame_ref_short,
  fun m ρ _ => Cert.Mls.Gen.frame m ρ, fun m ρ _ => Cert.MlsIdeal.Gen.frame m ρ, fun m ρ _ => Cert.MlsIdeal.Gen.frame m ρ,
  frame_ref_mls, frame_ref_mls_pre,
  fun m ρ _ => Cert.Pool.Carry.frame m ρ, fun m ρ _ => Cert.PoolIdeal.Carry.frame m ρ, frame_ref_pool,
  fun m ρ _ => Cert.PoolNew.Carry.frame m ρ, fun m ρ _ => Cert.PoolNewIdeal.Carry.frame m ρ, frame_ref_pool_new,
  trivial, algebraic_a, trivial, algebraic_b, trivial, algebraic_memkv,
  trivial, algebraic_sample, trivial, algebraic_prompt, trivial, algebraic_short, trivial, algebraic_mls, trivial, algebraic_pool,
  trivial, algebraic_pool_new⟩

end Cert.Proof

end
